-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v283) = v0 c
          ∧ r.2.mem ((c.tc : Thread Cert.ReferenceIdeal.nD Cert.ReferenceIdeal.τ).loc Cert.ReferenceIdeal.main_v291) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4x32x9 : Shape := ⟨3, ![4, 32, 9]⟩
abbrev S4x4x32x32 : Shape := ⟨4, ![4, 4, 32, 32]⟩
abbrev S4x496x4 : Shape := ⟨3, ![4, 496, 4]⟩
abbrev S528x32 : Shape := ⟨2, ![528, 32]⟩
abbrev S528x32x32 : Shape := ⟨3, ![528, 32, 32]⟩
abbrev S496x2 : Shape := ⟨2, ![496, 2]⟩
abbrev S9x9 : Shape := ⟨2, ![9, 9]⟩
abbrev S3x9x128 : Shape := ⟨3, ![3, 9, 128]⟩
abbrev S3x128x128 : Shape := ⟨3, ![3, 128, 128]⟩
abbrev S128 : Shape := ⟨1, ![128]⟩
abbrev S12x128x128 : Shape := ⟨3, ![12, 128, 128]⟩
abbrev S12x128 : Shape := ⟨2, ![12, 128]⟩
abbrev S12x128x9 : Shape := ⟨3, ![12, 128, 9]⟩
abbrev S12x9 : Shape := ⟨2, ![12, 9]⟩
abbrev S12x384x128 : Shape := ⟨3, ![12, 384, 128]⟩
abbrev S12x128x4 : Shape := ⟨3, ![12, 128, 4]⟩
abbrev S12x4 : Shape := ⟨2, ![12, 4]⟩
abbrev S_ : Shape := ⟨0, ![]⟩
abbrev S4x3x32x32 : Shape := ⟨4, ![4, 3, 32, 32]⟩
abbrev S528x1x32 : Shape := ⟨3, ![528, 1, 32]⟩

class Facts : Prop where
  bcast_S_S4x32x9 : S_.BroadcastsInDim S4x32x9 (![] : Fin 0 → Fin S4x32x9.rank)
  slices_S4x4x32x32_S4x3x32x32_0_0_0_0 : S4x4x32x32.Slices ![0, 0, 0, 0] S4x3x32x32
  bcast_S_S4x3x32x32 : S_.BroadcastsInDim S4x3x32x32 (![] : Fin 0 → Fin S4x3x32x32.rank)
  bcast_S_S9x9 : S_.BroadcastsInDim S9x9 (![] : Fin 0 → Fin S9x9.rank)
  bcast_S_S3x9x128 : S_.BroadcastsInDim S3x9x128 (![] : Fin 0 → Fin S3x9x128.rank)
  bcast_S_S3x128x128 : S_.BroadcastsInDim S3x128x128 (![] : Fin 0 → Fin S3x128x128.rank)
  bcast_S_S128 : S_.BroadcastsInDim S128 (![] : Fin 0 → Fin S128.rank)
  bcast_S528x32_S528x1x32_0_2 : S528x32.BroadcastsInDim S528x1x32 (![0, 2] : Fin 2 → Fin S528x1x32.rank)
  bcast_S528x1x32_S528x32x32_0_1_2 : S528x1x32.BroadcastsInDim S528x32x32 (![0, 1, 2] : Fin 3 → Fin S528x32x32.rank)
  bcast_S_S496x2 : S_.BroadcastsInDim S496x2 (![] : Fin 0 → Fin S496x2.rank)

variable [Facts]

def fn_part1 {F : FTy → Type} [FloatOps F] (main_arg4 : IVec S528x32 1) (main_arg5 : IVec S528x32x32 1) (main_arg6 : IVec S496x2 32) (main_arg11 : FVec F S128 .f32) (main_v2 : IVec S4x32x9 1) (main_v6 : IVec S4x3x32x32 1) (main_v9 : IVec S9x9 1) (main_v12 : IVec S3x9x128 1) (main_v15 : IVec S3x128x128 1) (main_v16 : FVec F S3x128x128 .f32) (main_v17 : FVec F S3x128x128 .f32) : IVec S4x32x9 1 × IVec S4x3x32x32 1 × IVec S9x9 1 × IVec S3x9x128 1 × IVec S3x128x128 1 × IVec S3x128x128 1 × IVec S128 1 × IVec S528x32x32 1 × IVec S496x2 1 :=
  let main_v18 : IVec S3x128x128 1 := cmpf .olt main_v16 main_v17
  let main_v19 : FVec F S128 .f32 := Host.absf main_arg11
  let main_cst_5 : FVec F S_ .f32 := constant S_ .f32 0x7F800000#32
  let main_v20 : FVec F S128 .f32 := broadcastInDim S128 ![] bcast_S_S128 main_cst_5
  let main_v21 : IVec S128 1 := cmpf .olt main_v19 main_v20
  let main_v22 : IVec S528x32x32 1 := noti main_arg5
  let main_v23 : IVec S528x1x32 1 := broadcastInDim S528x1x32 ![0, 2] bcast_S528x32_S528x1x32_0_2 main_arg4
  let main_v24 : IVec S528x32x32 1 := broadcastInDim S528x32x32 ![0, 1, 2] bcast_S528x1x32_S528x32x32_0_1_2 main_v23
  let main_v25 : IVec S528x32x32 1 := ori main_v22 main_v24
  let main_c : IVec S_ 32 := constantI S_ 32 0#32
  let main_v26 : IVec S496x2 32 := broadcastInDim S496x2 ![] bcast_S_S496x2 main_c
  let main_v27 : IVec S496x2 1 := cmpi .sge main_arg6 main_v26
  let main_c_6 : IVec S_ 32 := constantI S_ 32 32#32
  let main_v28 : IVec S496x2 32 := broadcastInDim S496x2 ![] bcast_S_S496x2 main_c_6
  let main_v29 : IVec S496x2 1 := cmpi .slt main_arg6 main_v28
  let main_v30 : IVec S496x2 1 := andi main_v27 main_v29
  (main_v2, main_v6, main_v9, main_v12, main_v15, main_v18, main_v21, main_v25, main_v30)

def fn {F : FTy → Type} [FloatOps F] (main_arg0 : FVec F S4x32x9 .f32) (main_arg1 : FVec F S4x4x32x32 .f32) (main_arg2 : FVec F S4x32x9 .f32) (main_arg3 : FVec F S4x496x4 .f32) (main_arg4 : IVec S528x32 1) (main_arg5 : IVec S528x32x32 1) (main_arg6 : IVec S496x2 32) (main_arg7 : FVec F S9x9 .f32) (main_arg8 : FVec F S3x9x128 .f32) (main_arg9 : FVec F S3x128x128 .f32) (main_arg10 : FVec F S3x128x128 .f32) (main_arg11 : FVec F S128 .f32) (main_arg12 : FVec F S128 .f32) (main_arg13 : FVec F S12x128x128 .f32) (main_arg14 : FVec F S12x128 .f32) (main_arg15 : FVec F S12x128x9 .f32) (main_arg16 : FVec F S12x9 .f32) (main_arg17 : FVec F S12x384x128 .f32) (main_arg18 : FVec F S12x128 .f32) (main_arg19 : FVec F S12x128x4 .f32) (main_arg20 : FVec F S12x4 .f32) : IVec S4x32x9 1 × IVec S4x3x32x32 1 × IVec S9x9 1 × IVec S3x9x128 1 × IVec S3x128x128 1 × IVec S3x128x128 1 × IVec S128 1 × IVec S528x32x32 1 × IVec S496x2 1 :=
  let main_v0 : FVec F S4x32x9 .f32 := Host.absf main_arg0
  let main_cst : FVec F S_ .f32 := constant S_ .f32 0x7F800000#32
  let main_v1 : FVec F S4x32x9 .f32 := broadcastInDim S4x32x9 ![] bcast_S_S4x32x9 main_cst
  let main_v2 : IVec S4x32x9 1 := cmpf .olt main_v0 main_v1
  let main_v3 : FVec F S4x3x32x32 .f32 := (extractStridedSlice S4x3x32x32 ![0, 0, 0, 0] · slices_S4x4x32x32_S4x3x32x32_0_0_0_0) main_arg1
  let main_v4 : FVec F S4x3x32x32 .f32 := Host.absf main_v3
  let main_cst_0 : FVec F S_ .f32 := constant S_ .f32 0x7F800000#32
  let main_v5 : FVec F S4x3x32x32 .f32 := broadcastInDim S4x3x32x32 ![] bcast_S_S4x3x32x32 main_cst_0
  let main_v6 : IVec S4x3x32x32 1 := cmpf .olt main_v4 main_v5
  let main_v7 : FVec F S9x9 .f32 := Host.absf main_arg7
  let main_cst_1 : FVec F S_ .f32 := constant S_ .f32 0x7F800000#32
  let main_v8 : FVec F S9x9 .f32 := broadcastInDim S9x9 ![] bcast_S_S9x9 main_cst_1
  let main_v9 : IVec S9x9 1 := cmpf .olt main_v7 main_v8
  let main_v10 : FVec F S3x9x128 .f32 := Host.absf main_arg8
  let main_cst_2 : FVec F S_ .f32 := constant S_ .f32 0x7F800000#32
  let main_v11 : FVec F S3x9x128 .f32 := broadcastInDim S3x9x128 ![] bcast_S_S3x9x128 main_cst_2
  let main_v12 : IVec S3x9x128 1 := cmpf .olt main_v10 main_v11
  let main_v13 : FVec F S3x128x128 .f32 := Host.absf main_arg9
  let main_cst_3 : FVec F S_ .f32 := constant S_ .f32 0x7F800000#32
  let main_v14 : FVec F S3x128x128 .f32 := broadcastInDim S3x128x128 ![] bcast_S_S3x128x128 main_cst_3
  let main_v15 : IVec S3x128x128 1 := cmpf .olt main_v13 main_v14
  let main_v16 : FVec F S3x128x128 .f32 := Host.absf main_arg10
  let main_cst_4 : FVec F S_ .f32 := constant S_ .f32 0x7F800000#32
  let main_v17 : FVec F S3x128x128 .f32 := broadcastInDim S3x128x128 ![] bcast_S_S3x128x128 main_cst_4
  fn_part1 (F := F) main_arg4 main_arg5 main_arg6 main_arg11 main_v2 main_v6 main_v9 main_v12 main_v15 main_v16 main_v17
-- ==== Kernel.lean ====
abbrev S4x32x9 : Shape := ⟨3, ![4, 32, 9]⟩
abbrev S4x4x32x32 : Shape := ⟨4, ![4, 4, 32, 32]⟩
abbrev S4x496x4 : Shape := ⟨3, ![4, 496, 4]⟩
abbrev S528x32 : Shape := ⟨2, ![528, 32]⟩
abbrev S528x32x32 : Shape := ⟨3, ![528, 32, 32]⟩
abbrev S496x2 : Shape := ⟨2, ![496, 2]⟩
abbrev S9x9 : Shape := ⟨2, ![9, 9]⟩
abbrev S3x9x128 : Shape := ⟨3, ![3, 9, 128]⟩
abbrev S3x128x128 : Shape := ⟨3, ![3, 128, 128]⟩
abbrev S128 : Shape := ⟨1, ![128]⟩
abbrev S12x128x128 : Shape := ⟨3, ![12, 128, 128]⟩
abbrev S12x128 : Shape := ⟨2, ![12, 128]⟩
abbrev S12x128x9 : Shape := ⟨3, ![12, 128, 9]⟩
abbrev S12x9 : Shape := ⟨2, ![12, 9]⟩
abbrev S12x384x128 : Shape := ⟨3, ![12, 384, 128]⟩
abbrev S12x128x4 : Shape := ⟨3, ![12, 128, 4]⟩
abbrev S12x4 : Shape := ⟨2, ![12, 4]⟩
abbrev S4x3x32x32 : Shape := ⟨4, ![4, 3, 32, 32]⟩
abbrev S496x32x32 : Shape := ⟨3, ![496, 32, 32]⟩
abbrev S32x32x32 : Shape := ⟨3, ![32, 32, 32]⟩
abbrev S_ : Shape := ⟨0, ![]⟩
abbrev S16x32x32 : Shape := ⟨3, ![16, 32, 32]⟩
abbrev S544x32x32 : Shape := ⟨3, ![544, 32, 32]⟩
abbrev S496x2x1 : Shape := ⟨3, ![496, 2, 1]⟩
abbrev S1x1x32 : Shape := ⟨3, ![1, 1, 32]⟩
abbrev S496x2x32 : Shape := ⟨3, ![496, 2, 32]⟩
abbrev S48x2x32 : Shape := ⟨3, ![48, 2, 32]⟩
abbrev S544x2x32 : Shape := ⟨3, ![544, 2, 32]⟩
abbrev S544x1x32 : Shape := ⟨3, ![544, 1, 32]⟩
abbrev S544x3x32 : Shape := ⟨3, ![544, 3, 32]⟩
abbrev S1x128 : Shape := ⟨2, ![1, 128]⟩
abbrev S128x9 : Shape := ⟨2, ![128, 9]⟩
abbrev S1536x128 : Shape := ⟨2, ![1536, 128]⟩
abbrev S1536x1 : Shape := ⟨2, ![1536, 1]⟩
abbrev S12x9x128 : Shape := ⟨3, ![12, 9, 128]⟩
abbrev S108x1 : Shape := ⟨2, ![108, 1]⟩
abbrev S12x128x384 : Shape := ⟨3, ![12, 128, 384]⟩
abbrev S1536x384 : Shape := ⟨2, ![1536, 384]⟩
abbrev S12x4x128 : Shape := ⟨3, ![12, 4, 128]⟩
abbrev S48x1 : Shape := ⟨2, ![48, 1]⟩
abbrev S136x32x32 : Shape := ⟨3, ![136, 32, 32]⟩
abbrev S136x3x32 : Shape := ⟨3, ![136, 3, 32]⟩
abbrev S4x544x384 : Shape := ⟨3, ![4, 544, 384]⟩
abbrev S8x128 : Shape := ⟨2, ![8, 128]⟩
abbrev S1x32x9 : Shape := ⟨3, ![1, 32, 9]⟩
abbrev S32x9 : Shape := ⟨2, ![32, 9]⟩
abbrev S1x1x32x32 : Shape := ⟨4, ![1, 1, 32, 32]⟩
abbrev S32x32 : Shape := ⟨2, ![32, 32]⟩
abbrev S1x32x32 : Shape := ⟨3, ![1, 32, 32]⟩
abbrev S136x32x96 : Shape := ⟨3, ![136, 32, 96]⟩
abbrev S1x9x128 : Shape := ⟨3, ![1, 9, 128]⟩
abbrev S9x128 : Shape := ⟨2, ![9, 128]⟩
abbrev S32x128 : Shape := ⟨2, ![32, 128]⟩
abbrev S96x128 : Shape := ⟨2, ![96, 128]⟩
abbrev S4352x96 : Shape := ⟨2, ![4352, 96]⟩
abbrev S4352x128 : Shape := ⟨2, ![4352, 128]⟩
abbrev S1x128x128 : Shape := ⟨3, ![1, 128, 128]⟩
abbrev S128x128 : Shape := ⟨2, ![128, 128]⟩
abbrev S136x32x128 : Shape := ⟨3, ![136, 32, 128]⟩
abbrev S136x96x128 : Shape := ⟨3, ![136, 96, 128]⟩
abbrev S136x3x128 : Shape := ⟨3, ![136, 3, 128]⟩
abbrev S136x384 : Shape := ⟨2, ![136, 384]⟩
abbrev S1x136x384 : Shape := ⟨3, ![1, 136, 384]⟩
abbrev S128x1 : Shape := ⟨2, ![128, 1]⟩
abbrev S4x32x128 : Shape := ⟨3, ![4, 32, 128]⟩
abbrev S108x128 : Shape := ⟨2, ![108, 128]⟩
abbrev S12x1x128 : Shape := ⟨3, ![12, 1, 128]⟩
abbrev S2x128 : Shape := ⟨2, ![2, 128]⟩
abbrev S7x128 : Shape := ⟨2, ![7, 128]⟩
abbrev S3x128 : Shape := ⟨2, ![3, 128]⟩
abbrev S6x128 : Shape := ⟨2, ![6, 128]⟩
abbrev S4x128 : Shape := ⟨2, ![4, 128]⟩
abbrev S5x128 : Shape := ⟨2, ![5, 128]⟩
abbrev S384x1 : Shape := ⟨2, ![384, 1]⟩
abbrev S1x496x384 : Shape := ⟨3, ![1, 496, 384]⟩
abbrev S496x384 : Shape := ⟨2, ![496, 384]⟩
abbrev S384x496 : Shape := ⟨2, ![384, 496]⟩
abbrev S1x496x4 : Shape := ⟨3, ![1, 496, 4]⟩
abbrev S496x4 : Shape := ⟨2, ![496, 4]⟩
abbrev S4x496 : Shape := ⟨2, ![4, 496]⟩
abbrev S1536x496 : Shape := ⟨2, ![1536, 496]⟩
abbrev S1x4x128 : Shape := ⟨3, ![1, 4, 128]⟩
abbrev S128x496 : Shape := ⟨2, ![128, 496]⟩
abbrev S48x496 : Shape := ⟨2, ![48, 496]⟩
abbrev S12x4x496 : Shape := ⟨3, ![12, 4, 496]⟩
abbrev S12x496 : Shape := ⟨2, ![12, 496]⟩
abbrev S12x1x496 : Shape := ⟨3, ![12, 1, 496]⟩
abbrev S1x4x496 : Shape := ⟨3, ![1, 4, 496]⟩
abbrev S1x496 : Shape := ⟨2, ![1, 496]⟩
abbrev S3x496 : Shape := ⟨2, ![3, 496]⟩
abbrev S2x496 : Shape := ⟨2, ![2, 496]⟩

abbrev nBuf : Space → Nat
  | .hbm => 63
  | .vmem => 26
  | .smem => 0
  | _ => 0

abbrev bufTy : (tb : Table) → Fin (tcTables nBuf tb) → BufTy
  | .hbm, ⟨0, _⟩ => ⟨S4x32x9, .f32⟩
  | .hbm, ⟨1, _⟩ => ⟨S4x4x32x32, .f32⟩
  | .hbm, ⟨2, _⟩ => ⟨S4x32x9, .f32⟩
  | .hbm, ⟨3, _⟩ => ⟨S4x496x4, .f32⟩
  | .hbm, ⟨4, _⟩ => ⟨S528x32, .i1⟩
  | .hbm, ⟨5, _⟩ => ⟨S528x32x32, .i1⟩
  | .hbm, ⟨6, _⟩ => ⟨S496x2, .i32⟩
  | .hbm, ⟨7, _⟩ => ⟨S9x9, .f32⟩
  | .hbm, ⟨8, _⟩ => ⟨S3x9x128, .f32⟩
  | .hbm, ⟨9, _⟩ => ⟨S3x128x128, .f32⟩
  | .hbm, ⟨10, _⟩ => ⟨S3x128x128, .f32⟩
  | .hbm, ⟨11, _⟩ => ⟨S128, .f32⟩
  | .hbm, ⟨12, _⟩ => ⟨S128, .f32⟩
  | .hbm, ⟨13, _⟩ => ⟨S12x128x128, .f32⟩
  | .hbm, ⟨14, _⟩ => ⟨S12x128, .f32⟩
  | .hbm, ⟨15, _⟩ => ⟨S12x128x9, .f32⟩
  | .hbm, ⟨16, _⟩ => ⟨S12x9, .f32⟩
  | .hbm, ⟨17, _⟩ => ⟨S12x384x128, .f32⟩
  | .hbm, ⟨18, _⟩ => ⟨S12x128, .f32⟩
  | .hbm, ⟨19, _⟩ => ⟨S12x128x4, .f32⟩
  | .hbm, ⟨20, _⟩ => ⟨S12x4, .f32⟩
  | .hbm, ⟨21, _⟩ => ⟨S4x3x32x32, .f32⟩
  | .hbm, ⟨22, _⟩ => ⟨S4x3x32x32, .bf16⟩
  | .hbm, ⟨23, _⟩ => ⟨S496x32x32, .i1⟩
  | .hbm, ⟨24, _⟩ => ⟨S32x32x32, .i1⟩
  | .hbm, ⟨25, _⟩ => ⟨S_, .i1⟩
  | .hbm, ⟨26, _⟩ => ⟨S16x32x32, .i1⟩
  | .hbm, ⟨27, _⟩ => ⟨S544x32x32, .i1⟩
  | .hbm, ⟨28, _⟩ => ⟨S544x32x32, .bf16⟩
  | .hbm, ⟨29, _⟩ => ⟨S496x2x1, .i32⟩
  | .hbm, ⟨30, _⟩ => ⟨S1x1x32, .i32⟩
  | .hbm, ⟨31, _⟩ => ⟨S496x2x32, .i32⟩
  | .hbm, ⟨32, _⟩ => ⟨S496x2x32, .i32⟩
  | .hbm, ⟨33, _⟩ => ⟨S496x2x32, .i1⟩
  | .hbm, ⟨34, _⟩ => ⟨S496x2x32, .f32⟩
  | .hbm, ⟨35, _⟩ => ⟨S_, .f32⟩
  | .hbm, ⟨36, _⟩ => ⟨S48x2x32, .f32⟩
  | .hbm, ⟨37, _⟩ => ⟨S544x2x32, .f32⟩
  | .hbm, ⟨38, _⟩ => ⟨S_, .f32⟩
  | .hbm, ⟨39, _⟩ => ⟨S544x1x32, .f32⟩
  | .hbm, ⟨40, _⟩ => ⟨S544x3x32, .f32⟩
  | .hbm, ⟨41, _⟩ => ⟨S3x9x128, .bf16⟩
  | .hbm, ⟨42, _⟩ => ⟨S3x128x128, .bf16⟩
  | .hbm, ⟨43, _⟩ => ⟨S3x128x128, .bf16⟩
  | .hbm, ⟨44, _⟩ => ⟨S1x128, .f32⟩
  | .hbm, ⟨45, _⟩ => ⟨S1x128, .f32⟩
  | .hbm, ⟨46, _⟩ => ⟨S128x9, .f32⟩
  | .hbm, ⟨47, _⟩ => ⟨S12x128x128, .f32⟩
  | .hbm, ⟨48, _⟩ => ⟨S1536x128, .f32⟩
  | .hbm, ⟨49, _⟩ => ⟨S1536x128, .bf16⟩
  | .hbm, ⟨50, _⟩ => ⟨S1536x1, .f32⟩
  | .hbm, ⟨51, _⟩ => ⟨S12x9x128, .f32⟩
  | .hbm, ⟨52, _⟩ => ⟨S12x9x128, .bf16⟩
  | .hbm, ⟨53, _⟩ => ⟨S108x1, .f32⟩
  | .hbm, ⟨54, _⟩ => ⟨S12x128x384, .f32⟩
  | .hbm, ⟨55, _⟩ => ⟨S1536x384, .f32⟩
  | .hbm, ⟨56, _⟩ => ⟨S1536x384, .bf16⟩
  | .hbm, ⟨57, _⟩ => ⟨S1536x1, .f32⟩
  | .hbm, ⟨58, _⟩ => ⟨S12x4x128, .f32⟩
  | .hbm, ⟨59, _⟩ => ⟨S12x4x128, .bf16⟩
  | .hbm, ⟨60, _⟩ => ⟨S48x1, .f32⟩
  | .hbm, ⟨61, _⟩ => ⟨S128x9, .f32⟩
  | .hbm, ⟨62, _⟩ => ⟨S4x496x4, .f32⟩
  | .local _ .vmem, ⟨0, _⟩ => ⟨S4x32x9, .f32⟩
  | .local _ .vmem, ⟨1, _⟩ => ⟨S9x9, .f32⟩
  | .local _ .vmem, ⟨2, _⟩ => ⟨S3x9x128, .bf16⟩
  | .local _ .vmem, ⟨3, _⟩ => ⟨S3x128x128, .bf16⟩
  | .local _ .vmem, ⟨4, _⟩ => ⟨S3x128x128, .bf16⟩
  | .local _ .vmem, ⟨5, _⟩ => ⟨S4x3x32x32, .bf16⟩
  | .local _ .vmem, ⟨6, _⟩ => ⟨S136x32x32, .bf16⟩
  | .local _ .vmem, ⟨7, _⟩ => ⟨S136x32x32, .bf16⟩
  | .local _ .vmem, ⟨8, _⟩ => ⟨S136x3x32, .f32⟩
  | .local _ .vmem, ⟨9, _⟩ => ⟨S136x3x32, .f32⟩
  | .local _ .vmem, ⟨10, _⟩ => ⟨S1x128, .f32⟩
  | .local _ .vmem, ⟨11, _⟩ => ⟨S1x128, .f32⟩
  | .local _ .vmem, ⟨12, _⟩ => ⟨S128x9, .f32⟩
  | .local _ .vmem, ⟨13, _⟩ => ⟨S4x496x4, .f32⟩
  | .local _ .vmem, ⟨14, _⟩ => ⟨S1536x128, .bf16⟩
  | .local _ .vmem, ⟨15, _⟩ => ⟨S1536x1, .f32⟩
  | .local _ .vmem, ⟨16, _⟩ => ⟨S12x9x128, .bf16⟩
  | .local _ .vmem, ⟨17, _⟩ => ⟨S108x1, .f32⟩
  | .local _ .vmem, ⟨18, _⟩ => ⟨S1536x384, .bf16⟩
  | .local _ .vmem, ⟨19, _⟩ => ⟨S1536x1, .f32⟩
  | .local _ .vmem, ⟨20, _⟩ => ⟨S12x4x128, .bf16⟩
  | .local _ .vmem, ⟨21, _⟩ => ⟨S48x1, .f32⟩
  | .local _ .vmem, ⟨22, _⟩ => ⟨S128x9, .f32⟩
  | .local _ .vmem, ⟨23, _⟩ => ⟨S4x496x4, .f32⟩
  | .local _ .vmem, ⟨24, _⟩ => ⟨S4x544x384, .f32⟩
  | .local _ .vmem, ⟨25, _⟩ => ⟨S8x128, .f32⟩
  | _, _ => ⟨S4x32x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32_0 : Ref sig .tc := ⟨.hbm, 61, rfl⟩
abbrev main_v32_1 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23

abbrev nD : Nat := 1
abbrev τ : Topo := Topo.v7x

variable {F : FTy → Type} [FloatOps F]

abbrev grid0 : Pipeline.Grid := ⟨1, ![4], ![false]⟩

def k0_off1 (i : grid0.Coords) : Fin 3 → Nat :=
  let c0_65 : Index := 0#32
  let arg0 : BitVec 32 := BitVec.ofNat 32 (i 0).val
  let c136_i32 : BitVec 32 := 136#32
  let v86 : BitVec 32 := Scalar.muli arg0 c136_i32
  let v87 : Index := Scalar.indexCast v86
  let c0_66 : Index := 0#32
  ![0, v87.toNat, 0]
def k0_off2 (i : grid0.Coords) : Fin 3 → Nat :=
  let c1_130 : Index := 1#32
  let arg0 : BitVec 32 := BitVec.ofNat 32 (i 0).val
  let c136_i32_129 : BitVec 32 := 136#32
  let v176 : BitVec 32 := Scalar.muli arg0 c136_i32_129
  let v177 : Index := Scalar.indexCast v176
  let c0_131 : Index := 0#32
  ![1, v177.toNat, 0]
def k0_off3 (i : grid0.Coords) : Fin 3 → Nat :=
  let c2_195 : Index := 2#32
  let arg0 : BitVec 32 := BitVec.ofNat 32 (i 0).val
  let c136_i32_194 : BitVec 32 := 136#32
  let v266 : BitVec 32 := Scalar.muli arg0 c136_i32_194
  let v267 : Index := Scalar.indexCast v266
  let c0_196 : Index := 0#32
  ![2, v267.toNat, 0]
def k0_off4 (i : grid0.Coords) : Fin 3 → Nat :=
  let c3_259 : Index := 3#32
  let arg0 : BitVec 32 := BitVec.ofNat 32 (i 0).val
  let c136_i32_258 : BitVec 32 := 136#32
  let v356 : BitVec 32 := Scalar.muli arg0 c136_i32_258
  let v357 : Index := Scalar.indexCast v356
  let c0_260 : Index := 0#32
  ![3, v357.toNat, 0]
def k0_cond2 (i : grid0.Coords) : BitVec 1 :=
  let arg0 : BitVec 32 := BitVec.ofNat 32 (i 0).val
  let c3_i32 : BitVec 32 := 3#32
  let v379 : BitVec 1 := Scalar.cmpi .eq arg0 c3_i32
  let v380 : BitVec 32 := Scalar.extui v379
  let c0_i32_271 : BitVec 32 := 0#32
  let v381 : BitVec 1 := Scalar.cmpi .ne v380 c0_i32_271
  v381

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x32x9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x9x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x3x32x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S136x32x32 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S136x3x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x9 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x496x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1536x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1536x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S12x9x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S108x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1536x384 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1536x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S12x4x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S48x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x9 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x496x4 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S4x32x9 : Shape := ⟨3, ![4, 32, 9]⟩
abbrev S4x4x32x32 : Shape := ⟨4, ![4, 4, 32, 32]⟩
abbrev S4x496x4 : Shape := ⟨3, ![4, 496, 4]⟩
abbrev S528x32 : Shape := ⟨2, ![528, 32]⟩
abbrev S528x32x32 : Shape := ⟨3, ![528, 32, 32]⟩
abbrev S496x2 : Shape := ⟨2, ![496, 2]⟩
abbrev S9x9 : Shape := ⟨2, ![9, 9]⟩
abbrev S3x9x128 : Shape := ⟨3, ![3, 9, 128]⟩
abbrev S3x128x128 : Shape := ⟨3, ![3, 128, 128]⟩
abbrev S128 : Shape := ⟨1, ![128]⟩
abbrev S12x128x128 : Shape := ⟨3, ![12, 128, 128]⟩
abbrev S12x128 : Shape := ⟨2, ![12, 128]⟩
abbrev S12x128x9 : Shape := ⟨3, ![12, 128, 9]⟩
abbrev S12x9 : Shape := ⟨2, ![12, 9]⟩
abbrev S12x384x128 : Shape := ⟨3, ![12, 384, 128]⟩
abbrev S12x128x4 : Shape := ⟨3, ![12, 128, 4]⟩
abbrev S12x4 : Shape := ⟨2, ![12, 4]⟩
abbrev S4x3x32x32 : Shape := ⟨4, ![4, 3, 32, 32]⟩
abbrev S1x528x32x1 : Shape := ⟨4, ![1, 528, 32, 1]⟩
abbrev S4x1x32x9 : Shape := ⟨4, ![4, 1, 32, 9]⟩
abbrev S_ : Shape := ⟨0, ![]⟩
abbrev S4x528x32x9 : Shape := ⟨4, ![4, 528, 32, 9]⟩
abbrev S1x528x1x32x32 : Shape := ⟨5, ![1, 528, 1, 32, 32]⟩
abbrev S4x1x3x32x32 : Shape := ⟨5, ![4, 1, 3, 32, 32]⟩
abbrev S4x528x3x32x32 : Shape := ⟨5, ![4, 528, 3, 32, 32]⟩
abbrev S4x528x32x3x128 : Shape := ⟨5, ![4, 528, 32, 3, 128]⟩
abbrev S4x528x3x32x128 : Shape := ⟨5, ![4, 528, 3, 32, 128]⟩
abbrev S4x528x32x128 : Shape := ⟨4, ![4, 528, 32, 128]⟩
abbrev S4x528x128 : Shape := ⟨3, ![4, 528, 128]⟩
abbrev S4x128 : Shape := ⟨2, ![4, 128]⟩
abbrev S1x1x1x128 : Shape := ⟨4, ![1, 1, 1, 128]⟩
abbrev S4x32x128 : Shape := ⟨3, ![4, 32, 128]⟩
abbrev S128x128 : Shape := ⟨2, ![128, 128]⟩
abbrev S4x496x128 : Shape := ⟨3, ![4, 496, 128]⟩
abbrev S4x496x1x128 : Shape := ⟨4, ![4, 496, 1, 128]⟩
abbrev S4x496x32x128 : Shape := ⟨4, ![4, 496, 32, 128]⟩
abbrev S1x496x2x1 : Shape := ⟨4, ![1, 496, 2, 1]⟩
abbrev S4x496x2x128 : Shape := ⟨4, ![4, 496, 2, 128]⟩
abbrev S4x496x2x128x1 : Shape := ⟨5, ![4, 496, 2, 128, 1]⟩
abbrev S1 : Shape := ⟨1, ![1]⟩
abbrev S1x1x1x1x1 : Shape := ⟨5, ![1, 1, 1, 1, 1]⟩
abbrev S4x496x3x128 : Shape := ⟨4, ![4, 496, 3, 128]⟩
abbrev S1984x384 : Shape := ⟨2, ![1984, 384]⟩
abbrev S128x9 : Shape := ⟨2, ![128, 9]⟩
abbrev S1984x4 : Shape := ⟨2, ![1984, 4]⟩
abbrev S12x1x128 : Shape := ⟨3, ![12, 1, 128]⟩
abbrev S12x1x9 : Shape := ⟨3, ![12, 1, 9]⟩
abbrev S12x128x1 : Shape := ⟨3, ![12, 128, 1]⟩
abbrev S12x128x1984 : Shape := ⟨3, ![12, 128, 1984]⟩
abbrev S12x1984x128 : Shape := ⟨3, ![12, 1984, 128]⟩
abbrev S12x1984x4 : Shape := ⟨3, ![12, 1984, 4]⟩
abbrev S12x1x4 : Shape := ⟨3, ![12, 1, 4]⟩
abbrev S12x1984 : Shape := ⟨2, ![12, 1984]⟩
abbrev S12x1984x1 : Shape := ⟨3, ![12, 1984, 1]⟩
abbrev S9x9x9 : Shape := ⟨3, ![9, 9, 9]⟩
abbrev S4x4x4 : Shape := ⟨3, ![4, 4, 4]⟩
abbrev S1x128x9 : Shape := ⟨3, ![1, 128, 9]⟩
abbrev S128x9x1 : Shape := ⟨3, ![128, 9, 1]⟩
abbrev S128x9x9 : Shape := ⟨3, ![128, 9, 9]⟩
abbrev S1x1984x4 : Shape := ⟨3, ![1, 1984, 4]⟩
abbrev S1984x4x1 : Shape := ⟨3, ![1984, 4, 1]⟩
abbrev S1984x4x4 : Shape := ⟨3, ![1984, 4, 4]⟩

abbrev nBuf : Space → Nat
  | .hbm => 389
  | .vmem => 0
  | .smem => 0
  | _ => 0

abbrev hbmTy0_0 (i : Nat) : BufTy := match i % 128 with
  | 0 => ⟨S4x32x9, .f32⟩
  | 1 => ⟨S4x4x32x32, .f32⟩
  | 2 => ⟨S4x32x9, .f32⟩
  | 3 => ⟨S4x496x4, .f32⟩
  | 4 => ⟨S528x32, .i1⟩
  | 5 => ⟨S528x32x32, .i1⟩
  | 6 => ⟨S496x2, .i32⟩
  | 7 => ⟨S9x9, .f32⟩
  | 8 => ⟨S3x9x128, .f32⟩
  | 9 => ⟨S3x128x128, .f32⟩
  | 10 => ⟨S3x128x128, .f32⟩
  | 11 => ⟨S128, .f32⟩
  | 12 => ⟨S128, .f32⟩
  | 13 => ⟨S12x128x128, .f32⟩
  | 14 => ⟨S12x128, .f32⟩
  | 15 => ⟨S12x128x9, .f32⟩
  | 16 => ⟨S12x9, .f32⟩
  | 17 => ⟨S12x384x128, .f32⟩
  | 18 => ⟨S12x128, .f32⟩
  | 19 => ⟨S12x128x4, .f32⟩
  | 20 => ⟨S12x4, .f32⟩
  | 21 => ⟨S4x3x32x32, .f32⟩
  | 22 => ⟨S1x528x32x1, .i1⟩
  | 23 => ⟨S4x1x32x9, .f32⟩
  | 24 => ⟨S_, .f32⟩
  | 25 => ⟨S_, .f32⟩
  | 26 => ⟨S4x528x32x9, .i1⟩
  | 27 => ⟨S4x528x32x9, .f32⟩
  | 28 => ⟨S4x528x32x9, .f32⟩
  | 29 => ⟨S4x528x32x9, .f32⟩
  | 30 => ⟨S1x528x1x32x32, .i1⟩
  | 31 => ⟨S4x1x3x32x32, .f32⟩
  | 32 => ⟨S_, .f32⟩
  | 33 => ⟨S_, .f32⟩
  | 34 => ⟨S4x528x3x32x32, .i1⟩
  | 35 => ⟨S4x528x3x32x32, .f32⟩
  | 36 => ⟨S4x528x3x32x32, .f32⟩
  | 37 => ⟨S4x528x3x32x32, .f32⟩
  | 38 => ⟨S4x528x32x9, .f32⟩
  | 39 => ⟨S4x528x32x3x128, .f32⟩
  | 40 => ⟨S4x528x3x32x128, .f32⟩
  | 41 => ⟨S_, .f32⟩
  | 42 => ⟨S4x528x32x128, .f32⟩
  | 43 => ⟨S_, .f32⟩
  | 44 => ⟨S4x528x32x128, .f32⟩
  | 45 => ⟨S4x528x32x128, .f32⟩
  | 46 => ⟨S4x528x32x3x128, .f32⟩
  | 47 => ⟨S4x528x3x32x128, .f32⟩
  | 48 => ⟨S_, .f32⟩
  | 49 => ⟨S4x528x32x128, .f32⟩
  | 50 => ⟨S_, .f32⟩
  | 51 => ⟨S4x528x32x128, .f32⟩
  | 52 => ⟨S4x528x32x128, .f32⟩
  | 53 => ⟨S4x528x32x3x128, .f32⟩
  | 54 => ⟨S4x528x3x32x128, .f32⟩
  | 55 => ⟨S_, .f32⟩
  | 56 => ⟨S4x528x32x128, .f32⟩
  | 57 => ⟨S_, .f32⟩
  | 58 => ⟨S4x528x128, .f32⟩
  | 59 => ⟨S_, .f32⟩
  | 60 => ⟨S4x128, .f32⟩
  | 61 => ⟨S_, .f32⟩
  | 62 => ⟨S128, .f32⟩
  | 63 => ⟨S_, .f32⟩
  | 64 => ⟨S128, .f32⟩
  | 65 => ⟨S128, .f32⟩
  | 66 => ⟨S1x1x1x128, .f32⟩
  | 67 => ⟨S4x528x32x128, .f32⟩
  | 68 => ⟨S4x528x32x128, .f32⟩
  | 69 => ⟨S4x528x32x128, .f32⟩
  | 70 => ⟨S_, .f32⟩
  | 71 => ⟨S4x528x128, .f32⟩
  | 72 => ⟨S_, .f32⟩
  | 73 => ⟨S4x128, .f32⟩
  | 74 => ⟨S_, .f32⟩
  | 75 => ⟨S128, .f32⟩
  | 76 => ⟨S_, .f32⟩
  | 77 => ⟨S128, .f32⟩
  | 78 => ⟨S128, .f32⟩
  | 79 => ⟨S1x1x1x128, .f32⟩
  | 80 => ⟨S4x528x32x128, .f32⟩
  | 81 => ⟨S4x528x32x128, .f32⟩
  | 82 => ⟨S_, .f32⟩
  | 83 => ⟨S128, .f32⟩
  | 84 => ⟨S128, .f32⟩
  | 85 => ⟨S128, .f32⟩
  | 86 => ⟨S1x1x1x128, .f32⟩
  | 87 => ⟨S4x528x32x128, .f32⟩
  | 88 => ⟨S4x528x32x128, .f32⟩
  | 89 => ⟨S1x1x1x128, .f32⟩
  | 90 => ⟨S4x528x32x128, .f32⟩
  | 91 => ⟨S4x528x32x128, .f32⟩
  | 92 => ⟨S1x1x1x128, .f32⟩
  | 93 => ⟨S4x528x32x128, .f32⟩
  | 94 => ⟨S4x528x32x128, .f32⟩
  | 95 => ⟨S_, .f32⟩
  | 96 => ⟨S4x528x128, .f32⟩
  | 97 => ⟨S4x32x128, .f32⟩
  | 98 => ⟨S128x128, .f32⟩
  | 99 => ⟨S4x496x128, .f32⟩
  | 100 => ⟨S4x496x1x128, .f32⟩
  | 101 => ⟨S4x496x32x128, .f32⟩
  | 102 => ⟨S1x496x2x1, .i32⟩
  | 103 => ⟨S4x496x2x128, .i32⟩
  | 104 => ⟨S_, .i32⟩
  | 105 => ⟨S4x496x2x128, .i32⟩
  | 106 => ⟨S4x496x2x128, .i1⟩
  | 107 => ⟨S_, .i32⟩
  | 108 => ⟨S4x496x2x128, .i32⟩
  | 109 => ⟨S4x496x2x128, .i32⟩
  | 110 => ⟨S4x496x2x128, .i32⟩
  | 111 => ⟨S4x496x2x128x1, .i32⟩
  | 112 => ⟨S1, .i32⟩
  | 113 => ⟨S_, .i32⟩
  | 114 => ⟨S4x496x2x128x1, .i32⟩
  | 115 => ⟨S4x496x2x128x1, .i1⟩
  | 116 => ⟨S1x1x1x1x1, .i32⟩
  | 117 => ⟨S4x496x2x128x1, .i32⟩
  | 118 => ⟨S4x496x2x128x1, .i1⟩
  | 119 => ⟨S4x496x2x128x1, .i1⟩
  | 120 => ⟨S_, .i1⟩
  | 121 => ⟨S4x496x2x128, .i1⟩
  | 122 => ⟨S4x496x2x128, .f32⟩
  | 123 => ⟨S_, .f32⟩
  | 124 => ⟨S4x496x2x128, .f32⟩
  | 125 => ⟨S4x496x2x128, .f32⟩
  | 126 => ⟨S4x496x3x128, .f32⟩
  | 127 => ⟨S1984x384, .f32⟩
  | _ => ⟨S4x32x9, .f32⟩

abbrev hbmTy0_1 (i : Nat) : BufTy := match i % 128 with
  | 0 => ⟨S128x9, .f32⟩
  | 1 => ⟨S1984x4, .f32⟩
  | 2 => ⟨S12x128x128, .f32⟩
  | 3 => ⟨S12x128x128, .f32⟩
  | 4 => ⟨S12x1x128, .f32⟩
  | 5 => ⟨S12x128x128, .f32⟩
  | 6 => ⟨S12x128x128, .f32⟩
  | 7 => ⟨S12x128x128, .f32⟩
  | 8 => ⟨S12x128x9, .f32⟩
  | 9 => ⟨S12x1x9, .f32⟩
  | 10 => ⟨S12x128x9, .f32⟩
  | 11 => ⟨S12x128x9, .f32⟩
  | 12 => ⟨S_, .f32⟩
  | 13 => ⟨S12x128, .f32⟩
  | 14 => ⟨S12x128x1, .f32⟩
  | 15 => ⟨S12x128x9, .f32⟩
  | 16 => ⟨S12x128x9, .f32⟩
  | 17 => ⟨S12x128x9, .f32⟩
  | 18 => ⟨S_, .f32⟩
  | 19 => ⟨S12x128, .f32⟩
  | 20 => ⟨S12x128x1, .f32⟩
  | 21 => ⟨S12x128x9, .f32⟩
  | 22 => ⟨S12x128x9, .f32⟩
  | 23 => ⟨S12x128x1984, .f32⟩
  | 24 => ⟨S12x1984x128, .f32⟩
  | 25 => ⟨S12x1x128, .f32⟩
  | 26 => ⟨S12x1984x128, .f32⟩
  | 27 => ⟨S12x1984x128, .f32⟩
  | 28 => ⟨S12x1984x128, .f32⟩
  | 29 => ⟨S12x1984x4, .f32⟩
  | 30 => ⟨S12x1x4, .f32⟩
  | 31 => ⟨S12x1984x4, .f32⟩
  | 32 => ⟨S12x1984x4, .f32⟩
  | 33 => ⟨S_, .f32⟩
  | 34 => ⟨S12x1984, .f32⟩
  | 35 => ⟨S12x1984x1, .f32⟩
  | 36 => ⟨S12x1984x4, .f32⟩
  | 37 => ⟨S12x1984x4, .f32⟩
  | 38 => ⟨S12x1984x4, .f32⟩
  | 39 => ⟨S_, .f32⟩
  | 40 => ⟨S12x1984, .f32⟩
  | 41 => ⟨S12x1984x1, .f32⟩
  | 42 => ⟨S12x1984x4, .f32⟩
  | 43 => ⟨S12x1984x4, .f32⟩
  | 44 => ⟨S9x9x9, .i32⟩
  | 45 => ⟨S9x9x9, .i32⟩
  | 46 => ⟨S9x9x9, .i32⟩
  | 47 => ⟨S9x9x9, .i32⟩
  | 48 => ⟨S9x9x9, .i1⟩
  | 49 => ⟨S9x9x9, .i32⟩
  | 50 => ⟨S_, .i32⟩
  | 51 => ⟨S9x9x9, .i32⟩
  | 52 => ⟨S9x9x9, .i32⟩
  | 53 => ⟨S9x9x9, .i1⟩
  | 54 => ⟨S9x9x9, .i1⟩
  | 55 => ⟨S9x9x9, .f32⟩
  | 56 => ⟨S4x4x4, .i32⟩
  | 57 => ⟨S4x4x4, .i32⟩
  | 58 => ⟨S4x4x4, .i32⟩
  | 59 => ⟨S4x4x4, .i32⟩
  | 60 => ⟨S4x4x4, .i1⟩
  | 61 => ⟨S4x4x4, .i32⟩
  | 62 => ⟨S_, .i32⟩
  | 63 => ⟨S4x4x4, .i32⟩
  | 64 => ⟨S4x4x4, .i32⟩
  | 65 => ⟨S4x4x4, .i1⟩
  | 66 => ⟨S4x4x4, .i1⟩
  | 67 => ⟨S4x4x4, .f32⟩
  | 68 => ⟨S1x128x9, .f32⟩
  | 69 => ⟨S128x9, .f32⟩
  | 70 => ⟨S128x9x1, .f32⟩
  | 71 => ⟨S128x9x9, .f32⟩
  | 72 => ⟨S128x9x9, .f32⟩
  | 73 => ⟨S128x9x9, .f32⟩
  | 74 => ⟨S_, .f32⟩
  | 75 => ⟨S128x9, .f32⟩
  | 76 => ⟨S1x1984x4, .f32⟩
  | 77 => ⟨S1984x4, .f32⟩
  | 78 => ⟨S1984x4x1, .f32⟩
  | 79 => ⟨S1984x4x4, .f32⟩
  | 80 => ⟨S1984x4x4, .f32⟩
  | 81 => ⟨S1984x4x4, .f32⟩
  | 82 => ⟨S_, .f32⟩
  | 83 => ⟨S1984x4, .f32⟩
  | 84 => ⟨S1x128x9, .f32⟩
  | 85 => ⟨S128x9, .f32⟩
  | 86 => ⟨S128x9x1, .f32⟩
  | 87 => ⟨S128x9x9, .f32⟩
  | 88 => ⟨S128x9x9, .f32⟩
  | 89 => ⟨S128x9x9, .f32⟩
  | 90 => ⟨S_, .f32⟩
  | 91 => ⟨S128x9, .f32⟩
  | 92 => ⟨S1x1984x4, .f32⟩
  | 93 => ⟨S1984x4, .f32⟩
  | 94 => ⟨S1984x4x1, .f32⟩
  | 95 => ⟨S1984x4x4, .f32⟩
  | 96 => ⟨S1984x4x4, .f32⟩
  | 97 => ⟨S1984x4x4, .f32⟩
  | 98 => ⟨S_, .f32⟩
  | 99 => ⟨S1984x4, .f32⟩
  | 100 => ⟨S1x128x9, .f32⟩
  | 101 => ⟨S128x9, .f32⟩
  | 102 => ⟨S128x9x1, .f32⟩
  | 103 => ⟨S128x9x9, .f32⟩
  | 104 => ⟨S128x9x9, .f32⟩
  | 105 => ⟨S128x9x9, .f32⟩
  | 106 => ⟨S_, .f32⟩
  | 107 => ⟨S128x9, .f32⟩
  | 108 => ⟨S1x1984x4, .f32⟩
  | 109 => ⟨S1984x4, .f32⟩
  | 110 => ⟨S1984x4x1, .f32⟩
  | 111 => ⟨S1984x4x4, .f32⟩
  | 112 => ⟨S1984x4x4, .f32⟩
  | 113 => ⟨S1984x4x4, .f32⟩
  | 114 => ⟨S_, .f32⟩
  | 115 => ⟨S1984x4, .f32⟩
  | 116 => ⟨S1x128x9, .f32⟩
  | 117 => ⟨S128x9, .f32⟩
  | 118 => ⟨S128x9x1, .f32⟩
  | 119 => ⟨S128x9x9, .f32⟩
  | 120 => ⟨S128x9x9, .f32⟩
  | 121 => ⟨S128x9x9, .f32⟩
  | 122 => ⟨S_, .f32⟩
  | 123 => ⟨S128x9, .f32⟩
  | 124 => ⟨S1x1984x4, .f32⟩
  | 125 => ⟨S1984x4, .f32⟩
  | 126 => ⟨S1984x4x1, .f32⟩
  | 127 => ⟨S1984x4x4, .f32⟩
  | _ => ⟨S4x32x9, .f32⟩

abbrev hbmTy0_2 (i : Nat) : BufTy := match i % 128 with
  | 0 => ⟨S1984x4x4, .f32⟩
  | 1 => ⟨S1984x4x4, .f32⟩
  | 2 => ⟨S_, .f32⟩
  | 3 => ⟨S1984x4, .f32⟩
  | 4 => ⟨S1x128x9, .f32⟩
  | 5 => ⟨S128x9, .f32⟩
  | 6 => ⟨S128x9x1, .f32⟩
  | 7 => ⟨S128x9x9, .f32⟩
  | 8 => ⟨S128x9x9, .f32⟩
  | 9 => ⟨S128x9x9, .f32⟩
  | 10 => ⟨S_, .f32⟩
  | 11 => ⟨S128x9, .f32⟩
  | 12 => ⟨S1x1984x4, .f32⟩
  | 13 => ⟨S1984x4, .f32⟩
  | 14 => ⟨S1984x4x1, .f32⟩
  | 15 => ⟨S1984x4x4, .f32⟩
  | 16 => ⟨S1984x4x4, .f32⟩
  | 17 => ⟨S1984x4x4, .f32⟩
  | 18 => ⟨S_, .f32⟩
  | 19 => ⟨S1984x4, .f32⟩
  | 20 => ⟨S1x128x9, .f32⟩
  | 21 => ⟨S128x9, .f32⟩
  | 22 => ⟨S128x9x1, .f32⟩
  | 23 => ⟨S128x9x9, .f32⟩
  | 24 => ⟨S128x9x9, .f32⟩
  | 25 => ⟨S128x9x9, .f32⟩
  | 26 => ⟨S_, .f32⟩
  | 27 => ⟨S128x9, .f32⟩
  | 28 => ⟨S1x1984x4, .f32⟩
  | 29 => ⟨S1984x4, .f32⟩
  | 30 => ⟨S1984x4x1, .f32⟩
  | 31 => ⟨S1984x4x4, .f32⟩
  | 32 => ⟨S1984x4x4, .f32⟩
  | 33 => ⟨S1984x4x4, .f32⟩
  | 34 => ⟨S_, .f32⟩
  | 35 => ⟨S1984x4, .f32⟩
  | 36 => ⟨S1x128x9, .f32⟩
  | 37 => ⟨S128x9, .f32⟩
  | 38 => ⟨S128x9x1, .f32⟩
  | 39 => ⟨S128x9x9, .f32⟩
  | 40 => ⟨S128x9x9, .f32⟩
  | 41 => ⟨S128x9x9, .f32⟩
  | 42 => ⟨S_, .f32⟩
  | 43 => ⟨S128x9, .f32⟩
  | 44 => ⟨S1x1984x4, .f32⟩
  | 45 => ⟨S1984x4, .f32⟩
  | 46 => ⟨S1984x4x1, .f32⟩
  | 47 => ⟨S1984x4x4, .f32⟩
  | 48 => ⟨S1984x4x4, .f32⟩
  | 49 => ⟨S1984x4x4, .f32⟩
  | 50 => ⟨S_, .f32⟩
  | 51 => ⟨S1984x4, .f32⟩
  | 52 => ⟨S1x128x9, .f32⟩
  | 53 => ⟨S128x9, .f32⟩
  | 54 => ⟨S128x9x1, .f32⟩
  | 55 => ⟨S128x9x9, .f32⟩
  | 56 => ⟨S128x9x9, .f32⟩
  | 57 => ⟨S128x9x9, .f32⟩
  | 58 => ⟨S_, .f32⟩
  | 59 => ⟨S128x9, .f32⟩
  | 60 => ⟨S1x1984x4, .f32⟩
  | 61 => ⟨S1984x4, .f32⟩
  | 62 => ⟨S1984x4x1, .f32⟩
  | 63 => ⟨S1984x4x4, .f32⟩
  | 64 => ⟨S1984x4x4, .f32⟩
  | 65 => ⟨S1984x4x4, .f32⟩
  | 66 => ⟨S_, .f32⟩
  | 67 => ⟨S1984x4, .f32⟩
  | 68 => ⟨S1x128x9, .f32⟩
  | 69 => ⟨S128x9, .f32⟩
  | 70 => ⟨S128x9x1, .f32⟩
  | 71 => ⟨S128x9x9, .f32⟩
  | 72 => ⟨S128x9x9, .f32⟩
  | 73 => ⟨S128x9x9, .f32⟩
  | 74 => ⟨S_, .f32⟩
  | 75 => ⟨S128x9, .f32⟩
  | 76 => ⟨S1x1984x4, .f32⟩
  | 77 => ⟨S1984x4, .f32⟩
  | 78 => ⟨S1984x4x1, .f32⟩
  | 79 => ⟨S1984x4x4, .f32⟩
  | 80 => ⟨S1984x4x4, .f32⟩
  | 81 => ⟨S1984x4x4, .f32⟩
  | 82 => ⟨S_, .f32⟩
  | 83 => ⟨S1984x4, .f32⟩
  | 84 => ⟨S1x128x9, .f32⟩
  | 85 => ⟨S128x9, .f32⟩
  | 86 => ⟨S128x9x1, .f32⟩
  | 87 => ⟨S128x9x9, .f32⟩
  | 88 => ⟨S128x9x9, .f32⟩
  | 89 => ⟨S128x9x9, .f32⟩
  | 90 => ⟨S_, .f32⟩
  | 91 => ⟨S128x9, .f32⟩
  | 92 => ⟨S1x1984x4, .f32⟩
  | 93 => ⟨S1984x4, .f32⟩
  | 94 => ⟨S1984x4x1, .f32⟩
  | 95 => ⟨S1984x4x4, .f32⟩
  | 96 => ⟨S1984x4x4, .f32⟩
  | 97 => ⟨S1984x4x4, .f32⟩
  | 98 => ⟨S_, .f32⟩
  | 99 => ⟨S1984x4, .f32⟩
  | 100 => ⟨S1x128x9, .f32⟩
  | 101 => ⟨S128x9, .f32⟩
  | 102 => ⟨S128x9x1, .f32⟩
  | 103 => ⟨S128x9x9, .f32⟩
  | 104 => ⟨S128x9x9, .f32⟩
  | 105 => ⟨S128x9x9, .f32⟩
  | 106 => ⟨S_, .f32⟩
  | 107 => ⟨S128x9, .f32⟩
  | 108 => ⟨S1x1984x4, .f32⟩
  | 109 => ⟨S1984x4, .f32⟩
  | 110 => ⟨S1984x4x1, .f32⟩
  | 111 => ⟨S1984x4x4, .f32⟩
  | 112 => ⟨S1984x4x4, .f32⟩
  | 113 => ⟨S1984x4x4, .f32⟩
  | 114 => ⟨S_, .f32⟩
  | 115 => ⟨S1984x4, .f32⟩
  | 116 => ⟨S1x128x9, .f32⟩
  | 117 => ⟨S128x9, .f32⟩
  | 118 => ⟨S128x9x1, .f32⟩
  | 119 => ⟨S128x9x9, .f32⟩
  | 120 => ⟨S128x9x9, .f32⟩
  | 121 => ⟨S128x9x9, .f32⟩
  | 122 => ⟨S_, .f32⟩
  | 123 => ⟨S128x9, .f32⟩
  | 124 => ⟨S1x1984x4, .f32⟩
  | 125 => ⟨S1984x4, .f32⟩
  | 126 => ⟨S1984x4x1, .f32⟩
  | 127 => ⟨S1984x4x4, .f32⟩
  | _ => ⟨S4x32x9, .f32⟩

abbrev hbmTy0_3 (i : Nat) : BufTy := match i % 128 with
  | 0 => ⟨S1984x4x4, .f32⟩
  | 1 => ⟨S1984x4x4, .f32⟩
  | 2 => ⟨S_, .f32⟩
  | 3 => ⟨S1984x4, .f32⟩
  | 4 => ⟨S4x496x4, .f32⟩
  | _ => ⟨S4x32x9, .f32⟩

abbrev hbmTy (i : Nat) : BufTy := match i / 128 with
  | 0 => hbmTy0_0 i
  | 1 => hbmTy0_1 i
  | 2 => hbmTy0_2 i
  | 3 => hbmTy0_3 i
  | _ => ⟨S4x32x9, .f32⟩

abbrev bufTy : (tb : Table) → Fin (tcTables nBuf tb) → BufTy
  | .hbm, ⟨i, _⟩ => hbmTy i
  | _, _ => ⟨S4x32x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_cst_2 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_3 : Ref sig .tc := ⟨.hbm, 48, rfl⟩
abbrev main_v15 : Ref sig .tc := ⟨.hbm, 49, rfl⟩
abbrev main_cst_4 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_5 : Ref sig .tc := ⟨.hbm, 55, rfl⟩
abbrev main_v20 : Ref sig .tc := ⟨.hbm, 56, rfl⟩
abbrev main_cst_6 : Ref sig .tc := ⟨.hbm, 57, rfl⟩
abbrev main_v21 : Ref sig .tc := ⟨.hbm, 58, rfl⟩
abbrev main_cst_7 : Ref sig .tc := ⟨.hbm, 59, rfl⟩
abbrev main_v22 : Ref sig .tc := ⟨.hbm, 60, rfl⟩
abbrev main_cst_8 : Ref sig .tc := ⟨.hbm, 61, rfl⟩
abbrev main_v23 : Ref sig .tc := ⟨.hbm, 62, rfl⟩
abbrev main_cst_9 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_10 : Ref sig .tc := ⟨.hbm, 70, rfl⟩
abbrev main_v30 : Ref sig .tc := ⟨.hbm, 71, rfl⟩
abbrev main_cst_11 : Ref sig .tc := ⟨.hbm, 72, rfl⟩
abbrev main_v31 : Ref sig .tc := ⟨.hbm, 73, rfl⟩
abbrev main_cst_12 : Ref sig .tc := ⟨.hbm, 74, rfl⟩
abbrev main_v32 : Ref sig .tc := ⟨.hbm, 75, rfl⟩
abbrev main_cst_13 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_14 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_15 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_cst : Ref sig .tc := ⟨.hbm, 123, rfl⟩
abbrev main_call2_v14 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_16 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_cst_17 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_cst_18 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_cst_19 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_c : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_c_20 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_cst_21 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_cst_22 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_cst_23 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_cst_24 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_cst_25 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_cst_26 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_cst_27 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_cst_28 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_cst_29 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_cst_30 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_cst_31 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_cst_32 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_cst_33 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_cst_34 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_cst_35 : Ref sig .tc := ⟨.hbm, 314, rfl⟩
abbrev main_v227 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_cst_36 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_cst_37 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_cst_38 : Ref sig .tc := ⟨.hbm, 338, rfl⟩
abbrev main_v248 : Ref sig .tc := ⟨.hbm, 339, rfl⟩
abbrev main_v249 : Ref sig .tc := ⟨.hbm, 340, rfl⟩
abbrev main_v250 : Ref sig .tc := ⟨.hbm, 341, rfl⟩
abbrev main_v251 : Ref sig .tc := ⟨.hbm, 342, rfl⟩
abbrev main_v252 : Ref sig .tc := ⟨.hbm, 343, rfl⟩
abbrev main_v253 : Ref sig .tc := ⟨.hbm, 344, rfl⟩
abbrev main_v254 : Ref sig .tc := ⟨.hbm, 345, rfl⟩
abbrev main_cst_39 : Ref sig .tc := ⟨.hbm, 346, rfl⟩
abbrev main_v255 : Ref sig .tc := ⟨.hbm, 347, rfl⟩
abbrev main_v256 : Ref sig .tc := ⟨.hbm, 348, rfl⟩
abbrev main_v257 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_cst_40 : Ref sig .tc := ⟨.hbm, 354, rfl⟩
abbrev main_v262 : Ref sig .tc := ⟨.hbm, 355, rfl⟩
abbrev main_v263 : Ref sig .tc := ⟨.hbm, 356, rfl⟩
abbrev main_v264 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_cst_41 : Ref sig .tc := ⟨.hbm, 362, rfl⟩
abbrev main_v269 : Ref sig .tc := ⟨.hbm, 363, rfl⟩
abbrev main_v270 : Ref sig .tc := ⟨.hbm, 364, rfl⟩
abbrev main_v271 : Ref sig .tc := ⟨.hbm, 365, rfl⟩
abbrev main_v272 : Ref sig .tc := ⟨.hbm, 366, rfl⟩
abbrev main_v273 : Ref sig .tc := ⟨.hbm, 367, rfl⟩
abbrev main_v274 : Ref sig .tc := ⟨.hbm, 368, rfl⟩
abbrev main_v275 : Ref sig .tc := ⟨.hbm, 369, rfl⟩
abbrev main_cst_42 : Ref sig .tc := ⟨.hbm, 370, rfl⟩
abbrev main_v276 : Ref sig .tc := ⟨.hbm, 371, rfl⟩
abbrev main_v277 : Ref sig .tc := ⟨.hbm, 372, rfl⟩
abbrev main_v278 : Ref sig .tc := ⟨.hbm, 373, rfl⟩
abbrev main_v279 : Ref sig .tc := ⟨.hbm, 374, rfl⟩
abbrev main_v280 : Ref sig .tc := ⟨.hbm, 375, rfl⟩
abbrev main_v281 : Ref sig .tc := ⟨.hbm, 376, rfl⟩
abbrev main_v282 : Ref sig .tc := ⟨.hbm, 377, rfl⟩
abbrev main_cst_43 : Ref sig .tc := ⟨.hbm, 378, rfl⟩
abbrev main_v283 : Ref sig .tc := ⟨.hbm, 379, rfl⟩
abbrev main_v284 : Ref sig .tc := ⟨.hbm, 380, rfl⟩
abbrev main_v285 : Ref sig .tc := ⟨.hbm, 381, rfl⟩
abbrev main_v286 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_cst_44 : Ref sig .tc := ⟨.hbm, 386, rfl⟩
abbrev main_v290 : Ref sig .tc := ⟨.hbm, 387, rfl⟩
abbrev main_v291 : Ref sig .tc := ⟨.hbm, 388, rfl⟩

abbrev nD : Nat := 1
abbrev τ : Topo := Topo.v7x

variable {F : FTy → Type} [FloatOps F]
-- ==== Proof.HeldRunA.lean ====
/- The body of the program's kernel run at the first point of its grid. -/
module

public import proofs.«01_k».proof.Proof.HeldRuns

@[expose] public section

set_option maxRecDepth 16384

noncomputable section

namespace Cert.Kernel.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 40000000 in
/-- The body run once at the first point, on whole staging buffers, with what its stores leave in the carried scratch. -/
noncomputable def kernelRun0_A (c : Dev nD) (i : grid0.Coords) (arg1 : Memref sig .tc .vmem S4x32x9 .f32) (harg1 : arg1.IsWhole) (arg2 : Memref sig .tc .vmem S9x9 .f32) (harg2 : arg2.IsWhole) (arg3 : Memref sig .tc .vmem S3x9x128 .bf16) (harg3 : arg3.IsWhole) (arg4 : Memref sig .tc .vmem S3x128x128 .bf16) (harg4 : arg4.IsWhole) (arg5 : Memref sig .tc .vmem S3x128x128 .bf16) (harg5 : arg5.IsWhole) (arg6 : Memref sig .tc .vmem S4x3x32x32 .bf16) (harg6 : arg6.IsWhole) (arg7 : Memref sig .tc .vmem S136x32x32 .bf16) (harg7 : arg7.IsWhole) (arg8 : Memref sig .tc .vmem S136x3x32 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x9 .f32) (harg11 : arg11.IsWhole) (arg12 : Memref sig .tc .vmem S4x496x4 .f32) (harg12 : arg12.IsWhole) (arg13 : Memref sig .tc .vmem S1536x128 .bf16) (harg13 : arg13.IsWhole) (arg14 : Memref sig .tc .vmem S1536x1 .f32) (harg14 : arg14.IsWhole) (arg15 : Memref sig .tc .vmem S12x9x128 .bf16) (harg15 : arg15.IsWhole) (arg16 : Memref sig .tc .vmem S108x1 .f32) (harg16 : arg16.IsWhole) (arg17 : Memref sig .tc .vmem S1536x384 .bf16) (harg17 : arg17.IsWhole) (arg18 : Memref sig .tc .vmem S1536x1 .f32) (harg18 : arg18.IsWhole) (arg19 : Memref sig .tc .vmem S12x4x128 .bf16) (harg19 : arg19.IsWhole) (arg20 : Memref sig .tc .vmem S48x1 .f32) (harg20 : arg20.IsWhole) (arg21 : Memref sig .tc .vmem S128x9 .f32) (harg21 : arg21.IsWhole) (arg22 : Memref sig .tc .vmem S4x496x4 .f32) (harg22 : arg22.IsWhole) (arg23 : Memref sig .tc .vmem S4x544x384 .f32) (harg23 : arg23.IsWhole) (arg24 : Memref sig .tc .vmem S8x128 .f32) (harg24 : arg24.IsWhole) (hc0 : cond0_0 i) (hc1 : ¬cond0_1 i)
    (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) :
    { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f LS1)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    simp only [cc0__mega_kernel_eq_skeleton]; unfold cc0__mega_kernel_skel
    simp only [k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _; isplitr; swap; · iexact H20
      ipureintro; rfl
    isplitl [H21]
    · iexists _, _; isplitr; swap; · iexact H21
      ipureintro; rfl
    isplitl [HS0]
    · iexists _, _; isplitr; swap; · iexact HS0
      ipureintro; rfl
    iexists _; iexact HS1

end Cert.Kernel.Held

end
-- ==== Proof.HeldRunB.lean ====
/- The body of the program's kernel run at the middle points of its grid. -/
module

public import proofs.«01_k».proof.Proof.HeldRuns

@[expose] public section

set_option maxRecDepth 16384

noncomputable section

namespace Cert.Kernel.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 40000000 in
/-- The body run once at the middle points, on whole staging buffers, with what its stores leave in the carried scratch. -/
noncomputable def kernelRun0_B (c : Dev nD) (i : grid0.Coords) (arg1 : Memref sig .tc .vmem S4x32x9 .f32) (harg1 : arg1.IsWhole) (arg2 : Memref sig .tc .vmem S9x9 .f32) (harg2 : arg2.IsWhole) (arg3 : Memref sig .tc .vmem S3x9x128 .bf16) (harg3 : arg3.IsWhole) (arg4 : Memref sig .tc .vmem S3x128x128 .bf16) (harg4 : arg4.IsWhole) (arg5 : Memref sig .tc .vmem S3x128x128 .bf16) (harg5 : arg5.IsWhole) (arg6 : Memref sig .tc .vmem S4x3x32x32 .bf16) (harg6 : arg6.IsWhole) (arg7 : Memref sig .tc .vmem S136x32x32 .bf16) (harg7 : arg7.IsWhole) (arg8 : Memref sig .tc .vmem S136x3x32 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x9 .f32) (harg11 : arg11.IsWhole) (arg12 : Memref sig .tc .vmem S4x496x4 .f32) (harg12 : arg12.IsWhole) (arg13 : Memref sig .tc .vmem S1536x128 .bf16) (harg13 : arg13.IsWhole) (arg14 : Memref sig .tc .vmem S1536x1 .f32) (harg14 : arg14.IsWhole) (arg15 : Memref sig .tc .vmem S12x9x128 .bf16) (harg15 : arg15.IsWhole) (arg16 : Memref sig .tc .vmem S108x1 .f32) (harg16 : arg16.IsWhole) (arg17 : Memref sig .tc .vmem S1536x384 .bf16) (harg17 : arg17.IsWhole) (arg18 : Memref sig .tc .vmem S1536x1 .f32) (harg18 : arg18.IsWhole) (arg19 : Memref sig .tc .vmem S12x4x128 .bf16) (harg19 : arg19.IsWhole) (arg20 : Memref sig .tc .vmem S48x1 .f32) (harg20 : arg20.IsWhole) (arg21 : Memref sig .tc .vmem S128x9 .f32) (harg21 : arg21.IsWhole) (arg22 : Memref sig .tc .vmem S4x496x4 .f32) (harg22 : arg22.IsWhole) (arg23 : Memref sig .tc .vmem S4x544x384 .f32) (harg23 : arg23.IsWhole) (arg24 : Memref sig .tc .vmem S8x128 .f32) (harg24 : arg24.IsWhole) (hc0 : ¬cond0_0 i) (hc1 : ¬cond0_1 i)
    (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (xs1 : Vec F S8x128 .f32) :
    { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (arg24.view.loc (c : Thread nD τ) ↦[arg24.view.set]{fullShare} arg24.view.writes (Elt F) (harg24.unread xs1) LS1)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg24.eq_unread hfs1
    simp only [cc0__mega_kernel_eq_skeleton]; unfold cc0__mega_kernel_skel
    simp only [k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _; isplitr; swap; · iexact H20
      ipureintro; rfl
    isplitl [H21]
    · iexists _, _; isplitr; swap; · iexact H21
      ipureintro; rfl
    isplitl [HS0]
    · iexists _, _; isplitr; swap; · iexact HS0
      ipureintro; rfl
    iexact HS1

end Cert.Kernel.Held

end
-- ==== Proof.HeldRunC.lean ====
/- The body of the program's kernel run at the last point of its grid. -/
module

public import proofs.«01_k».proof.Proof.HeldRuns

@[expose] public section

set_option maxRecDepth 16384

noncomputable section

namespace Cert.Kernel.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1344000 in
/-- The body run once at the last point, on whole staging buffers, with what its stores leave in the carried scratch. -/
noncomputable def kernelRun0_C (c : Dev nD) (i : grid0.Coords) (arg1 : Memref sig .tc .vmem S4x32x9 .f32) (harg1 : arg1.IsWhole) (arg2 : Memref sig .tc .vmem S9x9 .f32) (harg2 : arg2.IsWhole) (arg3 : Memref sig .tc .vmem S3x9x128 .bf16) (harg3 : arg3.IsWhole) (arg4 : Memref sig .tc .vmem S3x128x128 .bf16) (harg4 : arg4.IsWhole) (arg5 : Memref sig .tc .vmem S3x128x128 .bf16) (harg5 : arg5.IsWhole) (arg6 : Memref sig .tc .vmem S4x3x32x32 .bf16) (harg6 : arg6.IsWhole) (arg7 : Memref sig .tc .vmem S136x32x32 .bf16) (harg7 : arg7.IsWhole) (arg8 : Memref sig .tc .vmem S136x3x32 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x9 .f32) (harg11 : arg11.IsWhole) (arg12 : Memref sig .tc .vmem S4x496x4 .f32) (harg12 : arg12.IsWhole) (arg13 : Memref sig .tc .vmem S1536x128 .bf16) (harg13 : arg13.IsWhole) (arg14 : Memref sig .tc .vmem S1536x1 .f32) (harg14 : arg14.IsWhole) (arg15 : Memref sig .tc .vmem S12x9x128 .bf16) (harg15 : arg15.IsWhole) (arg16 : Memref sig .tc .vmem S108x1 .f32) (harg16 : arg16.IsWhole) (arg17 : Memref sig .tc .vmem S1536x384 .bf16) (harg17 : arg17.IsWhole) (arg18 : Memref sig .tc .vmem S1536x1 .f32) (harg18 : arg18.IsWhole) (arg19 : Memref sig .tc .vmem S12x4x128 .bf16) (harg19 : arg19.IsWhole) (arg20 : Memref sig .tc .vmem S48x1 .f32) (harg20 : arg20.IsWhole) (arg21 : Memref sig .tc .vmem S128x9 .f32) (harg21 : arg21.IsWhole) (arg22 : Memref sig .tc .vmem S4x496x4 .f32) (harg22 : arg22.IsWhole) (arg23 : Memref sig .tc .vmem S4x544x384 .f32) (harg23 : arg23.IsWhole) (arg24 : Memref sig .tc .vmem S8x128 .f32) (harg24 : arg24.IsWhole) (hc0 : ¬cond0_0 i) (hc1 : cond0_1 i)
    (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (xs1 : Vec F S8x128 .f32) :
    { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (arg24.view.loc (c : Thread nD τ) ↦[arg24.view.set]{fullShare} arg24.view.writes (Elt F) (harg24.unread xs1) LS1)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg24.eq_unread hfs1
    simp only [cc0__mega_kernel_eq_skeleton]; unfold cc0__mega_kernel_skel
    simp only [k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part47_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _; isplitr; swap; · iexact H20
      ipureintro; rfl
    isplitl [H21]
    · iexists _, _; isplitr; swap; · iexact H21
      ipureintro; rfl
    isplitl [HS0]
    · iexists _, _; isplitr; swap; · iexact HS0
      ipureintro; rfl
    iexact HS1

end Cert.Kernel.Held

end
-- ==== Proof.HeldFrame.lean ====
/- The frame of the program: the kernel's body at every point of its grid, and the run of the whole program. -/
module

public import proofs.«01_k».proof.Proof.HeldRunA
public import proofs.«01_k».proof.Proof.HeldRunB
public import proofs.«01_k».proof.Proof.HeldRunC
public import Idealize.ShloMosaic.Lib.Claim

@[expose] public section

set_option maxRecDepth 16384

noncomputable section

namespace Cert.Kernel.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (a1 : Memref sig .tc .vmem S4x32x9 .f32) (g1 : a1.IsWhole) (a2 : Memref sig .tc .vmem S9x9 .f32) (g2 : a2.IsWhole) (a3 : Memref sig .tc .vmem S3x9x128 .bf16) (g3 : a3.IsWhole) (a4 : Memref sig .tc .vmem S3x128x128 .bf16) (g4 : a4.IsWhole) (a5 : Memref sig .tc .vmem S3x128x128 .bf16) (g5 : a5.IsWhole) (a6 : Memref sig .tc .vmem S4x3x32x32 .bf16) (g6 : a6.IsWhole) (a7 : Memref sig .tc .vmem S136x32x32 .bf16) (g7 : a7.IsWhole) (a8 : Memref sig .tc .vmem S136x3x32 .f32) (g8 : a8.IsWhole) (a9 : Memref sig .tc .vmem S1x128 .f32) (g9 : a9.IsWhole) (a10 : Memref sig .tc .vmem S1x128 .f32) (g10 : a10.IsWhole) (a11 : Memref sig .tc .vmem S128x9 .f32) (g11 : a11.IsWhole) (a12 : Memref sig .tc .vmem S4x496x4 .f32) (g12 : a12.IsWhole) (a13 : Memref sig .tc .vmem S1536x128 .bf16) (g13 : a13.IsWhole) (a14 : Memref sig .tc .vmem S1536x1 .f32) (g14 : a14.IsWhole) (a15 : Memref sig .tc .vmem S12x9x128 .bf16) (g15 : a15.IsWhole) (a16 : Memref sig .tc .vmem S108x1 .f32) (g16 : a16.IsWhole) (a17 : Memref sig .tc .vmem S1536x384 .bf16) (g17 : a17.IsWhole) (a18 : Memref sig .tc .vmem S1536x1 .f32) (g18 : a18.IsWhole) (a19 : Memref sig .tc .vmem S12x4x128 .bf16) (g19 : a19.IsWhole) (a20 : Memref sig .tc .vmem S48x1 .f32) (g20 : a20.IsWhole) (a21 : Memref sig .tc .vmem S128x9 .f32) (g21 : a21.IsWhole) (a22 : Memref sig .tc .vmem S4x496x4 .f32) (g22 : a22.IsWhole) (a23 : Memref sig .tc .vmem S4x544x384 .f32) (g23 : a23.IsWhole) (a24 : Memref sig .tc .vmem S8x128 .f32) (g24 : a24.IsWhole)
theorem scover0_A_1 (hc0 : cond0_0 i) (hc1 : ¬cond0_1 i)
    (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (y : S8x128.Idx) :
    ∃ pc ∈ (kernelRun0_A c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19).1, y ∈ pc.1.set :=
  View.cover_of_wholeMem (kernelRun0_A c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19).1 (by sl_whole_mem) y

def sout0_A_1 (hc0 : cond0_0 i) (hc1 : ¬cond0_1 i)
    (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) : Vec F S8x128 .f32 :=
  VS0_1.read (Elt F) (VS0_1.writes (Elt F) VS0_1.junk (kernelRun0_A c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19).1)

def sout0_B_1 (hc0 : ¬cond0_0 i) (hc1 : ¬cond0_1 i)
    (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (xs1 : Vec F S8x128 .f32) : Vec F S8x128 .f32 :=
  a24.view.read (Elt F) (a24.view.writes (Elt F) (g24.unread xs1) (kernelRun0_B c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs1).1)

def sout0_C_1 (hc0 : ¬cond0_0 i) (hc1 : cond0_1 i)
    (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (xs1 : Vec F S8x128 .f32) : Vec F S8x128 .f32 :=
  a24.view.read (Elt F) (a24.view.writes (Elt F) (g24.unread xs1) (kernelRun0_C c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs1).1)
end

/-! ## What the outputs hold after each point -/

def outsAt0 (c : Dev nD) : (n : ℕ) → n < cfg0.N → Vec F S8x128 .f32
  | 0, hn => sout0_A_1 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) _ (hs0_16 ⟨0, hn⟩) _ (hs0_17 ⟨0, hn⟩) _ (hs0_18 ⟨0, hn⟩) _ (hs0_19 ⟨0, hn⟩) _ (hs0_20 ⟨0, hn⟩) _ (hs0_21 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩)
  | n + 1, hn =>
    if h0 : (n + 1) % 4 = 0 then
      if h1 : (n + 1) % 4 = 3 then
        False.elim (by have hN : n + 1 < 4 := lt_of_lt_of_eq hn (show cfg0.N = 4 from N_0); omega)
      else
        sout0_A_1 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩)
    else
      if h1 : (n + 1) % 4 = 3 then
        sout0_C_1 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn))
      else
        sout0_B_1 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) _ (hs0_16 ⟨n + 1, hn⟩) _ (hs0_17 ⟨n + 1, hn⟩) _ (hs0_18 ⟨n + 1, hn⟩) _ (hs0_19 ⟨n + 1, hn⟩) _ (hs0_20 ⟨n + 1, hn⟩) _ (hs0_21 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn))

theorem outsAt0_A (c : Dev nD) (t : Fin cfg0.N) (h0 : t.val % 4 = 0) (h1 : ¬t.val % 4 = 3) :
    outsAt0 m c t.val t.isLt = sout0_A_1 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = sout0_B_1 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = sout0_C_1 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn))) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)))) ∗ (∃ r, prngReg c r)) := by
  cases n with
  | zero => exact absurd rfl hz
  | succ n => rfl

/-! ## The pipeline's proof data -/

def forgets0 : Fin 22 → Bool := fun w => w.val == 20 || w.val == 21

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## What each input window leaves -/

theorem left0_0 (c : Dev nD) (t : Fin cfg0.N) : (dats m 0 c).leavesExact 0 t = owns (c : Thread nD τ) (ms0_0 t) fullShare (iblk m c 0 t) := by
  unfold Dat.leavesExact; rw [liveAt0_0 t, after0_0]
theorem left0_1 (c : Dev nD) (t : Fin cfg0.N) : (dats m 0 c).leavesExact 1 t = owns (c : Thread nD τ) (ms0_1 t) fullShare (iblk m c 1 t) := by
  unfold Dat.leavesExact; rw [liveAt0_1 t, after0_1]
theorem left0_2 (c : Dev nD) (t : Fin cfg0.N) : (dats m 0 c).leavesExact 2 t = owns (c : Thread nD τ) (ms0_2 t) fullShare (iblk m c 2 t) := by
  unfold Dat.leavesExact; rw [liveAt0_2 t, after0_2]
theorem left0_3 (c : Dev nD) (t : Fin cfg0.N) : (dats m 0 c).leavesExact 3 t = owns (c : Thread nD τ) (ms0_3 t) fullShare (iblk m c 3 t) := by
  unfold Dat.leavesExact; rw [liveAt0_3 t, after0_3]
theorem left0_4 (c : Dev nD) (t : Fin cfg0.N) : (dats m 0 c).leavesExact 4 t = owns (c : Thread nD τ) (ms0_4 t) fullShare (iblk m c 4 t) := by
  unfold Dat.leavesExact; rw [liveAt0_4 t, after0_4]
theorem left0_5 (c : Dev nD) (t : Fin cfg0.N) : (dats m 0 c).leavesExact 5 t = owns (c : Thread nD τ) (ms0_5 t) fullShare (iblk m c 5 t) := by
  unfold Dat.leavesExact; rw [liveAt0_5 t, after0_5]
theorem left0_6 (c : Dev nD) (t : Fin cfg0.N) : (dats m 0 c).leavesExact 6 t = owns (c : Thread nD τ) (ms0_6 t) fullShare (iblk m c 6 t) := by
  unfold Dat.leavesExact; rw [liveAt0_6 t, after0_6]
theorem left0_7 (c : Dev nD) (t : Fin cfg0.N) : (dats m 0 c).leavesExact 7 t = owns (c : Thread nD τ) (ms0_7 t) fullShare (iblk m c 7 t) := by
  unfold Dat.leavesExact; rw [liveAt0_7 t, after0_7]
theorem left0_8 (c : Dev nD) (t : Fin cfg0.N) : (dats m 0 c).leavesExact 8 t = owns (c : Thread nD τ) (ms0_8 t) fullShare (iblk m c 8 t) := by
  unfold Dat.leavesExact; rw [liveAt0_8 t, after0_8]
theorem left0_9 (c : Dev nD) (t : Fin cfg0.N) : (dats m 0 c).leavesExact 9 t = owns (c : Thread nD τ) (ms0_9 t) fullShare (iblk m c 9 t) := by
  unfold Dat.leavesExact; rw [liveAt0_9 t, after0_9]
theorem left0_10 (c : Dev nD) (t : Fin cfg0.N) : (dats m 0 c).leavesExact 10 t = owns (c : Thread nD τ) (ms0_10 t) fullShare (iblk m c 10 t) := by
  unfold Dat.leavesExact; rw [liveAt0_10 t, after0_10]
theorem left0_11 (c : Dev nD) (t : Fin cfg0.N) : (dats m 0 c).leavesExact 11 t = owns (c : Thread nD τ) (ms0_11 t) fullShare (iblk m c 11 t) := by
  unfold Dat.leavesExact; rw [liveAt0_11 t, after0_11]
theorem left0_12 (c : Dev nD) (t : Fin cfg0.N) : (dats m 0 c).leavesExact 12 t = owns (c : Thread nD τ) (ms0_12 t) fullShare (iblk m c 12 t) := by
  unfold Dat.leavesExact; rw [liveAt0_12 t, after0_12]
theorem left0_13 (c : Dev nD) (t : Fin cfg0.N) : (dats m 0 c).leavesExact 13 t = owns (c : Thread nD τ) (ms0_13 t) fullShare (iblk m c 13 t) := by
  unfold Dat.leavesExact; rw [liveAt0_13 t, after0_13]
theorem left0_14 (c : Dev nD) (t : Fin cfg0.N) : (dats m 0 c).leavesExact 14 t = owns (c : Thread nD τ) (ms0_14 t) fullShare (iblk m c 14 t) := by
  unfold Dat.leavesExact; rw [liveAt0_14 t, after0_14]
theorem left0_15 (c : Dev nD) (t : Fin cfg0.N) : (dats m 0 c).leavesExact 15 t = owns (c : Thread nD τ) (ms0_15 t) fullShare (iblk m c 15 t) := by
  unfold Dat.leavesExact; rw [liveAt0_15 t, after0_15]
theorem left0_16 (c : Dev nD) (t : Fin cfg0.N) : (dats m 0 c).leavesExact 16 t = owns (c : Thread nD τ) (ms0_16 t) fullShare (iblk m c 16 t) := by
  unfold Dat.leavesExact; rw [liveAt0_16 t, after0_16]
theorem left0_17 (c : Dev nD) (t : Fin cfg0.N) : (dats m 0 c).leavesExact 17 t = owns (c : Thread nD τ) (ms0_17 t) fullShare (iblk m c 17 t) := by
  unfold Dat.leavesExact; rw [liveAt0_17 t, after0_17]
theorem left0_18 (c : Dev nD) (t : Fin cfg0.N) : (dats m 0 c).leavesExact 18 t = owns (c : Thread nD τ) (ms0_18 t) fullShare (iblk m c 18 t) := by
  unfold Dat.leavesExact; rw [liveAt0_18 t, after0_18]
theorem left0_19 (c : Dev nD) (t : Fin cfg0.N) : (dats m 0 c).leavesExact 19 t = owns (c : Thread nD τ) (ms0_19 t) fullShare (iblk m c 19 t) := by
  unfold Dat.leavesExact; rw [liveAt0_19 t, after0_19]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (∃ d, owns (c : Thread nD τ) (ms0_20 t) fullShare d)
    ∗ (∃ d, owns (c : Thread nD τ) (ms0_21 t) fullShare d))

set_option maxHeartbeats 288000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  by_cases h0 : t.val % 4 = 0
  · by_cases h1 : t.val % 4 = 3
    · exfalso; omega
    · simp only [left0_0, left0_1, left0_2, left0_3, left0_4, left0_5, left0_6, left0_7, left0_8, left0_9, left0_10, left0_11, left0_12, left0_13, left0_14, left0_15, left0_16, left0_17, left0_18, left0_19]
      by_cases hz : t.val = 0
      · rw [PhiS_castSucc m c t, PhiS_zero m c _ _ hz, PhiA0_eq]
        rw [outsAt0_A m c t h0 h1]
        unfold sout0_A_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [H21]; · iexists _; iexact H21
        isplitl [HS0]; · iexact HS0
        isplitl [HS1]; · iexact HS1
        iintro ⟨H0, H1, H2, H3, H4, H5, H6, H7, H8, H9, H10, H11, H12, H13, H14, H15, H16, H17, H18, H19, H20, H21, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        iexact H21
      · exfalso; have hN : t.val < 4 := lt_of_lt_of_eq t.isLt (show cfg0.N = 4 from N_0); omega
  · by_cases h1 : t.val % 4 = 3
    · simp only [left0_0, left0_1, left0_2, left0_3, left0_4, left0_5, left0_6, left0_7, left0_8, left0_9, left0_10, left0_11, left0_12, left0_13, left0_14, left0_15, left0_16, left0_17, left0_18, left0_19]
      by_cases hz : t.val = 0
      · exfalso; have hN : t.val < 4 := lt_of_lt_of_eq t.isLt (show cfg0.N = 4 from N_0); omega
      · rw [PhiS_castSucc m c t, PhiS_pos m c _ _ hz]
        rw [outsAt0_C m c t h0 h1]
        unfold sout0_C_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [H21]; · iexists _; iexact H21
        isplitl [HS0]; · iexact HS0
        isplitl [HS1]; · iexact HS1
        iintro ⟨H0, H1, H2, H3, H4, H5, H6, H7, H8, H9, H10, H11, H12, H13, H14, H15, H16, H17, H18, H19, H20, H21, HS0, HS1⟩
        isplitl [HS0 HS1 Hg]
        · isplitl [HS0 HS1]
          · isplitl [HS0]
            · iexact HS0
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        iexact H21
    · simp only [left0_0, left0_1, left0_2, left0_3, left0_4, left0_5, left0_6, left0_7, left0_8, left0_9, left0_10, left0_11, left0_12, left0_13, left0_14, left0_15, left0_16, left0_17, left0_18, left0_19]
      by_cases hz : t.val = 0
      · exfalso; have hN : t.val < 4 := lt_of_lt_of_eq t.isLt (show cfg0.N = 4 from N_0); omega
      · rw [PhiS_castSucc m c t, PhiS_pos m c _ _ hz]
        rw [outsAt0_B m c t h0 h1]
        unfold sout0_B_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [H21]; · iexists _; iexact H21
        isplitl [HS0]; · iexact HS0
        isplitl [HS1]; · iexact HS1
        iintro ⟨H0, H1, H2, H3, H4, H5, H6, H7, H8, H9, H10, H11, H12, H13, H14, H15, H16, H17, H18, H19, H20, H21, HS0, HS1⟩
        isplitl [HS0 HS1 Hg]
        · isplitl [HS0 HS1]
          · isplitl [HS0]
            · iexact HS0
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        iexact H21

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 4 := N_0; omega)

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every argument array is as it was launched. -/
def Unchanged (mem : (ℓ : Loc nD τ sig) → Buf (Elt F) ℓ) : Prop := ∀ c : Dev nD,
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18)
      ∧ mem ((c.tc : Thread nD τ).loc main_arg19) = m ((c.tc : Thread nD τ).loc main_arg19)
      ∧ mem ((c.tc : Thread nD τ).loc main_arg20) = m ((c.tc : Thread nD τ).loc main_arg20)

/-- Every argument array ends as it was launched, from any run of the pipeline whose data start at the arrays. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => Unchanged m r.2.mem) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 11 rfl).trans ((hA c 11).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 1 rfl).trans ((hA c 1).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

theorem unchanged : θ_run defs (onTc (τ := τ) (main (F := F))) ⟨m, fun _ => 0, ρ⟩ (fun r => Unchanged m r.2.mem) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.Kernel.Held

end
-- ==== Proof.KRuns.lean ====
/- What the runs of the kernel's body share: its branch conditions in closed form, the windows' staging buffers, the scratch. -/
module

public import proofs.«01_k».proof.Proof.Gen.KernelIdeal.Frame
public import proofs.«01_k».proof.Proof.Gen.KernelIdeal.Skeleton

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-- Window 18 is never idle (an input). -/
theorem liveAt0_18 : ∀ t : Fin cfg0.N, cfg0.idle 18 (grid0.coords t) = false := fun _ => rfl
/-- Window 19 is never idle (an input). -/
theorem liveAt0_19 : ∀ t : Fin cfg0.N, cfg0.idle 19 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x32x9 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x9 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x9x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x3x32x32 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S136x32x32 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S136x3x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x9 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x496x4 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1536x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1536x1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S12x9x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S108x1 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1536x384 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1536x1 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S12x4x128 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S48x1 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S128x9 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S4x496x4 .f32 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S4x544x384 .f32 := Memref.whole cc0_scratch0
abbrev scM0_1 : Memref sig .tc .vmem S8x128 .f32 := Memref.whole cc0_scratch1
/-- The scratch `arg24` the kernel carries between points, as a view: what it holds is stated through it. -/
abbrev VS0_1 : View sig .tc .vmem S8x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Flow

end
-- ==== Proof.KRunA.lean ====
/- The kernel's body run once. -/
module

public import proofs.«01_k».proof.Proof.KRuns

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 100000000 in
/-- The body run once at the first point, on whole staging buffers: the pieces its stores leave in the two scratch buffers
    (last first), with the proof that the body runs to the continuation holding them. -/
noncomputable def runA (c : Dev nD) (i : grid0.Coords) (arg1 : Memref sig .tc .vmem S4x32x9 .f32) (harg1 : arg1.IsWhole) (arg2 : Memref sig .tc .vmem S9x9 .f32) (harg2 : arg2.IsWhole) (arg3 : Memref sig .tc .vmem S3x9x128 .bf16) (harg3 : arg3.IsWhole) (arg4 : Memref sig .tc .vmem S3x128x128 .bf16) (harg4 : arg4.IsWhole) (arg5 : Memref sig .tc .vmem S3x128x128 .bf16) (harg5 : arg5.IsWhole) (arg6 : Memref sig .tc .vmem S4x3x32x32 .bf16) (harg6 : arg6.IsWhole) (arg7 : Memref sig .tc .vmem S136x32x32 .bf16) (harg7 : arg7.IsWhole) (arg8 : Memref sig .tc .vmem S136x3x32 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x9 .f32) (harg11 : arg11.IsWhole) (arg12 : Memref sig .tc .vmem S4x496x4 .f32) (harg12 : arg12.IsWhole) (arg13 : Memref sig .tc .vmem S1536x128 .bf16) (harg13 : arg13.IsWhole) (arg14 : Memref sig .tc .vmem S1536x1 .f32) (harg14 : arg14.IsWhole) (arg15 : Memref sig .tc .vmem S12x9x128 .bf16) (harg15 : arg15.IsWhole) (arg16 : Memref sig .tc .vmem S108x1 .f32) (harg16 : arg16.IsWhole) (arg17 : Memref sig .tc .vmem S1536x384 .bf16) (harg17 : arg17.IsWhole) (arg18 : Memref sig .tc .vmem S1536x1 .f32) (harg18 : arg18.IsWhole) (arg19 : Memref sig .tc .vmem S12x4x128 .bf16) (harg19 : arg19.IsWhole) (arg20 : Memref sig .tc .vmem S48x1 .f32) (harg20 : arg20.IsWhole) (arg21 : Memref sig .tc .vmem S128x9 .f32) (harg21 : arg21.IsWhole) (arg22 : Memref sig .tc .vmem S4x496x4 .f32) (harg22 : arg22.IsWhole) (arg23 : Memref sig .tc .vmem S4x544x384 .f32) (harg23 : arg23.IsWhole) (arg24 : Memref sig .tc .vmem S8x128 .f32) (harg24 : arg24.IsWhole) (hc0 : cond0_0 i) (hc1 : ¬cond0_1 i)
    (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (x20 : Vec F S128x9 .f32) (x21 : Vec F S4x496x4 .f32) (xs0 : Vec F S4x544x384 .f32) :
    Σ' (LS0 : List (View.Piece (Elt F) S4x544x384 .f32)), { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare xs0 ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (arg23.view.loc (c : Thread nD τ) ↦[arg23.view.set]{fullShare} arg23.view.writes (Elt F) (harg23.unread xs0) LS0) ∗ (∃ f, arg24.view.loc (c : Thread nD τ) ↦[arg24.view.set]{fullShare} arg24.view.writes (Elt F) f LS1)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hfs0
    simp only [cc0__mega_kernel_eq_skeleton]; unfold cc0__mega_kernel_skel
    simp only [k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [HS0]
    · iexact HS0
    iexists _; iexact HS1

end Cert.KernelIdeal.Flow

end
-- ==== Proof.KRunB.lean ====
/- The kernel's body run once. -/
module

public import proofs.«01_k».proof.Proof.KRuns

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 100000000 in
/-- The body run once at the middle points, on whole staging buffers: the pieces its stores leave in the two scratch buffers
    (last first), with the proof that the body runs to the continuation holding them. -/
noncomputable def runB (c : Dev nD) (i : grid0.Coords) (arg1 : Memref sig .tc .vmem S4x32x9 .f32) (harg1 : arg1.IsWhole) (arg2 : Memref sig .tc .vmem S9x9 .f32) (harg2 : arg2.IsWhole) (arg3 : Memref sig .tc .vmem S3x9x128 .bf16) (harg3 : arg3.IsWhole) (arg4 : Memref sig .tc .vmem S3x128x128 .bf16) (harg4 : arg4.IsWhole) (arg5 : Memref sig .tc .vmem S3x128x128 .bf16) (harg5 : arg5.IsWhole) (arg6 : Memref sig .tc .vmem S4x3x32x32 .bf16) (harg6 : arg6.IsWhole) (arg7 : Memref sig .tc .vmem S136x32x32 .bf16) (harg7 : arg7.IsWhole) (arg8 : Memref sig .tc .vmem S136x3x32 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x9 .f32) (harg11 : arg11.IsWhole) (arg12 : Memref sig .tc .vmem S4x496x4 .f32) (harg12 : arg12.IsWhole) (arg13 : Memref sig .tc .vmem S1536x128 .bf16) (harg13 : arg13.IsWhole) (arg14 : Memref sig .tc .vmem S1536x1 .f32) (harg14 : arg14.IsWhole) (arg15 : Memref sig .tc .vmem S12x9x128 .bf16) (harg15 : arg15.IsWhole) (arg16 : Memref sig .tc .vmem S108x1 .f32) (harg16 : arg16.IsWhole) (arg17 : Memref sig .tc .vmem S1536x384 .bf16) (harg17 : arg17.IsWhole) (arg18 : Memref sig .tc .vmem S1536x1 .f32) (harg18 : arg18.IsWhole) (arg19 : Memref sig .tc .vmem S12x4x128 .bf16) (harg19 : arg19.IsWhole) (arg20 : Memref sig .tc .vmem S48x1 .f32) (harg20 : arg20.IsWhole) (arg21 : Memref sig .tc .vmem S128x9 .f32) (harg21 : arg21.IsWhole) (arg22 : Memref sig .tc .vmem S4x496x4 .f32) (harg22 : arg22.IsWhole) (arg23 : Memref sig .tc .vmem S4x544x384 .f32) (harg23 : arg23.IsWhole) (arg24 : Memref sig .tc .vmem S8x128 .f32) (harg24 : arg24.IsWhole) (hc0 : ¬cond0_0 i) (hc1 : ¬cond0_1 i)
    (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (x20 : Vec F S128x9 .f32) (x21 : Vec F S4x496x4 .f32) (xs0 : Vec F S4x544x384 .f32) (xs1 : Vec F S8x128 .f32) :
    Σ' (LS0 : List (View.Piece (Elt F) S4x544x384 .f32)), { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare xs0 ∗ owns (c : Thread nD τ) arg24 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (arg23.view.loc (c : Thread nD τ) ↦[arg23.view.set]{fullShare} arg23.view.writes (Elt F) (harg23.unread xs0) LS0) ∗ (arg24.view.loc (c : Thread nD τ) ↦[arg24.view.set]{fullShare} arg24.view.writes (Elt F) (harg24.unread xs1) LS1)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hfs0; obtain rfl := harg24.eq_unread hfs1
    simp only [cc0__mega_kernel_eq_skeleton]; unfold cc0__mega_kernel_skel
    simp only [k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [HS0]
    · iexact HS0
    iexact HS1

end Cert.KernelIdeal.Flow

end
-- ==== Proof.KRunC.lean ====
/- The kernel's body run once. -/
module

public import proofs.«01_k».proof.Proof.KRuns

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1344000 in
/-- The body run once at the last point, on whole staging buffers: the pieces its stores leave in the two scratch buffers
    and in the two results (last first), with the proof that the body runs to the continuation holding them. -/
noncomputable def runC (c : Dev nD) (i : grid0.Coords) (arg1 : Memref sig .tc .vmem S4x32x9 .f32) (harg1 : arg1.IsWhole) (arg2 : Memref sig .tc .vmem S9x9 .f32) (harg2 : arg2.IsWhole) (arg3 : Memref sig .tc .vmem S3x9x128 .bf16) (harg3 : arg3.IsWhole) (arg4 : Memref sig .tc .vmem S3x128x128 .bf16) (harg4 : arg4.IsWhole) (arg5 : Memref sig .tc .vmem S3x128x128 .bf16) (harg5 : arg5.IsWhole) (arg6 : Memref sig .tc .vmem S4x3x32x32 .bf16) (harg6 : arg6.IsWhole) (arg7 : Memref sig .tc .vmem S136x32x32 .bf16) (harg7 : arg7.IsWhole) (arg8 : Memref sig .tc .vmem S136x3x32 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x9 .f32) (harg11 : arg11.IsWhole) (arg12 : Memref sig .tc .vmem S4x496x4 .f32) (harg12 : arg12.IsWhole) (arg13 : Memref sig .tc .vmem S1536x128 .bf16) (harg13 : arg13.IsWhole) (arg14 : Memref sig .tc .vmem S1536x1 .f32) (harg14 : arg14.IsWhole) (arg15 : Memref sig .tc .vmem S12x9x128 .bf16) (harg15 : arg15.IsWhole) (arg16 : Memref sig .tc .vmem S108x1 .f32) (harg16 : arg16.IsWhole) (arg17 : Memref sig .tc .vmem S1536x384 .bf16) (harg17 : arg17.IsWhole) (arg18 : Memref sig .tc .vmem S1536x1 .f32) (harg18 : arg18.IsWhole) (arg19 : Memref sig .tc .vmem S12x4x128 .bf16) (harg19 : arg19.IsWhole) (arg20 : Memref sig .tc .vmem S48x1 .f32) (harg20 : arg20.IsWhole) (arg21 : Memref sig .tc .vmem S128x9 .f32) (harg21 : arg21.IsWhole) (arg22 : Memref sig .tc .vmem S4x496x4 .f32) (harg22 : arg22.IsWhole) (arg23 : Memref sig .tc .vmem S4x544x384 .f32) (harg23 : arg23.IsWhole) (arg24 : Memref sig .tc .vmem S8x128 .f32) (harg24 : arg24.IsWhole) (hc0 : ¬cond0_0 i) (hc1 : cond0_1 i)
    (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (xs0 : Vec F S4x544x384 .f32) (xs1 : Vec F S8x128 .f32) :
    Σ' (L20 : List (View.Piece (Elt F) S128x9 .f32)), Σ' (L21 : List (View.Piece (Elt F) S4x496x4 .f32)), Σ' (LS0 : List (View.Piece (Elt F) S4x544x384 .f32)), { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ owns (c : Thread nD τ) arg23 fullShare xs0 ∗ owns (c : Thread nD τ) arg24 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (arg23.view.loc (c : Thread nD τ) ↦[arg23.view.set]{fullShare} arg23.view.writes (Elt F) (harg23.unread xs0) LS0) ∗ (arg24.view.loc (c : Thread nD τ) ↦[arg24.view.set]{fullShare} arg24.view.writes (Elt F) (harg24.unread xs1) LS1)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg23.eq_unread hfs0; obtain rfl := harg24.eq_unread hfs1
    simp only [cc0__mega_kernel_eq_skeleton]; unfold cc0__mega_kernel_skel
    simp only [k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part47_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; iexact H20
    isplitl [H21]
    · iexists _; iexact H21
    isplitl [HS0]
    · iexact HS0
    iexact HS1

end Cert.KernelIdeal.Flow

end
-- ==== Proof.KDat.lean ====
/- The pipeline's data for the whole kernel, and the run of the whole program, for any invariant of the two scratch buffers that the
   body keeps from one grid point to the next and any two blocks the last point's stores fill. -/
module

public import proofs.«01_k».proof.Proof.KRunA
public import proofs.«01_k».proof.Proof.KRunB
public import proofs.«01_k».proof.Proof.KRunC
public import Idealize.ShloMosaic.Lib.Claim

@[expose] public section

set_option maxRecDepth 16384

noncomputable section

namespace Cert.KernelIdeal.Flow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's run, at the windows' blocks there. -/
abbrev atA (c : Dev nD) (t : Fin cfg0.N) (h0 : t.val % 4 = 0) (h1 : ¬t.val % 4 = 3) (x20 : Vec F S128x9 .f32) (x21 : Vec F S4x496x4 .f32) (xs0 : Vec F S4x544x384 .f32) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) x20 x21 xs0
/-- A middle point's run. -/
abbrev atB (c : Dev nD) (t : Fin cfg0.N) (h0 : ¬t.val % 4 = 0) (h1 : ¬t.val % 4 = 3) (x20 : Vec F S128x9 .f32) (x21 : Vec F S4x496x4 .f32) (xs0 : Vec F S4x544x384 .f32) (xs1 : Vec F S8x128 .f32) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) x20 x21 xs0 xs1
/-- The last point's run. -/
abbrev atC (c : Dev nD) (t : Fin cfg0.N) (h0 : ¬t.val % 4 = 0) (h1 : t.val % 4 = 3) (xs0 : Vec F S4x544x384 .f32) (xs1 : Vec F S8x128 .f32) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) xs0 xs1

/-- What a point's stores leave in the first scratch buffer, found at `xs`. -/
abbrev left0 (xs : Vec F S4x544x384 .f32) (L : List (View.Piece (Elt F) S4x544x384 .f32)) : Vec F S4x544x384 .f32 :=
  scM0_0.view.read (Elt F) (scM0_0.view.writes (Elt F) ((Memref.isWhole_whole cc0_scratch0).unread xs) L)
/-- What a point's stores leave in the second scratch buffer, found at `xs`. -/
abbrev left1 (xs : Vec F S8x128 .f32) (L : List (View.Piece (Elt F) S8x128 .f32)) : Vec F S8x128 .f32 :=
  scM0_1.view.read (Elt F) (scM0_1.view.writes (Elt F) ((Memref.isWhole_whole cc0_scratch1).unread xs) L)

/-- An invariant of the scratch buffers that every point keeps, and the blocks the last point stores. -/
structure Sound (INV : Dev nD → ℕ → Vec F S4x544x384 .f32 → Vec F S8x128 .f32 → Prop)
    (XD : Dev nD → Vec F S128x9 .f32) (AD : Dev nD → Vec F S4x496x4 .f32) : Prop where
  first : ∀ (c : Dev nD) (t : Fin cfg0.N) (h0 : t.val % 4 = 0) (h1 : ¬t.val % 4 = 3) x20 x21 xs0 f,
    INV c (t.val + 1) (left0 xs0 (atA m c t h0 h1 x20 x21 xs0).1)
      (scM0_1.view.read (Elt F) (scM0_1.view.writes (Elt F) f (atA m c t h0 h1 x20 x21 xs0).2.1))
  next : ∀ (c : Dev nD) (t : Fin cfg0.N) (h0 : ¬t.val % 4 = 0) (h1 : ¬t.val % 4 = 3) x20 x21 xs0 xs1, INV c t.val xs0 xs1 →
    INV c (t.val + 1) (left0 xs0 (atB m c t h0 h1 x20 x21 xs0 xs1).1) (left1 xs1 (atB m c t h0 h1 x20 x21 xs0 xs1).2.1)
  last : ∀ (c : Dev nD) (t : Fin cfg0.N) (h0 : ¬t.val % 4 = 0) (h1 : t.val % 4 = 3) xs0 xs1, INV c t.val xs0 xs1 →
    INV c (t.val + 1) (left0 xs0 (atC m c t h0 h1 xs0 xs1).2.2.1) (left1 xs1 (atC m c t h0 h1 xs0 xs1).2.2.2.1)
  nodes : ∀ (c : Dev nD) (t : Fin cfg0.N) (h0 : ¬t.val % 4 = 0) (h1 : t.val % 4 = 3) xs0 xs1, INV c t.val xs0 xs1 →
    ∀ f, (ms0_20 t).view.read (Elt F) ((ms0_20 t).view.writes (Elt F) f (atC m c t h0 h1 xs0 xs1).1) = XD c
  edges : ∀ (c : Dev nD) (t : Fin cfg0.N) (h0 : ¬t.val % 4 = 0) (h1 : t.val % 4 = 3) xs0 xs1, INV c t.val xs0 xs1 →
    ∀ f, (ms0_21 t).view.read (Elt F) ((ms0_21 t).view.writes (Elt F) f (atC m c t h0 h1 xs0 xs1).2.1) = AD c

variable (INV : Dev nD → ℕ → Vec F S4x544x384 .f32 → Vec F S8x128 .f32 → Prop) (XD : Dev nD → Vec F S128x9 .f32) (AD : Dev nD → Vec F S4x496x4 .f32)

/-- What the body carries before point `n`. -/
def PhiS (c : Dev nD) : (n : ℕ) → n ≤ cfg0.N → sProp 𝕄
  | 0, _ => Pipeline.ΦA spec0 c
  | n + 1, _ => iprop((∃ g s, ⌜INV c (n + 1) g s⌝ ∗ owns (c : Thread nD τ) scM0_0 fullShare g ∗ owns (c : Thread nD τ) scM0_1 fullShare s) ∗ (∃ r, prngReg c r))

theorem PhiS_zero (c : Dev nD) (n : ℕ) (h : n ≤ cfg0.N) (hz : n = 0) : PhiS INV c n h = Pipeline.ΦA spec0 c := by
  subst hz; rfl

theorem PhiS_succ (c : Dev nD) (n : ℕ) (hn : n < cfg0.N) :
    PhiS INV c (n + 1) hn = iprop((∃ g s, ⌜INV c (n + 1) g s⌝ ∗ owns (c : Thread nD τ) scM0_0 fullShare g ∗ owns (c : Thread nD τ) scM0_1 fullShare s) ∗ (∃ r, prngReg c r)) := rfl

theorem PhiS_pos (c : Dev nD) (n : ℕ) (h : n ≤ cfg0.N) (hz : n ≠ 0) :
    PhiS INV c n h = iprop((∃ g s, ⌜INV c n g s⌝ ∗ owns (c : Thread nD τ) scM0_0 fullShare g ∗ owns (c : Thread nD τ) scM0_1 fullShare s) ∗ (∃ r, prngReg c r)) := by
  cases n with
  | zero => exact absurd rfl hz
  | succ n => rfl

/-- The pipeline's data: the inputs' blocks, and the two blocks of the last point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => XD c
    | ⟨21, _⟩ => AD c
    | ⟨_ + 22, h⟩ => absurd h (Nat.not_lt.2 (Nat.le_add_left _ _))
  Φ t := PhiS INV c t.val (Nat.le_of_lt_succ t.isLt)
  q _ := fullShare
  owed _ := 0

theorem A_eq (c : Dev nD) (w : Fin cfg0.W) : (dats m INV XD AD 0 c).A w = V m c (Pipeline.arrRef spec0 w) := by
  dsimp only [dats]

theorem PhiS_castSucc (c : Dev nD) (t : Fin cfg0.N) :
    (dats m INV XD AD 0 c).Φ t.castSucc = PhiS INV c t.val (Nat.le_of_lt t.isLt) := by
  dsimp only [dats]; exact Pipeline.Dat.Φ_castSucc (PhiS INV c) t

theorem after0_0 (c : Dev nD) (t : Fin cfg0.N) : (dats m INV XD AD 0 c).after 0 t = iblk m c 0 t := by dsimp only [dats]
theorem after0_1 (c : Dev nD) (t : Fin cfg0.N) : (dats m INV XD AD 0 c).after 1 t = iblk m c 1 t := by dsimp only [dats]
theorem after0_2 (c : Dev nD) (t : Fin cfg0.N) : (dats m INV XD AD 0 c).after 2 t = iblk m c 2 t := by dsimp only [dats]
theorem after0_3 (c : Dev nD) (t : Fin cfg0.N) : (dats m INV XD AD 0 c).after 3 t = iblk m c 3 t := by dsimp only [dats]
theorem after0_4 (c : Dev nD) (t : Fin cfg0.N) : (dats m INV XD AD 0 c).after 4 t = iblk m c 4 t := by dsimp only [dats]
theorem after0_5 (c : Dev nD) (t : Fin cfg0.N) : (dats m INV XD AD 0 c).after 5 t = iblk m c 5 t := by dsimp only [dats]
theorem after0_6 (c : Dev nD) (t : Fin cfg0.N) : (dats m INV XD AD 0 c).after 6 t = iblk m c 6 t := by dsimp only [dats]
theorem after0_7 (c : Dev nD) (t : Fin cfg0.N) : (dats m INV XD AD 0 c).after 7 t = iblk m c 7 t := by dsimp only [dats]
theorem after0_8 (c : Dev nD) (t : Fin cfg0.N) : (dats m INV XD AD 0 c).after 8 t = iblk m c 8 t := by dsimp only [dats]
theorem after0_9 (c : Dev nD) (t : Fin cfg0.N) : (dats m INV XD AD 0 c).after 9 t = iblk m c 9 t := by dsimp only [dats]
theorem after0_10 (c : Dev nD) (t : Fin cfg0.N) : (dats m INV XD AD 0 c).after 10 t = iblk m c 10 t := by dsimp only [dats]
theorem after0_11 (c : Dev nD) (t : Fin cfg0.N) : (dats m INV XD AD 0 c).after 11 t = iblk m c 11 t := by dsimp only [dats]
theorem after0_12 (c : Dev nD) (t : Fin cfg0.N) : (dats m INV XD AD 0 c).after 12 t = iblk m c 12 t := by dsimp only [dats]
theorem after0_13 (c : Dev nD) (t : Fin cfg0.N) : (dats m INV XD AD 0 c).after 13 t = iblk m c 13 t := by dsimp only [dats]
theorem after0_14 (c : Dev nD) (t : Fin cfg0.N) : (dats m INV XD AD 0 c).after 14 t = iblk m c 14 t := by dsimp only [dats]
theorem after0_15 (c : Dev nD) (t : Fin cfg0.N) : (dats m INV XD AD 0 c).after 15 t = iblk m c 15 t := by dsimp only [dats]
theorem after0_16 (c : Dev nD) (t : Fin cfg0.N) : (dats m INV XD AD 0 c).after 16 t = iblk m c 16 t := by dsimp only [dats]
theorem after0_17 (c : Dev nD) (t : Fin cfg0.N) : (dats m INV XD AD 0 c).after 17 t = iblk m c 17 t := by dsimp only [dats]
theorem after0_18 (c : Dev nD) (t : Fin cfg0.N) : (dats m INV XD AD 0 c).after 18 t = iblk m c 18 t := by dsimp only [dats]
theorem after0_19 (c : Dev nD) (t : Fin cfg0.N) : (dats m INV XD AD 0 c).after 19 t = iblk m c 19 t := by dsimp only [dats]
theorem after0_20 (c : Dev nD) (t : Fin cfg0.N) : (dats m INV XD AD 0 c).after 20 t = XD c := by dsimp only [dats]
theorem after0_21 (c : Dev nD) (t : Fin cfg0.N) : (dats m INV XD AD 0 c).after 21 t = AD c := by dsimp only [dats]

theorem before0_0 (c : Dev nD) (t : Fin cfg0.N) (d) : (dats m INV XD AD 0 c).before 0 t d = iblk m c 0 t :=
  before0_0_of m (dats m INV XD AD 0 c) (A_eq m INV XD AD c 0) (after0_0 m INV XD AD c) t d
theorem before0_1 (c : Dev nD) (t : Fin cfg0.N) (d) : (dats m INV XD AD 0 c).before 1 t d = iblk m c 1 t :=
  before0_1_of m (dats m INV XD AD 0 c) (A_eq m INV XD AD c 1) (after0_1 m INV XD AD c) t d
theorem before0_2 (c : Dev nD) (t : Fin cfg0.N) (d) : (dats m INV XD AD 0 c).before 2 t d = iblk m c 2 t :=
  before0_2_of m (dats m INV XD AD 0 c) (A_eq m INV XD AD c 2) (after0_2 m INV XD AD c) t d
theorem before0_3 (c : Dev nD) (t : Fin cfg0.N) (d) : (dats m INV XD AD 0 c).before 3 t d = iblk m c 3 t :=
  before0_3_of m (dats m INV XD AD 0 c) (A_eq m INV XD AD c 3) (after0_3 m INV XD AD c) t d
theorem before0_4 (c : Dev nD) (t : Fin cfg0.N) (d) : (dats m INV XD AD 0 c).before 4 t d = iblk m c 4 t :=
  before0_4_of m (dats m INV XD AD 0 c) (A_eq m INV XD AD c 4) (after0_4 m INV XD AD c) t d
theorem before0_5 (c : Dev nD) (t : Fin cfg0.N) (d) : (dats m INV XD AD 0 c).before 5 t d = iblk m c 5 t :=
  before0_5_of m (dats m INV XD AD 0 c) (A_eq m INV XD AD c 5) (after0_5 m INV XD AD c) t d
theorem before0_6 (c : Dev nD) (t : Fin cfg0.N) (d) : (dats m INV XD AD 0 c).before 6 t d = iblk m c 6 t :=
  before0_6_of m (dats m INV XD AD 0 c) (A_eq m INV XD AD c 6) (after0_6 m INV XD AD c) t d
theorem before0_7 (c : Dev nD) (t : Fin cfg0.N) (d) : (dats m INV XD AD 0 c).before 7 t d = iblk m c 7 t :=
  before0_7_of m (dats m INV XD AD 0 c) (A_eq m INV XD AD c 7) (after0_7 m INV XD AD c) t d
theorem before0_8 (c : Dev nD) (t : Fin cfg0.N) (d) : (dats m INV XD AD 0 c).before 8 t d = iblk m c 8 t :=
  before0_8_of m (dats m INV XD AD 0 c) (A_eq m INV XD AD c 8) (after0_8 m INV XD AD c) t d
theorem before0_9 (c : Dev nD) (t : Fin cfg0.N) (d) : (dats m INV XD AD 0 c).before 9 t d = iblk m c 9 t :=
  before0_9_of m (dats m INV XD AD 0 c) (A_eq m INV XD AD c 9) (after0_9 m INV XD AD c) t d
theorem before0_10 (c : Dev nD) (t : Fin cfg0.N) (d) : (dats m INV XD AD 0 c).before 10 t d = iblk m c 10 t :=
  before0_10_of m (dats m INV XD AD 0 c) (A_eq m INV XD AD c 10) (after0_10 m INV XD AD c) t d
theorem before0_11 (c : Dev nD) (t : Fin cfg0.N) (d) : (dats m INV XD AD 0 c).before 11 t d = iblk m c 11 t :=
  before0_11_of m (dats m INV XD AD 0 c) (A_eq m INV XD AD c 11) (after0_11 m INV XD AD c) t d
theorem before0_12 (c : Dev nD) (t : Fin cfg0.N) (d) : (dats m INV XD AD 0 c).before 12 t d = iblk m c 12 t :=
  before0_12_of m (dats m INV XD AD 0 c) (A_eq m INV XD AD c 12) (after0_12 m INV XD AD c) t d
theorem before0_13 (c : Dev nD) (t : Fin cfg0.N) (d) : (dats m INV XD AD 0 c).before 13 t d = iblk m c 13 t :=
  before0_13_of m (dats m INV XD AD 0 c) (A_eq m INV XD AD c 13) (after0_13 m INV XD AD c) t d
theorem before0_14 (c : Dev nD) (t : Fin cfg0.N) (d) : (dats m INV XD AD 0 c).before 14 t d = iblk m c 14 t :=
  before0_14_of m (dats m INV XD AD 0 c) (A_eq m INV XD AD c 14) (after0_14 m INV XD AD c) t d
theorem before0_15 (c : Dev nD) (t : Fin cfg0.N) (d) : (dats m INV XD AD 0 c).before 15 t d = iblk m c 15 t :=
  before0_15_of m (dats m INV XD AD 0 c) (A_eq m INV XD AD c 15) (after0_15 m INV XD AD c) t d
theorem before0_16 (c : Dev nD) (t : Fin cfg0.N) (d) : (dats m INV XD AD 0 c).before 16 t d = iblk m c 16 t :=
  before0_16_of m (dats m INV XD AD 0 c) (A_eq m INV XD AD c 16) (after0_16 m INV XD AD c) t d
theorem before0_17 (c : Dev nD) (t : Fin cfg0.N) (d) : (dats m INV XD AD 0 c).before 17 t d = iblk m c 17 t :=
  before0_17_of m (dats m INV XD AD 0 c) (A_eq m INV XD AD c 17) (after0_17 m INV XD AD c) t d
theorem before0_18 (c : Dev nD) (t : Fin cfg0.N) (d) : (dats m INV XD AD 0 c).before 18 t d = iblk m c 18 t :=
  before0_18_of m (dats m INV XD AD 0 c) (A_eq m INV XD AD c 18) (after0_18 m INV XD AD c) t d
theorem before0_19 (c : Dev nD) (t : Fin cfg0.N) (d) : (dats m INV XD AD 0 c).before 19 t d = iblk m c 19 t :=
  before0_19_of m (dats m INV XD AD 0 c) (A_eq m INV XD AD c 19) (after0_19 m INV XD AD c) t d

theorem idleAt0_20 (t : Fin cfg0.N) (h : ¬t.val % 4 = 3) : cfg0.idle 20 (grid0.coords t) = true := by
  have e : ¬k0_cond2 (grid0.coords t) = 1#1 := fun h' => h ((hcond0_1 t).mp h')
  show (!(k0_cond2 (grid0.coords t) == 1#1)) = true
  simpa using e
theorem liveAt0_20 (t : Fin cfg0.N) (h : t.val % 4 = 3) : cfg0.idle 20 (grid0.coords t) = false := by
  have e : k0_cond2 (grid0.coords t) = 1#1 := (hcond0_1 t).mpr h
  show (!(k0_cond2 (grid0.coords t) == 1#1)) = false
  simpa using e
theorem keep0_20 (t : Fin cfg0.N) (h : ¬t.val % 4 = 3) : (cfg0.win 20).flush t = false := by
  have := mt (flush0_20 t).mp h
  simpa using this

theorem idleAt0_21 (t : Fin cfg0.N) (h : ¬t.val % 4 = 3) : cfg0.idle 21 (grid0.coords t) = true := by
  have e : ¬k0_cond2 (grid0.coords t) = 1#1 := fun h' => h ((hcond0_1 t).mp h')
  show (!(k0_cond2 (grid0.coords t) == 1#1)) = true
  simpa using e
theorem liveAt0_21 (t : Fin cfg0.N) (h : t.val % 4 = 3) : cfg0.idle 21 (grid0.coords t) = false := by
  have e : k0_cond2 (grid0.coords t) = 1#1 := (hcond0_1 t).mpr h
  show (!(k0_cond2 (grid0.coords t) == 1#1)) = false
  simpa using e
theorem keep0_21 (t : Fin cfg0.N) (h : ¬t.val % 4 = 3) : (cfg0.win 21).flush t = false := by
  have := mt (flush0_21 t).mp h
  simpa using this

def bodyPre (c : Dev nD) (t : Fin cfg0.N) : sProp 𝕄 :=
  iprop((dats m INV XD AD 0 c).Φ t.castSucc ∗ (dats m INV XD AD 0 c).owesAt () t.castSucc
    ∗ (∃ d, owns (c : Thread nD τ) (ms0_0 t) fullShare ((dats m INV XD AD 0 c).before 0 t d))
    ∗ (∃ d, owns (c : Thread nD τ) (ms0_1 t) fullShare ((dats m INV XD AD 0 c).before 1 t d))
    ∗ (∃ d, owns (c : Thread nD τ) (ms0_2 t) fullShare ((dats m INV XD AD 0 c).before 2 t d))
    ∗ (∃ d, owns (c : Thread nD τ) (ms0_3 t) fullShare ((dats m INV XD AD 0 c).before 3 t d))
    ∗ (∃ d, owns (c : Thread nD τ) (ms0_4 t) fullShare ((dats m INV XD AD 0 c).before 4 t d))
    ∗ (∃ d, owns (c : Thread nD τ) (ms0_5 t) fullShare ((dats m INV XD AD 0 c).before 5 t d))
    ∗ (∃ d, owns (c : Thread nD τ) (ms0_6 t) fullShare ((dats m INV XD AD 0 c).before 6 t d))
    ∗ (∃ d, owns (c : Thread nD τ) (ms0_7 t) fullShare ((dats m INV XD AD 0 c).before 7 t d))
    ∗ (∃ d, owns (c : Thread nD τ) (ms0_8 t) fullShare ((dats m INV XD AD 0 c).before 8 t d))
    ∗ (∃ d, owns (c : Thread nD τ) (ms0_9 t) fullShare ((dats m INV XD AD 0 c).before 9 t d))
    ∗ (∃ d, owns (c : Thread nD τ) (ms0_10 t) fullShare ((dats m INV XD AD 0 c).before 10 t d))
    ∗ (∃ d, owns (c : Thread nD τ) (ms0_11 t) fullShare ((dats m INV XD AD 0 c).before 11 t d))
    ∗ (∃ d, owns (c : Thread nD τ) (ms0_12 t) fullShare ((dats m INV XD AD 0 c).before 12 t d))
    ∗ (∃ d, owns (c : Thread nD τ) (ms0_13 t) fullShare ((dats m INV XD AD 0 c).before 13 t d))
    ∗ (∃ d, owns (c : Thread nD τ) (ms0_14 t) fullShare ((dats m INV XD AD 0 c).before 14 t d))
    ∗ (∃ d, owns (c : Thread nD τ) (ms0_15 t) fullShare ((dats m INV XD AD 0 c).before 15 t d))
    ∗ (∃ d, owns (c : Thread nD τ) (ms0_16 t) fullShare ((dats m INV XD AD 0 c).before 16 t d))
    ∗ (∃ d, owns (c : Thread nD τ) (ms0_17 t) fullShare ((dats m INV XD AD 0 c).before 17 t d))
    ∗ (∃ d, owns (c : Thread nD τ) (ms0_18 t) fullShare ((dats m INV XD AD 0 c).before 18 t d))
    ∗ (∃ d, owns (c : Thread nD τ) (ms0_19 t) fullShare ((dats m INV XD AD 0 c).before 19 t d))
    ∗ (∃ d, owns (c : Thread nD τ) (ms0_20 t) fullShare ((dats m INV XD AD 0 c).before 20 t d))
    ∗ (∃ d, owns (c : Thread nD τ) (ms0_21 t) fullShare ((dats m INV XD AD 0 c).before 21 t d)))

def bodyPost (c : Dev nD) (t : Fin cfg0.N) : sProp 𝕄 :=
  iprop((dats m INV XD AD 0 c).Φ t.succ ∗ (dats m INV XD AD 0 c).owesAt () t.succ
    ∗ (dats m INV XD AD 0 c).leavesExact 0 t
    ∗ (dats m INV XD AD 0 c).leavesExact 1 t
    ∗ (dats m INV XD AD 0 c).leavesExact 2 t
    ∗ (dats m INV XD AD 0 c).leavesExact 3 t
    ∗ (dats m INV XD AD 0 c).leavesExact 4 t
    ∗ (dats m INV XD AD 0 c).leavesExact 5 t
    ∗ (dats m INV XD AD 0 c).leavesExact 6 t
    ∗ (dats m INV XD AD 0 c).leavesExact 7 t
    ∗ (dats m INV XD AD 0 c).leavesExact 8 t
    ∗ (dats m INV XD AD 0 c).leavesExact 9 t
    ∗ (dats m INV XD AD 0 c).leavesExact 10 t
    ∗ (dats m INV XD AD 0 c).leavesExact 11 t
    ∗ (dats m INV XD AD 0 c).leavesExact 12 t
    ∗ (dats m INV XD AD 0 c).leavesExact 13 t
    ∗ (dats m INV XD AD 0 c).leavesExact 14 t
    ∗ (dats m INV XD AD 0 c).leavesExact 15 t
    ∗ (dats m INV XD AD 0 c).leavesExact 16 t
    ∗ (dats m INV XD AD 0 c).leavesExact 17 t
    ∗ (dats m INV XD AD 0 c).leavesExact 18 t
    ∗ (dats m INV XD AD 0 c).leavesExact 19 t
    ∗ (dats m INV XD AD 0 c).leavesExact 20 t
    ∗ (dats m INV XD AD 0 c).leavesExact 21 t)

variable {INV XD AD}

set_option maxHeartbeats 288000000 in
theorem sound_body (hS : Sound m INV XD AD) (c : Dev nD) (t : Fin cfg0.N) :
    bodyPre m INV XD AD c t ⊢ wp frame (wpE (defs₀ (F := F)) Variants.none c none) Set.univ (bodyAt0 t) (fun _ => bodyPost m INV XD AD c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m INV XD AD 0 c).owesAt () t.succ = (dats m INV XD AD 0 c).owesAt () t.castSucc from rfl]
  rw [show (dats m INV XD AD 0 c).Φ t.succ = PhiS INV c (t.val + 1) t.isLt from rfl, PhiS_succ]
  have hN : t.val < 4 := lt_of_lt_of_eq t.isLt (show cfg0.N = 4 from N_0)
  rw [show (dats m INV XD AD 0 c).leavesExact 0 t = owns (c : Thread nD τ) (ms0_0 t) fullShare ((dats m INV XD AD 0 c).after 0 t) from by
    unfold Dat.leavesExact; rw [liveAt0_0 t], after0_0]
  rw [show (dats m INV XD AD 0 c).leavesExact 1 t = owns (c : Thread nD τ) (ms0_1 t) fullShare ((dats m INV XD AD 0 c).after 1 t) from by
    unfold Dat.leavesExact; rw [liveAt0_1 t], after0_1]
  rw [show (dats m INV XD AD 0 c).leavesExact 2 t = owns (c : Thread nD τ) (ms0_2 t) fullShare ((dats m INV XD AD 0 c).after 2 t) from by
    unfold Dat.leavesExact; rw [liveAt0_2 t], after0_2]
  rw [show (dats m INV XD AD 0 c).leavesExact 3 t = owns (c : Thread nD τ) (ms0_3 t) fullShare ((dats m INV XD AD 0 c).after 3 t) from by
    unfold Dat.leavesExact; rw [liveAt0_3 t], after0_3]
  rw [show (dats m INV XD AD 0 c).leavesExact 4 t = owns (c : Thread nD τ) (ms0_4 t) fullShare ((dats m INV XD AD 0 c).after 4 t) from by
    unfold Dat.leavesExact; rw [liveAt0_4 t], after0_4]
  rw [show (dats m INV XD AD 0 c).leavesExact 5 t = owns (c : Thread nD τ) (ms0_5 t) fullShare ((dats m INV XD AD 0 c).after 5 t) from by
    unfold Dat.leavesExact; rw [liveAt0_5 t], after0_5]
  rw [show (dats m INV XD AD 0 c).leavesExact 6 t = owns (c : Thread nD τ) (ms0_6 t) fullShare ((dats m INV XD AD 0 c).after 6 t) from by
    unfold Dat.leavesExact; rw [liveAt0_6 t], after0_6]
  rw [show (dats m INV XD AD 0 c).leavesExact 7 t = owns (c : Thread nD τ) (ms0_7 t) fullShare ((dats m INV XD AD 0 c).after 7 t) from by
    unfold Dat.leavesExact; rw [liveAt0_7 t], after0_7]
  rw [show (dats m INV XD AD 0 c).leavesExact 8 t = owns (c : Thread nD τ) (ms0_8 t) fullShare ((dats m INV XD AD 0 c).after 8 t) from by
    unfold Dat.leavesExact; rw [liveAt0_8 t], after0_8]
  rw [show (dats m INV XD AD 0 c).leavesExact 9 t = owns (c : Thread nD τ) (ms0_9 t) fullShare ((dats m INV XD AD 0 c).after 9 t) from by
    unfold Dat.leavesExact; rw [liveAt0_9 t], after0_9]
  rw [show (dats m INV XD AD 0 c).leavesExact 10 t = owns (c : Thread nD τ) (ms0_10 t) fullShare ((dats m INV XD AD 0 c).after 10 t) from by
    unfold Dat.leavesExact; rw [liveAt0_10 t], after0_10]
  rw [show (dats m INV XD AD 0 c).leavesExact 11 t = owns (c : Thread nD τ) (ms0_11 t) fullShare ((dats m INV XD AD 0 c).after 11 t) from by
    unfold Dat.leavesExact; rw [liveAt0_11 t], after0_11]
  rw [show (dats m INV XD AD 0 c).leavesExact 12 t = owns (c : Thread nD τ) (ms0_12 t) fullShare ((dats m INV XD AD 0 c).after 12 t) from by
    unfold Dat.leavesExact; rw [liveAt0_12 t], after0_12]
  rw [show (dats m INV XD AD 0 c).leavesExact 13 t = owns (c : Thread nD τ) (ms0_13 t) fullShare ((dats m INV XD AD 0 c).after 13 t) from by
    unfold Dat.leavesExact; rw [liveAt0_13 t], after0_13]
  rw [show (dats m INV XD AD 0 c).leavesExact 14 t = owns (c : Thread nD τ) (ms0_14 t) fullShare ((dats m INV XD AD 0 c).after 14 t) from by
    unfold Dat.leavesExact; rw [liveAt0_14 t], after0_14]
  rw [show (dats m INV XD AD 0 c).leavesExact 15 t = owns (c : Thread nD τ) (ms0_15 t) fullShare ((dats m INV XD AD 0 c).after 15 t) from by
    unfold Dat.leavesExact; rw [liveAt0_15 t], after0_15]
  rw [show (dats m INV XD AD 0 c).leavesExact 16 t = owns (c : Thread nD τ) (ms0_16 t) fullShare ((dats m INV XD AD 0 c).after 16 t) from by
    unfold Dat.leavesExact; rw [liveAt0_16 t], after0_16]
  rw [show (dats m INV XD AD 0 c).leavesExact 17 t = owns (c : Thread nD τ) (ms0_17 t) fullShare ((dats m INV XD AD 0 c).after 17 t) from by
    unfold Dat.leavesExact; rw [liveAt0_17 t], after0_17]
  rw [show (dats m INV XD AD 0 c).leavesExact 18 t = owns (c : Thread nD τ) (ms0_18 t) fullShare ((dats m INV XD AD 0 c).after 18 t) from by
    unfold Dat.leavesExact; rw [liveAt0_18 t], after0_18]
  rw [show (dats m INV XD AD 0 c).leavesExact 19 t = owns (c : Thread nD τ) (ms0_19 t) fullShare ((dats m INV XD AD 0 c).after 19 t) from by
    unfold Dat.leavesExact; rw [liveAt0_19 t], after0_19]
  by_cases h0 : t.val % 4 = 0
  · have h1 : ¬t.val % 4 = 3 := by omega
    rw [Dat.leavesExact_idle (dats m INV XD AD 0 c) 20 t (idleAt0_20 t h1) (keep0_20 t h1)]
    rw [Dat.leavesExact_idle (dats m INV XD AD 0 c) 21 t (idleAt0_21 t h1) (keep0_21 t h1)]
    rw [PhiS_castSucc, PhiS_zero INV c _ _ (by omega), PhiA0_eq]
    iintro ⟨⟨⟨⟨%g, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((atA m c t h0 h1 _ _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [HS0]; · iexact HS0
    isplitl [HS1]; · iexact HS1
    iintro ⟨H0, H1, H2, H3, H4, H5, H6, H7, H8, H9, H10, H11, H12, H13, H14, H15, H16, H17, H18, H19, H20, H21, HS0, ⟨%es1, HS1⟩⟩
    isplitl [HS0 HS1 Hg]
    · isplitl [HS0 HS1]
      · iexists _; iexists _; isplitr
        swap
        · isplitl [HS0]
          · unfold owns; iexists _; isplitr
            swap; · iexact HS0
            ipureintro; rfl
          unfold owns; iexists _; isplitr
          swap; · iexact HS1
          ipureintro; rfl
        ipureintro; exact hS.first c t h0 h1 _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    iexists _; iexact H21
  by_cases h1 : t.val % 4 = 3
  · have hz : t.val ≠ 0 := by omega
    rw [show (dats m INV XD AD 0 c).leavesExact 20 t = owns (c : Thread nD τ) (ms0_20 t) fullShare ((dats m INV XD AD 0 c).after 20 t) from by
      unfold Dat.leavesExact; rw [liveAt0_20 t h1], after0_20]
    rw [show (dats m INV XD AD 0 c).leavesExact 21 t = owns (c : Thread nD τ) (ms0_21 t) fullShare ((dats m INV XD AD 0 c).after 21 t) from by
      unfold Dat.leavesExact; rw [liveAt0_21 t h1], after0_21]
    rw [PhiS_castSucc, PhiS_pos INV c _ _ (by omega)]
    iintro ⟨⟨⟨%g, %s, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((atC m c t h0 h1 _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [HS0]; · iexact HS0
    isplitl [HS1]; · iexact HS1
    iintro ⟨H0, H1, H2, H3, H4, H5, H6, H7, H8, H9, H10, H11, H12, H13, H14, H15, H16, H17, H18, H19, ⟨%e20, H20⟩, ⟨%e21, H21⟩, HS0, HS1⟩
    isplitl [HS0 HS1 Hg]
    · isplitl [HS0 HS1]
      · iexists _; iexists _; isplitr
        swap
        · isplitl [HS0]
          · unfold owns; iexists _; isplitr
            swap; · iexact HS0
            ipureintro; rfl
          unfold owns; iexists _; isplitr
          swap; · iexact HS1
          ipureintro; rfl
        ipureintro; exact hS.last c t h0 h1 _ _ hI
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]
    · unfold owns; iexists _; isplitr
      swap; · iexact H20
      ipureintro; exact hS.nodes c t h0 h1 _ _ hI _
    unfold owns; iexists _; isplitr
    swap; · iexact H21
    ipureintro; exact hS.edges c t h0 h1 _ _ hI _
  · have hz : t.val ≠ 0 := by omega
    rw [Dat.leavesExact_idle (dats m INV XD AD 0 c) 20 t (idleAt0_20 t h1) (keep0_20 t h1)]
    rw [Dat.leavesExact_idle (dats m INV XD AD 0 c) 21 t (idleAt0_21 t h1) (keep0_21 t h1)]
    rw [PhiS_castSucc, PhiS_pos INV c _ _ (by omega)]
    iintro ⟨⟨⟨%g, %s, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((atB m c t h0 h1 _ _ _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [HS0]; · iexact HS0
    isplitl [HS1]; · iexact HS1
    iintro ⟨H0, H1, H2, H3, H4, H5, H6, H7, H8, H9, H10, H11, H12, H13, H14, H15, H16, H17, H18, H19, H20, H21, HS0, HS1⟩
    isplitl [HS0 HS1 Hg]
    · isplitl [HS0 HS1]
      · iexists _; iexists _; isplitr
        swap
        · isplitl [HS0]
          · unfold owns; iexists _; isplitr
            swap; · iexact HS0
            ipureintro; rfl
          unfold owns; iexists _; isplitr
          swap; · iexact HS1
          ipureintro; rfl
        ipureintro; exact hS.next c t h0 h1 _ _ _ _ hI
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    iexists _; iexact H21

theorem defs₀_row (t : Fin cfg0.N) :
    defs₀ (F := F) .tc cfg0.body (cfg0.bodyArgs t (cfg0.slots t)) = bodyAt0 t := by
  unfold defs₀; rw [Defs.onTc_tc]

theorem body_obligation (hS : Sound m INV XD AD) (c : Dev nD) : BodyObligation (dats (F := F) m INV XD AD 0 c) (defs₀ (F := F)) Variants.none () Set.univ := fun t => by
  rw [bigSep_W0, bigSep_W0, defs₀_row]
  exact triple_restated (sound_body m hS c t) rfl .rfl fun _ => .rfl

theorem hin (c : Dev nD) : Pipeline.ΦA spec0 c ⊢ (dats m INV XD AD 0 c).Φ 0 := by
  rw [show (dats m INV XD AD 0 c).Φ 0 = PhiS INV c 0 (Nat.zero_le _) from rfl, PhiS_zero INV c 0 _ rfl]
  try exact Idealize.SL.BI.Entails.refl _

theorem Phi_out (c : Dev nD) (t : Fin (cfg0.N + 1)) (ht : t.val ≠ 0) : (dats m INV XD AD 0 c).Φ t ⊢ Pipeline.ΦA spec0 c := by
  rw [show (dats m INV XD AD 0 c).Φ t = PhiS INV c t.val (Nat.le_of_lt_succ t.isLt) from rfl, PhiS_pos INV c _ _ ht, PhiA0_eq]
  iintro ⟨⟨%g, %s, %hI, HS0, HS1⟩, Hg⟩
  isplitl [HS0 HS1]
  · isplitl [HS0]
    · iexists _; iexact HS0
    iexists _; iexact HS1
  iexact Hg

theorem hout (c : Dev nD) : (dats m INV XD AD 0 c).Φ (Fin.last cfg0.N) ⊢ Pipeline.ΦA spec0 c :=
  Phi_out m c _ (by rw [Fin.val_last]; have : cfg0.N = 4 := N_0; omega)

/-! ## The run and the frame -/

set_option backward.isDefEq.respectTransparency.types false in
theorem run_main_quiescent (hS : Sound m INV XD AD) : θ_run defs (onTc (τ := τ) (main (F := F))) (s₀ m ρ)
    (fun r => Pipeline.FramePost cfgs (dats m INV XD AD) 0 (V m) r ∧ r.2.sem = fun _ => 0) :=
  Pipeline.θ_run_frame_track (Q' := _) cfgs (dats m INV XD AD) (0 : Fin 1) launch0 defs₀ Variants.none m ρ main
    (hbody := fun c => (body_obligation m hS c).loose) (hshare := fun c => (dats m INV XD AD 0 c).share_full fun _ => rfl)
    (howed := fun _ _ => rfl) (V := V m) (hmain := hmain m Variants.none) (hA := A_eq m INV XD AD) (hin := hin m) (hout := hout m)

theorem run_main (hS : Sound m INV XD AD) : θ_run defs (onTc (τ := τ) (main (F := F))) (s₀ m ρ) (Pipeline.FramePost cfgs (dats m INV XD AD) 0 (V m)) :=
  (θ_run defs _ _).mono (fun _ h => h.1) (run_main_quiescent m ρ hS)

end Cert.KernelIdeal.Flow

end
-- ==== Proof.KBlk.lean ====
/-
  The blocks the kernel's windows bring in, read off the arrays the host hands over.
-/
module

public import proofs.«01_k».proof.Proof.KDat
public import Idealize.ShloMosaic.Lib.Pointwise

@[expose] public section

noncomputable section

namespace Cert.KernelIdeal.Flow
open Idealize.ShloMosaic Idealize.ShloMosaic.TcCoe
open Cert.KernelIdeal Cert.KernelIdeal.Gen

variable {F : FTy → Type} [FloatOps F]
variable (m : (ℓ : Loc nD τ sig) → Buf (Elt F) ℓ) (c : Dev nD)

/-- The point's only coordinate is its number. -/
theorem coords0 (t : Fin cfg0.N) : (grid0.coords t 0).val = t.val := by
  rcases fin_N0 t with rfl | rfl | rfl | rfl <;> rfl
/-- An array the host hands over. -/
abbrev W0 : Vec F S4x32x9 .f32 := V m c main_arg0
theorem index0 (t : Fin cfg0.N) : win0_0.index t 0 = 0 ∧ win0_0.index t 1 = 0 ∧ win0_0.index t 2 = 0 := by
  rcases fin_N0 t with rfl | rfl | rfl | rfl <;> decide
theorem blk0_eq (t : Fin cfg0.N) : (iblk m c 0 t : Vec F S4x32x9 .f32) = W0 m c := by
  have hi := index0 t
  funext j
  unfold iblk
  rw [View.read_apply]
  refine congrArg (V m c main_arg0) (funext fun a => Fin.ext ?_)
  match a with
  | ⟨0, _⟩ => show win0_0.index t 0 * 4 + 1 * (j 0).val = (j 0).val; rw [hi.1]; omega
  | ⟨1, _⟩ => show win0_0.index t 1 * 32 + 1 * (j 1).val = (j 1).val; rw [hi.2.1]; omega
  | ⟨2, _⟩ => show win0_0.index t 2 * 9 + 1 * (j 2).val = (j 2).val; rw [hi.2.2]; omega
/-- An array the host hands over. -/
abbrev W1 : Vec F S9x9 .f32 := V m c main_arg7
theorem index1 (t : Fin cfg0.N) : win0_1.index t 0 = 0 ∧ win0_1.index t 1 = 0 := by
  rcases fin_N0 t with rfl | rfl | rfl | rfl <;> decide
theorem blk1_eq (t : Fin cfg0.N) : (iblk m c 1 t : Vec F S9x9 .f32) = W1 m c := by
  have hi := index1 t
  funext j
  unfold iblk
  rw [View.read_apply]
  refine congrArg (V m c main_arg7) (funext fun a => Fin.ext ?_)
  match a with
  | ⟨0, _⟩ => show win0_1.index t 0 * 9 + 1 * (j 0).val = (j 0).val; rw [hi.1]; omega
  | ⟨1, _⟩ => show win0_1.index t 1 * 9 + 1 * (j 1).val = (j 1).val; rw [hi.2]; omega
/-- An array the host hands over. -/
abbrev W2 : Vec F S3x9x128 .bf16 := V m c main_v12
theorem index2 (t : Fin cfg0.N) : win0_2.index t 0 = 0 ∧ win0_2.index t 1 = 0 ∧ win0_2.index t 2 = 0 := by
  rcases fin_N0 t with rfl | rfl | rfl | rfl <;> decide
theorem blk2_eq (t : Fin cfg0.N) : (iblk m c 2 t : Vec F S3x9x128 .bf16) = W2 m c := by
  have hi := index2 t
  funext j
  unfold iblk
  rw [View.read_apply]
  refine congrArg (V m c main_v12) (funext fun a => Fin.ext ?_)
  match a with
  | ⟨0, _⟩ => show win0_2.index t 0 * 3 + 1 * (j 0).val = (j 0).val; rw [hi.1]; omega
  | ⟨1, _⟩ => show win0_2.index t 1 * 9 + 1 * (j 1).val = (j 1).val; rw [hi.2.1]; omega
  | ⟨2, _⟩ => show win0_2.index t 2 * 128 + 1 * (j 2).val = (j 2).val; rw [hi.2.2]; omega
/-- An array the host hands over. -/
abbrev W3 : Vec F S3x128x128 .bf16 := V m c main_v13
theorem index3 (t : Fin cfg0.N) : win0_3.index t 0 = 0 ∧ win0_3.index t 1 = 0 ∧ win0_3.index t 2 = 0 := by
  rcases fin_N0 t with rfl | rfl | rfl | rfl <;> decide
theorem blk3_eq (t : Fin cfg0.N) : (iblk m c 3 t : Vec F S3x128x128 .bf16) = W3 m c := by
  have hi := index3 t
  funext j
  unfold iblk
  rw [View.read_apply]
  refine congrArg (V m c main_v13) (funext fun a => Fin.ext ?_)
  match a with
  | ⟨0, _⟩ => show win0_3.index t 0 * 3 + 1 * (j 0).val = (j 0).val; rw [hi.1]; omega
  | ⟨1, _⟩ => show win0_3.index t 1 * 128 + 1 * (j 1).val = (j 1).val; rw [hi.2.1]; omega
  | ⟨2, _⟩ => show win0_3.index t 2 * 128 + 1 * (j 2).val = (j 2).val; rw [hi.2.2]; omega
/-- An array the host hands over. -/
abbrev W4 : Vec F S3x128x128 .bf16 := V m c main_v14
theorem index4 (t : Fin cfg0.N) : win0_4.index t 0 = 0 ∧ win0_4.index t 1 = 0 ∧ win0_4.index t 2 = 0 := by
  rcases fin_N0 t with rfl | rfl | rfl | rfl <;> decide
theorem blk4_eq (t : Fin cfg0.N) : (iblk m c 4 t : Vec F S3x128x128 .bf16) = W4 m c := by
  have hi := index4 t
  funext j
  unfold iblk
  rw [View.read_apply]
  refine congrArg (V m c main_v14) (funext fun a => Fin.ext ?_)
  match a with
  | ⟨0, _⟩ => show win0_4.index t 0 * 3 + 1 * (j 0).val = (j 0).val; rw [hi.1]; omega
  | ⟨1, _⟩ => show win0_4.index t 1 * 128 + 1 * (j 1).val = (j 1).val; rw [hi.2.1]; omega
  | ⟨2, _⟩ => show win0_4.index t 2 * 128 + 1 * (j 2).val = (j 2).val; rw [hi.2.2]; omega
/-- An array the host hands over. -/
abbrev W5 : Vec F S4x3x32x32 .bf16 := V m c main_v1
theorem index5 (t : Fin cfg0.N) : win0_5.index t 0 = 0 ∧ win0_5.index t 1 = 0 ∧ win0_5.index t 2 = 0 ∧ win0_5.index t 3 = 0 := by
  rcases fin_N0 t with rfl | rfl | rfl | rfl <;> decide
theorem blk5_eq (t : Fin cfg0.N) : (iblk m c 5 t : Vec F S4x3x32x32 .bf16) = W5 m c := by
  have hi := index5 t
  funext j
  unfold iblk
  rw [View.read_apply]
  refine congrArg (V m c main_v1) (funext fun a => Fin.ext ?_)
  match a with
  | ⟨0, _⟩ => show win0_5.index t 0 * 4 + 1 * (j 0).val = (j 0).val; rw [hi.1]; omega
  | ⟨1, _⟩ => show win0_5.index t 1 * 3 + 1 * (j 1).val = (j 1).val; rw [hi.2.1]; omega
  | ⟨2, _⟩ => show win0_5.index t 2 * 32 + 1 * (j 2).val = (j 2).val; rw [hi.2.2.1]; omega
  | ⟨3, _⟩ => show win0_5.index t 3 * 32 + 1 * (j 3).val = (j 3).val; rw [hi.2.2.2]; omega
/-- An array the host hands over. -/
abbrev W6 : Vec F S544x32x32 .bf16 := V m c main_v6
theorem index6 (t : Fin cfg0.N) : win0_6.index t 0 = t.val ∧ win0_6.index t 1 = 0 ∧ win0_6.index t 2 = 0 := by
  rcases fin_N0 t with rfl | rfl | rfl | rfl <;> decide
theorem blk6_apply (t : Fin cfg0.N) (p : Fin 136) (i : Fin 32) (j : Fin 32) :
    (iblk m c 6 t : Vec F S136x32x32 .bf16) (ix3 p i j) = W6 m c (ix3 ⟨(136 * t.val + p.val) % 544, Nat.mod_lt _ (by decide)⟩ i j) := by
  have hi := index6 t
  have ht : t.val < 4 := t.isLt
  unfold iblk
  rw [View.read_apply]
  refine congrArg (V m c main_v6) (funext fun a => Fin.ext ?_)
  match a with
  | ⟨0, _⟩ => show win0_6.index t 0 * 136 + 1 * p.val = (136 * t.val + p.val) % 544; rw [hi.1]; omega
  | ⟨1, _⟩ => show win0_6.index t 1 * 32 + 1 * i.val = i.val; rw [hi.2.1]; omega
  | ⟨2, _⟩ => show win0_6.index t 2 * 32 + 1 * j.val = j.val; rw [hi.2.2]; omega
/-- An array the host hands over. -/
abbrev W7 : Vec F S544x3x32 .f32 := V m c main_v11
theorem index7 (t : Fin cfg0.N) : win0_7.index t 0 = t.val ∧ win0_7.index t 1 = 0 ∧ win0_7.index t 2 = 0 := by
  rcases fin_N0 t with rfl | rfl | rfl | rfl <;> decide
theorem blk7_apply (t : Fin cfg0.N) (p : Fin 136) (i : Fin 3) (j : Fin 32) :
    (iblk m c 7 t : Vec F S136x3x32 .f32) (ix3 p i j) = W7 m c (ix3 ⟨(136 * t.val + p.val) % 544, Nat.mod_lt _ (by decide)⟩ i j) := by
  have hi := index7 t
  have ht : t.val < 4 := t.isLt
  unfold iblk
  rw [View.read_apply]
  refine congrArg (V m c main_v11) (funext fun a => Fin.ext ?_)
  match a with
  | ⟨0, _⟩ => show win0_7.index t 0 * 136 + 1 * p.val = (136 * t.val + p.val) % 544; rw [hi.1]; omega
  | ⟨1, _⟩ => show win0_7.index t 1 * 3 + 1 * i.val = i.val; rw [hi.2.1]; omega
  | ⟨2, _⟩ => show win0_7.index t 2 * 32 + 1 * j.val = j.val; rw [hi.2.2]; omega
/-- An array the host hands over. -/
abbrev W8 : Vec F S1x128 .f32 := V m c main_v15
theorem index8 (t : Fin cfg0.N) : win0_8.index t 0 = 0 ∧ win0_8.index t 1 = 0 := by
  rcases fin_N0 t with rfl | rfl | rfl | rfl <;> decide
theorem blk8_eq (t : Fin cfg0.N) : (iblk m c 8 t : Vec F S1x128 .f32) = W8 m c := by
  have hi := index8 t
  funext j
  unfold iblk
  rw [View.read_apply]
  refine congrArg (V m c main_v15) (funext fun a => Fin.ext ?_)
  match a with
  | ⟨0, _⟩ => show win0_8.index t 0 * 1 + 1 * (j 0).val = (j 0).val; rw [hi.1]; omega
  | ⟨1, _⟩ => show win0_8.index t 1 * 128 + 1 * (j 1).val = (j 1).val; rw [hi.2]; omega
/-- An array the host hands over. -/
abbrev W9 : Vec F S1x128 .f32 := V m c main_v16
theorem index9 (t : Fin cfg0.N) : win0_9.index t 0 = 0 ∧ win0_9.index t 1 = 0 := by
  rcases fin_N0 t with rfl | rfl | rfl | rfl <;> decide
theorem blk9_eq (t : Fin cfg0.N) : (iblk m c 9 t : Vec F S1x128 .f32) = W9 m c := by
  have hi := index9 t
  funext j
  unfold iblk
  rw [View.read_apply]
  refine congrArg (V m c main_v16) (funext fun a => Fin.ext ?_)
  match a with
  | ⟨0, _⟩ => show win0_9.index t 0 * 1 + 1 * (j 0).val = (j 0).val; rw [hi.1]; omega
  | ⟨1, _⟩ => show win0_9.index t 1 * 128 + 1 * (j 1).val = (j 1).val; rw [hi.2]; omega
/-- An array the host hands over. -/
abbrev W10 : Vec F S128x9 .f32 := V m c main_v17
theorem index10 (t : Fin cfg0.N) : win0_10.index t 0 = 0 ∧ win0_10.index t 1 = 0 := by
  rcases fin_N0 t with rfl | rfl | rfl | rfl <;> decide
theorem blk10_eq (t : Fin cfg0.N) : (iblk m c 10 t : Vec F S128x9 .f32) = W10 m c := by
  have hi := index10 t
  funext j
  unfold iblk
  rw [View.read_apply]
  refine congrArg (V m c main_v17) (funext fun a => Fin.ext ?_)
  match a with
  | ⟨0, _⟩ => show win0_10.index t 0 * 128 + 1 * (j 0).val = (j 0).val; rw [hi.1]; omega
  | ⟨1, _⟩ => show win0_10.index t 1 * 9 + 1 * (j 1).val = (j 1).val; rw [hi.2]; omega
/-- An array the host hands over. -/
abbrev W11 : Vec F S4x496x4 .f32 := V m c main_arg3
theorem index11 (t : Fin cfg0.N) : win0_11.index t 0 = 0 ∧ win0_11.index t 1 = 0 ∧ win0_11.index t 2 = 0 := by
  rcases fin_N0 t with rfl | rfl | rfl | rfl <;> decide
theorem blk11_eq (t : Fin cfg0.N) : (iblk m c 11 t : Vec F S4x496x4 .f32) = W11 m c := by
  have hi := index11 t
  funext j
  unfold iblk
  rw [View.read_apply]
  refine congrArg (V m c main_arg3) (funext fun a => Fin.ext ?_)
  match a with
  | ⟨0, _⟩ => show win0_11.index t 0 * 4 + 1 * (j 0).val = (j 0).val; rw [hi.1]; omega
  | ⟨1, _⟩ => show win0_11.index t 1 * 496 + 1 * (j 1).val = (j 1).val; rw [hi.2.1]; omega
  | ⟨2, _⟩ => show win0_11.index t 2 * 4 + 1 * (j 2).val = (j 2).val; rw [hi.2.2]; omega
/-- An array the host hands over. -/
abbrev W12 : Vec F S1536x128 .bf16 := V m c main_v20
theorem index12 (t : Fin cfg0.N) : win0_12.index t 0 = 0 ∧ win0_12.index t 1 = 0 := by
  rcases fin_N0 t with rfl | rfl | rfl | rfl <;> decide
theorem blk12_eq (t : Fin cfg0.N) : (iblk m c 12 t : Vec F S1536x128 .bf16) = W12 m c := by
  have hi := index12 t
  funext j
  unfold iblk
  rw [View.read_apply]
  refine congrArg (V m c main_v20) (funext fun a => Fin.ext ?_)
  match a with
  | ⟨0, _⟩ => show win0_12.index t 0 * 1536 + 1 * (j 0).val = (j 0).val; rw [hi.1]; omega
  | ⟨1, _⟩ => show win0_12.index t 1 * 128 + 1 * (j 1).val = (j 1).val; rw [hi.2]; omega
/-- An array the host hands over. -/
abbrev W13 : Vec F S1536x1 .f32 := V m c main_v21
theorem index13 (t : Fin cfg0.N) : win0_13.index t 0 = 0 ∧ win0_13.index t 1 = 0 := by
  rcases fin_N0 t with rfl | rfl | rfl | rfl <;> decide
theorem blk13_eq (t : Fin cfg0.N) : (iblk m c 13 t : Vec F S1536x1 .f32) = W13 m c := by
  have hi := index13 t
  funext j
  unfold iblk
  rw [View.read_apply]
  refine congrArg (V m c main_v21) (funext fun a => Fin.ext ?_)
  match a with
  | ⟨0, _⟩ => show win0_13.index t 0 * 1536 + 1 * (j 0).val = (j 0).val; rw [hi.1]; omega
  | ⟨1, _⟩ => show win0_13.index t 1 * 1 + 1 * (j 1).val = (j 1).val; rw [hi.2]; omega
/-- An array the host hands over. -/
abbrev W14 : Vec F S12x9x128 .bf16 := V m c main_v23
theorem index14 (t : Fin cfg0.N) : win0_14.index t 0 = 0 ∧ win0_14.index t 1 = 0 ∧ win0_14.index t 2 = 0 := by
  rcases fin_N0 t with rfl | rfl | rfl | rfl <;> decide
theorem blk14_eq (t : Fin cfg0.N) : (iblk m c 14 t : Vec F S12x9x128 .bf16) = W14 m c := by
  have hi := index14 t
  funext j
  unfold iblk
  rw [View.read_apply]
  refine congrArg (V m c main_v23) (funext fun a => Fin.ext ?_)
  match a with
  | ⟨0, _⟩ => show win0_14.index t 0 * 12 + 1 * (j 0).val = (j 0).val; rw [hi.1]; omega
  | ⟨1, _⟩ => show win0_14.index t 1 * 9 + 1 * (j 1).val = (j 1).val; rw [hi.2.1]; omega
  | ⟨2, _⟩ => show win0_14.index t 2 * 128 + 1 * (j 2).val = (j 2).val; rw [hi.2.2]; omega
/-- An array the host hands over. -/
abbrev W15 : Vec F S108x1 .f32 := V m c main_v24
theorem index15 (t : Fin cfg0.N) : win0_15.index t 0 = 0 ∧ win0_15.index t 1 = 0 := by
  rcases fin_N0 t with rfl | rfl | rfl | rfl <;> decide
theorem blk15_eq (t : Fin cfg0.N) : (iblk m c 15 t : Vec F S108x1 .f32) = W15 m c := by
  have hi := index15 t
  funext j
  unfold iblk
  rw [View.read_apply]
  refine congrArg (V m c main_v24) (funext fun a => Fin.ext ?_)
  match a with
  | ⟨0, _⟩ => show win0_15.index t 0 * 108 + 1 * (j 0).val = (j 0).val; rw [hi.1]; omega
  | ⟨1, _⟩ => show win0_15.index t 1 * 1 + 1 * (j 1).val = (j 1).val; rw [hi.2]; omega
/-- An array the host hands over. -/
abbrev W16 : Vec F S1536x384 .bf16 := V m c main_v27
theorem index16 (t : Fin cfg0.N) : win0_16.index t 0 = 0 ∧ win0_16.index t 1 = 0 := by
  rcases fin_N0 t with rfl | rfl | rfl | rfl <;> decide
theorem blk16_eq (t : Fin cfg0.N) : (iblk m c 16 t : Vec F S1536x384 .bf16) = W16 m c := by
  have hi := index16 t
  funext j
  unfold iblk
  rw [View.read_apply]
  refine congrArg (V m c main_v27) (funext fun a => Fin.ext ?_)
  match a with
  | ⟨0, _⟩ => show win0_16.index t 0 * 1536 + 1 * (j 0).val = (j 0).val; rw [hi.1]; omega
  | ⟨1, _⟩ => show win0_16.index t 1 * 384 + 1 * (j 1).val = (j 1).val; rw [hi.2]; omega
/-- An array the host hands over. -/
abbrev W17 : Vec F S1536x1 .f32 := V m c main_v28
theorem index17 (t : Fin cfg0.N) : win0_17.index t 0 = 0 ∧ win0_17.index t 1 = 0 := by
  rcases fin_N0 t with rfl | rfl | rfl | rfl <;> decide
theorem blk17_eq (t : Fin cfg0.N) : (iblk m c 17 t : Vec F S1536x1 .f32) = W17 m c := by
  have hi := index17 t
  funext j
  unfold iblk
  rw [View.read_apply]
  refine congrArg (V m c main_v28) (funext fun a => Fin.ext ?_)
  match a with
  | ⟨0, _⟩ => show win0_17.index t 0 * 1536 + 1 * (j 0).val = (j 0).val; rw [hi.1]; omega
  | ⟨1, _⟩ => show win0_17.index t 1 * 1 + 1 * (j 1).val = (j 1).val; rw [hi.2]; omega
/-- An array the host hands over. -/
abbrev W18 : Vec F S12x4x128 .bf16 := V m c main_v30
theorem index18 (t : Fin cfg0.N) : win0_18.index t 0 = 0 ∧ win0_18.index t 1 = 0 ∧ win0_18.index t 2 = 0 := by
  rcases fin_N0 t with rfl | rfl | rfl | rfl <;> decide
theorem blk18_eq (t : Fin cfg0.N) : (iblk m c 18 t : Vec F S12x4x128 .bf16) = W18 m c := by
  have hi := index18 t
  funext j
  unfold iblk
  rw [View.read_apply]
  refine congrArg (V m c main_v30) (funext fun a => Fin.ext ?_)
  match a with
  | ⟨0, _⟩ => show win0_18.index t 0 * 12 + 1 * (j 0).val = (j 0).val; rw [hi.1]; omega
  | ⟨1, _⟩ => show win0_18.index t 1 * 4 + 1 * (j 1).val = (j 1).val; rw [hi.2.1]; omega
  | ⟨2, _⟩ => show win0_18.index t 2 * 128 + 1 * (j 2).val = (j 2).val; rw [hi.2.2]; omega
/-- An array the host hands over. -/
abbrev W19 : Vec F S48x1 .f32 := V m c main_v31
theorem index19 (t : Fin cfg0.N) : win0_19.index t 0 = 0 ∧ win0_19.index t 1 = 0 := by
  rcases fin_N0 t with rfl | rfl | rfl | rfl <;> decide
theorem blk19_eq (t : Fin cfg0.N) : (iblk m c 19 t : Vec F S48x1 .f32) = W19 m c := by
  have hi := index19 t
  funext j
  unfold iblk
  rw [View.read_apply]
  refine congrArg (V m c main_v31) (funext fun a => Fin.ext ?_)
  match a with
  | ⟨0, _⟩ => show win0_19.index t 0 * 48 + 1 * (j 0).val = (j 0).val; rw [hi.1]; omega
  | ⟨1, _⟩ => show win0_19.index t 1 * 1 + 1 * (j 1).val = (j 1).val; rw [hi.2]; omega
end Cert.KernelIdeal.Flow
-- ==== Proof.Spec.lean ====
/-
  The model's mathematics over the extended reals: the graph convolutions of one masked graph, from plain functions.
-/
module

public import Idealize.ShloMosaic.Lib.Pointwise
public import Mathlib.Algebra.BigOperators.Fin

@[expose] public section

noncomputable section

namespace Cert.Spec

/-- Three blocks of 32 read as one block of 96. -/
def join (f : Fin 3 → Fin 32 → EReal) (k : Fin 96) : EReal :=
  if h : k.val < 32 then f 0 ⟨k.val, h⟩
  else if h' : k.val - 32 < 32 then f 1 ⟨k.val - 32, h'⟩
  else f 2 ⟨k.val - 32 - 32, by omega⟩

/-- One relational convolution: the sum over the three kinds of edges and over the nodes. -/
def mix (a : Fin 3 → Fin 32 → Fin 32 → EReal) (s : Fin 3 → Fin 32 → Fin 128 → EReal) (i : Fin 32) (h : Fin 128) : EReal :=
  ∑ e : Fin 3, ∑ j : Fin 32, a e i j * s e j h

theorem sum_join (a s : Fin 3 → Fin 32 → EReal) :
    ∑ k : Fin 96, join a k * join s k = ∑ e : Fin 3, ∑ j : Fin 32, a e j * s e j := by
  rw [Fin.sum_univ_three]
  rw [Fin.sum_univ_add (a := 32) (b := 64) (f := fun k : Fin 96 => join a k * join s k),
    Fin.sum_univ_add (a := 32) (b := 32) (f := fun k : Fin 64 => join a (Fin.natAdd 32 k) * join s (Fin.natAdd 32 k)), ← add_assoc]
  refine congrArg₂ (· + ·) (congrArg₂ (· + ·) ?_ ?_) ?_
  · refine Finset.sum_congr rfl fun j _ => ?_
    have h1 : ((Fin.castAdd 64 j : Fin 96)).val < 32 := j.isLt
    simp only [join, dif_pos h1]; rfl
  · refine Finset.sum_congr rfl fun j _ => ?_
    have h1 : ¬ ((Fin.natAdd 32 (Fin.castAdd 32 j) : Fin 96)).val < 32 := by simp
    have h2 : ((Fin.natAdd 32 (Fin.castAdd 32 j) : Fin 96)).val - 32 < 32 := by simp
    have h3 : (⟨((Fin.natAdd 32 (Fin.castAdd 32 j) : Fin 96)).val - 32, h2⟩ : Fin 32) = j := Fin.ext (by simp)
    simp only [join, dif_neg h1, dif_pos h2, h3]
  · refine Finset.sum_congr rfl fun j _ => ?_
    have h1 : ¬ ((Fin.natAdd 32 (Fin.natAdd 32 j) : Fin 96)).val < 32 := by simp
    have h2 : ¬ ((Fin.natAdd 32 (Fin.natAdd 32 j) : Fin 96)).val - 32 < 32 := by simp
    have h3 : ∀ h, (⟨((Fin.natAdd 32 (Fin.natAdd 32 j) : Fin 96)).val - 32 - 32, h⟩ : Fin 32) = j := fun h => Fin.ext (by simp)
    simp only [join, dif_neg h1, dif_neg h2, h3]

theorem mix_eq (a : Fin 3 → Fin 32 → Fin 32 → EReal) (s : Fin 3 → Fin 32 → Fin 128 → EReal) (i : Fin 32) (h : Fin 128) :
    mix a s i h = ∑ k : Fin 96, join (fun e => a e i) k * join (fun e j => s e j h) k :=
  (sum_join (fun e => a e i) (fun e j => s e j h)).symm

/-- The support of a convolution: features times one weight. -/
def sup {n m : Nat} (l : Fin 32 → Fin n → EReal) (w : Fin n → Fin m → EReal) (j : Fin 32) (h : Fin m) : EReal :=
  ∑ k : Fin n, l j k * w k h

/-- A masked adjacency. -/
def masked (M : Fin 32 → Fin 32 → EReal) (A : Fin 3 → Fin 32 → Fin 32 → EReal) (e : Fin 3) (i j : Fin 32) : EReal :=
  M i j * A e i j

def layer1 (a : Fin 3 → Fin 32 → Fin 32 → EReal) (x : Fin 32 → Fin 9 → EReal) (emb : Fin 9 → Fin 9 → EReal)
    (W1 : Fin 3 → Fin 9 → Fin 128 → EReal) (i : Fin 32) (h : Fin 128) : EReal :=
  max (mix a (fun e => sup (sup x emb) (W1 e)) i h) 0

def pre2 (a : Fin 3 → Fin 32 → Fin 32 → EReal) (x : Fin 32 → Fin 9 → EReal) (emb : Fin 9 → Fin 9 → EReal)
    (W1 : Fin 3 → Fin 9 → Fin 128 → EReal) (W2 : Fin 3 → Fin 128 → Fin 128 → EReal) : Fin 32 → Fin 128 → EReal :=
  mix a (fun e => sup (layer1 a x emb W1) (W2 e))

def out3 (a : Fin 3 → Fin 32 → Fin 32 → EReal) (x : Fin 32 → Fin 9 → EReal) (emb : Fin 9 → Fin 9 → EReal)
    (W1 : Fin 3 → Fin 9 → Fin 128 → EReal) (W2 W3 : Fin 3 → Fin 128 → Fin 128 → EReal) : Fin 32 → Fin 128 → EReal :=
  mix a (fun e => sup (fun i h => max (pre2 a x emb W1 W2 i h) 0) (W3 e))

end Cert.Spec
-- ==== Proof.KPay.lean ====
/-
  What one program of the launch computes from its blocks, element by element: the payloads of the graph convolutions.
-/
module

public import proofs.«01_k».proof.Proof.Gen.KernelIdeal.Skeleton
public import proofs.«01_k».proof.Proof.Spec

@[expose] public section

set_option maxRecDepth 16384
noncomputable section

namespace Cert.KernelIdeal.Flow
open Idealize.ShloMosaic Idealize.ShloMosaic.TcCoe
open Cert.KernelIdeal Cert.KernelIdeal.Gen Cert.Spec

/-- Three loaded blocks as one function of the block's number. -/
def pick {α : Type} (a b c : α) (e : Fin 3) : α := match e with | 0 => a | 1 => b | 2 => c

theorem pay216_apply (v9 : Vec Ideal S1x32x9 .f32) (v11 : Vec Ideal S9x9 .f32) (j : Fin 32) (d : Fin 9) :
    k0_pay216 v9 v11 (ix2 j d) = sup (fun j k => v9 (ix3 0 j k)) (fun k d => v11 (ix2 k d)) j d := by
  unfold sup
  pointwise [k0_pay216]

theorem pay217_apply (v3 : Vec Ideal S136x32x32 .bf16) (a0 a1 a2 : Vec Ideal S1x1x32x32 .bf16) (p : Fin 136) (i : Fin 32) (k : Fin 96) :
    k0_pay217 v3 a0 a1 a2 (ix3 p i k)
      = join (fun e => masked (fun i j => v3 (ix3 p i j)) (fun e i j => (pick a0 a1 a2 e) (ix4 0 0 i j)) e i) k := by
  pointwise [k0_pay217, k0_pay212]
  rfl

theorem row_div (p : Fin 136) (x : Nat) (hx : x < 32) (h : (p.val * 32 + x) / 32 < 136) : (⟨(p.val * 32 + x) / 32, h⟩ : Fin 136) = p :=
  Fin.ext (by show (p.val * 32 + x) / 32 = p.val; omega)
theorem row_mod (p : Fin 136) (x : Nat) (hx : x < 32) (h : (p.val * 32 + x) % 32 < 32) : (⟨(p.val * 32 + x) % 32, h⟩ : Fin 32) = ⟨x, hx⟩ :=
  Fin.ext (by show (p.val * 32 + x) % 32 = x; omega)

theorem pay218_apply (v13 : FVec Ideal S32x9 .bf16) (v29 : FVec Ideal S136x32x96 .bf16) (w0 w1 w2 : Vec Ideal S1x9x128 .bf16) (u0 u1 u2 : Vec Ideal S1x128x128 .bf16)
   (a : Fin 136 → Fin 3 → Fin 32 → Fin 32 → EReal) (ha : ∀ p i k, v29 (ix3 p i k) = join (fun e => a p e i) k)
   (p : Fin 136) (i : Fin 32) (h : Fin 128) :
    k0_pay218 v13 v29 w0 w1 w2 u0 u1 u2 (ix3 p i h)
      = mix (a p) (fun e => sup (fun i h => max (mix (a p) (fun e => sup (fun j d => v13 (ix2 j d)) (fun d h => (pick w0 w1 w2 e) (ix3 0 d h))) i h) 0)
          (fun k h => (pick u0 u1 u2 e) (ix3 0 k h))) i h := by
  pointwise [k0_pay218]
  rw [mix_eq]
  refine Finset.sum_congr rfl fun x _ => ?_
  rw [ha]
  congr 1
  unfold join
  have key : ∀ (q : Fin 136) (r j : Fin 32) (k : Fin 128), q = p → r = j →
      max (∑ y : Fin 96, v29 (ix3 q r y) * join (fun e j => sup (fun j d => v13 (ix2 j d)) (fun d h => (pick w0 w1 w2 e) (ix3 0 d h)) j k) y) 0
      = max (mix (a p) (fun e => sup (fun j d => v13 (ix2 j d)) (fun d h => (pick w0 w1 w2 e) (ix3 0 d h))) j k) 0 := by
    intro q r j k hq hr; subst hq; subst hr; rw [mix_eq]; simp only [ha]
  by_cases h1 : x.val < 32
  · simp only [dif_pos h1]
    refine Finset.sum_congr rfl fun k _ => ?_
    exact congrArg (· * _) (key _ _ _ k (row_div p _ h1 _) (row_mod p _ h1 _))
  · by_cases h2 : x.val - 32 < 32
    · simp only [dif_neg h1, dif_pos h2]
      refine Finset.sum_congr rfl fun k _ => ?_
      exact congrArg (· * _) (key _ _ _ k (row_div p _ h2 _) (row_mod p _ h2 _))
    · simp only [dif_neg h1, dif_neg h2]
      refine Finset.sum_congr rfl fun k _ => ?_
      exact congrArg (· * _) (key p _ _ k rfl (row_mod p _ (by omega) _))

theorem pay219_apply (v29 : FVec Ideal S136x32x96 .bf16) (v62 : FVec Ideal S136x32x128 .f32) (u0 u1 u2 : Vec Ideal S1x128x128 .bf16)
   (a : Fin 136 → Fin 3 → Fin 32 → Fin 32 → EReal) (ha : ∀ p i k, v29 (ix3 p i k) = join (fun e => a p e i) k)
   (p : Fin 136) (i : Fin 32) (h : Fin 128) :
    k0_pay219 v29 v62 u0 u1 u2 (ix3 p i h)
      = mix (a p) (fun e => sup (fun i h => max (v62 (ix3 p i h)) 0) (fun k h => (pick u0 u1 u2 e) (ix3 0 k h))) i h := by
  pointwise [k0_pay219]
  rw [mix_eq]
  refine Finset.sum_congr rfl fun x _ => ?_
  rw [ha]
  congr 1
  unfold join
  have key : ∀ (q : Fin 136) (r j : Fin 32) (k : Fin 128), q = p → r = j →
      max (v62 (ix3 q r k)) 0 = max (v62 (ix3 p j k)) 0 := by
    intro q r j k hq hr; subst hq; subst hr; rfl
  by_cases h1 : x.val < 32
  · simp only [dif_pos h1]
    refine Finset.sum_congr rfl fun k _ => ?_
    exact congrArg (· * _) (key _ _ _ k (row_div p _ h1 _) (row_mod p _ h1 _))
  · by_cases h2 : x.val - 32 < 32
    · simp only [dif_neg h1, dif_pos h2]
      refine Finset.sum_congr rfl fun k _ => ?_
      exact congrArg (· * _) (key _ _ _ k (row_div p _ h2 _) (row_mod p _ h2 _))
    · simp only [dif_neg h1, dif_neg h2]
      refine Finset.sum_congr rfl fun k _ => ?_
      exact congrArg (· * _) (key p _ _ k rfl (row_mod p _ (by omega) _))

theorem sum_rows (f : Fin 136 → Fin 32 → EReal) :
    ∑ x : Fin 4352, f ⟨x.val / 32, by omega⟩ ⟨x.val % 32, by omega⟩ = ∑ p : Fin 136, ∑ j : Fin 32, f p j := by
  rw [← Fintype.sum_prod_type' f]
  exact Equiv.sum_comp (finProdFinEquiv (m := 136) (n := 32)).symm (fun q => f q.1 q.2)

theorem pay220_apply (v6 : Vec Ideal S136x3x32 .f32) (v29 : FVec Ideal S136x32x96 .bf16) (v62 : FVec Ideal S136x32x128 .f32) (u0 u1 u2 : Vec Ideal S1x128x128 .bf16)
   (p : Fin 136) (k : Fin 384) :
    k0_pay220 (k0_pay213 v6) v29 v62 u0 u1 u2 (ix3 0 p k)
      = ∑ j : Fin 32, v6 (ix3 p ⟨k.val / 128, by omega⟩ j) * k0_pay219 v29 v62 u0 u1 u2 (ix3 p j ⟨k.val % 128, by omega⟩) := by
  pointwise [k0_pay220, k0_pay213]

theorem pay222_apply (acc : FVec Ideal S1x128 .f32) (v29 : FVec Ideal S136x32x96 .bf16) (v62 : FVec Ideal S136x32x128 .f32) (u0 u1 u2 : Vec Ideal S1x128x128 .bf16)
   (h : Fin 128) :
    k0_pay222 acc v29 v62 u0 u1 u2 (ix2 0 h)
      = acc (ix2 0 h) + ∑ p : Fin 136, ∑ j : Fin 32, k0_pay219 v29 v62 u0 u1 u2 (ix3 p j h) := by
  pointwise [k0_pay222, k0_pay221]
  exact congrArg (_ + ·) (sum_rows (fun p j => k0_pay219 v29 v62 u0 u1 u2 (ix3 p j h)))

theorem pay223_apply (acc : FVec Ideal S1x128 .f32) (v29 : FVec Ideal S136x32x96 .bf16) (v62 : FVec Ideal S136x32x128 .f32) (u0 u1 u2 : Vec Ideal S1x128x128 .bf16)
   (h : Fin 128) :
    k0_pay223 acc v29 v62 u0 u1 u2 (ix2 0 h)
      = acc (ix2 0 h) + ∑ p : Fin 136, ∑ j : Fin 32, k0_pay219 v29 v62 u0 u1 u2 (ix3 p j h) * k0_pay219 v29 v62 u0 u1 u2 (ix3 p j h) := by
  pointwise [k0_pay223, k0_pay221]
  exact congrArg (_ + ·) (sum_rows (fun p j => k0_pay219 v29 v62 u0 u1 u2 (ix3 p j h) * k0_pay219 v29 v62 u0 u1 u2 (ix3 p j h)))

/-- The output of the three convolutions for one masked graph of the block, from the loaded blocks. -/
theorem pay219_full (v3 : Vec Ideal S136x32x32 .bf16) (a0 a1 a2 : Vec Ideal S1x1x32x32 .bf16) (v9 : Vec Ideal S1x32x9 .f32) (v11 : Vec Ideal S9x9 .f32)
    (w0 w1 w2 : Vec Ideal S1x9x128 .bf16) (u0 u1 u2 t0 t1 t2 : Vec Ideal S1x128x128 .bf16) (p : Fin 136) (i : Fin 32) (h : Fin 128) :
    k0_pay219 (k0_pay217 v3 a0 a1 a2) (k0_pay218 (k0_pay216 v9 v11) (k0_pay217 v3 a0 a1 a2) w0 w1 w2 u0 u1 u2) t0 t1 t2 (ix3 p i h)
      = out3 (masked (fun i j => v3 (ix3 p i j)) (fun e i j => (pick a0 a1 a2 e) (ix4 0 0 i j)))
          (fun j k => v9 (ix3 0 j k)) (fun k d => v11 (ix2 k d)) (fun e d h => (pick w0 w1 w2 e) (ix3 0 d h))
          (fun e k h => (pick u0 u1 u2 e) (ix3 0 k h)) (fun e k h => (pick t0 t1 t2 e) (ix3 0 k h)) i h := by
  rw [pay219_apply _ _ _ _ _ _ (pay217_apply v3 a0 a1 a2)]
  unfold out3 pre2 layer1
  refine congrArg (fun z => mix _ z i h) (funext fun e => ?_)
  refine congrArg (fun z => sup z _) (funext fun i => funext fun k => ?_)
  rw [pay218_apply _ _ _ _ _ _ _ _ _ (pay217_apply v3 a0 a1 a2)]
  simp only [pay216_apply]

end Cert.KernelIdeal.Flow
-- ==== Proof.KLeft.lean ====
/-
  The stores of a grid point, as lists of pieces over the blocks the point finds: four blocks of rows and two rows of sums.
-/
module

public import proofs.«01_k».proof.Proof.KPay
public import proofs.«01_k».proof.Proof.KRunA
public import proofs.«01_k».proof.Proof.KRunB
public import proofs.«01_k».proof.Proof.KRunC
public import Idealize.ShloMosaic.Lib.WholeRead

@[expose] public section

set_option maxRecDepth 16384
noncomputable section

namespace Cert.KernelIdeal.Flow
open Idealize.ShloMosaic Idealize.ShloMosaic.TcCoe
open Cert.KernelIdeal Cert.KernelIdeal.Gen Cert.Spec

variable {F : FTy → Type} [FloatOps F]

theorem inb1 (b : ℕ) (hb : b < 4) : ∀ a, (![b, 0, 0] : Fin 3 → ℕ) a + S1x32x9.size a ≤ S4x32x9.size a := fun a => match a with
    | ⟨0, _⟩ => (by show b + 1 ≤ 4; omega)
    | ⟨1, _⟩ => Nat.le_refl _
    | ⟨2, _⟩ => Nat.le_refl _
/-- One block loaded out of a whole memref. -/
def ld1 (m : Memref sig .tc .vmem S4x32x9 .f32) (h : m.IsWhole) (x : Vec F S4x32x9 .f32) (b : ℕ) (hb : b < 4) : Vec F S1x32x9 .f32 :=
  View.readAt (Elt F) m.view (Rect.unit (s := S4x32x9) ![b, 0, 0] S1x32x9.size (inb1 b hb)).toLoadRect (h.unread x)
/-- The same block by its coordinates. -/
def sl1 (x : Vec F S4x32x9 .f32) (b : Fin 4) : Vec F S1x32x9 .f32 := fun j => x (ix3 b (j 1) (j 2))
theorem ld1_eq (m : Memref sig .tc .vmem S4x32x9 .f32) (h : m.IsWhole) (x : Vec F S4x32x9 .f32) (b : ℕ) (hb : b < 4) :
    ld1 m h x b hb = sl1 x ⟨b, hb⟩ := by
  funext j
  unfold ld1 sl1
  rw [h.readAt_unread]
  refine congrArg x ?_
  funext a; match a with
    | ⟨0, _⟩ => exact Fin.ext (by show b + 1 * (j 0).val = b; have : (j 0).val < 1 := (j 0).isLt; omega)
    | ⟨1, _⟩ => exact Fin.ext (by show 0 + 1 * (j 1).val = (j 1).val; omega)
    | ⟨2, _⟩ => exact Fin.ext (by show 0 + 1 * (j 2).val = (j 2).val; omega)

theorem inb3 (b : ℕ) (hb : b < 3) : ∀ a, (![b, 0, 0] : Fin 3 → ℕ) a + S1x9x128.size a ≤ S3x9x128.size a := fun a => match a with
    | ⟨0, _⟩ => (by show b + 1 ≤ 3; omega)
    | ⟨1, _⟩ => Nat.le_refl _
    | ⟨2, _⟩ => Nat.le_refl _
/-- One block loaded out of a whole memref. -/
def ld3 (m : Memref sig .tc .vmem S3x9x128 .bf16) (h : m.IsWhole) (x : Vec F S3x9x128 .bf16) (b : ℕ) (hb : b < 3) : Vec F S1x9x128 .bf16 :=
  View.readAt (Elt F) m.view (Rect.unit (s := S3x9x128) ![b, 0, 0] S1x9x128.size (inb3 b hb)).toLoadRect (h.unread x)
/-- The same block by its coordinates. -/
def sl3 (x : Vec F S3x9x128 .bf16) (b : Fin 3) : Vec F S1x9x128 .bf16 := fun j => x (ix3 b (j 1) (j 2))
theorem ld3_eq (m : Memref sig .tc .vmem S3x9x128 .bf16) (h : m.IsWhole) (x : Vec F S3x9x128 .bf16) (b : ℕ) (hb : b < 3) :
    ld3 m h x b hb = sl3 x ⟨b, hb⟩ := by
  funext j
  unfold ld3 sl3
  rw [h.readAt_unread]
  refine congrArg x ?_
  funext a; match a with
    | ⟨0, _⟩ => exact Fin.ext (by show b + 1 * (j 0).val = b; have : (j 0).val < 1 := (j 0).isLt; omega)
    | ⟨1, _⟩ => exact Fin.ext (by show 0 + 1 * (j 1).val = (j 1).val; omega)
    | ⟨2, _⟩ => exact Fin.ext (by show 0 + 1 * (j 2).val = (j 2).val; omega)

theorem inb4 (b : ℕ) (hb : b < 3) : ∀ a, (![b, 0, 0] : Fin 3 → ℕ) a + S1x128x128.size a ≤ S3x128x128.size a := fun a => match a with
    | ⟨0, _⟩ => (by show b + 1 ≤ 3; omega)
    | ⟨1, _⟩ => Nat.le_refl _
    | ⟨2, _⟩ => Nat.le_refl _
/-- One block loaded out of a whole memref. -/
def ld4 (m : Memref sig .tc .vmem S3x128x128 .bf16) (h : m.IsWhole) (x : Vec F S3x128x128 .bf16) (b : ℕ) (hb : b < 3) : Vec F S1x128x128 .bf16 :=
  View.readAt (Elt F) m.view (Rect.unit (s := S3x128x128) ![b, 0, 0] S1x128x128.size (inb4 b hb)).toLoadRect (h.unread x)
/-- The same block by its coordinates. -/
def sl4 (x : Vec F S3x128x128 .bf16) (b : Fin 3) : Vec F S1x128x128 .bf16 := fun j => x (ix3 b (j 1) (j 2))
theorem ld4_eq (m : Memref sig .tc .vmem S3x128x128 .bf16) (h : m.IsWhole) (x : Vec F S3x128x128 .bf16) (b : ℕ) (hb : b < 3) :
    ld4 m h x b hb = sl4 x ⟨b, hb⟩ := by
  funext j
  unfold ld4 sl4
  rw [h.readAt_unread]
  refine congrArg x ?_
  funext a; match a with
    | ⟨0, _⟩ => exact Fin.ext (by show b + 1 * (j 0).val = b; have : (j 0).val < 1 := (j 0).isLt; omega)
    | ⟨1, _⟩ => exact Fin.ext (by show 0 + 1 * (j 1).val = (j 1).val; omega)
    | ⟨2, _⟩ => exact Fin.ext (by show 0 + 1 * (j 2).val = (j 2).val; omega)

theorem inb6 (b : ℕ) (hb : b < 4) (e : ℕ) (he : e < 3) : ∀ a, (![b, e, 0, 0] : Fin 4 → ℕ) a + S1x1x32x32.size a ≤ S4x3x32x32.size a := fun a => match a with
    | ⟨0, _⟩ => (by show b + 1 ≤ 4; omega)
    | ⟨1, _⟩ => (by show e + 1 ≤ 3; omega)
    | ⟨2, _⟩ => Nat.le_refl _
    | ⟨3, _⟩ => Nat.le_refl _
/-- One block loaded out of a whole memref. -/
def ld6 (m : Memref sig .tc .vmem S4x3x32x32 .bf16) (h : m.IsWhole) (x : Vec F S4x3x32x32 .bf16) (b : ℕ) (hb : b < 4) (e : ℕ) (he : e < 3) : Vec F S1x1x32x32 .bf16 :=
  View.readAt (Elt F) m.view (Rect.unit (s := S4x3x32x32) ![b, e, 0, 0] S1x1x32x32.size (inb6 b hb e he)).toLoadRect (h.unread x)
/-- The same block by its coordinates. -/
def sl6 (x : Vec F S4x3x32x32 .bf16) (b : Fin 4) (e : Fin 3) : Vec F S1x1x32x32 .bf16 := fun j => x (ix4 b e (j 2) (j 3))
theorem ld6_eq (m : Memref sig .tc .vmem S4x3x32x32 .bf16) (h : m.IsWhole) (x : Vec F S4x3x32x32 .bf16) (b : ℕ) (hb : b < 4) (e : ℕ) (he : e < 3) :
    ld6 m h x b hb e he = sl6 x ⟨b, hb⟩ ⟨e, he⟩ := by
  funext j
  unfold ld6 sl6
  rw [h.readAt_unread]
  refine congrArg x ?_
  funext a; match a with
    | ⟨0, _⟩ => exact Fin.ext (by show b + 1 * (j 0).val = b; have : (j 0).val < 1 := (j 0).isLt; omega)
    | ⟨1, _⟩ => exact Fin.ext (by show e + 1 * (j 1).val = e; have : (j 1).val < 1 := (j 1).isLt; omega)
    | ⟨2, _⟩ => exact Fin.ext (by show 0 + 1 * (j 2).val = (j 2).val; omega)
    | ⟨3, _⟩ => exact Fin.ext (by show 0 + 1 * (j 3).val = (j 3).val; omega)

theorem inb2 : ∀ a, (![0, 0] : Fin 2 → ℕ) a + S9x9.size a ≤ S9x9.size a := fun a => match a with
    | ⟨0, _⟩ => (by show 0 + _ ≤ _; rw [Nat.zero_add])
    | ⟨1, _⟩ => (by show 0 + _ ≤ _; rw [Nat.zero_add])
/-- A whole memref's contents, loaded. -/
def ld2 (m : Memref sig .tc .vmem S9x9 .f32) (h : m.IsWhole) (x : Vec F S9x9 .f32) : Vec F S9x9 .f32 :=
  View.readAt (Elt F) m.view (Rect.unit (s := S9x9) ![0, 0] S9x9.size inb2).toLoadRect (h.unread x)
theorem ld2_eq (m : Memref sig .tc .vmem S9x9 .f32) (h : m.IsWhole) (x : Vec F S9x9 .f32) : ld2 m h x = x := by
  funext j
  unfold ld2
  rw [h.readAt_unread]
  refine congrArg x ?_
  funext a; match a with
    | ⟨0, _⟩ => exact Fin.ext (by show 0 + 1 * (j 0).val = (j 0).val; omega)
    | ⟨1, _⟩ => exact Fin.ext (by show 0 + 1 * (j 1).val = (j 1).val; omega)

theorem inb7 : ∀ a, (![0, 0, 0] : Fin 3 → ℕ) a + S136x32x32.size a ≤ S136x32x32.size a := fun a => match a with
    | ⟨0, _⟩ => (by show 0 + _ ≤ _; rw [Nat.zero_add])
    | ⟨1, _⟩ => (by show 0 + _ ≤ _; rw [Nat.zero_add])
    | ⟨2, _⟩ => (by show 0 + _ ≤ _; rw [Nat.zero_add])
/-- A whole memref's contents, loaded. -/
def ld7 (m : Memref sig .tc .vmem S136x32x32 .bf16) (h : m.IsWhole) (x : Vec F S136x32x32 .bf16) : Vec F S136x32x32 .bf16 :=
  View.readAt (Elt F) m.view (Rect.unit (s := S136x32x32) ![0, 0, 0] S136x32x32.size inb7).toLoadRect (h.unread x)
theorem ld7_eq (m : Memref sig .tc .vmem S136x32x32 .bf16) (h : m.IsWhole) (x : Vec F S136x32x32 .bf16) : ld7 m h x = x := by
  funext j
  unfold ld7
  rw [h.readAt_unread]
  refine congrArg x ?_
  funext a; match a with
    | ⟨0, _⟩ => exact Fin.ext (by show 0 + 1 * (j 0).val = (j 0).val; omega)
    | ⟨1, _⟩ => exact Fin.ext (by show 0 + 1 * (j 1).val = (j 1).val; omega)
    | ⟨2, _⟩ => exact Fin.ext (by show 0 + 1 * (j 2).val = (j 2).val; omega)

theorem inb8 : ∀ a, (![0, 0, 0] : Fin 3 → ℕ) a + S136x3x32.size a ≤ S136x3x32.size a := fun a => match a with
    | ⟨0, _⟩ => (by show 0 + _ ≤ _; rw [Nat.zero_add])
    | ⟨1, _⟩ => (by show 0 + _ ≤ _; rw [Nat.zero_add])
    | ⟨2, _⟩ => (by show 0 + _ ≤ _; rw [Nat.zero_add])
/-- A whole memref's contents, loaded. -/
def ld8 (m : Memref sig .tc .vmem S136x3x32 .f32) (h : m.IsWhole) (x : Vec F S136x3x32 .f32) : Vec F S136x3x32 .f32 :=
  View.readAt (Elt F) m.view (Rect.unit (s := S136x3x32) ![0, 0, 0] S136x3x32.size inb8).toLoadRect (h.unread x)
theorem ld8_eq (m : Memref sig .tc .vmem S136x3x32 .f32) (h : m.IsWhole) (x : Vec F S136x3x32 .f32) : ld8 m h x = x := by
  funext j
  unfold ld8
  rw [h.readAt_unread]
  refine congrArg x ?_
  funext a; match a with
    | ⟨0, _⟩ => exact Fin.ext (by show 0 + 1 * (j 0).val = (j 0).val; omega)
    | ⟨1, _⟩ => exact Fin.ext (by show 0 + 1 * (j 1).val = (j 1).val; omega)
    | ⟨2, _⟩ => exact Fin.ext (by show 0 + 1 * (j 2).val = (j 2).val; omega)

/-- The masked adjacencies of a graph of the batch, side by side. -/
def adjOf (v3 : Vec F S136x32x32 .bf16) (a0 a1 a2 : Vec F S1x1x32x32 .bf16) := k0_pay217 v3 a0 a1 a2
section chain
variable (v3 : Vec F S136x32x32 .bf16) (a0 a1 a2 : Vec F S1x1x32x32 .bf16) (v9 : Vec F S1x32x9 .f32) (v11 : Vec F S9x9 .f32)
  (w0 w1 w2 : Vec F S1x9x128 .bf16) (u0 u1 u2 t0 t1 t2 : Vec F S1x128x128 .bf16)
/-- The rows a point stores for one graph of the batch. -/
def rowsOf (v6 : Vec F S136x3x32 .f32) : FVec F S1x136x384 .f32 :=
  k0_pay220 (k0_pay213 v6) (k0_pay217 v3 a0 a1 a2) (k0_pay218 (k0_pay216 v9 v11) (k0_pay217 v3 a0 a1 a2) w0 w1 w2 u0 u1 u2) t0 t1 t2
/-- A row of sums with one more graph's added. -/
def sumOf (acc : FVec F S1x128 .f32) : FVec F S1x128 .f32 :=
  k0_pay222 acc (k0_pay217 v3 a0 a1 a2) (k0_pay218 (k0_pay216 v9 v11) (k0_pay217 v3 a0 a1 a2) w0 w1 w2 u0 u1 u2) t0 t1 t2
/-- A row of sums of squares with one more graph's added. -/
def sqOf (acc : FVec F S1x128 .f32) : FVec F S1x128 .f32 :=
  k0_pay223 acc (k0_pay217 v3 a0 a1 a2) (k0_pay218 (k0_pay216 v9 v11) (k0_pay217 v3 a0 a1 a2) w0 w1 w2 u0 u1 u2) t0 t1 t2
end chain
section blocks
variable (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32)
def rows (b : Fin 4) : FVec F S1x136x384 .f32 :=
  rowsOf x6 (sl6 x5 b 0) (sl6 x5 b 1) (sl6 x5 b 2) (sl1 x0 b) x1 (sl3 x2 0) (sl3 x2 1) (sl3 x2 2) (sl4 x3 0) (sl4 x3 1) (sl4 x3 2) (sl4 x4 0) (sl4 x4 1) (sl4 x4 2) x7
def sumB (b : Fin 4) (acc : FVec F S1x128 .f32) : FVec F S1x128 .f32 :=
  sumOf x6 (sl6 x5 b 0) (sl6 x5 b 1) (sl6 x5 b 2) (sl1 x0 b) x1 (sl3 x2 0) (sl3 x2 1) (sl3 x2 2) (sl4 x3 0) (sl4 x3 1) (sl4 x3 2) (sl4 x4 0) (sl4 x4 1) (sl4 x4 2) acc
def sqB (b : Fin 4) (acc : FVec F S1x128 .f32) : FVec F S1x128 .f32 :=
  sqOf x6 (sl6 x5 b 0) (sl6 x5 b 1) (sl6 x5 b 2) (sl1 x0 b) x1 (sl3 x2 0) (sl3 x2 1) (sl3 x2 2) (sl4 x3 0) (sl4 x3 1) (sl4 x3 2) (sl4 x4 0) (sl4 x4 1) (sl4 x4 2) acc
def row0 (old : FVec F S1x128 .f32) : FVec F S1x128 .f32 :=
  k0_pay1 (addf old (sumB x0 x1 x2 x3 x4 x5 x6 3 (sumB x0 x1 x2 x3 x4 x5 x6 2 (sumB x0 x1 x2 x3 x4 x5 x6 1 (sumB x0 x1 x2 x3 x4 x5 x6 0 k0_pay214)))))
def row1 (old : FVec F S1x128 .f32) : FVec F S1x128 .f32 :=
  k0_pay1 (addf old (sqB x0 x1 x2 x3 x4 x5 x6 3 (sqB x0 x1 x2 x3 x4 x5 x6 2 (sqB x0 x1 x2 x3 x4 x5 x6 1 (sqB x0 x1 x2 x3 x4 x5 x6 0 k0_pay215)))))
def pieces0 (i : grid0.Coords) : List (View.Piece (Elt F) S4x544x384 .f32) :=
  [⟨Rect.unit (s := S4x544x384) (k0_off4 i) S1x136x384.size (k0_off4_inb i), rows x0 x1 x2 x3 x4 x5 x6 x7 3⟩,
   ⟨Rect.unit (s := S4x544x384) (k0_off3 i) S1x136x384.size (k0_off3_inb i), rows x0 x1 x2 x3 x4 x5 x6 x7 2⟩,
   ⟨Rect.unit (s := S4x544x384) (k0_off2 i) S1x136x384.size (k0_off2_inb i), rows x0 x1 x2 x3 x4 x5 x6 x7 1⟩,
   ⟨Rect.unit (s := S4x544x384) (k0_off1 i) S1x136x384.size (k0_off1_inb i), rows x0 x1 x2 x3 x4 x5 x6 x7 0⟩]
end blocks

/-! The same values over what is loaded out of the whole memrefs. -/
section raw
variable (a1 : Memref sig .tc .vmem S4x32x9 .f32) (g1 : a1.IsWhole) (a2 : Memref sig .tc .vmem S9x9 .f32) (g2 : a2.IsWhole) (a3 : Memref sig .tc .vmem S3x9x128 .bf16) (g3 : a3.IsWhole) (a4 : Memref sig .tc .vmem S3x128x128 .bf16) (g4 : a4.IsWhole) (a5 : Memref sig .tc .vmem S3x128x128 .bf16) (g5 : a5.IsWhole) (a6 : Memref sig .tc .vmem S4x3x32x32 .bf16) (g6 : a6.IsWhole) (a7 : Memref sig .tc .vmem S136x32x32 .bf16) (g7 : a7.IsWhole)
  (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16)
def ldRows (a8 : Memref sig .tc .vmem S136x3x32 .f32) (g8 : a8.IsWhole) (x7 : Vec F S136x3x32 .f32) (b : ℕ) (hb : b < 4) : FVec F S1x136x384 .f32 :=
  rowsOf (ld7 _ g7 x6) (ld6 _ g6 x5 b hb 0 (by decide)) (ld6 _ g6 x5 b hb 1 (by decide)) (ld6 _ g6 x5 b hb 2 (by decide)) (ld1 _ g1 x0 b hb) (ld2 _ g2 x1) (ld3 _ g3 x2 0 (by decide)) (ld3 _ g3 x2 1 (by decide)) (ld3 _ g3 x2 2 (by decide)) (ld4 _ g4 x3 0 (by decide)) (ld4 _ g4 x3 1 (by decide)) (ld4 _ g4 x3 2 (by decide)) (ld4 _ g5 x4 0 (by decide)) (ld4 _ g5 x4 1 (by decide)) (ld4 _ g5 x4 2 (by decide)) (ld8 _ g8 x7)
def ldSum (b : ℕ) (hb : b < 4) (acc : FVec F S1x128 .f32) : FVec F S1x128 .f32 :=
  sumOf (ld7 _ g7 x6) (ld6 _ g6 x5 b hb 0 (by decide)) (ld6 _ g6 x5 b hb 1 (by decide)) (ld6 _ g6 x5 b hb 2 (by decide)) (ld1 _ g1 x0 b hb) (ld2 _ g2 x1) (ld3 _ g3 x2 0 (by decide)) (ld3 _ g3 x2 1 (by decide)) (ld3 _ g3 x2 2 (by decide)) (ld4 _ g4 x3 0 (by decide)) (ld4 _ g4 x3 1 (by decide)) (ld4 _ g4 x3 2 (by decide)) (ld4 _ g5 x4 0 (by decide)) (ld4 _ g5 x4 1 (by decide)) (ld4 _ g5 x4 2 (by decide)) acc
def ldSq (b : ℕ) (hb : b < 4) (acc : FVec F S1x128 .f32) : FVec F S1x128 .f32 :=
  sqOf (ld7 _ g7 x6) (ld6 _ g6 x5 b hb 0 (by decide)) (ld6 _ g6 x5 b hb 1 (by decide)) (ld6 _ g6 x5 b hb 2 (by decide)) (ld1 _ g1 x0 b hb) (ld2 _ g2 x1) (ld3 _ g3 x2 0 (by decide)) (ld3 _ g3 x2 1 (by decide)) (ld3 _ g3 x2 2 (by decide)) (ld4 _ g4 x3 0 (by decide)) (ld4 _ g4 x3 1 (by decide)) (ld4 _ g4 x3 2 (by decide)) (ld4 _ g5 x4 0 (by decide)) (ld4 _ g5 x4 1 (by decide)) (ld4 _ g5 x4 2 (by decide)) acc
def ldRow0 (old : FVec F S1x128 .f32) : FVec F S1x128 .f32 :=
  k0_pay1 (addf old (ldSum _ g1 _ g2 _ g3 _ g4 _ g5 _ g6 _ g7 x0 x1 x2 x3 x4 x5 x6 3 (by decide) (ldSum _ g1 _ g2 _ g3 _ g4 _ g5 _ g6 _ g7 x0 x1 x2 x3 x4 x5 x6 2 (by decide) (ldSum _ g1 _ g2 _ g3 _ g4 _ g5 _ g6 _ g7 x0 x1 x2 x3 x4 x5 x6 1 (by decide) (ldSum _ g1 _ g2 _ g3 _ g4 _ g5 _ g6 _ g7 x0 x1 x2 x3 x4 x5 x6 0 (by decide) k0_pay214)))))
def ldRow1 (old : FVec F S1x128 .f32) : FVec F S1x128 .f32 :=
  k0_pay1 (addf old (ldSq _ g1 _ g2 _ g3 _ g4 _ g5 _ g6 _ g7 x0 x1 x2 x3 x4 x5 x6 3 (by decide) (ldSq _ g1 _ g2 _ g3 _ g4 _ g5 _ g6 _ g7 x0 x1 x2 x3 x4 x5 x6 2 (by decide) (ldSq _ g1 _ g2 _ g3 _ g4 _ g5 _ g6 _ g7 x0 x1 x2 x3 x4 x5 x6 1 (by decide) (ldSq _ g1 _ g2 _ g3 _ g4 _ g5 _ g6 _ g7 x0 x1 x2 x3 x4 x5 x6 0 (by decide) k0_pay215)))))
def ldPieces (a8 : Memref sig .tc .vmem S136x3x32 .f32) (g8 : a8.IsWhole) (x7 : Vec F S136x3x32 .f32) (i : grid0.Coords) : List (View.Piece (Elt F) S4x544x384 .f32) :=
  [⟨Rect.unit (s := S4x544x384) (k0_off4 i) S1x136x384.size (k0_off4_inb i), ldRows _ g1 _ g2 _ g3 _ g4 _ g5 _ g6 _ g7 x0 x1 x2 x3 x4 x5 x6 _ g8 x7 3 (by decide)⟩,
   ⟨Rect.unit (s := S4x544x384) (k0_off3 i) S1x136x384.size (k0_off3_inb i), ldRows _ g1 _ g2 _ g3 _ g4 _ g5 _ g6 _ g7 x0 x1 x2 x3 x4 x5 x6 _ g8 x7 2 (by decide)⟩,
   ⟨Rect.unit (s := S4x544x384) (k0_off2 i) S1x136x384.size (k0_off2_inb i), ldRows _ g1 _ g2 _ g3 _ g4 _ g5 _ g6 _ g7 x0 x1 x2 x3 x4 x5 x6 _ g8 x7 1 (by decide)⟩,
   ⟨Rect.unit (s := S4x544x384) (k0_off1 i) S1x136x384.size (k0_off1_inb i), ldRows _ g1 _ g2 _ g3 _ g4 _ g5 _ g6 _ g7 x0 x1 x2 x3 x4 x5 x6 _ g8 x7 0 (by decide)⟩]
theorem ldRow0_eq (old : FVec F S1x128 .f32) : ldRow0 _ g1 _ g2 _ g3 _ g4 _ g5 _ g6 _ g7 x0 x1 x2 x3 x4 x5 x6 old = row0 x0 x1 x2 x3 x4 x5 x6 old := by
  unfold ldRow0 ldSum
  simp only [ld1_eq, ld2_eq, ld3_eq, ld4_eq, ld6_eq, ld7_eq, ld8_eq]
  rfl
theorem ldRow1_eq (old : FVec F S1x128 .f32) : ldRow1 _ g1 _ g2 _ g3 _ g4 _ g5 _ g6 _ g7 x0 x1 x2 x3 x4 x5 x6 old = row1 x0 x1 x2 x3 x4 x5 x6 old := by
  unfold ldRow1 ldSq
  simp only [ld1_eq, ld2_eq, ld3_eq, ld4_eq, ld6_eq, ld7_eq, ld8_eq]
  rfl
theorem ldPieces_eq (a8 : Memref sig .tc .vmem S136x3x32 .f32) (g8 : a8.IsWhole) (x7 : Vec F S136x3x32 .f32) (i : grid0.Coords) : ldPieces _ g1 _ g2 _ g3 _ g4 _ g5 _ g6 _ g7 x0 x1 x2 x3 x4 x5 x6 _ g8 x7 i = pieces0 x0 x1 x2 x3 x4 x5 x6 x7 i := by
  unfold ldPieces ldRows
  simp only [ld1_eq, ld2_eq, ld3_eq, ld4_eq, ld6_eq, ld7_eq, ld8_eq]
  rfl
end raw

section
variable (c : Dev nD) (i : grid0.Coords) (a1 : Memref sig .tc .vmem S4x32x9 .f32) (g1 : a1.IsWhole) (a2 : Memref sig .tc .vmem S9x9 .f32) (g2 : a2.IsWhole) (a3 : Memref sig .tc .vmem S3x9x128 .bf16) (g3 : a3.IsWhole) (a4 : Memref sig .tc .vmem S3x128x128 .bf16) (g4 : a4.IsWhole) (a5 : Memref sig .tc .vmem S3x128x128 .bf16) (g5 : a5.IsWhole) (a6 : Memref sig .tc .vmem S4x3x32x32 .bf16) (g6 : a6.IsWhole) (a7 : Memref sig .tc .vmem S136x32x32 .bf16) (g7 : a7.IsWhole) (a8 : Memref sig .tc .vmem S136x3x32 .f32) (g8 : a8.IsWhole) (a9 : Memref sig .tc .vmem S1x128 .f32) (g9 : a9.IsWhole) (a10 : Memref sig .tc .vmem S1x128 .f32) (g10 : a10.IsWhole) (a11 : Memref sig .tc .vmem S128x9 .f32) (g11 : a11.IsWhole) (a12 : Memref sig .tc .vmem S4x496x4 .f32) (g12 : a12.IsWhole) (a13 : Memref sig .tc .vmem S1536x128 .bf16) (g13 : a13.IsWhole) (a14 : Memref sig .tc .vmem S1536x1 .f32) (g14 : a14.IsWhole) (a15 : Memref sig .tc .vmem S12x9x128 .bf16) (g15 : a15.IsWhole) (a16 : Memref sig .tc .vmem S108x1 .f32) (g16 : a16.IsWhole) (a17 : Memref sig .tc .vmem S1536x384 .bf16) (g17 : a17.IsWhole) (a18 : Memref sig .tc .vmem S1536x1 .f32) (g18 : a18.IsWhole) (a19 : Memref sig .tc .vmem S12x4x128 .bf16) (g19 : a19.IsWhole) (a20 : Memref sig .tc .vmem S48x1 .f32) (g20 : a20.IsWhole) (a21 : Memref sig .tc .vmem S128x9 .f32) (g21 : a21.IsWhole) (a22 : Memref sig .tc .vmem S4x496x4 .f32) (g22 : a22.IsWhole) (a23 : Memref sig .tc .vmem S4x544x384 .f32) (g23 : a23.IsWhole) (a24 : Memref sig .tc .vmem S8x128 .f32) (g24 : a24.IsWhole)
section
variable (hc0 : cond0_0 i) (hc1 : ¬cond0_1 i) (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (x20 : Vec F S128x9 .f32) (x21 : Vec F S4x496x4 .f32) (xs0 : Vec F S4x544x384 .f32)
set_option maxHeartbeats 4000000 in
theorem runA_rows :
    (runA c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 x20 x21 xs0).1 = pieces0 x0 x1 x2 x3 x4 x5 x6 x7 i := by
  refine Eq.trans (b := ldPieces _ g1 _ g2 _ g3 _ g4 _ g5 _ g6 _ g7 x0 x1 x2 x3 x4 x5 x6 _ g8 x7 i) rfl ?_
  simp only [ldRow0_eq, ldRow1_eq, ldPieces_eq]
set_option maxHeartbeats 4000000 in
theorem runA_sums :
    (runA c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 x20 x21 xs0).2.1 = [⟨Rect.unit (s := S8x128) ![1, 0] S1x128.size inb_S8x128_S1x128_1_0, row1 x0 x1 x2 x3 x4 x5 x6 (a24.view.readCov (Val := Elt F) [⟨Rect.unit (s := S8x128) ![0, 0] S1x128.size inb_S8x128_S1x128_0_0, row0 x0 x1 x2 x3 x4 x5 x6 (a24.view.readCov (Val := Elt F) [⟨Rect.unit (s := S8x128) ![0, 0] S8x128.size inb_S8x128_S8x128_0_0, k0_pay211⟩] (Rect.unit (s := S8x128) ![0, 0] S1x128.size inb_S8x128_S1x128_0_0).toLoadRect)⟩, ⟨Rect.unit (s := S8x128) ![0, 0] S8x128.size inb_S8x128_S8x128_0_0, k0_pay211⟩] (Rect.unit (s := S8x128) ![1, 0] S1x128.size inb_S8x128_S1x128_1_0).toLoadRect)⟩,
      ⟨Rect.unit (s := S8x128) ![0, 0] S1x128.size inb_S8x128_S1x128_0_0, row0 x0 x1 x2 x3 x4 x5 x6 (a24.view.readCov (Val := Elt F) [⟨Rect.unit (s := S8x128) ![0, 0] S8x128.size inb_S8x128_S8x128_0_0, k0_pay211⟩] (Rect.unit (s := S8x128) ![0, 0] S1x128.size inb_S8x128_S1x128_0_0).toLoadRect)⟩, ⟨Rect.unit (s := S8x128) ![0, 0] S8x128.size inb_S8x128_S8x128_0_0, k0_pay211⟩] := by
  refine Eq.trans (b := [⟨Rect.unit (s := S8x128) ![1, 0] S1x128.size inb_S8x128_S1x128_1_0, ldRow1 _ g1 _ g2 _ g3 _ g4 _ g5 _ g6 _ g7 x0 x1 x2 x3 x4 x5 x6 (a24.view.readCov (Val := Elt F) [⟨Rect.unit (s := S8x128) ![0, 0] S1x128.size inb_S8x128_S1x128_0_0, ldRow0 _ g1 _ g2 _ g3 _ g4 _ g5 _ g6 _ g7 x0 x1 x2 x3 x4 x5 x6 (a24.view.readCov (Val := Elt F) [⟨Rect.unit (s := S8x128) ![0, 0] S8x128.size inb_S8x128_S8x128_0_0, k0_pay211⟩] (Rect.unit (s := S8x128) ![0, 0] S1x128.size inb_S8x128_S1x128_0_0).toLoadRect)⟩, ⟨Rect.unit (s := S8x128) ![0, 0] S8x128.size inb_S8x128_S8x128_0_0, k0_pay211⟩] (Rect.unit (s := S8x128) ![1, 0] S1x128.size inb_S8x128_S1x128_1_0).toLoadRect)⟩,
      ⟨Rect.unit (s := S8x128) ![0, 0] S1x128.size inb_S8x128_S1x128_0_0, ldRow0 _ g1 _ g2 _ g3 _ g4 _ g5 _ g6 _ g7 x0 x1 x2 x3 x4 x5 x6 (a24.view.readCov (Val := Elt F) [⟨Rect.unit (s := S8x128) ![0, 0] S8x128.size inb_S8x128_S8x128_0_0, k0_pay211⟩] (Rect.unit (s := S8x128) ![0, 0] S1x128.size inb_S8x128_S1x128_0_0).toLoadRect)⟩, ⟨Rect.unit (s := S8x128) ![0, 0] S8x128.size inb_S8x128_S8x128_0_0, k0_pay211⟩]) rfl ?_
  simp only [ldRow0_eq, ldRow1_eq, ldPieces_eq]
end
section
variable (hc0 : ¬cond0_0 i) (hc1 : ¬cond0_1 i) (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (x20 : Vec F S128x9 .f32) (x21 : Vec F S4x496x4 .f32) (xs0 : Vec F S4x544x384 .f32) (xs1 : Vec F S8x128 .f32)
set_option maxHeartbeats 4000000 in
theorem runB_rows :
    (runB c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 x20 x21 xs0 xs1).1 = pieces0 x0 x1 x2 x3 x4 x5 x6 x7 i := by
  refine Eq.trans (b := ldPieces _ g1 _ g2 _ g3 _ g4 _ g5 _ g6 _ g7 x0 x1 x2 x3 x4 x5 x6 _ g8 x7 i) rfl ?_
  simp only [ldRow0_eq, ldRow1_eq, ldPieces_eq]
set_option maxHeartbeats 4000000 in
theorem runB_sums :
    (runB c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 x20 x21 xs0 xs1).2.1 = [⟨Rect.unit (s := S8x128) ![1, 0] S1x128.size inb_S8x128_S1x128_1_0, row1 x0 x1 x2 x3 x4 x5 x6 (View.readAt (Elt F) a24.view (Rect.unit (s := S8x128) ![1, 0] S1x128.size inb_S8x128_S1x128_1_0).toLoadRect (g24.unread xs1))⟩,
      ⟨Rect.unit (s := S8x128) ![0, 0] S1x128.size inb_S8x128_S1x128_0_0, row0 x0 x1 x2 x3 x4 x5 x6 (View.readAt (Elt F) a24.view (Rect.unit (s := S8x128) ![0, 0] S1x128.size inb_S8x128_S1x128_0_0).toLoadRect (g24.unread xs1))⟩] := by
  refine Eq.trans (b := [⟨Rect.unit (s := S8x128) ![1, 0] S1x128.size inb_S8x128_S1x128_1_0, ldRow1 _ g1 _ g2 _ g3 _ g4 _ g5 _ g6 _ g7 x0 x1 x2 x3 x4 x5 x6 (View.readAt (Elt F) a24.view (Rect.unit (s := S8x128) ![1, 0] S1x128.size inb_S8x128_S1x128_1_0).toLoadRect (g24.unread xs1))⟩,
      ⟨Rect.unit (s := S8x128) ![0, 0] S1x128.size inb_S8x128_S1x128_0_0, ldRow0 _ g1 _ g2 _ g3 _ g4 _ g5 _ g6 _ g7 x0 x1 x2 x3 x4 x5 x6 (View.readAt (Elt F) a24.view (Rect.unit (s := S8x128) ![0, 0] S1x128.size inb_S8x128_S1x128_0_0).toLoadRect (g24.unread xs1))⟩]) rfl ?_
  simp only [ldRow0_eq, ldRow1_eq, ldPieces_eq]
end
section
variable (hc0 : ¬cond0_0 i) (hc1 : cond0_1 i) (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (xs0 : Vec F S4x544x384 .f32) (xs1 : Vec F S8x128 .f32)
set_option maxHeartbeats 4000000 in
theorem runC_rows :
    (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.1 = pieces0 x0 x1 x2 x3 x4 x5 x6 x7 i := by
  refine Eq.trans (b := ldPieces _ g1 _ g2 _ g3 _ g4 _ g5 _ g6 _ g7 x0 x1 x2 x3 x4 x5 x6 _ g8 x7 i) rfl ?_
  simp only [ldRow0_eq, ldRow1_eq, ldPieces_eq]
set_option maxHeartbeats 4000000 in
theorem runC_sums :
    (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 = [⟨Rect.unit (s := S8x128) ![1, 0] S1x128.size inb_S8x128_S1x128_1_0, row1 x0 x1 x2 x3 x4 x5 x6 (View.readAt (Elt F) a24.view (Rect.unit (s := S8x128) ![1, 0] S1x128.size inb_S8x128_S1x128_1_0).toLoadRect (g24.unread xs1))⟩,
      ⟨Rect.unit (s := S8x128) ![0, 0] S1x128.size inb_S8x128_S1x128_0_0, row0 x0 x1 x2 x3 x4 x5 x6 (View.readAt (Elt F) a24.view (Rect.unit (s := S8x128) ![0, 0] S1x128.size inb_S8x128_S1x128_0_0).toLoadRect (g24.unread xs1))⟩] := by
  refine Eq.trans (b := [⟨Rect.unit (s := S8x128) ![1, 0] S1x128.size inb_S8x128_S1x128_1_0, ldRow1 _ g1 _ g2 _ g3 _ g4 _ g5 _ g6 _ g7 x0 x1 x2 x3 x4 x5 x6 (View.readAt (Elt F) a24.view (Rect.unit (s := S8x128) ![1, 0] S1x128.size inb_S8x128_S1x128_1_0).toLoadRect (g24.unread xs1))⟩,
      ⟨Rect.unit (s := S8x128) ![0, 0] S1x128.size inb_S8x128_S1x128_0_0, ldRow0 _ g1 _ g2 _ g3 _ g4 _ g5 _ g6 _ g7 x0 x1 x2 x3 x4 x5 x6 (View.readAt (Elt F) a24.view (Rect.unit (s := S8x128) ![0, 0] S1x128.size inb_S8x128_S1x128_0_0).toLoadRect (g24.unread xs1))⟩]) rfl ?_
  simp only [ldRow0_eq, ldRow1_eq, ldPieces_eq]
end
end

end Cert.KernelIdeal.Flow
-- ==== Proof.KVal.lean ====
/-
  The rows and the sums a point stores, element by element, from its blocks.
-/
module

public import proofs.«01_k».proof.Proof.KLeft
public import Idealize.ShloMosaic.Lib.WritesUnit

@[expose] public section

set_option maxRecDepth 16384
noncomputable section

namespace Cert.KernelIdeal.Flow
open Idealize.ShloMosaic Idealize.ShloMosaic.TcCoe
open Cert.KernelIdeal Cert.KernelIdeal.Gen Cert.Spec

section
variable (x0 : Vec Ideal S4x32x9 .f32) (x1 : Vec Ideal S9x9 .f32) (x2 : Vec Ideal S3x9x128 .bf16) (x3 : Vec Ideal S3x128x128 .bf16) (x4 : Vec Ideal S3x128x128 .bf16) (x5 : Vec Ideal S4x3x32x32 .bf16) (x6 : Vec Ideal S136x32x32 .bf16) (x7 : Vec Ideal S136x3x32 .f32)

/-- The graph convolutions' output for one graph of the batch under one mask. -/
def hid (M : Fin 32 → Fin 32 → EReal) (b : Fin 4) : Fin 32 → Fin 128 → EReal :=
  out3 (masked M (fun e i j => x5 (ix4 b e i j))) (fun j k => x0 (ix3 b j k)) (fun k d => x1 (ix2 k d)) (fun e d h => x2 (ix3 e d h))
    (fun e k h => x3 (ix3 e k h)) (fun e k h => x4 (ix3 e k h))

theorem pick_apply {α β : Type} (f : Fin 3 → α) (g : α → β) (e : Fin 3) : g (pick (f 0) (f 1) (f 2) e) = g (f e) := by
  match e with
  | 0 => rfl
  | 1 => rfl
  | 2 => rfl

theorem chain_hid (b : Fin 4) (p : Fin 136) (i : Fin 32) (h : Fin 128) :
    k0_pay219 (k0_pay217 x6 (sl6 x5 b 0) (sl6 x5 b 1) (sl6 x5 b 2))
      (k0_pay218 (k0_pay216 (sl1 x0 b) x1) (k0_pay217 x6 (sl6 x5 b 0) (sl6 x5 b 1) (sl6 x5 b 2)) (sl3 x2 0) (sl3 x2 1) (sl3 x2 2) (sl4 x3 0) (sl4 x3 1) (sl4 x3 2))
      (sl4 x4 0) (sl4 x4 1) (sl4 x4 2) (ix3 p i h)
      = hid x0 x1 x2 x3 x4 x5 (fun i j => x6 (ix3 p i j)) b i h := by
  rw [pay219_full]
  unfold hid
  have e5 : (fun e i j => (pick (sl6 x5 b 0) (sl6 x5 b 1) (sl6 x5 b 2) e) (ix4 0 0 i j)) = fun e i j => x5 (ix4 b e i j) := by
    funext e i j; exact pick_apply (fun e => sl6 x5 b e) (fun v => v (ix4 0 0 i j)) e
  have e2 : (fun e d h => (pick (sl3 x2 0) (sl3 x2 1) (sl3 x2 2) e) (ix3 0 d h)) = fun e d h => x2 (ix3 e d h) := by
    funext e i j; exact pick_apply (fun e => sl3 x2 e) (fun v => v (ix3 0 i j)) e
  have e3 : (fun e d h => (pick (sl4 x3 0) (sl4 x3 1) (sl4 x3 2) e) (ix3 0 d h)) = fun e d h => x3 (ix3 e d h) := by
    funext e i j; exact pick_apply (fun e => sl4 x3 e) (fun v => v (ix3 0 i j)) e
  have e4 : (fun e d h => (pick (sl4 x4 0) (sl4 x4 1) (sl4 x4 2) e) (ix3 0 d h)) = fun e d h => x4 (ix3 e d h) := by
    funext e i j; exact pick_apply (fun e => sl4 x4 e) (fun v => v (ix3 0 i j)) e
  rw [e5, e2, e3, e4]
  rfl

theorem rows_apply (b : Fin 4) (p : Fin 136) (k : Fin 384) :
    rows x0 x1 x2 x3 x4 x5 x6 x7 b (ix3 0 p k)
      = ∑ j : Fin 32, x7 (ix3 p ⟨k.val / 128, by omega⟩ j) * hid x0 x1 x2 x3 x4 x5 (fun i j => x6 (ix3 p i j)) b j ⟨k.val % 128, by omega⟩ := by
  unfold rows rowsOf
  rw [pay220_apply]
  simp only [chain_hid]

theorem sumB_apply (b : Fin 4) (acc : FVec Ideal S1x128 .f32) (h : Fin 128) :
    sumB x0 x1 x2 x3 x4 x5 x6 b acc (ix2 0 h)
      = acc (ix2 0 h) + ∑ p : Fin 136, ∑ j : Fin 32, hid x0 x1 x2 x3 x4 x5 (fun i j => x6 (ix3 p i j)) b j h := by
  unfold sumB sumOf
  rw [pay222_apply]
  simp only [chain_hid]

theorem sqB_apply (b : Fin 4) (acc : FVec Ideal S1x128 .f32) (h : Fin 128) :
    sqB x0 x1 x2 x3 x4 x5 x6 b acc (ix2 0 h)
      = acc (ix2 0 h) + ∑ p : Fin 136, ∑ j : Fin 32, hid x0 x1 x2 x3 x4 x5 (fun i j => x6 (ix3 p i j)) b j h * hid x0 x1 x2 x3 x4 x5 (fun i j => x6 (ix3 p i j)) b j h := by
  unfold sqB sqOf
  rw [pay223_apply]
  simp only [chain_hid]

theorem pay214_apply (h : Fin 128) : (k0_pay214 (F := Ideal)) (ix2 0 h) = 0 := by
  pointwise [k0_pay214]
theorem pay215_apply (h : Fin 128) : (k0_pay215 (F := Ideal)) (ix2 0 h) = 0 := by
  pointwise [k0_pay215]
theorem pay1_apply (v : FVec Ideal S1x128 .f32) (h : Fin 128) : k0_pay1 v (ix2 0 h) = v (ix2 0 h) := by
  pointwise [k0_pay1]
theorem pay211_apply (r : Fin 8) (h : Fin 128) : (k0_pay211 (F := Ideal)) (ix2 r h) = 0 := by
  pointwise [k0_pay211]

theorem row0_apply (old : FVec Ideal S1x128 .f32) (h : Fin 128) :
    row0 x0 x1 x2 x3 x4 x5 x6 old (ix2 0 h)
      = old (ix2 0 h) + ∑ b : Fin 4, ∑ p : Fin 136, ∑ j : Fin 32, hid x0 x1 x2 x3 x4 x5 (fun i j => x6 (ix3 p i j)) b j h := by
  unfold row0
  rw [pay1_apply]
  show old (ix2 0 h) + _ = _
  rw [sumB_apply, sumB_apply, sumB_apply, sumB_apply, pay214_apply, zero_add, Fin.sum_univ_four]

theorem row1_apply (old : FVec Ideal S1x128 .f32) (h : Fin 128) :
    row1 x0 x1 x2 x3 x4 x5 x6 old (ix2 0 h)
      = old (ix2 0 h) + ∑ b : Fin 4, ∑ p : Fin 136, ∑ j : Fin 32, hid x0 x1 x2 x3 x4 x5 (fun i j => x6 (ix3 p i j)) b j h * hid x0 x1 x2 x3 x4 x5 (fun i j => x6 (ix3 p i j)) b j h := by
  unfold row1
  rw [pay1_apply]
  show old (ix2 0 h) + _ = _
  rw [sqB_apply, sqB_apply, sqB_apply, sqB_apply, pay215_apply, zero_add, Fin.sum_univ_four]

/-- The four stores of a point's rows, read back. -/
theorem pieces0_read (i : grid0.Coords) (f) (b : Fin 4) (q : Fin 544) (k : Fin 384) :
    scM0_0.view.read (Elt Ideal) (scM0_0.view.writes (Elt Ideal) f (pieces0 x0 x1 x2 x3 x4 x5 x6 x7 i)) (ix3 b q k)
      = if h : 136 * (i 0).val ≤ q.val ∧ q.val < 136 * (i 0).val + 136 then
          rows x0 x1 x2 x3 x4 x5 x6 x7 b (ix3 0 ⟨q.val - 136 * (i 0).val, by omega⟩ k)
        else scM0_0.view.read (Elt Ideal) f (ix3 b q k) := by
  by_cases h : 136 * (i 0).val ≤ q.val ∧ q.val < 136 * (i 0).val + 136
  · rw [dif_pos h]
    have mem : ∀ (b' : ℕ) (hb : b.val = b'), ∀ a : Fin 3, ((ix3 b q k : S4x544x384.Idx) a).val = (![b', 136 * (i 0).val, 0] : Fin 3 → ℕ) a
        + ((ix3 0 ⟨q.val - 136 * (i 0).val, by omega⟩ k : S1x136x384.Idx) a).val := fun b' hb a => match a with
      | ⟨0, _⟩ => (by show b.val = b' + 0; omega)
      | ⟨1, _⟩ => (by show q.val = 136 * (i 0).val + (q.val - 136 * (i 0).val); omega)
      | ⟨2, _⟩ => (by show k.val = 0 + k.val; omega)
    have nmem : ∀ (b' : ℕ) (hb : b.val ≠ b'), b.val < (![b', 136 * (i 0).val, 0] : Fin 3 → ℕ) 0 ∨ (![b', 136 * (i 0).val, 0] : Fin 3 → ℕ) 0 + 1 ≤ b.val :=
      fun b' hb => (by show b.val < b' ∨ b' + 1 ≤ b.val; omega)
    unfold pieces0
    match b, mem, nmem with
    | ⟨3, _⟩, mem, nmem =>
      exact View.read_writes_cons_unit_of_mem _ f _ _ _ _ _ (k0_off4_eq i) (mem 3 rfl)
    | ⟨2, _⟩, mem, nmem =>
      refine (View.read_writes_cons_unit_of_not_mem _ f _ _ _ _ (k0_off4_eq i) 0 (nmem 3 (show (2 : ℕ) ≠ 3 by decide))).trans ?_
      exact View.read_writes_cons_unit_of_mem _ f _ _ _ _ _ (k0_off3_eq i) (mem 2 rfl)
    | ⟨1, _⟩, mem, nmem =>
      refine (View.read_writes_cons_unit_of_not_mem _ f _ _ _ _ (k0_off4_eq i) 0 (nmem 3 (show (1 : ℕ) ≠ 3 by decide))).trans ?_
      refine (View.read_writes_cons_unit_of_not_mem _ f _ _ _ _ (k0_off3_eq i) 0 (nmem 2 (show (1 : ℕ) ≠ 2 by decide))).trans ?_
      exact View.read_writes_cons_unit_of_mem _ f _ _ _ _ _ (k0_off2_eq i) (mem 1 rfl)
    | ⟨0, _⟩, mem, nmem =>
      refine (View.read_writes_cons_unit_of_not_mem _ f _ _ _ _ (k0_off4_eq i) 0 (nmem 3 (show (0 : ℕ) ≠ 3 by decide))).trans ?_
      refine (View.read_writes_cons_unit_of_not_mem _ f _ _ _ _ (k0_off3_eq i) 0 (nmem 2 (show (0 : ℕ) ≠ 2 by decide))).trans ?_
      refine (View.read_writes_cons_unit_of_not_mem _ f _ _ _ _ (k0_off2_eq i) 0 (nmem 1 (show (0 : ℕ) ≠ 1 by decide))).trans ?_
      exact View.read_writes_cons_unit_of_mem _ f _ _ _ _ _ (k0_off1_eq i) (mem 0 rfl)
  · rw [dif_neg h]
    have nm : ∀ b' : ℕ, q.val < (![b', 136 * (i 0).val, 0] : Fin 3 → ℕ) 1 ∨ (![b', 136 * (i 0).val, 0] : Fin 3 → ℕ) 1 + 136 ≤ q.val :=
      fun b' => (by show q.val < 136 * (i 0).val ∨ 136 * (i 0).val + 136 ≤ q.val; omega)
    unfold pieces0
    refine (View.read_writes_cons_unit_of_not_mem _ f _ _ _ _ (k0_off4_eq i) 1 (nm 3)).trans ?_
    refine (View.read_writes_cons_unit_of_not_mem _ f _ _ _ _ (k0_off3_eq i) 1 (nm 2)).trans ?_
    refine (View.read_writes_cons_unit_of_not_mem _ f _ _ _ _ (k0_off2_eq i) 1 (nm 1)).trans ?_
    refine (View.read_writes_cons_unit_of_not_mem _ f _ _ _ _ (k0_off1_eq i) 1 (nm 0)).trans ?_
    rfl
end

/-- The two stores of the sums' rows, read back. -/
theorem sums_read0 (f) (a b : FVec Ideal S1x128 .f32) (L : List (View.Piece (Elt Ideal) S8x128 .f32)) (h : Fin 128) :
    scM0_1.view.read (Elt Ideal) (scM0_1.view.writes (Elt Ideal) f (⟨Rect.unit (s := S8x128) ![1, 0] S1x128.size inb_S8x128_S1x128_1_0, a⟩
      :: ⟨Rect.unit (s := S8x128) ![0, 0] S1x128.size inb_S8x128_S1x128_0_0, b⟩ :: L)) (ix2 0 h) = b (ix2 0 h) := by
  refine (View.read_writes_cons_unit_of_not_mem _ f _ _ _ _ rfl 0 (Or.inl (Nat.zero_lt_one))).trans ?_
  refine View.read_writes_cons_unit_of_mem _ f _ _ _ _ _ rfl (fun a => ?_)
  match a with
  | ⟨0, _⟩ => rfl
  | ⟨1, _⟩ => exact (Nat.zero_add _).symm
theorem sums_read1 (f) (a : FVec Ideal S1x128 .f32) (L : List (View.Piece (Elt Ideal) S8x128 .f32)) (h : Fin 128) :
    scM0_1.view.read (Elt Ideal) (scM0_1.view.writes (Elt Ideal) f (⟨Rect.unit (s := S8x128) ![1, 0] S1x128.size inb_S8x128_S1x128_1_0, a⟩ :: L)) (ix2 1 h) = a (ix2 0 h) := by
  refine View.read_writes_cons_unit_of_mem _ f _ _ _ _ _ rfl (fun a => ?_)
  match a with
  | ⟨0, _⟩ => rfl
  | ⟨1, _⟩ => exact (Nat.zero_add _).symm
end Cert.KernelIdeal.Flow
-- ==== Proof.KFlow.lean ====
/-
  The flow steps of the last point, as one chain over the loaded blocks: the distributions of all steps, and the circular convolutions.
-/
module

public import proofs.«01_k».proof.Proof.KLeft

@[expose] public section

set_option maxRecDepth 16384
noncomputable section

namespace Cert.KernelIdeal.Flow
open Idealize.ShloMosaic Idealize.ShloMosaic.TcCoe
open Cert.KernelIdeal Cert.KernelIdeal.Gen

variable {F : FTy → Type} [FloatOps F]

/-- The part of the sum that a shift by the step's number of kinds gives. -/
def term9_0 (a t : FVec F S9x128 .f32) : FVec F S9x128 .f32 := mulf (broadcastTo S9x128 (extractStridedSlice S1x128 ![0, 0] a slices_S9x128_o0_0_S1x128) broadcasts_S1x128_S9x128) t
def term9_1 (a t : FVec F S9x128 .f32) : FVec F S9x128 .f32 := mulf (broadcastTo S9x128 (extractStridedSlice S1x128 ![1, 0] a slices_S9x128_o1_0_S1x128) broadcasts_S1x128_S9x128) (concatenate S9x128 0 [⟨S1x128, extractStridedSlice S1x128 ![8, 0] t slices_S9x128_o8_0_S1x128⟩, ⟨S8x128, extractStridedSlice S8x128 ![0, 0] t slices_S9x128_o0_0_S8x128⟩] concatenates_S1x128_S8x128_S9x128_d0)
def term9_2 (a t : FVec F S9x128 .f32) : FVec F S9x128 .f32 := mulf (broadcastTo S9x128 (extractStridedSlice S1x128 ![2, 0] a slices_S9x128_o2_0_S1x128) broadcasts_S1x128_S9x128) (concatenate S9x128 0 [⟨S2x128, extractStridedSlice S2x128 ![7, 0] t slices_S9x128_o7_0_S2x128⟩, ⟨S7x128, extractStridedSlice S7x128 ![0, 0] t slices_S9x128_o0_0_S7x128⟩] concatenates_S2x128_S7x128_S9x128_d0)
def term9_3 (a t : FVec F S9x128 .f32) : FVec F S9x128 .f32 := mulf (broadcastTo S9x128 (extractStridedSlice S1x128 ![3, 0] a slices_S9x128_o3_0_S1x128) broadcasts_S1x128_S9x128) (concatenate S9x128 0 [⟨S3x128, extractStridedSlice S3x128 ![6, 0] t slices_S9x128_o6_0_S3x128⟩, ⟨S6x128, extractStridedSlice S6x128 ![0, 0] t slices_S9x128_o0_0_S6x128⟩] concatenates_S3x128_S6x128_S9x128_d0)
def term9_4 (a t : FVec F S9x128 .f32) : FVec F S9x128 .f32 := mulf (broadcastTo S9x128 (extractStridedSlice S1x128 ![4, 0] a slices_S9x128_o4_0_S1x128) broadcasts_S1x128_S9x128) (concatenate S9x128 0 [⟨S4x128, extractStridedSlice S4x128 ![5, 0] t slices_S9x128_o5_0_S4x128⟩, ⟨S5x128, extractStridedSlice S5x128 ![0, 0] t slices_S9x128_o0_0_S5x128⟩] concatenates_S4x128_S5x128_S9x128_d0)
def term9_5 (a t : FVec F S9x128 .f32) : FVec F S9x128 .f32 := mulf (broadcastTo S9x128 (extractStridedSlice S1x128 ![5, 0] a slices_S9x128_o5_0_S1x128) broadcasts_S1x128_S9x128) (concatenate S9x128 0 [⟨S5x128, extractStridedSlice S5x128 ![4, 0] t slices_S9x128_o4_0_S5x128⟩, ⟨S4x128, extractStridedSlice S4x128 ![0, 0] t slices_S9x128_o0_0_S4x128⟩] concatenates_S5x128_S4x128_S9x128_d0)
def term9_6 (a t : FVec F S9x128 .f32) : FVec F S9x128 .f32 := mulf (broadcastTo S9x128 (extractStridedSlice S1x128 ![6, 0] a slices_S9x128_o6_0_S1x128) broadcasts_S1x128_S9x128) (concatenate S9x128 0 [⟨S6x128, extractStridedSlice S6x128 ![3, 0] t slices_S9x128_o3_0_S6x128⟩, ⟨S3x128, extractStridedSlice S3x128 ![0, 0] t slices_S9x128_o0_0_S3x128⟩] concatenates_S6x128_S3x128_S9x128_d0)
def term9_7 (a t : FVec F S9x128 .f32) : FVec F S9x128 .f32 := mulf (broadcastTo S9x128 (extractStridedSlice S1x128 ![7, 0] a slices_S9x128_o7_0_S1x128) broadcasts_S1x128_S9x128) (concatenate S9x128 0 [⟨S7x128, extractStridedSlice S7x128 ![2, 0] t slices_S9x128_o2_0_S7x128⟩, ⟨S2x128, extractStridedSlice S2x128 ![0, 0] t slices_S9x128_o0_0_S2x128⟩] concatenates_S7x128_S2x128_S9x128_d0)
def term9_8 (a t : FVec F S9x128 .f32) : FVec F S9x128 .f32 := mulf (broadcastTo S9x128 (extractStridedSlice S1x128 ![8, 0] a slices_S9x128_o8_0_S1x128) broadcasts_S1x128_S9x128) (concatenate S9x128 0 [⟨S8x128, extractStridedSlice S8x128 ![1, 0] t slices_S9x128_o1_0_S8x128⟩, ⟨S1x128, extractStridedSlice S1x128 ![0, 0] t slices_S9x128_o0_0_S1x128⟩] concatenates_S8x128_S1x128_S9x128_d0)
def sum9_0 (a t : FVec F S9x128 .f32) : FVec F S9x128 .f32 := term9_0 a t
def sum9_1 (a t : FVec F S9x128 .f32) : FVec F S9x128 .f32 := addf (sum9_0 a t) (term9_1 a t)
def sum9_2 (a t : FVec F S9x128 .f32) : FVec F S9x128 .f32 := addf (sum9_1 a t) (term9_2 a t)
def sum9_3 (a t : FVec F S9x128 .f32) : FVec F S9x128 .f32 := addf (sum9_2 a t) (term9_3 a t)
def sum9_4 (a t : FVec F S9x128 .f32) : FVec F S9x128 .f32 := addf (sum9_3 a t) (term9_4 a t)
def sum9_5 (a t : FVec F S9x128 .f32) : FVec F S9x128 .f32 := addf (sum9_4 a t) (term9_5 a t)
def sum9_6 (a t : FVec F S9x128 .f32) : FVec F S9x128 .f32 := addf (sum9_5 a t) (term9_6 a t)
def sum9_7 (a t : FVec F S9x128 .f32) : FVec F S9x128 .f32 := addf (sum9_6 a t) (term9_7 a t)
def sum9_8 (a t : FVec F S9x128 .f32) : FVec F S9x128 .f32 := addf (sum9_7 a t) (term9_8 a t)
/-- One circular convolution along the first axis. -/
def conv9 (a t : FVec F S9x128 .f32) : FVec F S9x128 .f32 :=
  sum9_8 a t
def dist9_0 (T : FVec F S12x9x128 .f32) : FVec F S9x128 .f32 := shapeCast S9x128 (extractStridedSlice S1x9x128 ![0, 0, 0] T slices_S12x9x128_o0_0_0_S1x9x128) shapeCasts_S1x9x128_S9x128
def dist9_1 (T : FVec F S12x9x128 .f32) : FVec F S9x128 .f32 := shapeCast S9x128 (extractStridedSlice S1x9x128 ![1, 0, 0] T slices_S12x9x128_o1_0_0_S1x9x128) shapeCasts_S1x9x128_S9x128
def dist9_2 (T : FVec F S12x9x128 .f32) : FVec F S9x128 .f32 := shapeCast S9x128 (extractStridedSlice S1x9x128 ![2, 0, 0] T slices_S12x9x128_o2_0_0_S1x9x128) shapeCasts_S1x9x128_S9x128
def dist9_3 (T : FVec F S12x9x128 .f32) : FVec F S9x128 .f32 := shapeCast S9x128 (extractStridedSlice S1x9x128 ![3, 0, 0] T slices_S12x9x128_o3_0_0_S1x9x128) shapeCasts_S1x9x128_S9x128
def dist9_4 (T : FVec F S12x9x128 .f32) : FVec F S9x128 .f32 := shapeCast S9x128 (extractStridedSlice S1x9x128 ![4, 0, 0] T slices_S12x9x128_o4_0_0_S1x9x128) shapeCasts_S1x9x128_S9x128
def dist9_5 (T : FVec F S12x9x128 .f32) : FVec F S9x128 .f32 := shapeCast S9x128 (extractStridedSlice S1x9x128 ![5, 0, 0] T slices_S12x9x128_o5_0_0_S1x9x128) shapeCasts_S1x9x128_S9x128
def dist9_6 (T : FVec F S12x9x128 .f32) : FVec F S9x128 .f32 := shapeCast S9x128 (extractStridedSlice S1x9x128 ![6, 0, 0] T slices_S12x9x128_o6_0_0_S1x9x128) shapeCasts_S1x9x128_S9x128
def dist9_7 (T : FVec F S12x9x128 .f32) : FVec F S9x128 .f32 := shapeCast S9x128 (extractStridedSlice S1x9x128 ![7, 0, 0] T slices_S12x9x128_o7_0_0_S1x9x128) shapeCasts_S1x9x128_S9x128
def dist9_8 (T : FVec F S12x9x128 .f32) : FVec F S9x128 .f32 := shapeCast S9x128 (extractStridedSlice S1x9x128 ![8, 0, 0] T slices_S12x9x128_o8_0_0_S1x9x128) shapeCasts_S1x9x128_S9x128
def dist9_9 (T : FVec F S12x9x128 .f32) : FVec F S9x128 .f32 := shapeCast S9x128 (extractStridedSlice S1x9x128 ![9, 0, 0] T slices_S12x9x128_o9_0_0_S1x9x128) shapeCasts_S1x9x128_S9x128
def dist9_10 (T : FVec F S12x9x128 .f32) : FVec F S9x128 .f32 := shapeCast S9x128 (extractStridedSlice S1x9x128 ![10, 0, 0] T slices_S12x9x128_o10_0_0_S1x9x128) shapeCasts_S1x9x128_S9x128
def dist9_11 (T : FVec F S12x9x128 .f32) : FVec F S9x128 .f32 := shapeCast S9x128 (extractStridedSlice S1x9x128 ![11, 0, 0] T slices_S12x9x128_o11_0_0_S1x9x128) shapeCasts_S1x9x128_S9x128
/-- The buffer after the step. -/
def pre9_0 (T : FVec F S12x9x128 .f32) (a : FVec F S9x128 .f32) : FVec F S9x128 .f32 := conv9 a (dist9_0 T)
/-- The buffer after the step. -/
def pre9_1 (T : FVec F S12x9x128 .f32) (a : FVec F S9x128 .f32) : FVec F S9x128 .f32 := conv9 (pre9_0 T a) (dist9_1 T)
/-- The buffer after the step. -/
def pre9_2 (T : FVec F S12x9x128 .f32) (a : FVec F S9x128 .f32) : FVec F S9x128 .f32 := conv9 (pre9_1 T a) (dist9_2 T)
/-- The buffer after the step. -/
def pre9_3 (T : FVec F S12x9x128 .f32) (a : FVec F S9x128 .f32) : FVec F S9x128 .f32 := conv9 (pre9_2 T a) (dist9_3 T)
/-- The buffer after the step. -/
def pre9_4 (T : FVec F S12x9x128 .f32) (a : FVec F S9x128 .f32) : FVec F S9x128 .f32 := conv9 (pre9_3 T a) (dist9_4 T)
/-- The buffer after the step. -/
def pre9_5 (T : FVec F S12x9x128 .f32) (a : FVec F S9x128 .f32) : FVec F S9x128 .f32 := conv9 (pre9_4 T a) (dist9_5 T)
/-- The buffer after the step. -/
def pre9_6 (T : FVec F S12x9x128 .f32) (a : FVec F S9x128 .f32) : FVec F S9x128 .f32 := conv9 (pre9_5 T a) (dist9_6 T)
/-- The buffer after the step. -/
def pre9_7 (T : FVec F S12x9x128 .f32) (a : FVec F S9x128 .f32) : FVec F S9x128 .f32 := conv9 (pre9_6 T a) (dist9_7 T)
/-- The buffer after the step. -/
def pre9_8 (T : FVec F S12x9x128 .f32) (a : FVec F S9x128 .f32) : FVec F S9x128 .f32 := conv9 (pre9_7 T a) (dist9_8 T)
/-- The buffer after the step. -/
def pre9_9 (T : FVec F S12x9x128 .f32) (a : FVec F S9x128 .f32) : FVec F S9x128 .f32 := conv9 (pre9_8 T a) (dist9_9 T)
/-- The buffer after the step. -/
def pre9_10 (T : FVec F S12x9x128 .f32) (a : FVec F S9x128 .f32) : FVec F S9x128 .f32 := conv9 (pre9_9 T a) (dist9_10 T)
/-- The buffer after the step. -/
def pre9_11 (T : FVec F S12x9x128 .f32) (a : FVec F S9x128 .f32) : FVec F S9x128 .f32 := conv9 (pre9_10 T a) (dist9_11 T)
/-- All twelve steps. -/
def steps9 (T : FVec F S12x9x128 .f32) (a : FVec F S9x128 .f32) : FVec F S9x128 .f32 := pre9_11 T a
def log9_0 (h : FVec F S1536x128 .bf16) (w : Vec F S1x9x128 .bf16) : FVec F S9x128 .f32 :=
  matmul dot_S9x128_S128x128_S9x128_1_0_0_1_n_n none (shapeCast S9x128 w shapeCasts_S1x9x128_S9x128) (extractStridedSlice S128x128 ![0, 0] h slices_S1536x128_o0_0_S128x128) (constant S9x128 .f32 0x00000000#32)
def log9_1 (h : FVec F S1536x128 .bf16) (w : Vec F S1x9x128 .bf16) : FVec F S9x128 .f32 :=
  matmul dot_S9x128_S128x128_S9x128_1_0_0_1_n_n none (shapeCast S9x128 w shapeCasts_S1x9x128_S9x128) (extractStridedSlice S128x128 ![128, 0] h slices_S1536x128_o128_0_S128x128) (constant S9x128 .f32 0x00000000#32)
def log9_2 (h : FVec F S1536x128 .bf16) (w : Vec F S1x9x128 .bf16) : FVec F S9x128 .f32 :=
  matmul dot_S9x128_S128x128_S9x128_1_0_0_1_n_n none (shapeCast S9x128 w shapeCasts_S1x9x128_S9x128) (extractStridedSlice S128x128 ![256, 0] h slices_S1536x128_o256_0_S128x128) (constant S9x128 .f32 0x00000000#32)
def log9_3 (h : FVec F S1536x128 .bf16) (w : Vec F S1x9x128 .bf16) : FVec F S9x128 .f32 :=
  matmul dot_S9x128_S128x128_S9x128_1_0_0_1_n_n none (shapeCast S9x128 w shapeCasts_S1x9x128_S9x128) (extractStridedSlice S128x128 ![384, 0] h slices_S1536x128_o384_0_S128x128) (constant S9x128 .f32 0x00000000#32)
def log9_4 (h : FVec F S1536x128 .bf16) (w : Vec F S1x9x128 .bf16) : FVec F S9x128 .f32 :=
  matmul dot_S9x128_S128x128_S9x128_1_0_0_1_n_n none (shapeCast S9x128 w shapeCasts_S1x9x128_S9x128) (extractStridedSlice S128x128 ![512, 0] h slices_S1536x128_o512_0_S128x128) (constant S9x128 .f32 0x00000000#32)
def log9_5 (h : FVec F S1536x128 .bf16) (w : Vec F S1x9x128 .bf16) : FVec F S9x128 .f32 :=
  matmul dot_S9x128_S128x128_S9x128_1_0_0_1_n_n none (shapeCast S9x128 w shapeCasts_S1x9x128_S9x128) (extractStridedSlice S128x128 ![640, 0] h slices_S1536x128_o640_0_S128x128) (constant S9x128 .f32 0x00000000#32)
def log9_6 (h : FVec F S1536x128 .bf16) (w : Vec F S1x9x128 .bf16) : FVec F S9x128 .f32 :=
  matmul dot_S9x128_S128x128_S9x128_1_0_0_1_n_n none (shapeCast S9x128 w shapeCasts_S1x9x128_S9x128) (extractStridedSlice S128x128 ![768, 0] h slices_S1536x128_o768_0_S128x128) (constant S9x128 .f32 0x00000000#32)
def log9_7 (h : FVec F S1536x128 .bf16) (w : Vec F S1x9x128 .bf16) : FVec F S9x128 .f32 :=
  matmul dot_S9x128_S128x128_S9x128_1_0_0_1_n_n none (shapeCast S9x128 w shapeCasts_S1x9x128_S9x128) (extractStridedSlice S128x128 ![896, 0] h slices_S1536x128_o896_0_S128x128) (constant S9x128 .f32 0x00000000#32)
def log9_8 (h : FVec F S1536x128 .bf16) (w : Vec F S1x9x128 .bf16) : FVec F S9x128 .f32 :=
  matmul dot_S9x128_S128x128_S9x128_1_0_0_1_n_n none (shapeCast S9x128 w shapeCasts_S1x9x128_S9x128) (extractStridedSlice S128x128 ![1024, 0] h slices_S1536x128_o1024_0_S128x128) (constant S9x128 .f32 0x00000000#32)
def log9_9 (h : FVec F S1536x128 .bf16) (w : Vec F S1x9x128 .bf16) : FVec F S9x128 .f32 :=
  matmul dot_S9x128_S128x128_S9x128_1_0_0_1_n_n none (shapeCast S9x128 w shapeCasts_S1x9x128_S9x128) (extractStridedSlice S128x128 ![1152, 0] h slices_S1536x128_o1152_0_S128x128) (constant S9x128 .f32 0x00000000#32)
def log9_10 (h : FVec F S1536x128 .bf16) (w : Vec F S1x9x128 .bf16) : FVec F S9x128 .f32 :=
  matmul dot_S9x128_S128x128_S9x128_1_0_0_1_n_n none (shapeCast S9x128 w shapeCasts_S1x9x128_S9x128) (extractStridedSlice S128x128 ![1280, 0] h slices_S1536x128_o1280_0_S128x128) (constant S9x128 .f32 0x00000000#32)
def log9_11 (h : FVec F S1536x128 .bf16) (w : Vec F S1x9x128 .bf16) : FVec F S9x128 .f32 :=
  matmul dot_S9x128_S128x128_S9x128_1_0_0_1_n_n none (shapeCast S9x128 w shapeCasts_S1x9x128_S9x128) (extractStridedSlice S128x128 ![1408, 0] h slices_S1536x128_o1408_0_S128x128) (constant S9x128 .f32 0x00000000#32)
/-- The logits of all twelve steps. -/
def logits9 (h : FVec F S1536x128 .bf16) (w0 w1 w2 w3 w4 w5 w6 w7 w8 w9 w10 w11 : Vec F S1x9x128 .bf16) (b : Vec F S108x1 .f32) : FVec F S108x128 .f32 :=
  addf (concatenate S108x128 0 [⟨S9x128, log9_0 h w0⟩, ⟨S9x128, log9_1 h w1⟩, ⟨S9x128, log9_2 h w2⟩, ⟨S9x128, log9_3 h w3⟩, ⟨S9x128, log9_4 h w4⟩, ⟨S9x128, log9_5 h w5⟩, ⟨S9x128, log9_6 h w6⟩, ⟨S9x128, log9_7 h w7⟩, ⟨S9x128, log9_8 h w8⟩, ⟨S9x128, log9_9 h w9⟩, ⟨S9x128, log9_10 h w10⟩, ⟨S9x128, log9_11 h w11⟩] concatenates_S9x128_S9x128_S9x128_S9x128_S9x128_S9x128_S9x128_S9x128_S9x128_S9x128_S9x128_S9x128_S108x128_d0) (broadcastTo S108x128 (shapeCast S108x1 b shapeCasts_S108x1_S108x1) broadcasts_S108x1_S108x128)
/-- The distributions of all twelve steps. -/
def soft9 (l : FVec F S108x128 .f32) : FVec F S12x9x128 .f32 :=
  divf (exp (subf (shapeCast S12x9x128 l shapeCasts_S108x128_S12x9x128) (broadcastTo S12x9x128 (shapeCast S12x1x128 (multiReduction .maximumf [1] S12x128 (shapeCast S12x9x128 l shapeCasts_S108x128_S12x9x128) 0xFF800000#32 reduces_S12x9x128_S12x128 (.inl rfl) rfl) shapeCasts_S12x128_S12x1x128) broadcasts_S12x1x128_S12x9x128)))
    (broadcastTo S12x9x128 (shapeCast S12x1x128 (multiReduction .add [1] S12x128 (exp (subf (shapeCast S12x9x128 l shapeCasts_S108x128_S12x9x128) (broadcastTo S12x9x128 (shapeCast S12x1x128 (multiReduction .maximumf [1] S12x128 (shapeCast S12x9x128 l shapeCasts_S108x128_S12x9x128) 0xFF800000#32 reduces_S12x9x128_S12x128 (.inl rfl) rfl) shapeCasts_S12x128_S12x1x128) broadcasts_S12x1x128_S12x9x128))) 0x00000000#32 reduces_S12x9x128_S12x128 (.inl rfl) rfl) shapeCasts_S12x128_S12x1x128) broadcasts_S12x1x128_S12x9x128)

/-- The part of the sum that a shift by the step's number of kinds gives. -/
def term4_0 (a t : FVec F S4x496 .f32) : FVec F S4x496 .f32 := mulf (broadcastTo S4x496 (extractStridedSlice S1x496 ![0, 0] a slices_S4x496_o0_0_S1x496) broadcasts_S1x496_S4x496) t
def term4_1 (a t : FVec F S4x496 .f32) : FVec F S4x496 .f32 := mulf (broadcastTo S4x496 (extractStridedSlice S1x496 ![1, 0] a slices_S4x496_o1_0_S1x496) broadcasts_S1x496_S4x496) (concatenate S4x496 0 [⟨S1x496, extractStridedSlice S1x496 ![3, 0] t slices_S4x496_o3_0_S1x496⟩, ⟨S3x496, extractStridedSlice S3x496 ![0, 0] t slices_S4x496_o0_0_S3x496⟩] concatenates_S1x496_S3x496_S4x496_d0)
def term4_2 (a t : FVec F S4x496 .f32) : FVec F S4x496 .f32 := mulf (broadcastTo S4x496 (extractStridedSlice S1x496 ![2, 0] a slices_S4x496_o2_0_S1x496) broadcasts_S1x496_S4x496) (concatenate S4x496 0 [⟨S2x496, extractStridedSlice S2x496 ![2, 0] t slices_S4x496_o2_0_S2x496⟩, ⟨S2x496, extractStridedSlice S2x496 ![0, 0] t slices_S4x496_o0_0_S2x496⟩] concatenates_S2x496_S2x496_S4x496_d0)
def term4_3 (a t : FVec F S4x496 .f32) : FVec F S4x496 .f32 := mulf (broadcastTo S4x496 (extractStridedSlice S1x496 ![3, 0] a slices_S4x496_o3_0_S1x496) broadcasts_S1x496_S4x496) (concatenate S4x496 0 [⟨S3x496, extractStridedSlice S3x496 ![1, 0] t slices_S4x496_o1_0_S3x496⟩, ⟨S1x496, extractStridedSlice S1x496 ![0, 0] t slices_S4x496_o0_0_S1x496⟩] concatenates_S3x496_S1x496_S4x496_d0)
def sum4_0 (a t : FVec F S4x496 .f32) : FVec F S4x496 .f32 := term4_0 a t
def sum4_1 (a t : FVec F S4x496 .f32) : FVec F S4x496 .f32 := addf (sum4_0 a t) (term4_1 a t)
def sum4_2 (a t : FVec F S4x496 .f32) : FVec F S4x496 .f32 := addf (sum4_1 a t) (term4_2 a t)
def sum4_3 (a t : FVec F S4x496 .f32) : FVec F S4x496 .f32 := addf (sum4_2 a t) (term4_3 a t)
/-- One circular convolution along the first axis. -/
def conv4 (a t : FVec F S4x496 .f32) : FVec F S4x496 .f32 :=
  sum4_3 a t
def dist4_0 (T : FVec F S12x4x496 .f32) : FVec F S4x496 .f32 := shapeCast S4x496 (extractStridedSlice S1x4x496 ![0, 0, 0] T slices_S12x4x496_o0_0_0_S1x4x496) shapeCasts_S1x4x496_S4x496
def dist4_1 (T : FVec F S12x4x496 .f32) : FVec F S4x496 .f32 := shapeCast S4x496 (extractStridedSlice S1x4x496 ![1, 0, 0] T slices_S12x4x496_o1_0_0_S1x4x496) shapeCasts_S1x4x496_S4x496
def dist4_2 (T : FVec F S12x4x496 .f32) : FVec F S4x496 .f32 := shapeCast S4x496 (extractStridedSlice S1x4x496 ![2, 0, 0] T slices_S12x4x496_o2_0_0_S1x4x496) shapeCasts_S1x4x496_S4x496
def dist4_3 (T : FVec F S12x4x496 .f32) : FVec F S4x496 .f32 := shapeCast S4x496 (extractStridedSlice S1x4x496 ![3, 0, 0] T slices_S12x4x496_o3_0_0_S1x4x496) shapeCasts_S1x4x496_S4x496
def dist4_4 (T : FVec F S12x4x496 .f32) : FVec F S4x496 .f32 := shapeCast S4x496 (extractStridedSlice S1x4x496 ![4, 0, 0] T slices_S12x4x496_o4_0_0_S1x4x496) shapeCasts_S1x4x496_S4x496
def dist4_5 (T : FVec F S12x4x496 .f32) : FVec F S4x496 .f32 := shapeCast S4x496 (extractStridedSlice S1x4x496 ![5, 0, 0] T slices_S12x4x496_o5_0_0_S1x4x496) shapeCasts_S1x4x496_S4x496
def dist4_6 (T : FVec F S12x4x496 .f32) : FVec F S4x496 .f32 := shapeCast S4x496 (extractStridedSlice S1x4x496 ![6, 0, 0] T slices_S12x4x496_o6_0_0_S1x4x496) shapeCasts_S1x4x496_S4x496
def dist4_7 (T : FVec F S12x4x496 .f32) : FVec F S4x496 .f32 := shapeCast S4x496 (extractStridedSlice S1x4x496 ![7, 0, 0] T slices_S12x4x496_o7_0_0_S1x4x496) shapeCasts_S1x4x496_S4x496
def dist4_8 (T : FVec F S12x4x496 .f32) : FVec F S4x496 .f32 := shapeCast S4x496 (extractStridedSlice S1x4x496 ![8, 0, 0] T slices_S12x4x496_o8_0_0_S1x4x496) shapeCasts_S1x4x496_S4x496
def dist4_9 (T : FVec F S12x4x496 .f32) : FVec F S4x496 .f32 := shapeCast S4x496 (extractStridedSlice S1x4x496 ![9, 0, 0] T slices_S12x4x496_o9_0_0_S1x4x496) shapeCasts_S1x4x496_S4x496
def dist4_10 (T : FVec F S12x4x496 .f32) : FVec F S4x496 .f32 := shapeCast S4x496 (extractStridedSlice S1x4x496 ![10, 0, 0] T slices_S12x4x496_o10_0_0_S1x4x496) shapeCasts_S1x4x496_S4x496
def dist4_11 (T : FVec F S12x4x496 .f32) : FVec F S4x496 .f32 := shapeCast S4x496 (extractStridedSlice S1x4x496 ![11, 0, 0] T slices_S12x4x496_o11_0_0_S1x4x496) shapeCasts_S1x4x496_S4x496
/-- The buffer after the step. -/
def pre4_0 (T : FVec F S12x4x496 .f32) (a : FVec F S4x496 .f32) : FVec F S4x496 .f32 := conv4 a (dist4_0 T)
/-- The buffer after the step. -/
def pre4_1 (T : FVec F S12x4x496 .f32) (a : FVec F S4x496 .f32) : FVec F S4x496 .f32 := conv4 (pre4_0 T a) (dist4_1 T)
/-- The buffer after the step. -/
def pre4_2 (T : FVec F S12x4x496 .f32) (a : FVec F S4x496 .f32) : FVec F S4x496 .f32 := conv4 (pre4_1 T a) (dist4_2 T)
/-- The buffer after the step. -/
def pre4_3 (T : FVec F S12x4x496 .f32) (a : FVec F S4x496 .f32) : FVec F S4x496 .f32 := conv4 (pre4_2 T a) (dist4_3 T)
/-- The buffer after the step. -/
def pre4_4 (T : FVec F S12x4x496 .f32) (a : FVec F S4x496 .f32) : FVec F S4x496 .f32 := conv4 (pre4_3 T a) (dist4_4 T)
/-- The buffer after the step. -/
def pre4_5 (T : FVec F S12x4x496 .f32) (a : FVec F S4x496 .f32) : FVec F S4x496 .f32 := conv4 (pre4_4 T a) (dist4_5 T)
/-- The buffer after the step. -/
def pre4_6 (T : FVec F S12x4x496 .f32) (a : FVec F S4x496 .f32) : FVec F S4x496 .f32 := conv4 (pre4_5 T a) (dist4_6 T)
/-- The buffer after the step. -/
def pre4_7 (T : FVec F S12x4x496 .f32) (a : FVec F S4x496 .f32) : FVec F S4x496 .f32 := conv4 (pre4_6 T a) (dist4_7 T)
/-- The buffer after the step. -/
def pre4_8 (T : FVec F S12x4x496 .f32) (a : FVec F S4x496 .f32) : FVec F S4x496 .f32 := conv4 (pre4_7 T a) (dist4_8 T)
/-- The buffer after the step. -/
def pre4_9 (T : FVec F S12x4x496 .f32) (a : FVec F S4x496 .f32) : FVec F S4x496 .f32 := conv4 (pre4_8 T a) (dist4_9 T)
/-- The buffer after the step. -/
def pre4_10 (T : FVec F S12x4x496 .f32) (a : FVec F S4x496 .f32) : FVec F S4x496 .f32 := conv4 (pre4_9 T a) (dist4_10 T)
/-- The buffer after the step. -/
def pre4_11 (T : FVec F S12x4x496 .f32) (a : FVec F S4x496 .f32) : FVec F S4x496 .f32 := conv4 (pre4_10 T a) (dist4_11 T)
/-- All twelve steps. -/
def steps4 (T : FVec F S12x4x496 .f32) (a : FVec F S4x496 .f32) : FVec F S4x496 .f32 := pre4_11 T a
def log4_0 (h : FVec F S1536x496 .bf16) (w : Vec F S1x4x128 .bf16) : FVec F S4x496 .f32 :=
  matmul dot_S4x128_S128x496_S4x496_1_0_0_1_n_n none (shapeCast S4x128 w shapeCasts_S1x4x128_S4x128) (extractStridedSlice S128x496 ![0, 0] h slices_S1536x496_o0_0_S128x496) (constant S4x496 .f32 0x00000000#32)
def log4_1 (h : FVec F S1536x496 .bf16) (w : Vec F S1x4x128 .bf16) : FVec F S4x496 .f32 :=
  matmul dot_S4x128_S128x496_S4x496_1_0_0_1_n_n none (shapeCast S4x128 w shapeCasts_S1x4x128_S4x128) (extractStridedSlice S128x496 ![128, 0] h slices_S1536x496_o128_0_S128x496) (constant S4x496 .f32 0x00000000#32)
def log4_2 (h : FVec F S1536x496 .bf16) (w : Vec F S1x4x128 .bf16) : FVec F S4x496 .f32 :=
  matmul dot_S4x128_S128x496_S4x496_1_0_0_1_n_n none (shapeCast S4x128 w shapeCasts_S1x4x128_S4x128) (extractStridedSlice S128x496 ![256, 0] h slices_S1536x496_o256_0_S128x496) (constant S4x496 .f32 0x00000000#32)
def log4_3 (h : FVec F S1536x496 .bf16) (w : Vec F S1x4x128 .bf16) : FVec F S4x496 .f32 :=
  matmul dot_S4x128_S128x496_S4x496_1_0_0_1_n_n none (shapeCast S4x128 w shapeCasts_S1x4x128_S4x128) (extractStridedSlice S128x496 ![384, 0] h slices_S1536x496_o384_0_S128x496) (constant S4x496 .f32 0x00000000#32)
def log4_4 (h : FVec F S1536x496 .bf16) (w : Vec F S1x4x128 .bf16) : FVec F S4x496 .f32 :=
  matmul dot_S4x128_S128x496_S4x496_1_0_0_1_n_n none (shapeCast S4x128 w shapeCasts_S1x4x128_S4x128) (extractStridedSlice S128x496 ![512, 0] h slices_S1536x496_o512_0_S128x496) (constant S4x496 .f32 0x00000000#32)
def log4_5 (h : FVec F S1536x496 .bf16) (w : Vec F S1x4x128 .bf16) : FVec F S4x496 .f32 :=
  matmul dot_S4x128_S128x496_S4x496_1_0_0_1_n_n none (shapeCast S4x128 w shapeCasts_S1x4x128_S4x128) (extractStridedSlice S128x496 ![640, 0] h slices_S1536x496_o640_0_S128x496) (constant S4x496 .f32 0x00000000#32)
def log4_6 (h : FVec F S1536x496 .bf16) (w : Vec F S1x4x128 .bf16) : FVec F S4x496 .f32 :=
  matmul dot_S4x128_S128x496_S4x496_1_0_0_1_n_n none (shapeCast S4x128 w shapeCasts_S1x4x128_S4x128) (extractStridedSlice S128x496 ![768, 0] h slices_S1536x496_o768_0_S128x496) (constant S4x496 .f32 0x00000000#32)
def log4_7 (h : FVec F S1536x496 .bf16) (w : Vec F S1x4x128 .bf16) : FVec F S4x496 .f32 :=
  matmul dot_S4x128_S128x496_S4x496_1_0_0_1_n_n none (shapeCast S4x128 w shapeCasts_S1x4x128_S4x128) (extractStridedSlice S128x496 ![896, 0] h slices_S1536x496_o896_0_S128x496) (constant S4x496 .f32 0x00000000#32)
def log4_8 (h : FVec F S1536x496 .bf16) (w : Vec F S1x4x128 .bf16) : FVec F S4x496 .f32 :=
  matmul dot_S4x128_S128x496_S4x496_1_0_0_1_n_n none (shapeCast S4x128 w shapeCasts_S1x4x128_S4x128) (extractStridedSlice S128x496 ![1024, 0] h slices_S1536x496_o1024_0_S128x496) (constant S4x496 .f32 0x00000000#32)
def log4_9 (h : FVec F S1536x496 .bf16) (w : Vec F S1x4x128 .bf16) : FVec F S4x496 .f32 :=
  matmul dot_S4x128_S128x496_S4x496_1_0_0_1_n_n none (shapeCast S4x128 w shapeCasts_S1x4x128_S4x128) (extractStridedSlice S128x496 ![1152, 0] h slices_S1536x496_o1152_0_S128x496) (constant S4x496 .f32 0x00000000#32)
def log4_10 (h : FVec F S1536x496 .bf16) (w : Vec F S1x4x128 .bf16) : FVec F S4x496 .f32 :=
  matmul dot_S4x128_S128x496_S4x496_1_0_0_1_n_n none (shapeCast S4x128 w shapeCasts_S1x4x128_S4x128) (extractStridedSlice S128x496 ![1280, 0] h slices_S1536x496_o1280_0_S128x496) (constant S4x496 .f32 0x00000000#32)
def log4_11 (h : FVec F S1536x496 .bf16) (w : Vec F S1x4x128 .bf16) : FVec F S4x496 .f32 :=
  matmul dot_S4x128_S128x496_S4x496_1_0_0_1_n_n none (shapeCast S4x128 w shapeCasts_S1x4x128_S4x128) (extractStridedSlice S128x496 ![1408, 0] h slices_S1536x496_o1408_0_S128x496) (constant S4x496 .f32 0x00000000#32)
/-- The logits of all twelve steps. -/
def logits4 (h : FVec F S1536x496 .bf16) (w0 w1 w2 w3 w4 w5 w6 w7 w8 w9 w10 w11 : Vec F S1x4x128 .bf16) (b : Vec F S48x1 .f32) : FVec F S48x496 .f32 :=
  addf (concatenate S48x496 0 [⟨S4x496, log4_0 h w0⟩, ⟨S4x496, log4_1 h w1⟩, ⟨S4x496, log4_2 h w2⟩, ⟨S4x496, log4_3 h w3⟩, ⟨S4x496, log4_4 h w4⟩, ⟨S4x496, log4_5 h w5⟩, ⟨S4x496, log4_6 h w6⟩, ⟨S4x496, log4_7 h w7⟩, ⟨S4x496, log4_8 h w8⟩, ⟨S4x496, log4_9 h w9⟩, ⟨S4x496, log4_10 h w10⟩, ⟨S4x496, log4_11 h w11⟩] concatenates_S4x496_S4x496_S4x496_S4x496_S4x496_S4x496_S4x496_S4x496_S4x496_S4x496_S4x496_S4x496_S48x496_d0) (broadcastTo S48x496 (shapeCast S48x1 b shapeCasts_S48x1_S48x1) broadcasts_S48x1_S48x496)
/-- The distributions of all twelve steps. -/
def soft4 (l : FVec F S48x496 .f32) : FVec F S12x4x496 .f32 :=
  divf (exp (subf (shapeCast S12x4x496 l shapeCasts_S48x496_S12x4x496) (broadcastTo S12x4x496 (shapeCast S12x1x496 (multiReduction .maximumf [1] S12x496 (shapeCast S12x4x496 l shapeCasts_S48x496_S12x4x496) 0xFF800000#32 reduces_S12x4x496_S12x496 (.inl rfl) rfl) shapeCasts_S12x496_S12x1x496) broadcasts_S12x1x496_S12x4x496)))
    (broadcastTo S12x4x496 (shapeCast S12x1x496 (multiReduction .add [1] S12x496 (exp (subf (shapeCast S12x4x496 l shapeCasts_S48x496_S12x4x496) (broadcastTo S12x4x496 (shapeCast S12x1x496 (multiReduction .maximumf [1] S12x496 (shapeCast S12x4x496 l shapeCasts_S48x496_S12x4x496) 0xFF800000#32 reduces_S12x4x496_S12x496 (.inl rfl) rfl) shapeCasts_S12x496_S12x1x496) broadcasts_S12x1x496_S12x4x496))) 0x00000000#32 reduces_S12x4x496_S12x496 (.inl rfl) rfl) shapeCasts_S12x496_S12x1x496) broadcasts_S12x1x496_S12x4x496)

/-- What the last point stores as the first result. -/
def nodesOf (s0 s1 g be : Vec F S1x128 .f32) (gen : Vec F S4x32x128 .f32) (xq : Vec F S128x9 .f32) (ww : Vec F S1536x128 .bf16) (b1 : Vec F S1536x1 .f32) (w0 w1 w2 w3 w4 w5 w6 w7 w8 w9 w10 w11 : Vec F S1x9x128 .bf16) (b2 : Vec F S108x1 .f32) : FVec F S128x9 .f32 :=
  transpose S128x9 [1, 0] (steps9 (soft9 (logits9 (k0_pay11 (k0_pay10 s0 s1 g be gen ww) b1) w0 w1 w2 w3 w4 w5 w6 w7 w8 w9 w10 w11 b2)) (k0_pay9 xq)) transposes_S9x128_p1_0_S128x9
/-- What the last point stores of the second result for one graph of the batch. -/
def edgesOf (s0 s1 g be : Vec F S1x128 .f32) (gen : Vec F S1x496x384 .f32) (aq : Vec F S1x496x4 .f32) (ww : Vec F S1536x384 .bf16) (b1 : Vec F S1536x1 .f32) (w0 w1 w2 w3 w4 w5 w6 w7 w8 w9 w10 w11 : Vec F S1x4x128 .bf16) (b2 : Vec F S48x1 .f32) : FVec F S1x496x4 .f32 :=
  shapeCast S1x496x4 (transpose S496x4 [1, 0] (steps4 (soft4 (logits4 (k0_pay77 (k0_pay6 s0 s1 g) (k0_pay7 s0 s1 g be) (k0_pay8 s0 s1 g be) gen ww b1) w0 w1 w2 w3 w4 w5 w6 w7 w8 w9 w10 w11 b2)) (k0_pay76 aq)) transposes_S4x496_p1_0_S496x4) shapeCasts_S496x4_S1x496x4

theorem inbF9 : ∀ a, (![0, 0] : Fin 2 → ℕ) a + S1x128.size a ≤ S1x128.size a := fun a => match a with
    | ⟨0, _⟩ => (by show 0 + _ ≤ _; rw [Nat.zero_add])
    | ⟨1, _⟩ => (by show 0 + _ ≤ _; rw [Nat.zero_add])
/-- A whole memref's contents, loaded. -/
def ldF9 (m : Memref sig .tc .vmem S1x128 .f32) (h : m.IsWhole) (x : Vec F S1x128 .f32) : Vec F S1x128 .f32 :=
  View.readAt (Elt F) m.view (Rect.unit (s := S1x128) ![0, 0] S1x128.size inbF9).toLoadRect (h.unread x)
theorem ldF9_eq (m : Memref sig .tc .vmem S1x128 .f32) (h : m.IsWhole) (x : Vec F S1x128 .f32) : ldF9 m h x = x := by
  funext j
  unfold ldF9
  rw [h.readAt_unread]
  refine congrArg x ?_
  funext a; match a with
    | ⟨0, _⟩ => exact Fin.ext (by show 0 + 1 * (j 0).val = (j 0).val; omega)
    | ⟨1, _⟩ => exact Fin.ext (by show 0 + 1 * (j 1).val = (j 1).val; omega)

theorem inbF11 : ∀ a, (![0, 0] : Fin 2 → ℕ) a + S128x9.size a ≤ S128x9.size a := fun a => match a with
    | ⟨0, _⟩ => (by show 0 + _ ≤ _; rw [Nat.zero_add])
    | ⟨1, _⟩ => (by show 0 + _ ≤ _; rw [Nat.zero_add])
/-- A whole memref's contents, loaded. -/
def ldF11 (m : Memref sig .tc .vmem S128x9 .f32) (h : m.IsWhole) (x : Vec F S128x9 .f32) : Vec F S128x9 .f32 :=
  View.readAt (Elt F) m.view (Rect.unit (s := S128x9) ![0, 0] S128x9.size inbF11).toLoadRect (h.unread x)
theorem ldF11_eq (m : Memref sig .tc .vmem S128x9 .f32) (h : m.IsWhole) (x : Vec F S128x9 .f32) : ldF11 m h x = x := by
  funext j
  unfold ldF11
  rw [h.readAt_unread]
  refine congrArg x ?_
  funext a; match a with
    | ⟨0, _⟩ => exact Fin.ext (by show 0 + 1 * (j 0).val = (j 0).val; omega)
    | ⟨1, _⟩ => exact Fin.ext (by show 0 + 1 * (j 1).val = (j 1).val; omega)

theorem inbF13 : ∀ a, (![0, 0] : Fin 2 → ℕ) a + S1536x128.size a ≤ S1536x128.size a := fun a => match a with
    | ⟨0, _⟩ => (by show 0 + _ ≤ _; rw [Nat.zero_add])
    | ⟨1, _⟩ => (by show 0 + _ ≤ _; rw [Nat.zero_add])
/-- A whole memref's contents, loaded. -/
def ldF13 (m : Memref sig .tc .vmem S1536x128 .bf16) (h : m.IsWhole) (x : Vec F S1536x128 .bf16) : Vec F S1536x128 .bf16 :=
  View.readAt (Elt F) m.view (Rect.unit (s := S1536x128) ![0, 0] S1536x128.size inbF13).toLoadRect (h.unread x)
theorem ldF13_eq (m : Memref sig .tc .vmem S1536x128 .bf16) (h : m.IsWhole) (x : Vec F S1536x128 .bf16) : ldF13 m h x = x := by
  funext j
  unfold ldF13
  rw [h.readAt_unread]
  refine congrArg x ?_
  funext a; match a with
    | ⟨0, _⟩ => exact Fin.ext (by show 0 + 1 * (j 0).val = (j 0).val; omega)
    | ⟨1, _⟩ => exact Fin.ext (by show 0 + 1 * (j 1).val = (j 1).val; omega)

theorem inbF14 : ∀ a, (![0, 0] : Fin 2 → ℕ) a + S1536x1.size a ≤ S1536x1.size a := fun a => match a with
    | ⟨0, _⟩ => (by show 0 + _ ≤ _; rw [Nat.zero_add])
    | ⟨1, _⟩ => (by show 0 + _ ≤ _; rw [Nat.zero_add])
/-- A whole memref's contents, loaded. -/
def ldF14 (m : Memref sig .tc .vmem S1536x1 .f32) (h : m.IsWhole) (x : Vec F S1536x1 .f32) : Vec F S1536x1 .f32 :=
  View.readAt (Elt F) m.view (Rect.unit (s := S1536x1) ![0, 0] S1536x1.size inbF14).toLoadRect (h.unread x)
theorem ldF14_eq (m : Memref sig .tc .vmem S1536x1 .f32) (h : m.IsWhole) (x : Vec F S1536x1 .f32) : ldF14 m h x = x := by
  funext j
  unfold ldF14
  rw [h.readAt_unread]
  refine congrArg x ?_
  funext a; match a with
    | ⟨0, _⟩ => exact Fin.ext (by show 0 + 1 * (j 0).val = (j 0).val; omega)
    | ⟨1, _⟩ => exact Fin.ext (by show 0 + 1 * (j 1).val = (j 1).val; omega)

theorem inbF16 : ∀ a, (![0, 0] : Fin 2 → ℕ) a + S108x1.size a ≤ S108x1.size a := fun a => match a with
    | ⟨0, _⟩ => (by show 0 + _ ≤ _; rw [Nat.zero_add])
    | ⟨1, _⟩ => (by show 0 + _ ≤ _; rw [Nat.zero_add])
/-- A whole memref's contents, loaded. -/
def ldF16 (m : Memref sig .tc .vmem S108x1 .f32) (h : m.IsWhole) (x : Vec F S108x1 .f32) : Vec F S108x1 .f32 :=
  View.readAt (Elt F) m.view (Rect.unit (s := S108x1) ![0, 0] S108x1.size inbF16).toLoadRect (h.unread x)
theorem ldF16_eq (m : Memref sig .tc .vmem S108x1 .f32) (h : m.IsWhole) (x : Vec F S108x1 .f32) : ldF16 m h x = x := by
  funext j
  unfold ldF16
  rw [h.readAt_unread]
  refine congrArg x ?_
  funext a; match a with
    | ⟨0, _⟩ => exact Fin.ext (by show 0 + 1 * (j 0).val = (j 0).val; omega)
    | ⟨1, _⟩ => exact Fin.ext (by show 0 + 1 * (j 1).val = (j 1).val; omega)

theorem inbF17 : ∀ a, (![0, 0] : Fin 2 → ℕ) a + S1536x384.size a ≤ S1536x384.size a := fun a => match a with
    | ⟨0, _⟩ => (by show 0 + _ ≤ _; rw [Nat.zero_add])
    | ⟨1, _⟩ => (by show 0 + _ ≤ _; rw [Nat.zero_add])
/-- A whole memref's contents, loaded. -/
def ldF17 (m : Memref sig .tc .vmem S1536x384 .bf16) (h : m.IsWhole) (x : Vec F S1536x384 .bf16) : Vec F S1536x384 .bf16 :=
  View.readAt (Elt F) m.view (Rect.unit (s := S1536x384) ![0, 0] S1536x384.size inbF17).toLoadRect (h.unread x)
theorem ldF17_eq (m : Memref sig .tc .vmem S1536x384 .bf16) (h : m.IsWhole) (x : Vec F S1536x384 .bf16) : ldF17 m h x = x := by
  funext j
  unfold ldF17
  rw [h.readAt_unread]
  refine congrArg x ?_
  funext a; match a with
    | ⟨0, _⟩ => exact Fin.ext (by show 0 + 1 * (j 0).val = (j 0).val; omega)
    | ⟨1, _⟩ => exact Fin.ext (by show 0 + 1 * (j 1).val = (j 1).val; omega)

theorem inbF20 : ∀ a, (![0, 0] : Fin 2 → ℕ) a + S48x1.size a ≤ S48x1.size a := fun a => match a with
    | ⟨0, _⟩ => (by show 0 + _ ≤ _; rw [Nat.zero_add])
    | ⟨1, _⟩ => (by show 0 + _ ≤ _; rw [Nat.zero_add])
/-- A whole memref's contents, loaded. -/
def ldF20 (m : Memref sig .tc .vmem S48x1 .f32) (h : m.IsWhole) (x : Vec F S48x1 .f32) : Vec F S48x1 .f32 :=
  View.readAt (Elt F) m.view (Rect.unit (s := S48x1) ![0, 0] S48x1.size inbF20).toLoadRect (h.unread x)
theorem ldF20_eq (m : Memref sig .tc .vmem S48x1 .f32) (h : m.IsWhole) (x : Vec F S48x1 .f32) : ldF20 m h x = x := by
  funext j
  unfold ldF20
  rw [h.readAt_unread]
  refine congrArg x ?_
  funext a; match a with
    | ⟨0, _⟩ => exact Fin.ext (by show 0 + 1 * (j 0).val = (j 0).val; omega)
    | ⟨1, _⟩ => exact Fin.ext (by show 0 + 1 * (j 1).val = (j 1).val; omega)

theorem inbF12 (b : ℕ) (hb : b < 4) : ∀ a, (![b, 0, 0] : Fin 3 → ℕ) a + S1x496x4.size a ≤ S4x496x4.size a := fun a => match a with
    | ⟨0, _⟩ => (by show b + 1 ≤ 4; omega)
    | ⟨1, _⟩ => Nat.le_refl _
    | ⟨2, _⟩ => Nat.le_refl _
/-- One block loaded out of a whole memref. -/
def ldF12 (m : Memref sig .tc .vmem S4x496x4 .f32) (h : m.IsWhole) (x : Vec F S4x496x4 .f32) (b : ℕ) (hb : b < 4) : Vec F S1x496x4 .f32 :=
  View.readAt (Elt F) m.view (Rect.unit (s := S4x496x4) ![b, 0, 0] S1x496x4.size (inbF12 b hb)).toLoadRect (h.unread x)
/-- The same block by its coordinates. -/
def slF12 (x : Vec F S4x496x4 .f32) (b : Fin 4) : Vec F S1x496x4 .f32 := fun j => x (ix3 b (j 1) (j 2))
theorem ldF12_eq (m : Memref sig .tc .vmem S4x496x4 .f32) (h : m.IsWhole) (x : Vec F S4x496x4 .f32) (b : ℕ) (hb : b < 4) :
    ldF12 m h x b hb = slF12 x ⟨b, hb⟩ := by
  funext j
  unfold ldF12 slF12
  rw [h.readAt_unread]
  refine congrArg x ?_
  funext a; match a with
    | ⟨0, _⟩ => exact Fin.ext (by have := (j 0).isLt; show b + 1 * (j 0).val = b; have h : (j 0).val < 1 := (j 0).isLt; omega)
    | ⟨1, _⟩ => exact Fin.ext (by show 0 + 1 * (j 1).val = (j 1).val; omega)
    | ⟨2, _⟩ => exact Fin.ext (by show 0 + 1 * (j 2).val = (j 2).val; omega)

theorem inbF15 (b : ℕ) (hb : b < 12) : ∀ a, (![b, 0, 0] : Fin 3 → ℕ) a + S1x9x128.size a ≤ S12x9x128.size a := fun a => match a with
    | ⟨0, _⟩ => (by show b + 1 ≤ 12; omega)
    | ⟨1, _⟩ => Nat.le_refl _
    | ⟨2, _⟩ => Nat.le_refl _
/-- One block loaded out of a whole memref. -/
def ldF15 (m : Memref sig .tc .vmem S12x9x128 .bf16) (h : m.IsWhole) (x : Vec F S12x9x128 .bf16) (b : ℕ) (hb : b < 12) : Vec F S1x9x128 .bf16 :=
  View.readAt (Elt F) m.view (Rect.unit (s := S12x9x128) ![b, 0, 0] S1x9x128.size (inbF15 b hb)).toLoadRect (h.unread x)
/-- The same block by its coordinates. -/
def slF15 (x : Vec F S12x9x128 .bf16) (b : Fin 12) : Vec F S1x9x128 .bf16 := fun j => x (ix3 b (j 1) (j 2))
theorem ldF15_eq (m : Memref sig .tc .vmem S12x9x128 .bf16) (h : m.IsWhole) (x : Vec F S12x9x128 .bf16) (b : ℕ) (hb : b < 12) :
    ldF15 m h x b hb = slF15 x ⟨b, hb⟩ := by
  funext j
  unfold ldF15 slF15
  rw [h.readAt_unread]
  refine congrArg x ?_
  funext a; match a with
    | ⟨0, _⟩ => exact Fin.ext (by have := (j 0).isLt; show b + 1 * (j 0).val = b; have h : (j 0).val < 1 := (j 0).isLt; omega)
    | ⟨1, _⟩ => exact Fin.ext (by show 0 + 1 * (j 1).val = (j 1).val; omega)
    | ⟨2, _⟩ => exact Fin.ext (by show 0 + 1 * (j 2).val = (j 2).val; omega)

theorem inbF19 (b : ℕ) (hb : b < 12) : ∀ a, (![b, 0, 0] : Fin 3 → ℕ) a + S1x4x128.size a ≤ S12x4x128.size a := fun a => match a with
    | ⟨0, _⟩ => (by show b + 1 ≤ 12; omega)
    | ⟨1, _⟩ => Nat.le_refl _
    | ⟨2, _⟩ => Nat.le_refl _
/-- One block loaded out of a whole memref. -/
def ldF19 (m : Memref sig .tc .vmem S12x4x128 .bf16) (h : m.IsWhole) (x : Vec F S12x4x128 .bf16) (b : ℕ) (hb : b < 12) : Vec F S1x4x128 .bf16 :=
  View.readAt (Elt F) m.view (Rect.unit (s := S12x4x128) ![b, 0, 0] S1x4x128.size (inbF19 b hb)).toLoadRect (h.unread x)
/-- The same block by its coordinates. -/
def slF19 (x : Vec F S12x4x128 .bf16) (b : Fin 12) : Vec F S1x4x128 .bf16 := fun j => x (ix3 b (j 1) (j 2))
theorem ldF19_eq (m : Memref sig .tc .vmem S12x4x128 .bf16) (h : m.IsWhole) (x : Vec F S12x4x128 .bf16) (b : ℕ) (hb : b < 12) :
    ldF19 m h x b hb = slF19 x ⟨b, hb⟩ := by
  funext j
  unfold ldF19 slF19
  rw [h.readAt_unread]
  refine congrArg x ?_
  funext a; match a with
    | ⟨0, _⟩ => exact Fin.ext (by have := (j 0).isLt; show b + 1 * (j 0).val = b; have h : (j 0).val < 1 := (j 0).isLt; omega)
    | ⟨1, _⟩ => exact Fin.ext (by show 0 + 1 * (j 1).val = (j 1).val; omega)
    | ⟨2, _⟩ => exact Fin.ext (by show 0 + 1 * (j 2).val = (j 2).val; omega)

end Cert.KernelIdeal.Flow
-- ==== Proof.FlowSpec.lean ====
/-
  The mathematics of the flow steps: circular convolutions, and the distributions they take.
-/
module

public import proofs.«01_k».proof.Proof.Spec

@[expose] public section

noncomputable section

namespace Cert.Spec
open Idealize.ShloMosaic Idealize.ShloMosaic.TcCoe

/-- A circular convolution of two lists of the same length. -/
def conv {L : ℕ} (a t : Fin L → EReal) (k : Fin L) : EReal :=
  ∑ m : Fin L, a m * t ⟨(k.val + (L - m.val)) % L, Nat.mod_lt _ (Nat.lt_of_le_of_lt (Nat.zero_le _) k.isLt)⟩

/-- The largest member of a list. -/
def top {L : ℕ} (l : Fin L → EReal) : EReal := Finset.univ.fold max (Ideal.ofBits .f32 4286578688#32) l

/-- The distribution with the given logits. -/
def soft {L : ℕ} (l : Fin L → EReal) (k : Fin L) : EReal :=
  Ideal.div (Ideal.exp (l k - top l)) (∑ x : Fin L, Ideal.exp (l x - top l))

/-- Twelve convolutions, one after the other. -/
def steps {L : ℕ} (T : Fin 12 → Fin L → EReal) (a : Fin L → EReal) : Fin L → EReal :=
  conv (conv (conv (conv (conv (conv (conv (conv (conv (conv (conv (conv a (T 0)) (T 1)) (T 2)) (T 3)) (T 4)) (T 5)) (T 6)) (T 7)) (T 8)) (T 9)) (T 10)) (T 11)

/-- The logits of one step. -/
def logit {L D : ℕ} (w1 : Fin 128 → Fin D → EReal) (b1 : Fin 128 → EReal) (w2 : Fin L → Fin 128 → EReal) (b2 : Fin L → EReal)
    (g : Fin D → EReal) (k : Fin L) : EReal :=
  (∑ x : Fin 128, w2 k x * Ideal.tanh ((∑ d : Fin D, w1 x d * g d) + b1 x)) + b2 k

/-- All the flow steps of one row. -/
def flow {L D : ℕ} (w1 : Fin 12 → Fin 128 → Fin D → EReal) (b1 : Fin 12 → Fin 128 → EReal) (w2 : Fin 12 → Fin L → Fin 128 → EReal)
    (b2 : Fin 12 → Fin L → EReal) (g : Fin D → EReal) (a : Fin L → EReal) : Fin L → EReal :=
  steps (fun i => soft (logit (w1 i) (b1 i) (w2 i) (b2 i) g)) a

/-- The scale a batch's sums give a feature. -/
def scaleOf (s ss g : EReal) : EReal :=
  Ideal.rsqrt (Ideal.div ss (Ideal.ofBits .f32 1199833088#32) - Ideal.div s (Ideal.ofBits .f32 1199833088#32) * Ideal.div s (Ideal.ofBits .f32 1199833088#32)
    + Ideal.ofBits .f32 925353388#32) * g
/-- The shift they give it. -/
def shiftOf (s ss g b : EReal) : EReal := b - Ideal.div s (Ideal.ofBits .f32 1199833088#32) * scaleOf s ss g
end Cert.Spec
-- ==== Proof.KFlowVal.lean ====
/-
  The last point's results, element by element.
-/
module

public import proofs.«01_k».proof.Proof.KFlow
public import proofs.«01_k».proof.Proof.FlowSpec
public import Idealize.ShloMosaic.Lib.Pointwise

@[expose] public section

set_option maxRecDepth 16384
noncomputable section

namespace Cert.KernelIdeal.Flow
open Idealize.ShloMosaic Idealize.ShloMosaic.TcCoe
open Cert.KernelIdeal Cert.KernelIdeal.Gen Cert.Spec

theorem conv9_apply (a t : FVec Ideal S9x128 .f32) (k : Fin 9) (h : Fin 128) :
    conv9 a t (ix2 k h) = conv (fun k => a (ix2 k h)) (fun k => t (ix2 k h)) k := by
  unfold conv
  match k with
  | ⟨0, _⟩ | ⟨1, _⟩ | ⟨2, _⟩ | ⟨3, _⟩ | ⟨4, _⟩ | ⟨5, _⟩ | ⟨6, _⟩ | ⟨7, _⟩ | ⟨8, _⟩ =>
    pointwise [conv9, sum9_0, term9_0, sum9_1, term9_1, sum9_2, term9_2, sum9_3, term9_3, sum9_4, term9_4, sum9_5, term9_5, sum9_6, term9_6, sum9_7, term9_7, sum9_8, term9_8]
    simp [Fin.sum_univ_succ, add_assoc]
    try rfl
theorem dist9_0_apply (T : FVec Ideal S12x9x128 .f32) (k : Fin 9) (h : Fin 128) : dist9_0 T (ix2 k h) = T (ix3 0 k h) := by
  pointwise [dist9_0]
theorem log9_0_apply (h : FVec Ideal S1536x128 .bf16) (w : Vec Ideal S1x9x128 .bf16) (k : Fin 9) (j : Fin 128) :
    log9_0 h w (ix2 k j) = ∑ x : Fin 128, w (ix3 0 k x) * h (ix2 ⟨128 * 0 + x.val, by omega⟩ j) := by
  pointwise [log9_0]
theorem dist9_1_apply (T : FVec Ideal S12x9x128 .f32) (k : Fin 9) (h : Fin 128) : dist9_1 T (ix2 k h) = T (ix3 1 k h) := by
  pointwise [dist9_1]
theorem log9_1_apply (h : FVec Ideal S1536x128 .bf16) (w : Vec Ideal S1x9x128 .bf16) (k : Fin 9) (j : Fin 128) :
    log9_1 h w (ix2 k j) = ∑ x : Fin 128, w (ix3 0 k x) * h (ix2 ⟨128 * 1 + x.val, by omega⟩ j) := by
  pointwise [log9_1]
theorem dist9_2_apply (T : FVec Ideal S12x9x128 .f32) (k : Fin 9) (h : Fin 128) : dist9_2 T (ix2 k h) = T (ix3 2 k h) := by
  pointwise [dist9_2]
theorem log9_2_apply (h : FVec Ideal S1536x128 .bf16) (w : Vec Ideal S1x9x128 .bf16) (k : Fin 9) (j : Fin 128) :
    log9_2 h w (ix2 k j) = ∑ x : Fin 128, w (ix3 0 k x) * h (ix2 ⟨128 * 2 + x.val, by omega⟩ j) := by
  pointwise [log9_2]
theorem dist9_3_apply (T : FVec Ideal S12x9x128 .f32) (k : Fin 9) (h : Fin 128) : dist9_3 T (ix2 k h) = T (ix3 3 k h) := by
  pointwise [dist9_3]
theorem log9_3_apply (h : FVec Ideal S1536x128 .bf16) (w : Vec Ideal S1x9x128 .bf16) (k : Fin 9) (j : Fin 128) :
    log9_3 h w (ix2 k j) = ∑ x : Fin 128, w (ix3 0 k x) * h (ix2 ⟨128 * 3 + x.val, by omega⟩ j) := by
  pointwise [log9_3]
theorem dist9_4_apply (T : FVec Ideal S12x9x128 .f32) (k : Fin 9) (h : Fin 128) : dist9_4 T (ix2 k h) = T (ix3 4 k h) := by
  pointwise [dist9_4]
theorem log9_4_apply (h : FVec Ideal S1536x128 .bf16) (w : Vec Ideal S1x9x128 .bf16) (k : Fin 9) (j : Fin 128) :
    log9_4 h w (ix2 k j) = ∑ x : Fin 128, w (ix3 0 k x) * h (ix2 ⟨128 * 4 + x.val, by omega⟩ j) := by
  pointwise [log9_4]
theorem dist9_5_apply (T : FVec Ideal S12x9x128 .f32) (k : Fin 9) (h : Fin 128) : dist9_5 T (ix2 k h) = T (ix3 5 k h) := by
  pointwise [dist9_5]
theorem log9_5_apply (h : FVec Ideal S1536x128 .bf16) (w : Vec Ideal S1x9x128 .bf16) (k : Fin 9) (j : Fin 128) :
    log9_5 h w (ix2 k j) = ∑ x : Fin 128, w (ix3 0 k x) * h (ix2 ⟨128 * 5 + x.val, by omega⟩ j) := by
  pointwise [log9_5]
theorem dist9_6_apply (T : FVec Ideal S12x9x128 .f32) (k : Fin 9) (h : Fin 128) : dist9_6 T (ix2 k h) = T (ix3 6 k h) := by
  pointwise [dist9_6]
theorem log9_6_apply (h : FVec Ideal S1536x128 .bf16) (w : Vec Ideal S1x9x128 .bf16) (k : Fin 9) (j : Fin 128) :
    log9_6 h w (ix2 k j) = ∑ x : Fin 128, w (ix3 0 k x) * h (ix2 ⟨128 * 6 + x.val, by omega⟩ j) := by
  pointwise [log9_6]
theorem dist9_7_apply (T : FVec Ideal S12x9x128 .f32) (k : Fin 9) (h : Fin 128) : dist9_7 T (ix2 k h) = T (ix3 7 k h) := by
  pointwise [dist9_7]
theorem log9_7_apply (h : FVec Ideal S1536x128 .bf16) (w : Vec Ideal S1x9x128 .bf16) (k : Fin 9) (j : Fin 128) :
    log9_7 h w (ix2 k j) = ∑ x : Fin 128, w (ix3 0 k x) * h (ix2 ⟨128 * 7 + x.val, by omega⟩ j) := by
  pointwise [log9_7]
theorem dist9_8_apply (T : FVec Ideal S12x9x128 .f32) (k : Fin 9) (h : Fin 128) : dist9_8 T (ix2 k h) = T (ix3 8 k h) := by
  pointwise [dist9_8]
theorem log9_8_apply (h : FVec Ideal S1536x128 .bf16) (w : Vec Ideal S1x9x128 .bf16) (k : Fin 9) (j : Fin 128) :
    log9_8 h w (ix2 k j) = ∑ x : Fin 128, w (ix3 0 k x) * h (ix2 ⟨128 * 8 + x.val, by omega⟩ j) := by
  pointwise [log9_8]
theorem dist9_9_apply (T : FVec Ideal S12x9x128 .f32) (k : Fin 9) (h : Fin 128) : dist9_9 T (ix2 k h) = T (ix3 9 k h) := by
  pointwise [dist9_9]
theorem log9_9_apply (h : FVec Ideal S1536x128 .bf16) (w : Vec Ideal S1x9x128 .bf16) (k : Fin 9) (j : Fin 128) :
    log9_9 h w (ix2 k j) = ∑ x : Fin 128, w (ix3 0 k x) * h (ix2 ⟨128 * 9 + x.val, by omega⟩ j) := by
  pointwise [log9_9]
theorem dist9_10_apply (T : FVec Ideal S12x9x128 .f32) (k : Fin 9) (h : Fin 128) : dist9_10 T (ix2 k h) = T (ix3 10 k h) := by
  pointwise [dist9_10]
theorem log9_10_apply (h : FVec Ideal S1536x128 .bf16) (w : Vec Ideal S1x9x128 .bf16) (k : Fin 9) (j : Fin 128) :
    log9_10 h w (ix2 k j) = ∑ x : Fin 128, w (ix3 0 k x) * h (ix2 ⟨128 * 10 + x.val, by omega⟩ j) := by
  pointwise [log9_10]
theorem dist9_11_apply (T : FVec Ideal S12x9x128 .f32) (k : Fin 9) (h : Fin 128) : dist9_11 T (ix2 k h) = T (ix3 11 k h) := by
  pointwise [dist9_11]
theorem log9_11_apply (h : FVec Ideal S1536x128 .bf16) (w : Vec Ideal S1x9x128 .bf16) (k : Fin 9) (j : Fin 128) :
    log9_11 h w (ix2 k j) = ∑ x : Fin 128, w (ix3 0 k x) * h (ix2 ⟨128 * 11 + x.val, by omega⟩ j) := by
  pointwise [log9_11]

theorem steps9_apply (T : FVec Ideal S12x9x128 .f32) (a : FVec Ideal S9x128 .f32) (k : Fin 9) (h : Fin 128) :
    steps9 T a (ix2 k h) = steps (fun i k => T (ix3 i k h)) (fun k => a (ix2 k h)) k := by
  unfold steps9 pre9_11 pre9_10 pre9_9 pre9_8 pre9_7 pre9_6 pre9_5 pre9_4 pre9_3 pre9_2 pre9_1 pre9_0 steps
  simp only [conv9_apply, dist9_0_apply, dist9_1_apply, dist9_2_apply, dist9_3_apply, dist9_4_apply, dist9_5_apply, dist9_6_apply, dist9_7_apply, dist9_8_apply, dist9_9_apply, dist9_10_apply, dist9_11_apply]

theorem soft9_apply (l : FVec Ideal S108x128 .f32) (i : Fin 12) (k : Fin 9) (h : Fin 128) :
    soft9 l (ix3 i k h) = soft (fun x : Fin 9 => l (ix2 ⟨i.val * 9 + x.val, by omega⟩ h)) k := by
  unfold soft top
  pointwise [soft9]

theorem nest9 (p : Fin 12 → Fin 9 → EReal) (r : ℕ) (hr : r < 108) :
    (if h0 : r < 9 then p 0 ⟨r, by omega⟩ else if h1 : r - 9 < 9 then p 1 ⟨r - 9, by omega⟩ else if h2 : r - 9 - 9 < 9 then p 2 ⟨r - 9 - 9, by omega⟩ else if h3 : r - 9 - 9 - 9 < 9 then p 3 ⟨r - 9 - 9 - 9, by omega⟩ else if h4 : r - 9 - 9 - 9 - 9 < 9 then p 4 ⟨r - 9 - 9 - 9 - 9, by omega⟩ else if h5 : r - 9 - 9 - 9 - 9 - 9 < 9 then p 5 ⟨r - 9 - 9 - 9 - 9 - 9, by omega⟩ else if h6 : r - 9 - 9 - 9 - 9 - 9 - 9 < 9 then p 6 ⟨r - 9 - 9 - 9 - 9 - 9 - 9, by omega⟩ else if h7 : r - 9 - 9 - 9 - 9 - 9 - 9 - 9 < 9 then p 7 ⟨r - 9 - 9 - 9 - 9 - 9 - 9 - 9, by omega⟩ else if h8 : r - 9 - 9 - 9 - 9 - 9 - 9 - 9 - 9 < 9 then p 8 ⟨r - 9 - 9 - 9 - 9 - 9 - 9 - 9 - 9, by omega⟩ else if h9 : r - 9 - 9 - 9 - 9 - 9 - 9 - 9 - 9 - 9 < 9 then p 9 ⟨r - 9 - 9 - 9 - 9 - 9 - 9 - 9 - 9 - 9, by omega⟩ else if h10 : r - 9 - 9 - 9 - 9 - 9 - 9 - 9 - 9 - 9 - 9 < 9 then p 10 ⟨r - 9 - 9 - 9 - 9 - 9 - 9 - 9 - 9 - 9 - 9, by omega⟩ else p 11 ⟨r - 9 - 9 - 9 - 9 - 9 - 9 - 9 - 9 - 9 - 9 - 9, by omega⟩)
      = p ⟨r / 9, by omega⟩ ⟨r % 9, by omega⟩ := by
  have key : ∀ (i : Fin 12) (k : Fin 9), i.val = r / 9 → k.val = r % 9 → p i k = p ⟨r / 9, by omega⟩ ⟨r % 9, by omega⟩ := by
    intro i k hi hk
    exact congrArg₂ p (Fin.ext hi) (Fin.ext hk)
  by_cases h0 : r < 9
  · exact (dif_pos h0).trans (key _ _ (by show 0 = r / 9; omega) (by show r = r % 9; omega))
  refine (dif_neg h0).trans ?_
  by_cases h1 : r - 9 < 9
  · exact (dif_pos h1).trans (key _ _ (by show 1 = r / 9; omega) (by show r - 9 = r % 9; omega))
  refine (dif_neg h1).trans ?_
  by_cases h2 : r - 9 - 9 < 9
  · exact (dif_pos h2).trans (key _ _ (by show 2 = r / 9; omega) (by show r - 9 - 9 = r % 9; omega))
  refine (dif_neg h2).trans ?_
  by_cases h3 : r - 9 - 9 - 9 < 9
  · exact (dif_pos h3).trans (key _ _ (by show 3 = r / 9; omega) (by show r - 9 - 9 - 9 = r % 9; omega))
  refine (dif_neg h3).trans ?_
  by_cases h4 : r - 9 - 9 - 9 - 9 < 9
  · exact (dif_pos h4).trans (key _ _ (by show 4 = r / 9; omega) (by show r - 9 - 9 - 9 - 9 = r % 9; omega))
  refine (dif_neg h4).trans ?_
  by_cases h5 : r - 9 - 9 - 9 - 9 - 9 < 9
  · exact (dif_pos h5).trans (key _ _ (by show 5 = r / 9; omega) (by show r - 9 - 9 - 9 - 9 - 9 = r % 9; omega))
  refine (dif_neg h5).trans ?_
  by_cases h6 : r - 9 - 9 - 9 - 9 - 9 - 9 < 9
  · exact (dif_pos h6).trans (key _ _ (by show 6 = r / 9; omega) (by show r - 9 - 9 - 9 - 9 - 9 - 9 = r % 9; omega))
  refine (dif_neg h6).trans ?_
  by_cases h7 : r - 9 - 9 - 9 - 9 - 9 - 9 - 9 < 9
  · exact (dif_pos h7).trans (key _ _ (by show 7 = r / 9; omega) (by show r - 9 - 9 - 9 - 9 - 9 - 9 - 9 = r % 9; omega))
  refine (dif_neg h7).trans ?_
  by_cases h8 : r - 9 - 9 - 9 - 9 - 9 - 9 - 9 - 9 < 9
  · exact (dif_pos h8).trans (key _ _ (by show 8 = r / 9; omega) (by show r - 9 - 9 - 9 - 9 - 9 - 9 - 9 - 9 = r % 9; omega))
  refine (dif_neg h8).trans ?_
  by_cases h9 : r - 9 - 9 - 9 - 9 - 9 - 9 - 9 - 9 - 9 < 9
  · exact (dif_pos h9).trans (key _ _ (by show 9 = r / 9; omega) (by show r - 9 - 9 - 9 - 9 - 9 - 9 - 9 - 9 - 9 = r % 9; omega))
  refine (dif_neg h9).trans ?_
  by_cases h10 : r - 9 - 9 - 9 - 9 - 9 - 9 - 9 - 9 - 9 - 9 < 9
  · exact (dif_pos h10).trans (key _ _ (by show 10 = r / 9; omega) (by show r - 9 - 9 - 9 - 9 - 9 - 9 - 9 - 9 - 9 - 9 = r % 9; omega))
  refine (dif_neg h10).trans ?_
  exact key _ _ (by show 11 = r / 9; omega) (by show r - 9 - 9 - 9 - 9 - 9 - 9 - 9 - 9 - 9 - 9 - 9 = r % 9; omega)

theorem logits9_apply (h : FVec Ideal S1536x128 .bf16) (w : Fin 12 → Vec Ideal S1x9x128 .bf16) (b : Vec Ideal S108x1 .f32)
    (i : Fin 12) (k : Fin 9) (j : Fin 128) :
    logits9 h (w 0) (w 1) (w 2) (w 3) (w 4) (w 5) (w 6) (w 7) (w 8) (w 9) (w 10) (w 11) b (ix2 ⟨i.val * 9 + k.val, by omega⟩ j)
      = (∑ x : Fin 128, w i (ix3 0 k x) * h (ix2 ⟨128 * i.val + x.val, by omega⟩ j)) + b (ix2 ⟨i.val * 9 + k.val, by omega⟩ 0) := by
  have key : ∀ (r : Fin 108), logits9 h (w 0) (w 1) (w 2) (w 3) (w 4) (w 5) (w 6) (w 7) (w 8) (w 9) (w 10) (w 11) b (ix2 r j)
      = (∑ x : Fin 128, w ⟨r.val / 9, by omega⟩ (ix3 0 ⟨r.val % 9, by omega⟩ x) * h (ix2 ⟨128 * (r.val / 9) + x.val, by omega⟩ j)) + b (ix2 r 0) := by
    intro r
    pointwise [logits9]
    refine congrArg (· + _) ((nest9 (fun i k => (![log9_0 h (w 0), log9_1 h (w 1), log9_2 h (w 2), log9_3 h (w 3), log9_4 h (w 4), log9_5 h (w 5), log9_6 h (w 6), log9_7 h (w 7), log9_8 h (w 8), log9_9 h (w 9), log9_10 h (w 10), log9_11 h (w 11)] : Fin 12 → FVec Ideal S9x128 .f32) i (ix2 k j)) r.val r.isLt).trans ?_)
    have e : ∀ (i : Fin 12) (k : Fin 9), (![log9_0 h (w 0), log9_1 h (w 1), log9_2 h (w 2), log9_3 h (w 3), log9_4 h (w 4), log9_5 h (w 5), log9_6 h (w 6), log9_7 h (w 7), log9_8 h (w 8), log9_9 h (w 9), log9_10 h (w 10), log9_11 h (w 11)] : Fin 12 → FVec Ideal S9x128 .f32) i (ix2 k j) = ∑ x : Fin 128, w i (ix3 0 k x) * h (ix2 ⟨128 * i.val + x.val, by omega⟩ j) := by
      intro i k
      match i with
      | ⟨0, _⟩ => exact log9_0_apply h (w 0) k j
      | ⟨1, _⟩ => exact log9_1_apply h (w 1) k j
      | ⟨2, _⟩ => exact log9_2_apply h (w 2) k j
      | ⟨3, _⟩ => exact log9_3_apply h (w 3) k j
      | ⟨4, _⟩ => exact log9_4_apply h (w 4) k j
      | ⟨5, _⟩ => exact log9_5_apply h (w 5) k j
      | ⟨6, _⟩ => exact log9_6_apply h (w 6) k j
      | ⟨7, _⟩ => exact log9_7_apply h (w 7) k j
      | ⟨8, _⟩ => exact log9_8_apply h (w 8) k j
      | ⟨9, _⟩ => exact log9_9_apply h (w 9) k j
      | ⟨10, _⟩ => exact log9_10_apply h (w 10) k j
      | ⟨11, _⟩ => exact log9_11_apply h (w 11) k j
    exact e _ _
  rw [key]
  refine congrArg (· + _) ?_
  have e : ∀ (i' : Fin 12) (k' : Fin 9), i' = i → k' = k →
      (∑ x : Fin 128, w i' (ix3 0 k' x) * h (ix2 ⟨128 * i'.val + x.val, by omega⟩ j)) = ∑ x : Fin 128, w i (ix3 0 k x) * h (ix2 ⟨128 * i.val + x.val, by omega⟩ j) := by
    intro i' k' hi hk; subst hi hk; rfl
  exact e _ _ (Fin.ext (by show (i.val * 9 + k.val) / 9 = i.val; omega)) (Fin.ext (by show (i.val * 9 + k.val) % 9 = k.val; omega))

theorem conv4_apply (a t : FVec Ideal S4x496 .f32) (k : Fin 4) (h : Fin 496) :
    conv4 a t (ix2 k h) = conv (fun k => a (ix2 k h)) (fun k => t (ix2 k h)) k := by
  unfold conv
  match k with
  | ⟨0, _⟩ | ⟨1, _⟩ | ⟨2, _⟩ | ⟨3, _⟩ =>
    pointwise [conv4, sum4_0, term4_0, sum4_1, term4_1, sum4_2, term4_2, sum4_3, term4_3]
    simp [Fin.sum_univ_succ, add_assoc]
    try rfl
theorem dist4_0_apply (T : FVec Ideal S12x4x496 .f32) (k : Fin 4) (h : Fin 496) : dist4_0 T (ix2 k h) = T (ix3 0 k h) := by
  pointwise [dist4_0]
theorem log4_0_apply (h : FVec Ideal S1536x496 .bf16) (w : Vec Ideal S1x4x128 .bf16) (k : Fin 4) (j : Fin 496) :
    log4_0 h w (ix2 k j) = ∑ x : Fin 128, w (ix3 0 k x) * h (ix2 ⟨128 * 0 + x.val, by omega⟩ j) := by
  pointwise [log4_0]
theorem dist4_1_apply (T : FVec Ideal S12x4x496 .f32) (k : Fin 4) (h : Fin 496) : dist4_1 T (ix2 k h) = T (ix3 1 k h) := by
  pointwise [dist4_1]
theorem log4_1_apply (h : FVec Ideal S1536x496 .bf16) (w : Vec Ideal S1x4x128 .bf16) (k : Fin 4) (j : Fin 496) :
    log4_1 h w (ix2 k j) = ∑ x : Fin 128, w (ix3 0 k x) * h (ix2 ⟨128 * 1 + x.val, by omega⟩ j) := by
  pointwise [log4_1]
theorem dist4_2_apply (T : FVec Ideal S12x4x496 .f32) (k : Fin 4) (h : Fin 496) : dist4_2 T (ix2 k h) = T (ix3 2 k h) := by
  pointwise [dist4_2]
theorem log4_2_apply (h : FVec Ideal S1536x496 .bf16) (w : Vec Ideal S1x4x128 .bf16) (k : Fin 4) (j : Fin 496) :
    log4_2 h w (ix2 k j) = ∑ x : Fin 128, w (ix3 0 k x) * h (ix2 ⟨128 * 2 + x.val, by omega⟩ j) := by
  pointwise [log4_2]
theorem dist4_3_apply (T : FVec Ideal S12x4x496 .f32) (k : Fin 4) (h : Fin 496) : dist4_3 T (ix2 k h) = T (ix3 3 k h) := by
  pointwise [dist4_3]
theorem log4_3_apply (h : FVec Ideal S1536x496 .bf16) (w : Vec Ideal S1x4x128 .bf16) (k : Fin 4) (j : Fin 496) :
    log4_3 h w (ix2 k j) = ∑ x : Fin 128, w (ix3 0 k x) * h (ix2 ⟨128 * 3 + x.val, by omega⟩ j) := by
  pointwise [log4_3]
theorem dist4_4_apply (T : FVec Ideal S12x4x496 .f32) (k : Fin 4) (h : Fin 496) : dist4_4 T (ix2 k h) = T (ix3 4 k h) := by
  pointwise [dist4_4]
theorem log4_4_apply (h : FVec Ideal S1536x496 .bf16) (w : Vec Ideal S1x4x128 .bf16) (k : Fin 4) (j : Fin 496) :
    log4_4 h w (ix2 k j) = ∑ x : Fin 128, w (ix3 0 k x) * h (ix2 ⟨128 * 4 + x.val, by omega⟩ j) := by
  pointwise [log4_4]
theorem dist4_5_apply (T : FVec Ideal S12x4x496 .f32) (k : Fin 4) (h : Fin 496) : dist4_5 T (ix2 k h) = T (ix3 5 k h) := by
  pointwise [dist4_5]
theorem log4_5_apply (h : FVec Ideal S1536x496 .bf16) (w : Vec Ideal S1x4x128 .bf16) (k : Fin 4) (j : Fin 496) :
    log4_5 h w (ix2 k j) = ∑ x : Fin 128, w (ix3 0 k x) * h (ix2 ⟨128 * 5 + x.val, by omega⟩ j) := by
  pointwise [log4_5]
theorem dist4_6_apply (T : FVec Ideal S12x4x496 .f32) (k : Fin 4) (h : Fin 496) : dist4_6 T (ix2 k h) = T (ix3 6 k h) := by
  pointwise [dist4_6]
theorem log4_6_apply (h : FVec Ideal S1536x496 .bf16) (w : Vec Ideal S1x4x128 .bf16) (k : Fin 4) (j : Fin 496) :
    log4_6 h w (ix2 k j) = ∑ x : Fin 128, w (ix3 0 k x) * h (ix2 ⟨128 * 6 + x.val, by omega⟩ j) := by
  pointwise [log4_6]
theorem dist4_7_apply (T : FVec Ideal S12x4x496 .f32) (k : Fin 4) (h : Fin 496) : dist4_7 T (ix2 k h) = T (ix3 7 k h) := by
  pointwise [dist4_7]
theorem log4_7_apply (h : FVec Ideal S1536x496 .bf16) (w : Vec Ideal S1x4x128 .bf16) (k : Fin 4) (j : Fin 496) :
    log4_7 h w (ix2 k j) = ∑ x : Fin 128, w (ix3 0 k x) * h (ix2 ⟨128 * 7 + x.val, by omega⟩ j) := by
  pointwise [log4_7]
theorem dist4_8_apply (T : FVec Ideal S12x4x496 .f32) (k : Fin 4) (h : Fin 496) : dist4_8 T (ix2 k h) = T (ix3 8 k h) := by
  pointwise [dist4_8]
theorem log4_8_apply (h : FVec Ideal S1536x496 .bf16) (w : Vec Ideal S1x4x128 .bf16) (k : Fin 4) (j : Fin 496) :
    log4_8 h w (ix2 k j) = ∑ x : Fin 128, w (ix3 0 k x) * h (ix2 ⟨128 * 8 + x.val, by omega⟩ j) := by
  pointwise [log4_8]
theorem dist4_9_apply (T : FVec Ideal S12x4x496 .f32) (k : Fin 4) (h : Fin 496) : dist4_9 T (ix2 k h) = T (ix3 9 k h) := by
  pointwise [dist4_9]
theorem log4_9_apply (h : FVec Ideal S1536x496 .bf16) (w : Vec Ideal S1x4x128 .bf16) (k : Fin 4) (j : Fin 496) :
    log4_9 h w (ix2 k j) = ∑ x : Fin 128, w (ix3 0 k x) * h (ix2 ⟨128 * 9 + x.val, by omega⟩ j) := by
  pointwise [log4_9]
theorem dist4_10_apply (T : FVec Ideal S12x4x496 .f32) (k : Fin 4) (h : Fin 496) : dist4_10 T (ix2 k h) = T (ix3 10 k h) := by
  pointwise [dist4_10]
theorem log4_10_apply (h : FVec Ideal S1536x496 .bf16) (w : Vec Ideal S1x4x128 .bf16) (k : Fin 4) (j : Fin 496) :
    log4_10 h w (ix2 k j) = ∑ x : Fin 128, w (ix3 0 k x) * h (ix2 ⟨128 * 10 + x.val, by omega⟩ j) := by
  pointwise [log4_10]
theorem dist4_11_apply (T : FVec Ideal S12x4x496 .f32) (k : Fin 4) (h : Fin 496) : dist4_11 T (ix2 k h) = T (ix3 11 k h) := by
  pointwise [dist4_11]
theorem log4_11_apply (h : FVec Ideal S1536x496 .bf16) (w : Vec Ideal S1x4x128 .bf16) (k : Fin 4) (j : Fin 496) :
    log4_11 h w (ix2 k j) = ∑ x : Fin 128, w (ix3 0 k x) * h (ix2 ⟨128 * 11 + x.val, by omega⟩ j) := by
  pointwise [log4_11]

theorem steps4_apply (T : FVec Ideal S12x4x496 .f32) (a : FVec Ideal S4x496 .f32) (k : Fin 4) (h : Fin 496) :
    steps4 T a (ix2 k h) = steps (fun i k => T (ix3 i k h)) (fun k => a (ix2 k h)) k := by
  unfold steps4 pre4_11 pre4_10 pre4_9 pre4_8 pre4_7 pre4_6 pre4_5 pre4_4 pre4_3 pre4_2 pre4_1 pre4_0 steps
  simp only [conv4_apply, dist4_0_apply, dist4_1_apply, dist4_2_apply, dist4_3_apply, dist4_4_apply, dist4_5_apply, dist4_6_apply, dist4_7_apply, dist4_8_apply, dist4_9_apply, dist4_10_apply, dist4_11_apply]

theorem soft4_apply (l : FVec Ideal S48x496 .f32) (i : Fin 12) (k : Fin 4) (h : Fin 496) :
    soft4 l (ix3 i k h) = soft (fun x : Fin 4 => l (ix2 ⟨i.val * 4 + x.val, by omega⟩ h)) k := by
  unfold soft top
  pointwise [soft4]

theorem nest4 (p : Fin 12 → Fin 4 → EReal) (r : ℕ) (hr : r < 48) :
    (if h0 : r < 4 then p 0 ⟨r, by omega⟩ else if h1 : r - 4 < 4 then p 1 ⟨r - 4, by omega⟩ else if h2 : r - 4 - 4 < 4 then p 2 ⟨r - 4 - 4, by omega⟩ else if h3 : r - 4 - 4 - 4 < 4 then p 3 ⟨r - 4 - 4 - 4, by omega⟩ else if h4 : r - 4 - 4 - 4 - 4 < 4 then p 4 ⟨r - 4 - 4 - 4 - 4, by omega⟩ else if h5 : r - 4 - 4 - 4 - 4 - 4 < 4 then p 5 ⟨r - 4 - 4 - 4 - 4 - 4, by omega⟩ else if h6 : r - 4 - 4 - 4 - 4 - 4 - 4 < 4 then p 6 ⟨r - 4 - 4 - 4 - 4 - 4 - 4, by omega⟩ else if h7 : r - 4 - 4 - 4 - 4 - 4 - 4 - 4 < 4 then p 7 ⟨r - 4 - 4 - 4 - 4 - 4 - 4 - 4, by omega⟩ else if h8 : r - 4 - 4 - 4 - 4 - 4 - 4 - 4 - 4 < 4 then p 8 ⟨r - 4 - 4 - 4 - 4 - 4 - 4 - 4 - 4, by omega⟩ else if h9 : r - 4 - 4 - 4 - 4 - 4 - 4 - 4 - 4 - 4 < 4 then p 9 ⟨r - 4 - 4 - 4 - 4 - 4 - 4 - 4 - 4 - 4, by omega⟩ else if h10 : r - 4 - 4 - 4 - 4 - 4 - 4 - 4 - 4 - 4 - 4 < 4 then p 10 ⟨r - 4 - 4 - 4 - 4 - 4 - 4 - 4 - 4 - 4 - 4, by omega⟩ else p 11 ⟨r - 4 - 4 - 4 - 4 - 4 - 4 - 4 - 4 - 4 - 4 - 4, by omega⟩)
      = p ⟨r / 4, by omega⟩ ⟨r % 4, by omega⟩ := by
  have key : ∀ (i : Fin 12) (k : Fin 4), i.val = r / 4 → k.val = r % 4 → p i k = p ⟨r / 4, by omega⟩ ⟨r % 4, by omega⟩ := by
    intro i k hi hk
    exact congrArg₂ p (Fin.ext hi) (Fin.ext hk)
  by_cases h0 : r < 4
  · exact (dif_pos h0).trans (key _ _ (by show 0 = r / 4; omega) (by show r = r % 4; omega))
  refine (dif_neg h0).trans ?_
  by_cases h1 : r - 4 < 4
  · exact (dif_pos h1).trans (key _ _ (by show 1 = r / 4; omega) (by show r - 4 = r % 4; omega))
  refine (dif_neg h1).trans ?_
  by_cases h2 : r - 4 - 4 < 4
  · exact (dif_pos h2).trans (key _ _ (by show 2 = r / 4; omega) (by show r - 4 - 4 = r % 4; omega))
  refine (dif_neg h2).trans ?_
  by_cases h3 : r - 4 - 4 - 4 < 4
  · exact (dif_pos h3).trans (key _ _ (by show 3 = r / 4; omega) (by show r - 4 - 4 - 4 = r % 4; omega))
  refine (dif_neg h3).trans ?_
  by_cases h4 : r - 4 - 4 - 4 - 4 < 4
  · exact (dif_pos h4).trans (key _ _ (by show 4 = r / 4; omega) (by show r - 4 - 4 - 4 - 4 = r % 4; omega))
  refine (dif_neg h4).trans ?_
  by_cases h5 : r - 4 - 4 - 4 - 4 - 4 < 4
  · exact (dif_pos h5).trans (key _ _ (by show 5 = r / 4; omega) (by show r - 4 - 4 - 4 - 4 - 4 = r % 4; omega))
  refine (dif_neg h5).trans ?_
  by_cases h6 : r - 4 - 4 - 4 - 4 - 4 - 4 < 4
  · exact (dif_pos h6).trans (key _ _ (by show 6 = r / 4; omega) (by show r - 4 - 4 - 4 - 4 - 4 - 4 = r % 4; omega))
  refine (dif_neg h6).trans ?_
  by_cases h7 : r - 4 - 4 - 4 - 4 - 4 - 4 - 4 < 4
  · exact (dif_pos h7).trans (key _ _ (by show 7 = r / 4; omega) (by show r - 4 - 4 - 4 - 4 - 4 - 4 - 4 = r % 4; omega))
  refine (dif_neg h7).trans ?_
  by_cases h8 : r - 4 - 4 - 4 - 4 - 4 - 4 - 4 - 4 < 4
  · exact (dif_pos h8).trans (key _ _ (by show 8 = r / 4; omega) (by show r - 4 - 4 - 4 - 4 - 4 - 4 - 4 - 4 = r % 4; omega))
  refine (dif_neg h8).trans ?_
  by_cases h9 : r - 4 - 4 - 4 - 4 - 4 - 4 - 4 - 4 - 4 < 4
  · exact (dif_pos h9).trans (key _ _ (by show 9 = r / 4; omega) (by show r - 4 - 4 - 4 - 4 - 4 - 4 - 4 - 4 - 4 = r % 4; omega))
  refine (dif_neg h9).trans ?_
  by_cases h10 : r - 4 - 4 - 4 - 4 - 4 - 4 - 4 - 4 - 4 - 4 < 4
  · exact (dif_pos h10).trans (key _ _ (by show 10 = r / 4; omega) (by show r - 4 - 4 - 4 - 4 - 4 - 4 - 4 - 4 - 4 - 4 = r % 4; omega))
  refine (dif_neg h10).trans ?_
  exact key _ _ (by show 11 = r / 4; omega) (by show r - 4 - 4 - 4 - 4 - 4 - 4 - 4 - 4 - 4 - 4 - 4 = r % 4; omega)

theorem logits4_apply (h : FVec Ideal S1536x496 .bf16) (w : Fin 12 → Vec Ideal S1x4x128 .bf16) (b : Vec Ideal S48x1 .f32)
    (i : Fin 12) (k : Fin 4) (j : Fin 496) :
    logits4 h (w 0) (w 1) (w 2) (w 3) (w 4) (w 5) (w 6) (w 7) (w 8) (w 9) (w 10) (w 11) b (ix2 ⟨i.val * 4 + k.val, by omega⟩ j)
      = (∑ x : Fin 128, w i (ix3 0 k x) * h (ix2 ⟨128 * i.val + x.val, by omega⟩ j)) + b (ix2 ⟨i.val * 4 + k.val, by omega⟩ 0) := by
  have key : ∀ (r : Fin 48), logits4 h (w 0) (w 1) (w 2) (w 3) (w 4) (w 5) (w 6) (w 7) (w 8) (w 9) (w 10) (w 11) b (ix2 r j)
      = (∑ x : Fin 128, w ⟨r.val / 4, by omega⟩ (ix3 0 ⟨r.val % 4, by omega⟩ x) * h (ix2 ⟨128 * (r.val / 4) + x.val, by omega⟩ j)) + b (ix2 r 0) := by
    intro r
    pointwise [logits4]
    refine congrArg (· + _) ((nest4 (fun i k => (![log4_0 h (w 0), log4_1 h (w 1), log4_2 h (w 2), log4_3 h (w 3), log4_4 h (w 4), log4_5 h (w 5), log4_6 h (w 6), log4_7 h (w 7), log4_8 h (w 8), log4_9 h (w 9), log4_10 h (w 10), log4_11 h (w 11)] : Fin 12 → FVec Ideal S4x496 .f32) i (ix2 k j)) r.val r.isLt).trans ?_)
    have e : ∀ (i : Fin 12) (k : Fin 4), (![log4_0 h (w 0), log4_1 h (w 1), log4_2 h (w 2), log4_3 h (w 3), log4_4 h (w 4), log4_5 h (w 5), log4_6 h (w 6), log4_7 h (w 7), log4_8 h (w 8), log4_9 h (w 9), log4_10 h (w 10), log4_11 h (w 11)] : Fin 12 → FVec Ideal S4x496 .f32) i (ix2 k j) = ∑ x : Fin 128, w i (ix3 0 k x) * h (ix2 ⟨128 * i.val + x.val, by omega⟩ j) := by
      intro i k
      match i with
      | ⟨0, _⟩ => exact log4_0_apply h (w 0) k j
      | ⟨1, _⟩ => exact log4_1_apply h (w 1) k j
      | ⟨2, _⟩ => exact log4_2_apply h (w 2) k j
      | ⟨3, _⟩ => exact log4_3_apply h (w 3) k j
      | ⟨4, _⟩ => exact log4_4_apply h (w 4) k j
      | ⟨5, _⟩ => exact log4_5_apply h (w 5) k j
      | ⟨6, _⟩ => exact log4_6_apply h (w 6) k j
      | ⟨7, _⟩ => exact log4_7_apply h (w 7) k j
      | ⟨8, _⟩ => exact log4_8_apply h (w 8) k j
      | ⟨9, _⟩ => exact log4_9_apply h (w 9) k j
      | ⟨10, _⟩ => exact log4_10_apply h (w 10) k j
      | ⟨11, _⟩ => exact log4_11_apply h (w 11) k j
    exact e _ _
  rw [key]
  refine congrArg (· + _) ?_
  have e : ∀ (i' : Fin 12) (k' : Fin 4), i' = i → k' = k →
      (∑ x : Fin 128, w i' (ix3 0 k' x) * h (ix2 ⟨128 * i'.val + x.val, by omega⟩ j)) = ∑ x : Fin 128, w i (ix3 0 k x) * h (ix2 ⟨128 * i.val + x.val, by omega⟩ j) := by
    intro i' k' hi hk; subst hi hk; rfl
  exact e _ _ (Fin.ext (by show (i.val * 4 + k.val) / 4 = i.val; omega)) (Fin.ext (by show (i.val * 4 + k.val) % 4 = k.val; omega))

theorem pay6_apply (s0 s1 g : Vec Ideal S1x128 .f32) (j : Fin 128) : k0_pay6 s0 s1 g (ix2 j 0) = scaleOf (s0 (ix2 0 j)) (s1 (ix2 0 j)) (g (ix2 0 j)) := by
  unfold scaleOf
  pointwise [k0_pay6, k0_pay4, k0_pay3]
theorem pay7_apply (s0 s1 g be : Vec Ideal S1x128 .f32) (j : Fin 128) :
    k0_pay7 s0 s1 g be (ix2 j 0) = shiftOf (s0 (ix2 0 j)) (s1 (ix2 0 j)) (g (ix2 0 j)) (be (ix2 0 j)) := by
  unfold shiftOf scaleOf
  pointwise [k0_pay7, k0_pay5, k0_pay4, k0_pay3]
theorem pay8_apply (s0 s1 g be : Vec Ideal S1x128 .f32) (j : Fin 128) :
    k0_pay8 s0 s1 g be (ix2 j 0) = Ideal.ofBits .f32 1107296256#32 * shiftOf (s0 (ix2 0 j)) (s1 (ix2 0 j)) (g (ix2 0 j)) (be (ix2 0 j)) := by
  unfold shiftOf scaleOf
  pointwise [k0_pay8, k0_pay5, k0_pay4, k0_pay3]
theorem pay10_apply (s0 s1 g be : Vec Ideal S1x128 .f32) (gen : Vec Ideal S4x32x128 .f32) (ww : Vec Ideal S1536x128 .bf16) (k : Fin 1536) (j : Fin 128) :
    k0_pay10 s0 s1 g be gen ww (ix2 k j)
      = ∑ x : Fin 128, ww (ix2 k x) * (gen (ix3 ⟨j.val / 32, by omega⟩ ⟨j.val % 32, by omega⟩ x) * k0_pay6 s0 s1 g (ix2 x 0) + k0_pay8 s0 s1 g be (ix2 x 0)) := by
  pointwise [k0_pay10]
theorem pay11_apply (v : FVec Ideal S1536x128 .f32) (b : Vec Ideal S1536x1 .f32) (k : Fin 1536) (j : Fin 128) :
    k0_pay11 v b (ix2 k j) = Ideal.tanh (v (ix2 k j) + b (ix2 k 0)) := by
  pointwise [k0_pay11]
theorem pay9_apply (v : Vec Ideal S128x9 .f32) (k : Fin 9) (j : Fin 128) : k0_pay9 v (ix2 k j) = v (ix2 j k) := by
  pointwise [k0_pay9]
theorem pay76_apply (v : Vec Ideal S1x496x4 .f32) (k : Fin 4) (j : Fin 496) : k0_pay76 v (ix2 k j) = v (ix3 0 j k) := by
  pointwise [k0_pay76]
theorem pay77_apply (v402 v403 v404 : FVec Ideal S128x1 .f32) (gen : Vec Ideal S1x496x384 .f32) (ww : Vec Ideal S1536x384 .bf16) (b : Vec Ideal S1536x1 .f32) (k : Fin 1536) (j : Fin 496) :
    k0_pay77 v402 v403 v404 gen ww b (ix2 k j)
      = Ideal.tanh ((∑ x : Fin 384, ww (ix2 k x) * (gen (ix3 0 j x) * k0_pay74 v402 (ix2 x 0) + k0_pay75 v403 v404 (ix2 x 0))) + b (ix2 k 0)) := by
  pointwise [k0_pay77]
theorem pay74_apply (a : FVec Ideal S128x1 .f32) (r : Fin 384) : k0_pay74 a (ix2 r 0) = a (ix2 ⟨r.val % 128, by omega⟩ 0) := by
  pointwise [k0_pay74]
  split_ifs
  all_goals exact congrArg (fun q => a (ix2 q 0)) (Fin.ext (by first | (show r.val = r.val % 128; omega) | (show r.val - 128 = r.val % 128; omega) | (show r.val - 128 - 128 = r.val % 128; omega)))
theorem pay75_apply (a b : FVec Ideal S128x1 .f32) (r : Fin 384) :
    k0_pay75 a b (ix2 r 0) = if r.val < 256 then a (ix2 ⟨r.val % 128, by omega⟩ 0) else b (ix2 ⟨r.val % 128, by omega⟩ 0) := by
  by_cases h : r.val < 256
  · rw [if_pos h]
    pointwise [k0_pay75]
    split_ifs
    all_goals first | (exfalso; omega) | exact congrArg (fun q => a (ix2 q 0)) (Fin.ext (by first | (show r.val = r.val % 128; omega) | (show r.val - 128 = r.val % 128; omega) | (show r.val - 128 - 128 = r.val % 128; omega)))
  · rw [if_neg h]
    pointwise [k0_pay75]
    split_ifs
    all_goals first | (exfalso; omega) | exact congrArg (fun q => b (ix2 q 0)) (Fin.ext (by first | (show r.val = r.val % 128; omega) | (show r.val - 128 = r.val % 128; omega) | (show r.val - 128 - 128 = r.val % 128; omega)))

/-- One row of the first result, as the last point stores it. -/
theorem nodesOf_apply (s0 s1 g be : Vec Ideal S1x128 .f32) (gen : Vec Ideal S4x32x128 .f32) (xq : Vec Ideal S128x9 .f32) (ww : Vec Ideal S1536x128 .bf16) (b1 : Vec Ideal S1536x1 .f32)
    (w : Fin 12 → Vec Ideal S1x9x128 .bf16) (b2 : Vec Ideal S108x1 .f32) (j : Fin 128) (k : Fin 9) :
    nodesOf s0 s1 g be gen xq ww b1 (w 0) (w 1) (w 2) (w 3) (w 4) (w 5) (w 6) (w 7) (w 8) (w 9) (w 10) (w 11) b2 (ix2 j k)
      = flow (fun i x d => ww (ix2 ⟨128 * i.val + x.val, by omega⟩ d)) (fun i x => b1 (ix2 ⟨128 * i.val + x.val, by omega⟩ 0))
          (fun i k x => w i (ix3 0 k x)) (fun i k => b2 (ix2 ⟨i.val * 9 + k.val, by omega⟩ 0))
          (fun d => gen (ix3 ⟨j.val / 32, by omega⟩ ⟨j.val % 32, by omega⟩ d) * scaleOf (s0 (ix2 0 d)) (s1 (ix2 0 d)) (g (ix2 0 d))
            + Ideal.ofBits .f32 1107296256#32 * shiftOf (s0 (ix2 0 d)) (s1 (ix2 0 d)) (g (ix2 0 d)) (be (ix2 0 d)))
          (fun k => xq (ix2 j k)) k := by
  have h : ∀ (T : FVec Ideal S12x9x128 .f32) (a : FVec Ideal S9x128 .f32),
      (transpose S128x9 [1, 0] (steps9 T a) transposes_S9x128_p1_0_S128x9) (ix2 j k) = steps9 T a (ix2 k j) := by
    intro T a
    pointwise []
  unfold nodesOf
  rw [h, steps9_apply]
  unfold flow
  simp only [soft9_apply, logits9_apply, pay11_apply, pay10_apply, pay6_apply, pay8_apply, pay9_apply]
  rfl

/-- One row of the second result, as the last point stores it. -/
theorem edgesOf_apply (s0 s1 g be : Vec Ideal S1x128 .f32) (gen : Vec Ideal S1x496x384 .f32) (aq : Vec Ideal S1x496x4 .f32) (ww : Vec Ideal S1536x384 .bf16) (b1 : Vec Ideal S1536x1 .f32)
    (w : Fin 12 → Vec Ideal S1x4x128 .bf16) (b2 : Vec Ideal S48x1 .f32) (j : Fin 496) (k : Fin 4) :
    edgesOf s0 s1 g be gen aq ww b1 (w 0) (w 1) (w 2) (w 3) (w 4) (w 5) (w 6) (w 7) (w 8) (w 9) (w 10) (w 11) b2 (ix3 0 j k)
      = flow (fun i x d => ww (ix2 ⟨128 * i.val + x.val, by omega⟩ d)) (fun i x => b1 (ix2 ⟨128 * i.val + x.val, by omega⟩ 0))
          (fun i k x => w i (ix3 0 k x)) (fun i k => b2 (ix2 ⟨i.val * 4 + k.val, by omega⟩ 0))
          (fun d : Fin 384 => gen (ix3 0 j d) * (fun h => scaleOf (s0 (ix2 0 h)) (s1 (ix2 0 h)) (g (ix2 0 h))) ⟨d.val % 128, by omega⟩
            + if d.val < 256 then (fun h => shiftOf (s0 (ix2 0 h)) (s1 (ix2 0 h)) (g (ix2 0 h)) (be (ix2 0 h))) ⟨d.val % 128, by omega⟩
              else (fun h => Ideal.ofBits .f32 1107296256#32 * shiftOf (s0 (ix2 0 h)) (s1 (ix2 0 h)) (g (ix2 0 h)) (be (ix2 0 h))) ⟨d.val % 128, by omega⟩)
          (fun k => aq (ix3 0 j k)) k := by
  have h : ∀ (T : FVec Ideal S12x4x496 .f32) (a : FVec Ideal S4x496 .f32),
      (shapeCast S1x496x4 (transpose S496x4 [1, 0] (steps4 T a) transposes_S4x496_p1_0_S496x4) shapeCasts_S496x4_S1x496x4) (ix3 0 j k) = steps4 T a (ix2 k j) := by
    intro T a
    pointwise []
  unfold edgesOf
  rw [h, steps4_apply]
  unfold flow
  simp only [soft4_apply, logits4_apply, pay77_apply, pay74_apply, pay75_apply, pay6_apply, pay7_apply, pay8_apply, pay76_apply]
  rfl
end Cert.KernelIdeal.Flow
-- ==== Proof.KStage.lean ====
/-
  The values the flow steps pass from one to the next, over the distributions and the first buffer.
-/
module

public import proofs.«01_k».proof.Proof.KFlow

@[expose] public section

set_option maxRecDepth 16384
noncomputable section

namespace Cert.KernelIdeal.Flow
open Idealize.ShloMosaic Idealize.ShloMosaic.TcCoe
open Cert.KernelIdeal Cert.KernelIdeal.Gen

variable {F : FTy → Type} [FloatOps F]

def q48 (T : FVec F S12x9x128 .f32) (a : FVec F S9x128 .f32) : FVec F S9x128 .f32 := sum9_7 a (dist9_0 T)
theorem st48 (T : FVec F S12x9x128 .f32) (a : FVec F S9x128 .f32) : k0_pay22 a T = q48 T a := rfl

def q49 (T : FVec F S12x9x128 .f32) (a : FVec F S9x128 .f32) : FVec F S9x128 .f32 := term9_8 a (dist9_0 T)
theorem st49 (T : FVec F S12x9x128 .f32) (a : FVec F S9x128 .f32) : k0_pay23 a T = q49 T a := rfl

def q50 (T : FVec F S12x9x128 .f32) (a : FVec F S9x128 .f32) : FVec F S9x128 .f32 := sum9_7 (pre9_0 T a) (dist9_1 T)
theorem st50 (T : FVec F S12x9x128 .f32) (a : FVec F S9x128 .f32) : k0_pay26 T (q48 T a) (q49 T a) = q50 T a := rfl

def q51 (T : FVec F S12x9x128 .f32) (a : FVec F S9x128 .f32) : FVec F S9x128 .f32 := (concatenate S9x128 0 [⟨S8x128, (extractStridedSlice S8x128 ![1, 0] (dist9_1 T) slices_S9x128_o1_0_S8x128)⟩, ⟨S1x128, (extractStridedSlice S1x128 ![0, 0] (dist9_1 T) slices_S9x128_o0_0_S1x128)⟩] concatenates_S8x128_S1x128_S9x128_d0)
theorem st51 (T : FVec F S12x9x128 .f32) (a : FVec F S9x128 .f32) : k0_pay27 T = q51 T a := rfl

def q52 (T : FVec F S12x9x128 .f32) (a : FVec F S9x128 .f32) : FVec F S9x128 .f32 := (broadcastTo S9x128 (extractStridedSlice S1x128 ![8, 0] (pre9_0 T a) slices_S9x128_o8_0_S1x128) broadcasts_S1x128_S9x128)
theorem st52 (T : FVec F S12x9x128 .f32) (a : FVec F S9x128 .f32) : k0_pay28 (q48 T a) (q49 T a) = q52 T a := rfl

def q53 (T : FVec F S12x9x128 .f32) (a : FVec F S9x128 .f32) : FVec F S9x128 .f32 := sum9_7 (pre9_1 T a) (dist9_2 T)
theorem st53 (T : FVec F S12x9x128 .f32) (a : FVec F S9x128 .f32) : k0_pay31 T (q50 T a) (q51 T a) (q52 T a) = q53 T a := rfl

def q54 (T : FVec F S12x9x128 .f32) (a : FVec F S9x128 .f32) : FVec F S9x128 .f32 := (concatenate S9x128 0 [⟨S8x128, (extractStridedSlice S8x128 ![1, 0] (dist9_2 T) slices_S9x128_o1_0_S8x128)⟩, ⟨S1x128, (extractStridedSlice S1x128 ![0, 0] (dist9_2 T) slices_S9x128_o0_0_S1x128)⟩] concatenates_S8x128_S1x128_S9x128_d0)
theorem st54 (T : FVec F S12x9x128 .f32) (a : FVec F S9x128 .f32) : k0_pay32 T = q54 T a := rfl

def q55 (T : FVec F S12x9x128 .f32) (a : FVec F S9x128 .f32) : FVec F S1x128 .f32 := (extractStridedSlice S1x128 ![8, 0] (pre9_1 T a) slices_S9x128_o8_0_S1x128)
theorem st55 (T : FVec F S12x9x128 .f32) (a : FVec F S9x128 .f32) : k0_pay33 (q50 T a) (q51 T a) (q52 T a) = q55 T a := rfl

def q56 (T : FVec F S12x9x128 .f32) (a : FVec F S9x128 .f32) : FVec F S9x128 .f32 := (pre9_2 T a)
theorem st56 (T : FVec F S12x9x128 .f32) (a : FVec F S9x128 .f32) : k0_pay34 (q53 T a) (q54 T a) (q55 T a) = q56 T a := rfl

def q57 (T : FVec F S12x9x128 .f32) (a : FVec F S9x128 .f32) : FVec F S9x128 .f32 := sum9_7 (pre9_2 T a) (dist9_3 T)
theorem st57 (T : FVec F S12x9x128 .f32) (a : FVec F S9x128 .f32) : k0_pay36 T (q53 T a) (q54 T a) (q55 T a) = q57 T a := rfl

def q58 (T : FVec F S12x9x128 .f32) (a : FVec F S9x128 .f32) : FVec F S9x128 .f32 := (concatenate S9x128 0 [⟨S8x128, (extractStridedSlice S8x128 ![1, 0] (dist9_3 T) slices_S9x128_o1_0_S8x128)⟩, ⟨S1x128, (extractStridedSlice S1x128 ![0, 0] (dist9_3 T) slices_S9x128_o0_0_S1x128)⟩] concatenates_S8x128_S1x128_S9x128_d0)
theorem st58 (T : FVec F S12x9x128 .f32) (a : FVec F S9x128 .f32) : k0_pay37 T = q58 T a := rfl

def q59 (T : FVec F S12x9x128 .f32) (a : FVec F S9x128 .f32) : FVec F S9x128 .f32 := (pre9_3 T a)
theorem st59 (T : FVec F S12x9x128 .f32) (a : FVec F S9x128 .f32) : k0_pay38 (q56 T a) (q57 T a) (q58 T a) = q59 T a := rfl

def q60 (T : FVec F S12x9x128 .f32) (a : FVec F S9x128 .f32) : FVec F S9x128 .f32 := sum9_7 (pre9_3 T a) (dist9_4 T)
theorem st60 (T : FVec F S12x9x128 .f32) (a : FVec F S9x128 .f32) : k0_pay40 T (q56 T a) (q57 T a) (q58 T a) = q60 T a := rfl

def q61 (T : FVec F S12x9x128 .f32) (a : FVec F S9x128 .f32) : FVec F S8x128 .f32 := (extractStridedSlice S8x128 ![1, 0] (dist9_4 T) slices_S9x128_o1_0_S8x128)
theorem st61 (T : FVec F S12x9x128 .f32) (a : FVec F S9x128 .f32) : k0_pay41 T = q61 T a := rfl

def q62 (T : FVec F S12x9x128 .f32) (a : FVec F S9x128 .f32) : FVec F S1x128 .f32 := (extractStridedSlice S1x128 ![0, 0] (dist9_4 T) slices_S9x128_o0_0_S1x128)
theorem st62 (T : FVec F S12x9x128 .f32) (a : FVec F S9x128 .f32) : k0_pay42 T = q62 T a := rfl

def q63 (T : FVec F S12x9x128 .f32) (a : FVec F S9x128 .f32) : FVec F S9x128 .f32 := (pre9_4 T a)
theorem st63 (T : FVec F S12x9x128 .f32) (a : FVec F S9x128 .f32) : k0_pay43 (q59 T a) (q60 T a) (q61 T a) (q62 T a) = q63 T a := rfl

def q64 (T : FVec F S12x9x128 .f32) (a : FVec F S9x128 .f32) : FVec F S9x128 .f32 := (dist9_5 T)
theorem st64 (T : FVec F S12x9x128 .f32) (a : FVec F S9x128 .f32) : k0_pay44 T = q64 T a := rfl

def q65 (T : FVec F S12x9x128 .f32) (a : FVec F S9x128 .f32) : FVec F S9x128 .f32 := sum9_7 (pre9_4 T a) (dist9_5 T)
theorem st65 (T : FVec F S12x9x128 .f32) (a : FVec F S9x128 .f32) : k0_pay45 T (q59 T a) (q60 T a) (q61 T a) (q62 T a) = q65 T a := rfl

def q66 (T : FVec F S12x9x128 .f32) (a : FVec F S9x128 .f32) : FVec F S8x128 .f32 := (extractStridedSlice S8x128 ![1, 0] (dist9_5 T) slices_S9x128_o1_0_S8x128)
theorem st66 (T : FVec F S12x9x128 .f32) (a : FVec F S9x128 .f32) : k0_pay46 T = q66 T a := rfl

def q67 (T : FVec F S12x9x128 .f32) (a : FVec F S9x128 .f32) : FVec F S9x128 .f32 := (pre9_5 T a)
theorem st67 (T : FVec F S12x9x128 .f32) (a : FVec F S9x128 .f32) : k0_pay47 (q63 T a) (q64 T a) (q65 T a) (q66 T a) = q67 T a := rfl

def q68 (T : FVec F S12x9x128 .f32) (a : FVec F S9x128 .f32) : FVec F S9x128 .f32 := (dist9_6 T)
theorem st68 (T : FVec F S12x9x128 .f32) (a : FVec F S9x128 .f32) : k0_pay48 T = q68 T a := rfl

def q69 (T : FVec F S12x9x128 .f32) (a : FVec F S9x128 .f32) : FVec F S9x128 .f32 := sum9_7 (pre9_5 T a) (dist9_6 T)
theorem st69 (T : FVec F S12x9x128 .f32) (a : FVec F S9x128 .f32) : k0_pay49 T (q63 T a) (q64 T a) (q65 T a) (q66 T a) = q69 T a := rfl

def q70 (T : FVec F S12x9x128 .f32) (a : FVec F S9x128 .f32) : FVec F S9x128 .f32 := (pre9_6 T a)
theorem st70 (T : FVec F S12x9x128 .f32) (a : FVec F S9x128 .f32) : k0_pay50 (q67 T a) (q68 T a) (q69 T a) = q70 T a := rfl

def q71 (T : FVec F S12x9x128 .f32) (a : FVec F S9x128 .f32) : FVec F S9x128 .f32 := (dist9_7 T)
theorem st71 (T : FVec F S12x9x128 .f32) (a : FVec F S9x128 .f32) : k0_pay51 T = q71 T a := rfl

def q72 (T : FVec F S12x9x128 .f32) (a : FVec F S9x128 .f32) : FVec F S9x128 .f32 := sum9_6 (pre9_6 T a) (dist9_7 T)
theorem st72 (T : FVec F S12x9x128 .f32) (a : FVec F S9x128 .f32) : k0_pay52 T (q67 T a) (q68 T a) (q69 T a) = q72 T a := rfl

def q73 (T : FVec F S12x9x128 .f32) (a : FVec F S9x128 .f32) : FVec F S9x128 .f32 := term9_7 (pre9_6 T a) (dist9_7 T)
theorem st73 (T : FVec F S12x9x128 .f32) (a : FVec F S9x128 .f32) : k0_pay53 T (q67 T a) (q68 T a) (q69 T a) = q73 T a := rfl

def q74 (T : FVec F S12x9x128 .f32) (a : FVec F S9x128 .f32) : FVec F S9x128 .f32 := (pre9_7 T a)
theorem st74 (T : FVec F S12x9x128 .f32) (a : FVec F S9x128 .f32) : k0_pay54 (q70 T a) (q71 T a) (q72 T a) (q73 T a) = q74 T a := rfl

def q75 (T : FVec F S12x9x128 .f32) (a : FVec F S9x128 .f32) : FVec F S9x128 .f32 := (dist9_8 T)
theorem st75 (T : FVec F S12x9x128 .f32) (a : FVec F S9x128 .f32) : k0_pay55 T = q75 T a := rfl

def q76 (T : FVec F S12x9x128 .f32) (a : FVec F S9x128 .f32) : FVec F S9x128 .f32 := sum9_6 (pre9_7 T a) (dist9_8 T)
theorem st76 (T : FVec F S12x9x128 .f32) (a : FVec F S9x128 .f32) : k0_pay56 T (q70 T a) (q71 T a) (q72 T a) (q73 T a) = q76 T a := rfl

def q77 (T : FVec F S12x9x128 .f32) (a : FVec F S9x128 .f32) : FVec F S9x128 .f32 := (concatenate S9x128 0 [⟨S7x128, (extractStridedSlice S7x128 ![2, 0] (dist9_8 T) slices_S9x128_o2_0_S7x128)⟩, ⟨S2x128, (extractStridedSlice S2x128 ![0, 0] (dist9_8 T) slices_S9x128_o0_0_S2x128)⟩] concatenates_S7x128_S2x128_S9x128_d0)
theorem st77 (T : FVec F S12x9x128 .f32) (a : FVec F S9x128 .f32) : k0_pay57 T = q77 T a := rfl

def q78 (T : FVec F S12x9x128 .f32) (a : FVec F S9x128 .f32) : FVec F S9x128 .f32 := (broadcastTo S9x128 (extractStridedSlice S1x128 ![7, 0] (pre9_7 T a) slices_S9x128_o7_0_S1x128) broadcasts_S1x128_S9x128)
theorem st78 (T : FVec F S12x9x128 .f32) (a : FVec F S9x128 .f32) : k0_pay58 (q70 T a) (q71 T a) (q72 T a) (q73 T a) = q78 T a := rfl

def q79 (T : FVec F S12x9x128 .f32) (a : FVec F S9x128 .f32) : FVec F S9x128 .f32 := (pre9_8 T a)
theorem st79 (T : FVec F S12x9x128 .f32) (a : FVec F S9x128 .f32) : k0_pay59 (q74 T a) (q75 T a) (q76 T a) (q77 T a) (q78 T a) = q79 T a := rfl

def q80 (T : FVec F S12x9x128 .f32) (a : FVec F S9x128 .f32) : FVec F S9x128 .f32 := (dist9_9 T)
theorem st80 (T : FVec F S12x9x128 .f32) (a : FVec F S9x128 .f32) : k0_pay60 T = q80 T a := rfl

def q81 (T : FVec F S12x9x128 .f32) (a : FVec F S9x128 .f32) : FVec F S9x128 .f32 := sum9_6 (pre9_8 T a) (dist9_9 T)
theorem st81 (T : FVec F S12x9x128 .f32) (a : FVec F S9x128 .f32) : k0_pay61 T (q74 T a) (q75 T a) (q76 T a) (q77 T a) (q78 T a) = q81 T a := rfl

def q82 (T : FVec F S12x9x128 .f32) (a : FVec F S9x128 .f32) : FVec F S9x128 .f32 := (concatenate S9x128 0 [⟨S7x128, (extractStridedSlice S7x128 ![2, 0] (dist9_9 T) slices_S9x128_o2_0_S7x128)⟩, ⟨S2x128, (extractStridedSlice S2x128 ![0, 0] (dist9_9 T) slices_S9x128_o0_0_S2x128)⟩] concatenates_S7x128_S2x128_S9x128_d0)
theorem st82 (T : FVec F S12x9x128 .f32) (a : FVec F S9x128 .f32) : k0_pay62 T = q82 T a := rfl

def q83 (T : FVec F S12x9x128 .f32) (a : FVec F S9x128 .f32) : FVec F S1x128 .f32 := (extractStridedSlice S1x128 ![7, 0] (pre9_8 T a) slices_S9x128_o7_0_S1x128)
theorem st83 (T : FVec F S12x9x128 .f32) (a : FVec F S9x128 .f32) : k0_pay63 (q74 T a) (q75 T a) (q76 T a) (q77 T a) (q78 T a) = q83 T a := rfl

def q84 (T : FVec F S12x9x128 .f32) (a : FVec F S9x128 .f32) : FVec F S9x128 .f32 := (pre9_9 T a)
theorem st84 (T : FVec F S12x9x128 .f32) (a : FVec F S9x128 .f32) : k0_pay64 (q79 T a) (q80 T a) (q81 T a) (q82 T a) (q83 T a) = q84 T a := rfl

def q85 (T : FVec F S12x9x128 .f32) (a : FVec F S9x128 .f32) : FVec F S9x128 .f32 := (dist9_10 T)
theorem st85 (T : FVec F S12x9x128 .f32) (a : FVec F S9x128 .f32) : k0_pay65 T = q85 T a := rfl

def q86 (T : FVec F S12x9x128 .f32) (a : FVec F S9x128 .f32) : FVec F S9x128 .f32 := sum9_6 (pre9_9 T a) (dist9_10 T)
theorem st86 (T : FVec F S12x9x128 .f32) (a : FVec F S9x128 .f32) : k0_pay66 T (q79 T a) (q80 T a) (q81 T a) (q82 T a) (q83 T a) = q86 T a := rfl

def q87 (T : FVec F S12x9x128 .f32) (a : FVec F S9x128 .f32) : FVec F S9x128 .f32 := (concatenate S9x128 0 [⟨S7x128, (extractStridedSlice S7x128 ![2, 0] (dist9_10 T) slices_S9x128_o2_0_S7x128)⟩, ⟨S2x128, (extractStridedSlice S2x128 ![0, 0] (dist9_10 T) slices_S9x128_o0_0_S2x128)⟩] concatenates_S7x128_S2x128_S9x128_d0)
theorem st87 (T : FVec F S12x9x128 .f32) (a : FVec F S9x128 .f32) : k0_pay67 T = q87 T a := rfl

def q88 (T : FVec F S12x9x128 .f32) (a : FVec F S9x128 .f32) : FVec F S9x128 .f32 := (pre9_10 T a)
theorem st88 (T : FVec F S12x9x128 .f32) (a : FVec F S9x128 .f32) : k0_pay68 (q84 T a) (q85 T a) (q86 T a) (q87 T a) = q88 T a := rfl

def q89 (T : FVec F S12x9x128 .f32) (a : FVec F S9x128 .f32) : FVec F S9x128 .f32 := (dist9_11 T)
theorem st89 (T : FVec F S12x9x128 .f32) (a : FVec F S9x128 .f32) : k0_pay69 T = q89 T a := rfl

def q90 (T : FVec F S12x9x128 .f32) (a : FVec F S9x128 .f32) : FVec F S9x128 .f32 := sum9_6 (pre9_10 T a) (dist9_11 T)
theorem st90 (T : FVec F S12x9x128 .f32) (a : FVec F S9x128 .f32) : k0_pay70 T (q84 T a) (q85 T a) (q86 T a) (q87 T a) = q90 T a := rfl

def q91 (T : FVec F S12x9x128 .f32) (a : FVec F S9x128 .f32) : FVec F S7x128 .f32 := (extractStridedSlice S7x128 ![2, 0] (dist9_11 T) slices_S9x128_o2_0_S7x128)
theorem st91 (T : FVec F S12x9x128 .f32) (a : FVec F S9x128 .f32) : k0_pay71 T = q91 T a := rfl

def q92 (T : FVec F S12x9x128 .f32) (a : FVec F S9x128 .f32) : FVec F S2x128 .f32 := (extractStridedSlice S2x128 ![0, 0] (dist9_11 T) slices_S9x128_o0_0_S2x128)
theorem st92 (T : FVec F S12x9x128 .f32) (a : FVec F S9x128 .f32) : k0_pay72 T = q92 T a := rfl

theorem stOut0 (T : FVec F S12x9x128 .f32) (a : FVec F S9x128 .f32) : k0_pay73 (q88 T a) (q89 T a) (q90 T a) (q91 T a) (q92 T a) = transpose S128x9 [1, 0] (steps9 T a) transposes_S9x128_p1_0_S128x9 := rfl

def q108 (T : FVec F S12x4x496 .f32) (a : FVec F S4x496 .f32) : FVec F S4x496 .f32 := (dist4_0 T)
theorem st108 (a : FVec F S4x496 .f32) (v1243 : FVec F S1536x496 .bf16) (v1247 : FVec F S4x496 .f32) (v1251 : FVec F S4x496 .f32) (v1255 : FVec F S4x496 .f32) (v1259 : FVec F S4x496 .f32) (v1263 : FVec F S4x496 .f32) (v1267 : FVec F S4x496 .f32) (v1271 : FVec F S4x496 .f32) (v1275 : FVec F S4x496 .f32) (v1277 : FVec F S4x128 .bf16) (v1278 : FVec F S128x496 .bf16) (v1280 : FVec F S1x4x128 .bf16) (v1284 : FVec F S1x4x128 .bf16) (v1288 : FVec F S1x4x128 .bf16) (v1293 : FVec F S48x1 .f32) : k0_pay89 v1243 v1247 v1251 v1255 v1259 v1263 v1267 v1271 v1275 v1277 v1278 v1280 v1284 v1288 v1293 = q108 (k0_pay88 v1243 v1247 v1251 v1255 v1259 v1263 v1267 v1271 v1275 v1277 v1278 v1280 v1284 v1288 v1293) a := rfl

def q109 (T : FVec F S12x4x496 .f32) (a : FVec F S4x496 .f32) : FVec F S4x496 .f32 := sum4_1 a (dist4_0 T)
theorem st109 (a : FVec F S4x496 .f32) (v1243 : FVec F S1536x496 .bf16) (v1247 : FVec F S4x496 .f32) (v1251 : FVec F S4x496 .f32) (v1255 : FVec F S4x496 .f32) (v1259 : FVec F S4x496 .f32) (v1263 : FVec F S4x496 .f32) (v1267 : FVec F S4x496 .f32) (v1271 : FVec F S4x496 .f32) (v1275 : FVec F S4x496 .f32) (v1277 : FVec F S4x128 .bf16) (v1278 : FVec F S128x496 .bf16) (v1280 : FVec F S1x4x128 .bf16) (v1284 : FVec F S1x4x128 .bf16) (v1288 : FVec F S1x4x128 .bf16) (v1293 : FVec F S48x1 .f32) : k0_pay90 a v1243 v1247 v1251 v1255 v1259 v1263 v1267 v1271 v1275 v1277 v1278 v1280 v1284 v1288 v1293 = q109 (k0_pay88 v1243 v1247 v1251 v1255 v1259 v1263 v1267 v1271 v1275 v1277 v1278 v1280 v1284 v1288 v1293) a := rfl

def q110 (T : FVec F S12x4x496 .f32) (a : FVec F S4x496 .f32) : FVec F S4x496 .f32 := (concatenate S4x496 0 [⟨S2x496, (extractStridedSlice S2x496 ![2, 0] (dist4_0 T) slices_S4x496_o2_0_S2x496)⟩, ⟨S2x496, (extractStridedSlice S2x496 ![0, 0] (dist4_0 T) slices_S4x496_o0_0_S2x496)⟩] concatenates_S2x496_S2x496_S4x496_d0)
theorem st110 (a : FVec F S4x496 .f32) (v1243 : FVec F S1536x496 .bf16) (v1247 : FVec F S4x496 .f32) (v1251 : FVec F S4x496 .f32) (v1255 : FVec F S4x496 .f32) (v1259 : FVec F S4x496 .f32) (v1263 : FVec F S4x496 .f32) (v1267 : FVec F S4x496 .f32) (v1271 : FVec F S4x496 .f32) (v1275 : FVec F S4x496 .f32) (v1277 : FVec F S4x128 .bf16) (v1278 : FVec F S128x496 .bf16) (v1280 : FVec F S1x4x128 .bf16) (v1284 : FVec F S1x4x128 .bf16) (v1288 : FVec F S1x4x128 .bf16) (v1293 : FVec F S48x1 .f32) : k0_pay91 v1243 v1247 v1251 v1255 v1259 v1263 v1267 v1271 v1275 v1277 v1278 v1280 v1284 v1288 v1293 = q110 (k0_pay88 v1243 v1247 v1251 v1255 v1259 v1263 v1267 v1271 v1275 v1277 v1278 v1280 v1284 v1288 v1293) a := rfl

def q111 (T : FVec F S12x4x496 .f32) (a : FVec F S4x496 .f32) : FVec F S4x496 .f32 := sum4_2 (pre4_1 T a) (dist4_2 T)
theorem st111 (T : FVec F S12x4x496 .f32) (a : FVec F S4x496 .f32) : k0_pay94 a T (q108 T a) (q109 T a) (q110 T a) = q111 T a := rfl

def q112 (T : FVec F S12x4x496 .f32) (a : FVec F S4x496 .f32) : FVec F S4x496 .f32 := (concatenate S4x496 0 [⟨S3x496, (extractStridedSlice S3x496 ![1, 0] (dist4_2 T) slices_S4x496_o1_0_S3x496)⟩, ⟨S1x496, (extractStridedSlice S1x496 ![0, 0] (dist4_2 T) slices_S4x496_o0_0_S1x496)⟩] concatenates_S3x496_S1x496_S4x496_d0)
theorem st112 (T : FVec F S12x4x496 .f32) (a : FVec F S4x496 .f32) : k0_pay95 T = q112 T a := rfl

def q113 (T : FVec F S12x4x496 .f32) (a : FVec F S4x496 .f32) : FVec F S1x496 .f32 := (extractStridedSlice S1x496 ![3, 0] (pre4_1 T a) slices_S4x496_o3_0_S1x496)
theorem st113 (T : FVec F S12x4x496 .f32) (a : FVec F S4x496 .f32) : k0_pay96 a T (q108 T a) (q109 T a) (q110 T a) = q113 T a := rfl

def q114 (T : FVec F S12x4x496 .f32) (a : FVec F S4x496 .f32) : FVec F S4x496 .f32 := (pre4_4 T a)
theorem st114 (T : FVec F S12x4x496 .f32) (a : FVec F S4x496 .f32) : k0_pay97 T (q111 T a) (q112 T a) (q113 T a) = q114 T a := rfl

def q115 (T : FVec F S12x4x496 .f32) (a : FVec F S4x496 .f32) : FVec F S4x496 .f32 := (dist4_5 T)
theorem st115 (T : FVec F S12x4x496 .f32) (a : FVec F S4x496 .f32) : k0_pay98 T = q115 T a := rfl

def q116 (T : FVec F S12x4x496 .f32) (a : FVec F S4x496 .f32) : FVec F S4x496 .f32 := term4_0 (pre4_4 T a) (dist4_5 T)
theorem st116 (T : FVec F S12x4x496 .f32) (a : FVec F S4x496 .f32) : k0_pay99 T (q111 T a) (q112 T a) (q113 T a) = q116 T a := rfl

def q117 (T : FVec F S12x4x496 .f32) (a : FVec F S4x496 .f32) : FVec F S4x496 .f32 := (pre4_6 T a)
theorem st117 (T : FVec F S12x4x496 .f32) (a : FVec F S4x496 .f32) : k0_pay100 T (q114 T a) (q115 T a) (q116 T a) = q117 T a := rfl

def q118 (T : FVec F S12x4x496 .f32) (a : FVec F S4x496 .f32) : FVec F S4x496 .f32 := (dist4_7 T)
theorem st118 (T : FVec F S12x4x496 .f32) (a : FVec F S4x496 .f32) : k0_pay101 T = q118 T a := rfl

def q119 (T : FVec F S12x4x496 .f32) (a : FVec F S4x496 .f32) : FVec F S4x496 .f32 := sum4_1 (pre4_6 T a) (dist4_7 T)
theorem st119 (T : FVec F S12x4x496 .f32) (a : FVec F S4x496 .f32) : k0_pay102 T (q114 T a) (q115 T a) (q116 T a) = q119 T a := rfl

def q120 (T : FVec F S12x4x496 .f32) (a : FVec F S4x496 .f32) : FVec F S2x496 .f32 := (extractStridedSlice S2x496 ![2, 0] (dist4_7 T) slices_S4x496_o2_0_S2x496)
theorem st120 (T : FVec F S12x4x496 .f32) (a : FVec F S4x496 .f32) : k0_pay103 T = q120 T a := rfl

def q121 (T : FVec F S12x4x496 .f32) (a : FVec F S4x496 .f32) : FVec F S4x496 .f32 := (pre4_8 T a)
theorem st121 (T : FVec F S12x4x496 .f32) (a : FVec F S4x496 .f32) : k0_pay104 T (q117 T a) (q118 T a) (q119 T a) (q120 T a) = q121 T a := rfl

def q122 (T : FVec F S12x4x496 .f32) (a : FVec F S4x496 .f32) : FVec F S4x496 .f32 := sum4_2 (pre4_8 T a) (dist4_9 T)
theorem st122 (T : FVec F S12x4x496 .f32) (a : FVec F S4x496 .f32) : k0_pay106 T (q117 T a) (q118 T a) (q119 T a) (q120 T a) = q122 T a := rfl

def q123 (T : FVec F S12x4x496 .f32) (a : FVec F S4x496 .f32) : FVec F S3x496 .f32 := (extractStridedSlice S3x496 ![1, 0] (dist4_9 T) slices_S4x496_o1_0_S3x496)
theorem st123 (T : FVec F S12x4x496 .f32) (a : FVec F S4x496 .f32) : k0_pay107 T = q123 T a := rfl

def q124 (T : FVec F S12x4x496 .f32) (a : FVec F S4x496 .f32) : FVec F S1x496 .f32 := (extractStridedSlice S1x496 ![0, 0] (dist4_9 T) slices_S4x496_o0_0_S1x496)
theorem st124 (T : FVec F S12x4x496 .f32) (a : FVec F S4x496 .f32) : k0_pay108 T = q124 T a := rfl

def q125 (T : FVec F S12x4x496 .f32) (a : FVec F S4x496 .f32) : FVec F S496x4 .f32 := (transpose S496x4 [1, 0] (pre4_11 T a) transposes_S4x496_p1_0_S496x4)
theorem st125 (T : FVec F S12x4x496 .f32) (a : FVec F S4x496 .f32) : k0_pay109 T (q121 T a) (q122 T a) (q123 T a) (q124 T a) = q125 T a := rfl

theorem stOut1 (T : FVec F S12x4x496 .f32) (a : FVec F S4x496 .f32) : k0_pay110 (q125 T a) = shapeCast S1x496x4 (transpose S496x4 [1, 0] (steps4 T a) transposes_S4x496_p1_0_S496x4) shapeCasts_S496x4_S1x496x4 := rfl

def q140 (T : FVec F S12x4x496 .f32) (a : FVec F S4x496 .f32) : FVec F S4x496 .f32 := (pre4_0 T a)
theorem st140 (a : FVec F S4x496 .f32) (v1642 : FVec F S1536x496 .bf16) (v1646 : FVec F S4x496 .f32) (v1650 : FVec F S4x496 .f32) (v1654 : FVec F S4x496 .f32) (v1658 : FVec F S4x496 .f32) (v1662 : FVec F S4x496 .f32) (v1666 : FVec F S4x496 .f32) (v1670 : FVec F S4x496 .f32) (v1674 : FVec F S4x496 .f32) (v1678 : FVec F S4x496 .f32) (v1682 : FVec F S4x496 .f32) (v1683 : FVec F S1x4x128 .bf16) (v1687 : FVec F S1x4x128 .bf16) (v1692 : FVec F S48x1 .f32) : k0_pay124 a v1642 v1646 v1650 v1654 v1658 v1662 v1666 v1670 v1674 v1678 v1682 v1683 v1687 v1692 = q140 (k0_pay123 v1642 v1646 v1650 v1654 v1658 v1662 v1666 v1670 v1674 v1678 v1682 v1683 v1687 v1692) a := rfl

def q141 (T : FVec F S12x4x496 .f32) (a : FVec F S4x496 .f32) : FVec F S4x496 .f32 := (dist4_1 T)
theorem st141 (a : FVec F S4x496 .f32) (v1642 : FVec F S1536x496 .bf16) (v1646 : FVec F S4x496 .f32) (v1650 : FVec F S4x496 .f32) (v1654 : FVec F S4x496 .f32) (v1658 : FVec F S4x496 .f32) (v1662 : FVec F S4x496 .f32) (v1666 : FVec F S4x496 .f32) (v1670 : FVec F S4x496 .f32) (v1674 : FVec F S4x496 .f32) (v1678 : FVec F S4x496 .f32) (v1682 : FVec F S4x496 .f32) (v1683 : FVec F S1x4x128 .bf16) (v1687 : FVec F S1x4x128 .bf16) (v1692 : FVec F S48x1 .f32) : k0_pay125 v1642 v1646 v1650 v1654 v1658 v1662 v1666 v1670 v1674 v1678 v1682 v1683 v1687 v1692 = q141 (k0_pay123 v1642 v1646 v1650 v1654 v1658 v1662 v1666 v1670 v1674 v1678 v1682 v1683 v1687 v1692) a := rfl

def q142 (T : FVec F S12x4x496 .f32) (a : FVec F S4x496 .f32) : FVec F S1x496 .f32 := (extractStridedSlice S1x496 ![0, 0] (pre4_0 T a) slices_S4x496_o0_0_S1x496)
theorem st142 (a : FVec F S4x496 .f32) (v1642 : FVec F S1536x496 .bf16) (v1646 : FVec F S4x496 .f32) (v1650 : FVec F S4x496 .f32) (v1654 : FVec F S4x496 .f32) (v1658 : FVec F S4x496 .f32) (v1662 : FVec F S4x496 .f32) (v1666 : FVec F S4x496 .f32) (v1670 : FVec F S4x496 .f32) (v1674 : FVec F S4x496 .f32) (v1678 : FVec F S4x496 .f32) (v1682 : FVec F S4x496 .f32) (v1683 : FVec F S1x4x128 .bf16) (v1687 : FVec F S1x4x128 .bf16) (v1692 : FVec F S48x1 .f32) : k0_pay126 a v1642 v1646 v1650 v1654 v1658 v1662 v1666 v1670 v1674 v1678 v1682 v1683 v1687 v1692 = q142 (k0_pay123 v1642 v1646 v1650 v1654 v1658 v1662 v1666 v1670 v1674 v1678 v1682 v1683 v1687 v1692) a := rfl

def q143 (T : FVec F S12x4x496 .f32) (a : FVec F S4x496 .f32) : FVec F S4x496 .f32 := (pre4_2 T a)
theorem st143 (T : FVec F S12x4x496 .f32) (a : FVec F S4x496 .f32) : k0_pay127 T (q140 T a) (q141 T a) (q142 T a) = q143 T a := rfl

def q144 (T : FVec F S12x4x496 .f32) (a : FVec F S4x496 .f32) : FVec F S4x496 .f32 := (dist4_3 T)
theorem st144 (T : FVec F S12x4x496 .f32) (a : FVec F S4x496 .f32) : k0_pay128 T = q144 T a := rfl

def q145 (T : FVec F S12x4x496 .f32) (a : FVec F S4x496 .f32) : FVec F S4x496 .f32 := term4_0 (pre4_2 T a) (dist4_3 T)
theorem st145 (T : FVec F S12x4x496 .f32) (a : FVec F S4x496 .f32) : k0_pay129 T (q140 T a) (q141 T a) (q142 T a) = q145 T a := rfl

def q146 (T : FVec F S12x4x496 .f32) (a : FVec F S4x496 .f32) : FVec F S4x496 .f32 := term4_1 (pre4_2 T a) (dist4_3 T)
theorem st146 (T : FVec F S12x4x496 .f32) (a : FVec F S4x496 .f32) : k0_pay130 T (q140 T a) (q141 T a) (q142 T a) = q146 T a := rfl

def q147 (T : FVec F S12x4x496 .f32) (a : FVec F S4x496 .f32) : FVec F S4x496 .f32 := (pre4_4 T a)
theorem st147 (T : FVec F S12x4x496 .f32) (a : FVec F S4x496 .f32) : k0_pay131 T (q143 T a) (q144 T a) (q145 T a) (q146 T a) = q147 T a := rfl

def q148 (T : FVec F S12x4x496 .f32) (a : FVec F S4x496 .f32) : FVec F S4x496 .f32 := (dist4_5 T)
theorem st148 (T : FVec F S12x4x496 .f32) (a : FVec F S4x496 .f32) : k0_pay132 T = q148 T a := rfl

def q149 (T : FVec F S12x4x496 .f32) (a : FVec F S4x496 .f32) : FVec F S4x496 .f32 := sum4_2 (pre4_4 T a) (dist4_5 T)
theorem st149 (T : FVec F S12x4x496 .f32) (a : FVec F S4x496 .f32) : k0_pay133 T (q143 T a) (q144 T a) (q145 T a) (q146 T a) = q149 T a := rfl

def q150 (T : FVec F S12x4x496 .f32) (a : FVec F S4x496 .f32) : FVec F S4x496 .f32 := (pre4_7 T a)
theorem st150 (T : FVec F S12x4x496 .f32) (a : FVec F S4x496 .f32) : k0_pay134 T (q147 T a) (q148 T a) (q149 T a) = q150 T a := rfl

def q151 (T : FVec F S12x4x496 .f32) (a : FVec F S4x496 .f32) : FVec F S1x4x496 .f32 := (extractStridedSlice S1x4x496 ![8, 0, 0] T slices_S12x4x496_o8_0_0_S1x4x496)
theorem st151 (T : FVec F S12x4x496 .f32) (a : FVec F S4x496 .f32) : k0_pay135 T = q151 T a := rfl

def q152 (T : FVec F S12x4x496 .f32) (a : FVec F S4x496 .f32) : FVec F S4x496 .f32 := (pre4_9 T a)
theorem st152 (T : FVec F S12x4x496 .f32) (a : FVec F S4x496 .f32) : k0_pay136 T (q150 T a) (q151 T a) = q152 T a := rfl

def q153 (T : FVec F S12x4x496 .f32) (a : FVec F S4x496 .f32) : FVec F S4x496 .f32 := (dist4_10 T)
theorem st153 (T : FVec F S12x4x496 .f32) (a : FVec F S4x496 .f32) : k0_pay137 T = q153 T a := rfl

def q154 (T : FVec F S12x4x496 .f32) (a : FVec F S4x496 .f32) : FVec F S4x496 .f32 := term4_0 (pre4_9 T a) (dist4_10 T)
theorem st154 (T : FVec F S12x4x496 .f32) (a : FVec F S4x496 .f32) : k0_pay138 T (q150 T a) (q151 T a) = q154 T a := rfl

def q155 (T : FVec F S12x4x496 .f32) (a : FVec F S4x496 .f32) : FVec F S4x496 .f32 := (concatenate S4x496 0 [⟨S1x496, (extractStridedSlice S1x496 ![3, 0] (dist4_10 T) slices_S4x496_o3_0_S1x496)⟩, ⟨S3x496, (extractStridedSlice S3x496 ![0, 0] (dist4_10 T) slices_S4x496_o0_0_S3x496)⟩] concatenates_S1x496_S3x496_S4x496_d0)
theorem st155 (T : FVec F S12x4x496 .f32) (a : FVec F S4x496 .f32) : k0_pay139 T = q155 T a := rfl

def q156 (T : FVec F S12x4x496 .f32) (a : FVec F S4x496 .f32) : FVec F S1x496 .f32 := (extractStridedSlice S1x496 ![1, 0] (pre4_9 T a) slices_S4x496_o1_0_S1x496)
theorem st156 (T : FVec F S12x4x496 .f32) (a : FVec F S4x496 .f32) : k0_pay140 T (q150 T a) (q151 T a) = q156 T a := rfl

theorem stOut2 (T : FVec F S12x4x496 .f32) (a : FVec F S4x496 .f32) : k0_pay141 T (q152 T a) (q153 T a) (q154 T a) (q155 T a) (q156 T a) = shapeCast S1x496x4 (transpose S496x4 [1, 0] (steps4 T a) transposes_S4x496_p1_0_S496x4) shapeCasts_S496x4_S1x496x4 := rfl

def q169 (T : FVec F S12x4x496 .f32) (a : FVec F S4x496 .f32) : FVec F S4x496 .f32 := (pre4_0 T a)
theorem st169 (a : FVec F S4x496 .f32) (v2090 : FVec F S48x496 .f32) (v2091 : FVec F S48x1 .f32) : k0_pay154 a v2090 v2091 = q169 (k0_pay153 v2090 v2091) a := rfl

def q170 (T : FVec F S12x4x496 .f32) (a : FVec F S4x496 .f32) : FVec F S4x496 .f32 := (dist4_1 T)
theorem st170 (a : FVec F S4x496 .f32) (v2090 : FVec F S48x496 .f32) (v2091 : FVec F S48x1 .f32) : k0_pay155 v2090 v2091 = q170 (k0_pay153 v2090 v2091) a := rfl

def q171 (T : FVec F S12x4x496 .f32) (a : FVec F S4x496 .f32) : FVec F S4x496 .f32 := sum4_1 (pre4_0 T a) (dist4_1 T)
theorem st171 (a : FVec F S4x496 .f32) (v2090 : FVec F S48x496 .f32) (v2091 : FVec F S48x1 .f32) : k0_pay156 a v2090 v2091 = q171 (k0_pay153 v2090 v2091) a := rfl

def q172 (T : FVec F S12x4x496 .f32) (a : FVec F S4x496 .f32) : FVec F S4x496 .f32 := (concatenate S4x496 0 [⟨S2x496, (extractStridedSlice S2x496 ![2, 0] (dist4_1 T) slices_S4x496_o2_0_S2x496)⟩, ⟨S2x496, (extractStridedSlice S2x496 ![0, 0] (dist4_1 T) slices_S4x496_o0_0_S2x496)⟩] concatenates_S2x496_S2x496_S4x496_d0)
theorem st172 (a : FVec F S4x496 .f32) (v2090 : FVec F S48x496 .f32) (v2091 : FVec F S48x1 .f32) : k0_pay157 v2090 v2091 = q172 (k0_pay153 v2090 v2091) a := rfl

def q173 (T : FVec F S12x4x496 .f32) (a : FVec F S4x496 .f32) : FVec F S4x496 .f32 := (broadcastTo S4x496 (extractStridedSlice S1x496 ![2, 0] (pre4_0 T a) slices_S4x496_o2_0_S1x496) broadcasts_S1x496_S4x496)
theorem st173 (a : FVec F S4x496 .f32) (v2090 : FVec F S48x496 .f32) (v2091 : FVec F S48x1 .f32) : k0_pay158 a v2090 v2091 = q173 (k0_pay153 v2090 v2091) a := rfl

def q174 (T : FVec F S12x4x496 .f32) (a : FVec F S4x496 .f32) : FVec F S4x496 .f32 := sum4_2 (pre4_2 T a) (dist4_3 T)
theorem st174 (T : FVec F S12x4x496 .f32) (a : FVec F S4x496 .f32) : k0_pay161 T (q169 T a) (q170 T a) (q171 T a) (q172 T a) (q173 T a) = q174 T a := rfl

def q175 (T : FVec F S12x4x496 .f32) (a : FVec F S4x496 .f32) : FVec F S4x496 .f32 := term4_3 (pre4_2 T a) (dist4_3 T)
theorem st175 (T : FVec F S12x4x496 .f32) (a : FVec F S4x496 .f32) : k0_pay162 T (q169 T a) (q170 T a) (q171 T a) (q172 T a) (q173 T a) = q175 T a := rfl

def q176 (T : FVec F S12x4x496 .f32) (a : FVec F S4x496 .f32) : FVec F S4x496 .f32 := (pre4_5 T a)
theorem st176 (T : FVec F S12x4x496 .f32) (a : FVec F S4x496 .f32) : k0_pay163 T (q174 T a) (q175 T a) = q176 T a := rfl

def q177 (T : FVec F S12x4x496 .f32) (a : FVec F S4x496 .f32) : FVec F S4x496 .f32 := (dist4_6 T)
theorem st177 (T : FVec F S12x4x496 .f32) (a : FVec F S4x496 .f32) : k0_pay164 T = q177 T a := rfl

def q178 (T : FVec F S12x4x496 .f32) (a : FVec F S4x496 .f32) : FVec F S4x496 .f32 := term4_0 (pre4_5 T a) (dist4_6 T)
theorem st178 (T : FVec F S12x4x496 .f32) (a : FVec F S4x496 .f32) : k0_pay165 T (q174 T a) (q175 T a) = q178 T a := rfl

def q179 (T : FVec F S12x4x496 .f32) (a : FVec F S4x496 .f32) : FVec F S1x496 .f32 := (extractStridedSlice S1x496 ![3, 0] (dist4_6 T) slices_S4x496_o3_0_S1x496)
theorem st179 (T : FVec F S12x4x496 .f32) (a : FVec F S4x496 .f32) : k0_pay166 T = q179 T a := rfl

def q180 (T : FVec F S12x4x496 .f32) (a : FVec F S4x496 .f32) : FVec F S3x496 .f32 := (extractStridedSlice S3x496 ![0, 0] (dist4_6 T) slices_S4x496_o0_0_S3x496)
theorem st180 (T : FVec F S12x4x496 .f32) (a : FVec F S4x496 .f32) : k0_pay167 T = q180 T a := rfl

def q181 (T : FVec F S12x4x496 .f32) (a : FVec F S4x496 .f32) : FVec F S4x496 .f32 := (pre4_7 T a)
theorem st181 (T : FVec F S12x4x496 .f32) (a : FVec F S4x496 .f32) : k0_pay168 T (q176 T a) (q177 T a) (q178 T a) (q179 T a) (q180 T a) = q181 T a := rfl

def q182 (T : FVec F S12x4x496 .f32) (a : FVec F S4x496 .f32) : FVec F S4x496 .f32 := (dist4_8 T)
theorem st182 (T : FVec F S12x4x496 .f32) (a : FVec F S4x496 .f32) : k0_pay169 T = q182 T a := rfl

def q183 (T : FVec F S12x4x496 .f32) (a : FVec F S4x496 .f32) : FVec F S4x496 .f32 := sum4_1 (pre4_7 T a) (dist4_8 T)
theorem st183 (T : FVec F S12x4x496 .f32) (a : FVec F S4x496 .f32) : k0_pay170 T (q176 T a) (q177 T a) (q178 T a) (q179 T a) (q180 T a) = q183 T a := rfl

def q184 (T : FVec F S12x4x496 .f32) (a : FVec F S4x496 .f32) : FVec F S4x496 .f32 := (concatenate S4x496 0 [⟨S2x496, (extractStridedSlice S2x496 ![2, 0] (dist4_8 T) slices_S4x496_o2_0_S2x496)⟩, ⟨S2x496, (extractStridedSlice S2x496 ![0, 0] (dist4_8 T) slices_S4x496_o0_0_S2x496)⟩] concatenates_S2x496_S2x496_S4x496_d0)
theorem st184 (T : FVec F S12x4x496 .f32) (a : FVec F S4x496 .f32) : k0_pay171 T = q184 T a := rfl

def q185 (T : FVec F S12x4x496 .f32) (a : FVec F S4x496 .f32) : FVec F S4x496 .f32 := sum4_2 (pre4_9 T a) (dist4_10 T)
theorem st185 (T : FVec F S12x4x496 .f32) (a : FVec F S4x496 .f32) : k0_pay174 T (q181 T a) (q182 T a) (q183 T a) (q184 T a) = q185 T a := rfl

def q186 (T : FVec F S12x4x496 .f32) (a : FVec F S4x496 .f32) : FVec F S4x496 .f32 := (concatenate S4x496 0 [⟨S3x496, (extractStridedSlice S3x496 ![1, 0] (dist4_10 T) slices_S4x496_o1_0_S3x496)⟩, ⟨S1x496, (extractStridedSlice S1x496 ![0, 0] (dist4_10 T) slices_S4x496_o0_0_S1x496)⟩] concatenates_S3x496_S1x496_S4x496_d0)
theorem st186 (T : FVec F S12x4x496 .f32) (a : FVec F S4x496 .f32) : k0_pay175 T = q186 T a := rfl

def q187 (T : FVec F S12x4x496 .f32) (a : FVec F S4x496 .f32) : FVec F S1x496 .f32 := (extractStridedSlice S1x496 ![3, 0] (pre4_9 T a) slices_S4x496_o3_0_S1x496)
theorem st187 (T : FVec F S12x4x496 .f32) (a : FVec F S4x496 .f32) : k0_pay176 T (q181 T a) (q182 T a) (q183 T a) (q184 T a) = q187 T a := rfl

theorem stOut3 (T : FVec F S12x4x496 .f32) (a : FVec F S4x496 .f32) : k0_pay177 T (q185 T a) (q186 T a) (q187 T a) = shapeCast S1x496x4 (transpose S496x4 [1, 0] (steps4 T a) transposes_S4x496_p1_0_S496x4) shapeCasts_S496x4_S1x496x4 := rfl

def q201 (T : FVec F S12x4x496 .f32) (a : FVec F S4x496 .f32) : FVec F S4x496 .f32 := (pre4_1 T a)
theorem st201 (a : FVec F S4x496 .f32) (v2499 : FVec F S12x4x496 .f32) (v2500 : FVec F S12x496 .f32) : k0_pay190 a v2499 v2500 = q201 (k0_pay189 v2499 v2500) a := rfl

def q202 (T : FVec F S12x4x496 .f32) (a : FVec F S4x496 .f32) : FVec F S4x496 .f32 := (dist4_2 T)
theorem st202 (a : FVec F S4x496 .f32) (v2499 : FVec F S12x4x496 .f32) (v2500 : FVec F S12x496 .f32) : k0_pay191 v2499 v2500 = q202 (k0_pay189 v2499 v2500) a := rfl

def q203 (T : FVec F S12x4x496 .f32) (a : FVec F S4x496 .f32) : FVec F S4x496 .f32 := term4_0 (pre4_1 T a) (dist4_2 T)
theorem st203 (a : FVec F S4x496 .f32) (v2499 : FVec F S12x4x496 .f32) (v2500 : FVec F S12x496 .f32) : k0_pay192 a v2499 v2500 = q203 (k0_pay189 v2499 v2500) a := rfl

def q204 (T : FVec F S12x4x496 .f32) (a : FVec F S4x496 .f32) : FVec F S4x496 .f32 := (pre4_3 T a)
theorem st204 (T : FVec F S12x4x496 .f32) (a : FVec F S4x496 .f32) : k0_pay193 T (q201 T a) (q202 T a) (q203 T a) = q204 T a := rfl

def q205 (T : FVec F S12x4x496 .f32) (a : FVec F S4x496 .f32) : FVec F S4x496 .f32 := (dist4_4 T)
theorem st205 (T : FVec F S12x4x496 .f32) (a : FVec F S4x496 .f32) : k0_pay194 T = q205 T a := rfl

def q206 (T : FVec F S12x4x496 .f32) (a : FVec F S4x496 .f32) : FVec F S4x496 .f32 := sum4_1 (pre4_3 T a) (dist4_4 T)
theorem st206 (T : FVec F S12x4x496 .f32) (a : FVec F S4x496 .f32) : k0_pay195 T (q201 T a) (q202 T a) (q203 T a) = q206 T a := rfl

def q207 (T : FVec F S12x4x496 .f32) (a : FVec F S4x496 .f32) : FVec F S2x496 .f32 := (extractStridedSlice S2x496 ![2, 0] (dist4_4 T) slices_S4x496_o2_0_S2x496)
theorem st207 (T : FVec F S12x4x496 .f32) (a : FVec F S4x496 .f32) : k0_pay196 T = q207 T a := rfl

def q208 (T : FVec F S12x4x496 .f32) (a : FVec F S4x496 .f32) : FVec F S4x496 .f32 := (pre4_5 T a)
theorem st208 (T : FVec F S12x4x496 .f32) (a : FVec F S4x496 .f32) : k0_pay197 T (q204 T a) (q205 T a) (q206 T a) (q207 T a) = q208 T a := rfl

def q209 (T : FVec F S12x4x496 .f32) (a : FVec F S4x496 .f32) : FVec F S4x496 .f32 := sum4_2 (pre4_5 T a) (dist4_6 T)
theorem st209 (T : FVec F S12x4x496 .f32) (a : FVec F S4x496 .f32) : k0_pay199 T (q204 T a) (q205 T a) (q206 T a) (q207 T a) = q209 T a := rfl

def q210 (T : FVec F S12x4x496 .f32) (a : FVec F S4x496 .f32) : FVec F S3x496 .f32 := (extractStridedSlice S3x496 ![1, 0] (dist4_6 T) slices_S4x496_o1_0_S3x496)
theorem st210 (T : FVec F S12x4x496 .f32) (a : FVec F S4x496 .f32) : k0_pay200 T = q210 T a := rfl

def q211 (T : FVec F S12x4x496 .f32) (a : FVec F S4x496 .f32) : FVec F S1x496 .f32 := (extractStridedSlice S1x496 ![0, 0] (dist4_6 T) slices_S4x496_o0_0_S1x496)
theorem st211 (T : FVec F S12x4x496 .f32) (a : FVec F S4x496 .f32) : k0_pay201 T = q211 T a := rfl

def q212 (T : FVec F S12x4x496 .f32) (a : FVec F S4x496 .f32) : FVec F S4x496 .f32 := (pre4_8 T a)
theorem st212 (T : FVec F S12x4x496 .f32) (a : FVec F S4x496 .f32) : k0_pay202 T (q208 T a) (q209 T a) (q210 T a) (q211 T a) = q212 T a := rfl

def q213 (T : FVec F S12x4x496 .f32) (a : FVec F S4x496 .f32) : FVec F S4x496 .f32 := (dist4_9 T)
theorem st213 (T : FVec F S12x4x496 .f32) (a : FVec F S4x496 .f32) : k0_pay203 T = q213 T a := rfl

def q214 (T : FVec F S12x4x496 .f32) (a : FVec F S4x496 .f32) : FVec F S1x496 .f32 := (extractStridedSlice S1x496 ![0, 0] (pre4_8 T a) slices_S4x496_o0_0_S1x496)
theorem st214 (T : FVec F S12x4x496 .f32) (a : FVec F S4x496 .f32) : k0_pay204 T (q208 T a) (q209 T a) (q210 T a) (q211 T a) = q214 T a := rfl

def q215 (T : FVec F S12x4x496 .f32) (a : FVec F S4x496 .f32) : FVec F S4x496 .f32 := (pre4_10 T a)
theorem st215 (T : FVec F S12x4x496 .f32) (a : FVec F S4x496 .f32) : k0_pay205 T (q212 T a) (q213 T a) (q214 T a) = q215 T a := rfl

def q216 (T : FVec F S12x4x496 .f32) (a : FVec F S4x496 .f32) : FVec F S4x496 .f32 := (dist4_11 T)
theorem st216 (T : FVec F S12x4x496 .f32) (a : FVec F S4x496 .f32) : k0_pay206 T = q216 T a := rfl

def q217 (T : FVec F S12x4x496 .f32) (a : FVec F S4x496 .f32) : FVec F S4x496 .f32 := term4_0 (pre4_10 T a) (dist4_11 T)
theorem st217 (T : FVec F S12x4x496 .f32) (a : FVec F S4x496 .f32) : k0_pay207 T (q212 T a) (q213 T a) (q214 T a) = q217 T a := rfl

def q218 (T : FVec F S12x4x496 .f32) (a : FVec F S4x496 .f32) : FVec F S4x496 .f32 := term4_1 (pre4_10 T a) (dist4_11 T)
theorem st218 (T : FVec F S12x4x496 .f32) (a : FVec F S4x496 .f32) : k0_pay208 T (q212 T a) (q213 T a) (q214 T a) = q218 T a := rfl

def q219 (T : FVec F S12x4x496 .f32) (a : FVec F S4x496 .f32) : FVec F S4x496 .f32 := sum4_2 (pre4_10 T a) (dist4_11 T)
theorem st219 (T : FVec F S12x4x496 .f32) (a : FVec F S4x496 .f32) : k0_pay209 (q215 T a) (q216 T a) (q217 T a) (q218 T a) = q219 T a := rfl

def q220 (T : FVec F S12x4x496 .f32) (a : FVec F S4x496 .f32) : FVec F S4x496 .f32 := term4_3 (pre4_10 T a) (dist4_11 T)
theorem st220 (T : FVec F S12x4x496 .f32) (a : FVec F S4x496 .f32) : k0_pay210 (q215 T a) (q216 T a) = q220 T a := rfl

theorem stOut4 (T : FVec F S12x4x496 .f32) (a : FVec F S4x496 .f32) : k0_pay2 (q219 T a) (q220 T a) = shapeCast S1x496x4 (transpose S496x4 [1, 0] (steps4 T a) transposes_S4x496_p1_0_S496x4) shapeCasts_S496x4_S1x496x4 := rfl

end Cert.KernelIdeal.Flow
-- ==== Proof.KFlowN.lean ====
/-
  The two results the last point stores, over its blocks.
-/
module

public import proofs.«01_k».proof.Proof.KStage

@[expose] public section

set_option maxRecDepth 16384
noncomputable section

namespace Cert.KernelIdeal.Flow
open Idealize.ShloMosaic Idealize.ShloMosaic.TcCoe
open Cert.KernelIdeal Cert.KernelIdeal.Gen

variable {F : FTy → Type} [FloatOps F]

section
variable (c : Dev nD) (i : grid0.Coords) (a1 : Memref sig .tc .vmem S4x32x9 .f32) (g1 : a1.IsWhole) (a2 : Memref sig .tc .vmem S9x9 .f32) (g2 : a2.IsWhole) (a3 : Memref sig .tc .vmem S3x9x128 .bf16) (g3 : a3.IsWhole) (a4 : Memref sig .tc .vmem S3x128x128 .bf16) (g4 : a4.IsWhole) (a5 : Memref sig .tc .vmem S3x128x128 .bf16) (g5 : a5.IsWhole) (a6 : Memref sig .tc .vmem S4x3x32x32 .bf16) (g6 : a6.IsWhole) (a7 : Memref sig .tc .vmem S136x32x32 .bf16) (g7 : a7.IsWhole) (a8 : Memref sig .tc .vmem S136x3x32 .f32) (g8 : a8.IsWhole) (a9 : Memref sig .tc .vmem S1x128 .f32) (g9 : a9.IsWhole) (a10 : Memref sig .tc .vmem S1x128 .f32) (g10 : a10.IsWhole) (a11 : Memref sig .tc .vmem S128x9 .f32) (g11 : a11.IsWhole) (a12 : Memref sig .tc .vmem S4x496x4 .f32) (g12 : a12.IsWhole) (a13 : Memref sig .tc .vmem S1536x128 .bf16) (g13 : a13.IsWhole) (a14 : Memref sig .tc .vmem S1536x1 .f32) (g14 : a14.IsWhole) (a15 : Memref sig .tc .vmem S12x9x128 .bf16) (g15 : a15.IsWhole) (a16 : Memref sig .tc .vmem S108x1 .f32) (g16 : a16.IsWhole) (a17 : Memref sig .tc .vmem S1536x384 .bf16) (g17 : a17.IsWhole) (a18 : Memref sig .tc .vmem S1536x1 .f32) (g18 : a18.IsWhole) (a19 : Memref sig .tc .vmem S12x4x128 .bf16) (g19 : a19.IsWhole) (a20 : Memref sig .tc .vmem S48x1 .f32) (g20 : a20.IsWhole) (a21 : Memref sig .tc .vmem S128x9 .f32) (g21 : a21.IsWhole) (a22 : Memref sig .tc .vmem S4x496x4 .f32) (g22 : a22.IsWhole) (a23 : Memref sig .tc .vmem S4x544x384 .f32) (g23 : a23.IsWhole) (a24 : Memref sig .tc .vmem S8x128 .f32) (g24 : a24.IsWhole) (hc0 : ¬cond0_0 i) (hc1 : cond0_1 i) (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (xs0 : Vec F S4x544x384 .f32) (xs1 : Vec F S8x128 .f32)

theorem e48 : (runC.sl.r_48 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q48 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_48
  exact st48 _ _

theorem e49 : (runC.sl.r_49 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q49 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_49
  exact st49 _ _

theorem e50 : (runC.sl.r_50 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q50 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_50
  rw [e48]
  rw [e49]
  exact st50 _ _

theorem e51 : (runC.sl.r_51 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q51 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_51
  exact st51 _ _

theorem e52 : (runC.sl.r_52 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q52 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_52
  rw [e48]
  rw [e49]
  exact st52 _ _

theorem e53 : (runC.sl.r_53 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q53 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_53
  rw [e50]
  rw [e51 (g11 := g11) (x10 := x10)]
  rw [e52]
  exact st53 _ _

theorem e54 : (runC.sl.r_54 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q54 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_54
  exact st54 _ _

theorem e55 : (runC.sl.r_55 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q55 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_55
  rw [e50]
  rw [e51 (g11 := g11) (x10 := x10)]
  rw [e52]
  exact st55 _ _

theorem e56 : (runC.sl.r_56 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q56 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_56
  rw [e53]
  rw [e54 (g11 := g11) (x10 := x10)]
  rw [e55]
  exact st56 _ _

theorem e57 : (runC.sl.r_57 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q57 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_57
  rw [e53]
  rw [e54 (g11 := g11) (x10 := x10)]
  rw [e55]
  exact st57 _ _

theorem e58 : (runC.sl.r_58 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q58 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_58
  exact st58 _ _

theorem e59 : (runC.sl.r_59 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q59 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_59
  rw [e56]
  rw [e57]
  rw [e58 (g11 := g11) (x10 := x10)]
  exact st59 _ _

theorem e60 : (runC.sl.r_60 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q60 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_60
  rw [e56]
  rw [e57]
  rw [e58 (g11 := g11) (x10 := x10)]
  exact st60 _ _

theorem e61 : (runC.sl.r_61 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q61 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_61
  exact st61 _ _

theorem e62 : (runC.sl.r_62 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q62 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_62
  exact st62 _ _

theorem e63 : (runC.sl.r_63 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q63 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_63
  rw [e59]
  rw [e60]
  rw [e61 (g11 := g11) (x10 := x10)]
  rw [e62 (g11 := g11) (x10 := x10)]
  exact st63 _ _

theorem e64 : (runC.sl.r_64 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q64 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_64
  exact st64 _ _

theorem e65 : (runC.sl.r_65 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q65 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_65
  rw [e59]
  rw [e60]
  rw [e61 (g11 := g11) (x10 := x10)]
  rw [e62 (g11 := g11) (x10 := x10)]
  exact st65 _ _

theorem e66 : (runC.sl.r_66 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q66 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_66
  exact st66 _ _

theorem e67 : (runC.sl.r_67 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q67 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_67
  rw [e63]
  rw [e64 (g11 := g11) (x10 := x10)]
  rw [e65]
  rw [e66 (g11 := g11) (x10 := x10)]
  exact st67 _ _

theorem e68 : (runC.sl.r_68 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q68 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_68
  exact st68 _ _

theorem e69 : (runC.sl.r_69 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q69 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_69
  rw [e63]
  rw [e64 (g11 := g11) (x10 := x10)]
  rw [e65]
  rw [e66 (g11 := g11) (x10 := x10)]
  exact st69 _ _

theorem e70 : (runC.sl.r_70 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q70 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_70
  rw [e67]
  rw [e68 (g11 := g11) (x10 := x10)]
  rw [e69]
  exact st70 _ _

theorem e71 : (runC.sl.r_71 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q71 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_71
  exact st71 _ _

theorem e72 : (runC.sl.r_72 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q72 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_72
  rw [e67]
  rw [e68 (g11 := g11) (x10 := x10)]
  rw [e69]
  exact st72 _ _

theorem e73 : (runC.sl.r_73 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q73 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_73
  rw [e67]
  rw [e68 (g11 := g11) (x10 := x10)]
  rw [e69]
  exact st73 _ _

theorem e74 : (runC.sl.r_74 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q74 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_74
  rw [e70]
  rw [e71 (g11 := g11) (x10 := x10)]
  rw [e72]
  rw [e73]
  exact st74 _ _

theorem e75 : (runC.sl.r_75 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q75 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_75
  exact st75 _ _

theorem e76 : (runC.sl.r_76 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q76 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_76
  rw [e70]
  rw [e71 (g11 := g11) (x10 := x10)]
  rw [e72]
  rw [e73]
  exact st76 _ _

theorem e77 : (runC.sl.r_77 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q77 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_77
  exact st77 _ _

theorem e78 : (runC.sl.r_78 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q78 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_78
  rw [e70]
  rw [e71 (g11 := g11) (x10 := x10)]
  rw [e72]
  rw [e73]
  exact st78 _ _

theorem e79 : (runC.sl.r_79 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q79 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_79
  rw [e74]
  rw [e75 (g11 := g11) (x10 := x10)]
  rw [e76]
  rw [e77 (g11 := g11) (x10 := x10)]
  rw [e78]
  exact st79 _ _

theorem e80 : (runC.sl.r_80 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q80 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_80
  exact st80 _ _

theorem e81 : (runC.sl.r_81 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q81 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_81
  rw [e74]
  rw [e75 (g11 := g11) (x10 := x10)]
  rw [e76]
  rw [e77 (g11 := g11) (x10 := x10)]
  rw [e78]
  exact st81 _ _

theorem e82 : (runC.sl.r_82 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q82 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_82
  exact st82 _ _

theorem e83 : (runC.sl.r_83 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q83 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_83
  rw [e74]
  rw [e75 (g11 := g11) (x10 := x10)]
  rw [e76]
  rw [e77 (g11 := g11) (x10 := x10)]
  rw [e78]
  exact st83 _ _

theorem e84 : (runC.sl.r_84 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q84 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_84
  rw [e79]
  rw [e80 (g11 := g11) (x10 := x10)]
  rw [e81]
  rw [e82 (g11 := g11) (x10 := x10)]
  rw [e83]
  exact st84 _ _

theorem e85 : (runC.sl.r_85 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q85 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_85
  exact st85 _ _

theorem e86 : (runC.sl.r_86 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q86 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_86
  rw [e79]
  rw [e80 (g11 := g11) (x10 := x10)]
  rw [e81]
  rw [e82 (g11 := g11) (x10 := x10)]
  rw [e83]
  exact st86 _ _

theorem e87 : (runC.sl.r_87 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q87 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_87
  exact st87 _ _

theorem e88 : (runC.sl.r_88 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q88 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_88
  rw [e84]
  rw [e85 (g11 := g11) (x10 := x10)]
  rw [e86]
  rw [e87 (g11 := g11) (x10 := x10)]
  exact st88 _ _

theorem e89 : (runC.sl.r_89 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q89 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_89
  exact st89 _ _

theorem e90 : (runC.sl.r_90 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) = q90 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_90
  rw [e84]
  rw [e85 (g11 := g11) (x10 := x10)]
  rw [e86]
  rw [e87 (g11 := g11) (x10 := x10)]
  exact st90 _ _

theorem e91 : (runC.sl.r_91 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q91 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_91
  exact st91 _ _

theorem e92 : (runC.sl.r_92 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = q92 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10) := by
  delta runC.sl.r_92
  exact st92 _ _

set_option maxHeartbeats 1000000 in
theorem eT0 : (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = soft9 (logits9 (runC.sl.r_38 i _ g1 _ g2 _ g3 _ g4 _ g5 _ g6 _ g7 _ g8 _ g9 _ g10 _ g13 _ g14 _ g23 _ g24 x0 x1 x2 x3 x4 x5 x6 x7 x8 x9 x12 x13 xs0 xs1) (ldF15 _ g15 x14 0 (by decide)) (ldF15 _ g15 x14 1 (by decide)) (ldF15 _ g15 x14 2 (by decide)) (ldF15 _ g15 x14 3 (by decide)) (ldF15 _ g15 x14 4 (by decide)) (ldF15 _ g15 x14 5 (by decide)) (ldF15 _ g15 x14 6 (by decide)) (ldF15 _ g15 x14 7 (by decide)) (ldF15 _ g15 x14 8 (by decide)) (ldF15 _ g15 x14 9 (by decide)) (ldF15 _ g15 x14 10 (by decide)) (ldF15 _ g15 x14 11 (by decide)) (ldF16 _ g16 x15)) := rfl

theorem outq0 : k0_pay73 (runC.sl.r_88 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) (runC.sl.r_89 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_90 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) (runC.sl.r_91 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_92 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = k0_pay73 (q88 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10)) (q89 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10)) (q90 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10)) (q91 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10)) (q92 (runC.sl.r_47 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_35 _ g11 x10)) := by
  rw [e88, e89 (g11 := g11) (x10 := x10), e90, e91 (g11 := g11) (x10 := x10), e92 (g11 := g11) (x10 := x10)]
theorem out0 : k0_pay73 (runC.sl.r_88 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) (runC.sl.r_89 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_90 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) (runC.sl.r_91 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_92 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) = nodesOf (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![0, 0] S1x128.size inb_S8x128_S1x128_0_0).toLoadRect) (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![1, 0] S1x128.size inb_S8x128_S1x128_1_0).toLoadRect) (ldF9 _ g9 x8) (ldF9 _ g10 x9) (View.readAt (Elt F) a23.view (Rect.unit (s := S4x544x384) ![0, 496, 256] S4x32x128.size inb_S4x544x384_S4x32x128_0_496_256).toLoadRect (a23.view.writes (Elt F) (g23.unread xs0) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.1)) (ldF11 _ g11 x10) (ldF13 _ g13 x12) (ldF14 _ g14 x13) (ldF15 _ g15 x14 0 (by decide)) (ldF15 _ g15 x14 1 (by decide)) (ldF15 _ g15 x14 2 (by decide)) (ldF15 _ g15 x14 3 (by decide)) (ldF15 _ g15 x14 4 (by decide)) (ldF15 _ g15 x14 5 (by decide)) (ldF15 _ g15 x14 6 (by decide)) (ldF15 _ g15 x14 7 (by decide)) (ldF15 _ g15 x14 8 (by decide)) (ldF15 _ g15 x14 9 (by decide)) (ldF15 _ g15 x14 10 (by decide)) (ldF15 _ g15 x14 11 (by decide)) (ldF16 _ g16 x15) := by
  refine (outq0 ..).trans ?_
  refine (stOut0 _ _).trans ?_
  refine (congrArg (fun T => transpose S128x9 [1, 0] (steps9 T (runC.sl.r_35 _ g11 x10)) transposes_S9x128_p1_0_S128x9) (eT0 ..)).trans ?_
  rfl

theorem runC_nodes : (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).1 = [⟨Rect.unit (s := S128x9) ![0, 0] S128x9.size inb_S128x9_S128x9_0_0, nodesOf (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![0, 0] S1x128.size inb_S8x128_S1x128_0_0).toLoadRect) (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![1, 0] S1x128.size inb_S8x128_S1x128_1_0).toLoadRect) x8 x9 (View.readAt (Elt F) a23.view (Rect.unit (s := S4x544x384) ![0, 496, 256] S4x32x128.size inb_S4x544x384_S4x32x128_0_496_256).toLoadRect (a23.view.writes (Elt F) (g23.unread xs0) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.1)) x10 x12 x13 (slF15 x14 0) (slF15 x14 1) (slF15 x14 2) (slF15 x14 3) (slF15 x14 4) (slF15 x14 5) (slF15 x14 6) (slF15 x14 7) (slF15 x14 8) (slF15 x14 9) (slF15 x14 10) (slF15 x14 11) x15⟩] := by
  have h : (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).1 = [⟨Rect.unit (s := S128x9) ![0, 0] S128x9.size inb_S128x9_S128x9_0_0, k0_pay73 (runC.sl.r_88 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) (runC.sl.r_89 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_90 i _ g1 _ g2 _ g3 _ g4 _ g5 _ g6 _ g7 _ g8 _ g9 _ g10 _ g11 _ g13 _ g14 _ g15 _ g16 _ g23 _ g24 x0 x1 x2 x3 x4 x5 x6 x7 x8 x9 x10 x12 x13 x14 x15 xs0 xs1) (runC.sl.r_91 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1) (runC.sl.r_92 i _ g1 _ g2 _ g3 _ g4 _ g5 _ g6 _ g7 _ g8 _ g9 _ g10 _ g13 _ g14 _ g15 _ g16 _ g23 _ g24 x0 x1 x2 x3 x4 x5 x6 x7 x8 x9 x12 x13 x14 x15 xs0 xs1)⟩] := rfl
  refine h.trans ?_
  rw [out0 c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1]
  simp only [ldF9_eq, ldF11_eq, ldF13_eq, ldF14_eq, ldF16_eq, ldF17_eq, ldF20_eq, ldF12_eq, ldF15_eq, ldF19_eq]
  rfl

end
end Cert.KernelIdeal.Flow
-- ==== Proof.KFlowE1.lean ====
/-
  The two results the last point stores, over its blocks.
-/
module

public import proofs.«01_k».proof.Proof.KStage

@[expose] public section

set_option maxRecDepth 16384
noncomputable section

namespace Cert.KernelIdeal.Flow
open Idealize.ShloMosaic Idealize.ShloMosaic.TcCoe
open Cert.KernelIdeal Cert.KernelIdeal.Gen

variable {F : FTy → Type} [FloatOps F]

section
variable (c : Dev nD) (i : grid0.Coords) (a1 : Memref sig .tc .vmem S4x32x9 .f32) (g1 : a1.IsWhole) (a2 : Memref sig .tc .vmem S9x9 .f32) (g2 : a2.IsWhole) (a3 : Memref sig .tc .vmem S3x9x128 .bf16) (g3 : a3.IsWhole) (a4 : Memref sig .tc .vmem S3x128x128 .bf16) (g4 : a4.IsWhole) (a5 : Memref sig .tc .vmem S3x128x128 .bf16) (g5 : a5.IsWhole) (a6 : Memref sig .tc .vmem S4x3x32x32 .bf16) (g6 : a6.IsWhole) (a7 : Memref sig .tc .vmem S136x32x32 .bf16) (g7 : a7.IsWhole) (a8 : Memref sig .tc .vmem S136x3x32 .f32) (g8 : a8.IsWhole) (a9 : Memref sig .tc .vmem S1x128 .f32) (g9 : a9.IsWhole) (a10 : Memref sig .tc .vmem S1x128 .f32) (g10 : a10.IsWhole) (a11 : Memref sig .tc .vmem S128x9 .f32) (g11 : a11.IsWhole) (a12 : Memref sig .tc .vmem S4x496x4 .f32) (g12 : a12.IsWhole) (a13 : Memref sig .tc .vmem S1536x128 .bf16) (g13 : a13.IsWhole) (a14 : Memref sig .tc .vmem S1536x1 .f32) (g14 : a14.IsWhole) (a15 : Memref sig .tc .vmem S12x9x128 .bf16) (g15 : a15.IsWhole) (a16 : Memref sig .tc .vmem S108x1 .f32) (g16 : a16.IsWhole) (a17 : Memref sig .tc .vmem S1536x384 .bf16) (g17 : a17.IsWhole) (a18 : Memref sig .tc .vmem S1536x1 .f32) (g18 : a18.IsWhole) (a19 : Memref sig .tc .vmem S12x4x128 .bf16) (g19 : a19.IsWhole) (a20 : Memref sig .tc .vmem S48x1 .f32) (g20 : a20.IsWhole) (a21 : Memref sig .tc .vmem S128x9 .f32) (g21 : a21.IsWhole) (a22 : Memref sig .tc .vmem S4x496x4 .f32) (g22 : a22.IsWhole) (a23 : Memref sig .tc .vmem S4x544x384 .f32) (g23 : a23.IsWhole) (a24 : Memref sig .tc .vmem S8x128 .f32) (g24 : a24.IsWhole) (hc0 : ¬cond0_0 i) (hc1 : cond0_1 i) (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (xs0 : Vec F S4x544x384 .f32) (xs1 : Vec F S8x128 .f32)

theorem e108 : (runC.sl.r_108 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q108 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_108
  exact st108 (runC.sl.r_95 _ g12 x11) _ _ _ _ _ _ _ _ _ _ _ _ _ _ _

theorem e109 : (runC.sl.r_109 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q109 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_109
  exact st109 (runC.sl.r_95 _ g12 x11) _ _ _ _ _ _ _ _ _ _ _ _ _ _ _

theorem e110 : (runC.sl.r_110 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q110 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_110
  exact st110 (runC.sl.r_95 _ g12 x11) _ _ _ _ _ _ _ _ _ _ _ _ _ _ _

theorem e111 : (runC.sl.r_111 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q111 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_111
  rw [e108 (g12 := g12) (x11 := x11)]
  rw [e109]
  rw [e110 (g12 := g12) (x11 := x11)]
  exact st111 _ _

theorem e112 : (runC.sl.r_112 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q112 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_112
  exact st112 _ _

theorem e113 : (runC.sl.r_113 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q113 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_113
  rw [e108 (g12 := g12) (x11 := x11)]
  rw [e109]
  rw [e110 (g12 := g12) (x11 := x11)]
  exact st113 _ _

theorem e114 : (runC.sl.r_114 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q114 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_114
  rw [e111]
  rw [e112 (g12 := g12) (x11 := x11)]
  rw [e113]
  exact st114 _ _

theorem e115 : (runC.sl.r_115 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q115 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_115
  exact st115 _ _

theorem e116 : (runC.sl.r_116 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q116 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_116
  rw [e111]
  rw [e112 (g12 := g12) (x11 := x11)]
  rw [e113]
  exact st116 _ _

theorem e117 : (runC.sl.r_117 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q117 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_117
  rw [e114]
  rw [e115 (g12 := g12) (x11 := x11)]
  rw [e116]
  exact st117 _ _

theorem e118 : (runC.sl.r_118 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q118 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_118
  exact st118 _ _

theorem e119 : (runC.sl.r_119 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q119 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_119
  rw [e114]
  rw [e115 (g12 := g12) (x11 := x11)]
  rw [e116]
  exact st119 _ _

theorem e120 : (runC.sl.r_120 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q120 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_120
  exact st120 _ _

theorem e121 : (runC.sl.r_121 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q121 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_121
  rw [e117]
  rw [e118 (g12 := g12) (x11 := x11)]
  rw [e119]
  rw [e120 (g12 := g12) (x11 := x11)]
  exact st121 _ _

theorem e122 : (runC.sl.r_122 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q122 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_122
  rw [e117]
  rw [e118 (g12 := g12) (x11 := x11)]
  rw [e119]
  rw [e120 (g12 := g12) (x11 := x11)]
  exact st122 _ _

theorem e123 : (runC.sl.r_123 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q123 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_123
  exact st123 _ _

theorem e124 : (runC.sl.r_124 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q124 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_124
  exact st124 _ _

theorem e125 : (runC.sl.r_125 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q125 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11) := by
  delta runC.sl.r_125
  rw [e121]
  rw [e122]
  rw [e123 (g12 := g12) (x11 := x11)]
  rw [e124 (g12 := g12) (x11 := x11)]
  exact st125 _ _

set_option maxHeartbeats 1000000 in
theorem eT1 : (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = soft4 (logits4 (runC.sl.r_96 i _ g1 _ g2 _ g3 _ g4 _ g5 _ g6 _ g7 _ g8 _ g9 _ g10 _ g17 _ g18 _ g23 _ g24 x0 x1 x2 x3 x4 x5 x6 x7 x8 x9 x16 x17 xs0 xs1) (ldF19 _ g19 x18 0 (by decide)) (ldF19 _ g19 x18 1 (by decide)) (ldF19 _ g19 x18 2 (by decide)) (ldF19 _ g19 x18 3 (by decide)) (ldF19 _ g19 x18 4 (by decide)) (ldF19 _ g19 x18 5 (by decide)) (ldF19 _ g19 x18 6 (by decide)) (ldF19 _ g19 x18 7 (by decide)) (ldF19 _ g19 x18 8 (by decide)) (ldF19 _ g19 x18 9 (by decide)) (ldF19 _ g19 x18 10 (by decide)) (ldF19 _ g19 x18 11 (by decide)) (ldF20 _ g20 x19)) := rfl

theorem e140 : (runC.sl.r_140 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q140 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_140
  exact st140 (runC.sl.r_126 _ g12 x11) _ _ _ _ _ _ _ _ _ _ _ _ _ _

theorem e141 : (runC.sl.r_141 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q141 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_141
  exact st141 (runC.sl.r_126 _ g12 x11) _ _ _ _ _ _ _ _ _ _ _ _ _ _

theorem e142 : (runC.sl.r_142 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q142 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_142
  exact st142 (runC.sl.r_126 _ g12 x11) _ _ _ _ _ _ _ _ _ _ _ _ _ _

theorem e143 : (runC.sl.r_143 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q143 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_143
  rw [e140]
  rw [e141 (g12 := g12) (x11 := x11)]
  rw [e142]
  exact st143 _ _

theorem e144 : (runC.sl.r_144 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q144 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_144
  exact st144 _ _

theorem e145 : (runC.sl.r_145 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q145 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_145
  rw [e140]
  rw [e141 (g12 := g12) (x11 := x11)]
  rw [e142]
  exact st145 _ _

theorem e146 : (runC.sl.r_146 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q146 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_146
  rw [e140]
  rw [e141 (g12 := g12) (x11 := x11)]
  rw [e142]
  exact st146 _ _

theorem e147 : (runC.sl.r_147 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q147 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_147
  rw [e143]
  rw [e144 (g12 := g12) (x11 := x11)]
  rw [e145]
  rw [e146]
  exact st147 _ _

theorem e148 : (runC.sl.r_148 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q148 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_148
  exact st148 _ _

theorem e149 : (runC.sl.r_149 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q149 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_149
  rw [e143]
  rw [e144 (g12 := g12) (x11 := x11)]
  rw [e145]
  rw [e146]
  exact st149 _ _

theorem e150 : (runC.sl.r_150 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q150 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_150
  rw [e147]
  rw [e148 (g12 := g12) (x11 := x11)]
  rw [e149]
  exact st150 _ _

theorem e151 : (runC.sl.r_151 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q151 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_151
  exact st151 _ _

theorem e152 : (runC.sl.r_152 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q152 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_152
  rw [e150]
  rw [e151 (g12 := g12) (x11 := x11)]
  exact st152 _ _

theorem e153 : (runC.sl.r_153 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q153 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_153
  exact st153 _ _

theorem e154 : (runC.sl.r_154 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q154 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_154
  rw [e150]
  rw [e151 (g12 := g12) (x11 := x11)]
  exact st154 _ _

theorem e155 : (runC.sl.r_155 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q155 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_155
  exact st155 _ _

theorem e156 : (runC.sl.r_156 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q156 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11) := by
  delta runC.sl.r_156
  rw [e150]
  rw [e151 (g12 := g12) (x11 := x11)]
  exact st156 _ _

set_option maxHeartbeats 1000000 in
theorem eT2 : (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = soft4 (logits4 (runC.sl.r_127 i _ g1 _ g2 _ g3 _ g4 _ g5 _ g6 _ g7 _ g8 _ g9 _ g10 _ g17 _ g18 _ g23 _ g24 x0 x1 x2 x3 x4 x5 x6 x7 x8 x9 x16 x17 xs0 xs1) (ldF19 _ g19 x18 0 (by decide)) (ldF19 _ g19 x18 1 (by decide)) (ldF19 _ g19 x18 2 (by decide)) (ldF19 _ g19 x18 3 (by decide)) (ldF19 _ g19 x18 4 (by decide)) (ldF19 _ g19 x18 5 (by decide)) (ldF19 _ g19 x18 6 (by decide)) (ldF19 _ g19 x18 7 (by decide)) (ldF19 _ g19 x18 8 (by decide)) (ldF19 _ g19 x18 9 (by decide)) (ldF19 _ g19 x18 10 (by decide)) (ldF19 _ g19 x18 11 (by decide)) (ldF20 _ g20 x19)) := rfl

theorem outq1 : k0_pay110 (runC.sl.r_125 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = k0_pay110 (q125 (runC.sl.r_107 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_95 _ g12 x11)) := by
  rw [e125]
theorem out1 : k0_pay110 (runC.sl.r_125 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = edgesOf (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![0, 0] S1x128.size inb_S8x128_S1x128_0_0).toLoadRect) (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![1, 0] S1x128.size inb_S8x128_S1x128_1_0).toLoadRect) (ldF9 _ g9 x8) (ldF9 _ g10 x9) (View.readAt (Elt F) a23.view (Rect.unit (s := S4x544x384) ![0, 0, 0] S1x496x384.size inb_S4x544x384_S1x496x384_0_0_0).toLoadRect (a23.view.writes (Elt F) (g23.unread xs0) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.1)) (ldF12 _ g12 x11 0 (by decide)) (ldF17 _ g17 x16) (ldF14 _ g18 x17) (ldF19 _ g19 x18 0 (by decide)) (ldF19 _ g19 x18 1 (by decide)) (ldF19 _ g19 x18 2 (by decide)) (ldF19 _ g19 x18 3 (by decide)) (ldF19 _ g19 x18 4 (by decide)) (ldF19 _ g19 x18 5 (by decide)) (ldF19 _ g19 x18 6 (by decide)) (ldF19 _ g19 x18 7 (by decide)) (ldF19 _ g19 x18 8 (by decide)) (ldF19 _ g19 x18 9 (by decide)) (ldF19 _ g19 x18 10 (by decide)) (ldF19 _ g19 x18 11 (by decide)) (ldF20 _ g20 x19) := by
  refine (outq1 ..).trans ?_
  refine (stOut1 _ _).trans ?_
  refine (congrArg (fun T => shapeCast S1x496x4 (transpose S496x4 [1, 0] (steps4 T (runC.sl.r_95 _ g12 x11)) transposes_S4x496_p1_0_S496x4) shapeCasts_S496x4_S1x496x4) (eT1 ..)).trans ?_
  rfl

theorem outq2 : k0_pay141 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_152 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) (runC.sl.r_153 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_154 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) (runC.sl.r_155 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_156 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = k0_pay141 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (q152 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11)) (q153 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11)) (q154 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11)) (q155 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11)) (q156 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_126 _ g12 x11)) := by
  rw [e152, e153 (g12 := g12) (x11 := x11), e154, e155 (g12 := g12) (x11 := x11), e156]
theorem out2 : k0_pay141 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_152 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) (runC.sl.r_153 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_154 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) (runC.sl.r_155 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_156 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = edgesOf (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![0, 0] S1x128.size inb_S8x128_S1x128_0_0).toLoadRect) (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![1, 0] S1x128.size inb_S8x128_S1x128_1_0).toLoadRect) (ldF9 _ g9 x8) (ldF9 _ g10 x9) (View.readAt (Elt F) a23.view (Rect.unit (s := S4x544x384) ![1, 0, 0] S1x496x384.size inb_S4x544x384_S1x496x384_1_0_0).toLoadRect (a23.view.writes (Elt F) (g23.unread xs0) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.1)) (ldF12 _ g12 x11 1 (by decide)) (ldF17 _ g17 x16) (ldF14 _ g18 x17) (ldF19 _ g19 x18 0 (by decide)) (ldF19 _ g19 x18 1 (by decide)) (ldF19 _ g19 x18 2 (by decide)) (ldF19 _ g19 x18 3 (by decide)) (ldF19 _ g19 x18 4 (by decide)) (ldF19 _ g19 x18 5 (by decide)) (ldF19 _ g19 x18 6 (by decide)) (ldF19 _ g19 x18 7 (by decide)) (ldF19 _ g19 x18 8 (by decide)) (ldF19 _ g19 x18 9 (by decide)) (ldF19 _ g19 x18 10 (by decide)) (ldF19 _ g19 x18 11 (by decide)) (ldF20 _ g20 x19) := by
  refine (outq2 ..).trans ?_
  refine (stOut2 _ _).trans ?_
  refine (congrArg (fun T => shapeCast S1x496x4 (transpose S496x4 [1, 0] (steps4 T (runC.sl.r_126 _ g12 x11)) transposes_S4x496_p1_0_S496x4) shapeCasts_S496x4_S1x496x4) (eT2 ..)).trans ?_
  rfl

end
end Cert.KernelIdeal.Flow
-- ==== Proof.KFlowE2.lean ====
/-
  The two results the last point stores, over its blocks.
-/
module

public import proofs.«01_k».proof.Proof.KStage

@[expose] public section

set_option maxRecDepth 16384
noncomputable section

namespace Cert.KernelIdeal.Flow
open Idealize.ShloMosaic Idealize.ShloMosaic.TcCoe
open Cert.KernelIdeal Cert.KernelIdeal.Gen

variable {F : FTy → Type} [FloatOps F]

section
variable (c : Dev nD) (i : grid0.Coords) (a1 : Memref sig .tc .vmem S4x32x9 .f32) (g1 : a1.IsWhole) (a2 : Memref sig .tc .vmem S9x9 .f32) (g2 : a2.IsWhole) (a3 : Memref sig .tc .vmem S3x9x128 .bf16) (g3 : a3.IsWhole) (a4 : Memref sig .tc .vmem S3x128x128 .bf16) (g4 : a4.IsWhole) (a5 : Memref sig .tc .vmem S3x128x128 .bf16) (g5 : a5.IsWhole) (a6 : Memref sig .tc .vmem S4x3x32x32 .bf16) (g6 : a6.IsWhole) (a7 : Memref sig .tc .vmem S136x32x32 .bf16) (g7 : a7.IsWhole) (a8 : Memref sig .tc .vmem S136x3x32 .f32) (g8 : a8.IsWhole) (a9 : Memref sig .tc .vmem S1x128 .f32) (g9 : a9.IsWhole) (a10 : Memref sig .tc .vmem S1x128 .f32) (g10 : a10.IsWhole) (a11 : Memref sig .tc .vmem S128x9 .f32) (g11 : a11.IsWhole) (a12 : Memref sig .tc .vmem S4x496x4 .f32) (g12 : a12.IsWhole) (a13 : Memref sig .tc .vmem S1536x128 .bf16) (g13 : a13.IsWhole) (a14 : Memref sig .tc .vmem S1536x1 .f32) (g14 : a14.IsWhole) (a15 : Memref sig .tc .vmem S12x9x128 .bf16) (g15 : a15.IsWhole) (a16 : Memref sig .tc .vmem S108x1 .f32) (g16 : a16.IsWhole) (a17 : Memref sig .tc .vmem S1536x384 .bf16) (g17 : a17.IsWhole) (a18 : Memref sig .tc .vmem S1536x1 .f32) (g18 : a18.IsWhole) (a19 : Memref sig .tc .vmem S12x4x128 .bf16) (g19 : a19.IsWhole) (a20 : Memref sig .tc .vmem S48x1 .f32) (g20 : a20.IsWhole) (a21 : Memref sig .tc .vmem S128x9 .f32) (g21 : a21.IsWhole) (a22 : Memref sig .tc .vmem S4x496x4 .f32) (g22 : a22.IsWhole) (a23 : Memref sig .tc .vmem S4x544x384 .f32) (g23 : a23.IsWhole) (a24 : Memref sig .tc .vmem S8x128 .f32) (g24 : a24.IsWhole) (hc0 : ¬cond0_0 i) (hc1 : cond0_1 i) (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (xs0 : Vec F S4x544x384 .f32) (xs1 : Vec F S8x128 .f32)

theorem e169 : (runC.sl.r_169 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q169 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_169
  exact st169 (runC.sl.r_159 _ g12 x11) _ _

theorem e170 : (runC.sl.r_170 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q170 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_170
  exact st170 (runC.sl.r_159 _ g12 x11) _ _

theorem e171 : (runC.sl.r_171 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q171 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_171
  exact st171 (runC.sl.r_159 _ g12 x11) _ _

theorem e172 : (runC.sl.r_172 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q172 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_172
  exact st172 (runC.sl.r_159 _ g12 x11) _ _

theorem e173 : (runC.sl.r_173 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q173 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_173
  exact st173 (runC.sl.r_159 _ g12 x11) _ _

theorem e174 : (runC.sl.r_174 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q174 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_174
  rw [e169]
  rw [e170 (g12 := g12) (x11 := x11)]
  rw [e171]
  rw [e172 (g12 := g12) (x11 := x11)]
  rw [e173]
  exact st174 _ _

theorem e175 : (runC.sl.r_175 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q175 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_175
  rw [e169]
  rw [e170 (g12 := g12) (x11 := x11)]
  rw [e171]
  rw [e172 (g12 := g12) (x11 := x11)]
  rw [e173]
  exact st175 _ _

theorem e176 : (runC.sl.r_176 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q176 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_176
  rw [e174]
  rw [e175]
  exact st176 _ _

theorem e177 : (runC.sl.r_177 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q177 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_177
  exact st177 _ _

theorem e178 : (runC.sl.r_178 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q178 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_178
  rw [e174]
  rw [e175]
  exact st178 _ _

theorem e179 : (runC.sl.r_179 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q179 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_179
  exact st179 _ _

theorem e180 : (runC.sl.r_180 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q180 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_180
  exact st180 _ _

theorem e181 : (runC.sl.r_181 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q181 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_181
  rw [e176]
  rw [e177 (g12 := g12) (x11 := x11)]
  rw [e178]
  rw [e179 (g12 := g12) (x11 := x11)]
  rw [e180 (g12 := g12) (x11 := x11)]
  exact st181 _ _

theorem e182 : (runC.sl.r_182 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q182 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_182
  exact st182 _ _

theorem e183 : (runC.sl.r_183 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q183 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_183
  rw [e176]
  rw [e177 (g12 := g12) (x11 := x11)]
  rw [e178]
  rw [e179 (g12 := g12) (x11 := x11)]
  rw [e180 (g12 := g12) (x11 := x11)]
  exact st183 _ _

theorem e184 : (runC.sl.r_184 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q184 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_184
  exact st184 _ _

theorem e185 : (runC.sl.r_185 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q185 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_185
  rw [e181]
  rw [e182 (g12 := g12) (x11 := x11)]
  rw [e183]
  rw [e184 (g12 := g12) (x11 := x11)]
  exact st185 _ _

theorem e186 : (runC.sl.r_186 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q186 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_186
  exact st186 _ _

theorem e187 : (runC.sl.r_187 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q187 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11) := by
  delta runC.sl.r_187
  rw [e181]
  rw [e182 (g12 := g12) (x11 := x11)]
  rw [e183]
  rw [e184 (g12 := g12) (x11 := x11)]
  exact st187 _ _

set_option maxHeartbeats 1000000 in
theorem eT3 : (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = soft4 (logits4 (runC.sl.r_160 i _ g1 _ g2 _ g3 _ g4 _ g5 _ g6 _ g7 _ g8 _ g9 _ g10 _ g17 _ g18 _ g23 _ g24 x0 x1 x2 x3 x4 x5 x6 x7 x8 x9 x16 x17 xs0 xs1) (ldF19 _ g19 x18 0 (by decide)) (ldF19 _ g19 x18 1 (by decide)) (ldF19 _ g19 x18 2 (by decide)) (ldF19 _ g19 x18 3 (by decide)) (ldF19 _ g19 x18 4 (by decide)) (ldF19 _ g19 x18 5 (by decide)) (ldF19 _ g19 x18 6 (by decide)) (ldF19 _ g19 x18 7 (by decide)) (ldF19 _ g19 x18 8 (by decide)) (ldF19 _ g19 x18 9 (by decide)) (ldF19 _ g19 x18 10 (by decide)) (ldF19 _ g19 x18 11 (by decide)) (ldF20 _ g20 x19)) := rfl

theorem e201 : (runC.sl.r_201 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q201 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_201
  exact st201 (runC.sl.r_188 _ g12 x11) _ _

theorem e202 : (runC.sl.r_202 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q202 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_202
  exact st202 (runC.sl.r_188 _ g12 x11) _ _

theorem e203 : (runC.sl.r_203 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q203 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_203
  exact st203 (runC.sl.r_188 _ g12 x11) _ _

theorem e204 : (runC.sl.r_204 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q204 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_204
  rw [e201]
  rw [e202 (g12 := g12) (x11 := x11)]
  rw [e203]
  exact st204 _ _

theorem e205 : (runC.sl.r_205 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q205 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_205
  exact st205 _ _

theorem e206 : (runC.sl.r_206 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q206 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_206
  rw [e201]
  rw [e202 (g12 := g12) (x11 := x11)]
  rw [e203]
  exact st206 _ _

theorem e207 : (runC.sl.r_207 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q207 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_207
  exact st207 _ _

theorem e208 : (runC.sl.r_208 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q208 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_208
  rw [e204]
  rw [e205 (g12 := g12) (x11 := x11)]
  rw [e206]
  rw [e207 (g12 := g12) (x11 := x11)]
  exact st208 _ _

theorem e209 : (runC.sl.r_209 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q209 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_209
  rw [e204]
  rw [e205 (g12 := g12) (x11 := x11)]
  rw [e206]
  rw [e207 (g12 := g12) (x11 := x11)]
  exact st209 _ _

theorem e210 : (runC.sl.r_210 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q210 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_210
  exact st210 _ _

theorem e211 : (runC.sl.r_211 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q211 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_211
  exact st211 _ _

theorem e212 : (runC.sl.r_212 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q212 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_212
  rw [e208]
  rw [e209]
  rw [e210 (g12 := g12) (x11 := x11)]
  rw [e211 (g12 := g12) (x11 := x11)]
  exact st212 _ _

theorem e213 : (runC.sl.r_213 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q213 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_213
  exact st213 _ _

theorem e214 : (runC.sl.r_214 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q214 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_214
  rw [e208]
  rw [e209]
  rw [e210 (g12 := g12) (x11 := x11)]
  rw [e211 (g12 := g12) (x11 := x11)]
  exact st214 _ _

theorem e215 : (runC.sl.r_215 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q215 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_215
  rw [e212]
  rw [e213 (g12 := g12) (x11 := x11)]
  rw [e214]
  exact st215 _ _

theorem e216 : (runC.sl.r_216 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = q216 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_216
  exact st216 _ _

theorem e217 : (runC.sl.r_217 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q217 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_217
  rw [e212]
  rw [e213 (g12 := g12) (x11 := x11)]
  rw [e214]
  exact st217 _ _

theorem e218 : (runC.sl.r_218 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q218 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_218
  rw [e212]
  rw [e213 (g12 := g12) (x11 := x11)]
  rw [e214]
  exact st218 _ _

theorem e219 : (runC.sl.r_219 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q219 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_219
  rw [e215]
  rw [e216 (g12 := g12) (x11 := x11)]
  rw [e217]
  rw [e218]
  exact st219 _ _

theorem e220 : (runC.sl.r_220 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = q220 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11) := by
  delta runC.sl.r_220
  rw [e215]
  rw [e216 (g12 := g12) (x11 := x11)]
  exact st220 _ _

set_option maxHeartbeats 1000000 in
theorem eT4 : (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) = soft4 (logits4 (runC.sl.r_190 i _ g1 _ g2 _ g3 _ g4 _ g5 _ g6 _ g7 _ g8 _ g9 _ g10 _ g17 _ g18 _ g23 _ g24 x0 x1 x2 x3 x4 x5 x6 x7 x8 x9 x16 x17 xs0 xs1) (ldF19 _ g19 x18 0 (by decide)) (ldF19 _ g19 x18 1 (by decide)) (ldF19 _ g19 x18 2 (by decide)) (ldF19 _ g19 x18 3 (by decide)) (ldF19 _ g19 x18 4 (by decide)) (ldF19 _ g19 x18 5 (by decide)) (ldF19 _ g19 x18 6 (by decide)) (ldF19 _ g19 x18 7 (by decide)) (ldF19 _ g19 x18 8 (by decide)) (ldF19 _ g19 x18 9 (by decide)) (ldF19 _ g19 x18 10 (by decide)) (ldF19 _ g19 x18 11 (by decide)) (ldF20 _ g20 x19)) := rfl

theorem outq3 : k0_pay177 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_185 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) (runC.sl.r_186 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_187 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = k0_pay177 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (q185 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11)) (q186 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11)) (q187 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_159 _ g12 x11)) := by
  rw [e185, e186 (g12 := g12) (x11 := x11), e187]
theorem out3 : k0_pay177 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_185 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) (runC.sl.r_186 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_187 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = edgesOf (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![0, 0] S1x128.size inb_S8x128_S1x128_0_0).toLoadRect) (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![1, 0] S1x128.size inb_S8x128_S1x128_1_0).toLoadRect) (ldF9 _ g9 x8) (ldF9 _ g10 x9) (View.readAt (Elt F) a23.view (Rect.unit (s := S4x544x384) ![2, 0, 0] S1x496x384.size inb_S4x544x384_S1x496x384_2_0_0).toLoadRect (a23.view.writes (Elt F) (g23.unread xs0) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.1)) (ldF12 _ g12 x11 2 (by decide)) (ldF17 _ g17 x16) (ldF14 _ g18 x17) (ldF19 _ g19 x18 0 (by decide)) (ldF19 _ g19 x18 1 (by decide)) (ldF19 _ g19 x18 2 (by decide)) (ldF19 _ g19 x18 3 (by decide)) (ldF19 _ g19 x18 4 (by decide)) (ldF19 _ g19 x18 5 (by decide)) (ldF19 _ g19 x18 6 (by decide)) (ldF19 _ g19 x18 7 (by decide)) (ldF19 _ g19 x18 8 (by decide)) (ldF19 _ g19 x18 9 (by decide)) (ldF19 _ g19 x18 10 (by decide)) (ldF19 _ g19 x18 11 (by decide)) (ldF20 _ g20 x19) := by
  refine (outq3 ..).trans ?_
  refine (stOut3 _ _).trans ?_
  refine (congrArg (fun T => shapeCast S1x496x4 (transpose S496x4 [1, 0] (steps4 T (runC.sl.r_159 _ g12 x11)) transposes_S4x496_p1_0_S496x4) shapeCasts_S496x4_S1x496x4) (eT3 ..)).trans ?_
  rfl

theorem outq4 : k0_pay2 (runC.sl.r_219 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) (runC.sl.r_220 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = k0_pay2 (q219 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11)) (q220 (runC.sl.r_200 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_188 _ g12 x11)) := by
  rw [e219, e220]
theorem out4 : k0_pay2 (runC.sl.r_219 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) (runC.sl.r_220 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) = edgesOf (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![0, 0] S1x128.size inb_S8x128_S1x128_0_0).toLoadRect) (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![1, 0] S1x128.size inb_S8x128_S1x128_1_0).toLoadRect) (ldF9 _ g9 x8) (ldF9 _ g10 x9) (View.readAt (Elt F) a23.view (Rect.unit (s := S4x544x384) ![3, 0, 0] S1x496x384.size inb_S4x544x384_S1x496x384_3_0_0).toLoadRect (a23.view.writes (Elt F) (g23.unread xs0) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.1)) (ldF12 _ g12 x11 3 (by decide)) (ldF17 _ g17 x16) (ldF14 _ g18 x17) (ldF19 _ g19 x18 0 (by decide)) (ldF19 _ g19 x18 1 (by decide)) (ldF19 _ g19 x18 2 (by decide)) (ldF19 _ g19 x18 3 (by decide)) (ldF19 _ g19 x18 4 (by decide)) (ldF19 _ g19 x18 5 (by decide)) (ldF19 _ g19 x18 6 (by decide)) (ldF19 _ g19 x18 7 (by decide)) (ldF19 _ g19 x18 8 (by decide)) (ldF19 _ g19 x18 9 (by decide)) (ldF19 _ g19 x18 10 (by decide)) (ldF19 _ g19 x18 11 (by decide)) (ldF20 _ g20 x19) := by
  refine (outq4 ..).trans ?_
  refine (stOut4 _ _).trans ?_
  refine (congrArg (fun T => shapeCast S1x496x4 (transpose S496x4 [1, 0] (steps4 T (runC.sl.r_188 _ g12 x11)) transposes_S4x496_p1_0_S496x4) shapeCasts_S496x4_S1x496x4) (eT4 ..)).trans ?_
  rfl

end
end Cert.KernelIdeal.Flow
-- ==== Proof.KFlowE.lean ====
/-
  The two results the last point stores, over its blocks.
-/
module

public import proofs.«01_k».proof.Proof.KFlowE1
public import proofs.«01_k».proof.Proof.KFlowE2

@[expose] public section

set_option maxRecDepth 16384
noncomputable section

namespace Cert.KernelIdeal.Flow
open Idealize.ShloMosaic Idealize.ShloMosaic.TcCoe
open Cert.KernelIdeal Cert.KernelIdeal.Gen

variable {F : FTy → Type} [FloatOps F]

theorem four {a0 a1 a2 a3 b0 b1 b2 b3 : FVec F S1x496x4 .f32} (h0 : a0 = b0) (h1 : a1 = b1) (h2 : a2 = b2) (h3 : a3 = b3) :
    ([⟨Rect.unit (s := S4x496x4) ![3, 0, 0] S1x496x4.size inb_S4x496x4_S1x496x4_3_0_0, a3⟩, ⟨Rect.unit (s := S4x496x4) ![2, 0, 0] S1x496x4.size inb_S4x496x4_S1x496x4_2_0_0, a2⟩, ⟨Rect.unit (s := S4x496x4) ![1, 0, 0] S1x496x4.size inb_S4x496x4_S1x496x4_1_0_0, a1⟩, ⟨Rect.unit (s := S4x496x4) ![0, 0, 0] S1x496x4.size inb_S4x496x4_S1x496x4_0_0_0, a0⟩] : List (View.Piece (Elt F) S4x496x4 .f32)) = [⟨Rect.unit (s := S4x496x4) ![3, 0, 0] S1x496x4.size inb_S4x496x4_S1x496x4_3_0_0, b3⟩, ⟨Rect.unit (s := S4x496x4) ![2, 0, 0] S1x496x4.size inb_S4x496x4_S1x496x4_2_0_0, b2⟩, ⟨Rect.unit (s := S4x496x4) ![1, 0, 0] S1x496x4.size inb_S4x496x4_S1x496x4_1_0_0, b1⟩, ⟨Rect.unit (s := S4x496x4) ![0, 0, 0] S1x496x4.size inb_S4x496x4_S1x496x4_0_0_0, b0⟩] := by
  subst h0 h1 h2 h3; rfl
section
variable (c : Dev nD) (i : grid0.Coords) (a1 : Memref sig .tc .vmem S4x32x9 .f32) (g1 : a1.IsWhole) (a2 : Memref sig .tc .vmem S9x9 .f32) (g2 : a2.IsWhole) (a3 : Memref sig .tc .vmem S3x9x128 .bf16) (g3 : a3.IsWhole) (a4 : Memref sig .tc .vmem S3x128x128 .bf16) (g4 : a4.IsWhole) (a5 : Memref sig .tc .vmem S3x128x128 .bf16) (g5 : a5.IsWhole) (a6 : Memref sig .tc .vmem S4x3x32x32 .bf16) (g6 : a6.IsWhole) (a7 : Memref sig .tc .vmem S136x32x32 .bf16) (g7 : a7.IsWhole) (a8 : Memref sig .tc .vmem S136x3x32 .f32) (g8 : a8.IsWhole) (a9 : Memref sig .tc .vmem S1x128 .f32) (g9 : a9.IsWhole) (a10 : Memref sig .tc .vmem S1x128 .f32) (g10 : a10.IsWhole) (a11 : Memref sig .tc .vmem S128x9 .f32) (g11 : a11.IsWhole) (a12 : Memref sig .tc .vmem S4x496x4 .f32) (g12 : a12.IsWhole) (a13 : Memref sig .tc .vmem S1536x128 .bf16) (g13 : a13.IsWhole) (a14 : Memref sig .tc .vmem S1536x1 .f32) (g14 : a14.IsWhole) (a15 : Memref sig .tc .vmem S12x9x128 .bf16) (g15 : a15.IsWhole) (a16 : Memref sig .tc .vmem S108x1 .f32) (g16 : a16.IsWhole) (a17 : Memref sig .tc .vmem S1536x384 .bf16) (g17 : a17.IsWhole) (a18 : Memref sig .tc .vmem S1536x1 .f32) (g18 : a18.IsWhole) (a19 : Memref sig .tc .vmem S12x4x128 .bf16) (g19 : a19.IsWhole) (a20 : Memref sig .tc .vmem S48x1 .f32) (g20 : a20.IsWhole) (a21 : Memref sig .tc .vmem S128x9 .f32) (g21 : a21.IsWhole) (a22 : Memref sig .tc .vmem S4x496x4 .f32) (g22 : a22.IsWhole) (a23 : Memref sig .tc .vmem S4x544x384 .f32) (g23 : a23.IsWhole) (a24 : Memref sig .tc .vmem S8x128 .f32) (g24 : a24.IsWhole) (hc0 : ¬cond0_0 i) (hc1 : cond0_1 i) (x0 : Vec F S4x32x9 .f32) (x1 : Vec F S9x9 .f32) (x2 : Vec F S3x9x128 .bf16) (x3 : Vec F S3x128x128 .bf16) (x4 : Vec F S3x128x128 .bf16) (x5 : Vec F S4x3x32x32 .bf16) (x6 : Vec F S136x32x32 .bf16) (x7 : Vec F S136x3x32 .f32) (x8 : Vec F S1x128 .f32) (x9 : Vec F S1x128 .f32) (x10 : Vec F S128x9 .f32) (x11 : Vec F S4x496x4 .f32) (x12 : Vec F S1536x128 .bf16) (x13 : Vec F S1536x1 .f32) (x14 : Vec F S12x9x128 .bf16) (x15 : Vec F S108x1 .f32) (x16 : Vec F S1536x384 .bf16) (x17 : Vec F S1536x1 .f32) (x18 : Vec F S12x4x128 .bf16) (x19 : Vec F S48x1 .f32) (xs0 : Vec F S4x544x384 .f32) (xs1 : Vec F S8x128 .f32)
theorem runC_edges : (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.1 = [⟨Rect.unit (s := S4x496x4) ![3, 0, 0] S1x496x4.size inb_S4x496x4_S1x496x4_3_0_0, edgesOf (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![0, 0] S1x128.size inb_S8x128_S1x128_0_0).toLoadRect) (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![1, 0] S1x128.size inb_S8x128_S1x128_1_0).toLoadRect) x8 x9 (View.readAt (Elt F) a23.view (Rect.unit (s := S4x544x384) ![3, 0, 0] S1x496x384.size inb_S4x544x384_S1x496x384_3_0_0).toLoadRect (a23.view.writes (Elt F) (g23.unread xs0) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.1)) (slF12 x11 3) x16 x17 (slF19 x18 0) (slF19 x18 1) (slF19 x18 2) (slF19 x18 3) (slF19 x18 4) (slF19 x18 5) (slF19 x18 6) (slF19 x18 7) (slF19 x18 8) (slF19 x18 9) (slF19 x18 10) (slF19 x18 11) x19⟩, ⟨Rect.unit (s := S4x496x4) ![2, 0, 0] S1x496x4.size inb_S4x496x4_S1x496x4_2_0_0, edgesOf (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![0, 0] S1x128.size inb_S8x128_S1x128_0_0).toLoadRect) (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![1, 0] S1x128.size inb_S8x128_S1x128_1_0).toLoadRect) x8 x9 (View.readAt (Elt F) a23.view (Rect.unit (s := S4x544x384) ![2, 0, 0] S1x496x384.size inb_S4x544x384_S1x496x384_2_0_0).toLoadRect (a23.view.writes (Elt F) (g23.unread xs0) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.1)) (slF12 x11 2) x16 x17 (slF19 x18 0) (slF19 x18 1) (slF19 x18 2) (slF19 x18 3) (slF19 x18 4) (slF19 x18 5) (slF19 x18 6) (slF19 x18 7) (slF19 x18 8) (slF19 x18 9) (slF19 x18 10) (slF19 x18 11) x19⟩, ⟨Rect.unit (s := S4x496x4) ![1, 0, 0] S1x496x4.size inb_S4x496x4_S1x496x4_1_0_0, edgesOf (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![0, 0] S1x128.size inb_S8x128_S1x128_0_0).toLoadRect) (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![1, 0] S1x128.size inb_S8x128_S1x128_1_0).toLoadRect) x8 x9 (View.readAt (Elt F) a23.view (Rect.unit (s := S4x544x384) ![1, 0, 0] S1x496x384.size inb_S4x544x384_S1x496x384_1_0_0).toLoadRect (a23.view.writes (Elt F) (g23.unread xs0) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.1)) (slF12 x11 1) x16 x17 (slF19 x18 0) (slF19 x18 1) (slF19 x18 2) (slF19 x18 3) (slF19 x18 4) (slF19 x18 5) (slF19 x18 6) (slF19 x18 7) (slF19 x18 8) (slF19 x18 9) (slF19 x18 10) (slF19 x18 11) x19⟩, ⟨Rect.unit (s := S4x496x4) ![0, 0, 0] S1x496x4.size inb_S4x496x4_S1x496x4_0_0_0, edgesOf (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![0, 0] S1x128.size inb_S8x128_S1x128_0_0).toLoadRect) (a24.view.readCov (Val := Elt F) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.2.1 (Rect.unit (s := S8x128) ![1, 0] S1x128.size inb_S8x128_S1x128_1_0).toLoadRect) x8 x9 (View.readAt (Elt F) a23.view (Rect.unit (s := S4x544x384) ![0, 0, 0] S1x496x384.size inb_S4x544x384_S1x496x384_0_0_0).toLoadRect (a23.view.writes (Elt F) (g23.unread xs0) (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.2.1)) (slF12 x11 0) x16 x17 (slF19 x18 0) (slF19 x18 1) (slF19 x18 2) (slF19 x18 3) (slF19 x18 4) (slF19 x18 5) (slF19 x18 6) (slF19 x18 7) (slF19 x18 8) (slF19 x18 9) (slF19 x18 10) (slF19 x18 11) x19⟩] := by
  have h : (runC c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1).2.1 = [⟨Rect.unit (s := S4x496x4) ![3, 0, 0] S1x496x4.size inb_S4x496x4_S1x496x4_3_0_0, k0_pay2 (runC.sl.r_219 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) (runC.sl.r_220 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1)⟩, ⟨Rect.unit (s := S4x496x4) ![2, 0, 0] S1x496x4.size inb_S4x496x4_S1x496x4_2_0_0, k0_pay177 (runC.sl.r_168 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_185 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) (runC.sl.r_186 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_187 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1)⟩, ⟨Rect.unit (s := S4x496x4) ![1, 0, 0] S1x496x4.size inb_S4x496x4_S1x496x4_1_0_0, k0_pay141 (runC.sl.r_139 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_152 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) (runC.sl.r_153 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_154 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1) (runC.sl.r_155 i _ g1 _ g2 _ g3 _ g4 _ g5 _ g6 _ g7 _ g8 _ g9 _ g10 _ g17 _ g18 _ g19 _ g20 _ g23 _ g24 x0 x1 x2 x3 x4 x5 x6 x7 x8 x9 x16 x17 x18 x19 xs0 xs1) (runC.sl.r_156 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1)⟩, ⟨Rect.unit (s := S4x496x4) ![0, 0, 0] S1x496x4.size inb_S4x496x4_S1x496x4_0_0_0, k0_pay110 (runC.sl.r_125 i _ g1 _ g2 _ g3 _ g4 _ g5 _ g6 _ g7 _ g8 _ g9 _ g10 _ g12 _ g17 _ g18 _ g19 _ g20 _ g23 _ g24 x0 x1 x2 x3 x4 x5 x6 x7 x8 x9 x11 x16 x17 x18 x19 xs0 xs1)⟩] := rfl
  refine h.trans ((four (out1 c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1) (out2 c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1) (out3 c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1) (out4 c i _ g1 _ g2 _ g3 _ g4 _ g5 _ g6 _ g7 _ g8 _ g9 _ g10 _ g11 _ g12 _ g13 _ g14 _ g15 _ g16 _ g17 _ g18 _ g19 _ g20 _ g21 _ g22 _ g23 _ g24 hc0 hc1 x0 x1 x2 x3 x4 x5 x6 x7 x8 x9 x10 x11 x12 x13 x14 x15 x16 x17 x18 x19 xs0 xs1)).trans ?_)
  simp only [ldF9_eq, ldF11_eq, ldF13_eq, ldF14_eq, ldF16_eq, ldF17_eq, ldF20_eq, ldF12_eq, ldF15_eq, ldF19_eq]
  rfl

end
end Cert.KernelIdeal.Flow
-- ==== Proof.KInv.lean ====
/-
  What the two scratch buffers hold between the points, and what the last point stores.
-/
module

public import proofs.«01_k».proof.Proof.KBlk
public import proofs.«01_k».proof.Proof.KVal
public import proofs.«01_k».proof.Proof.KFlowVal
public import proofs.«01_k».proof.Proof.KFlowN
public import proofs.«01_k».proof.Proof.KFlowE

@[expose] public section

set_option maxRecDepth 16384
noncomputable section

namespace Cert.KernelIdeal.Flow
open Idealize.ShloMosaic Idealize.ShloMosaic.TcCoe
open Cert.KernelIdeal Cert.KernelIdeal.Gen Cert.Spec

variable (m : (ℓ : Loc nD τ sig) → Buf (Elt Ideal) ℓ) (c : Dev nD)

/-- The graph convolutions' output for one row of the padded mask. -/
def HID (r : Fin 544) (b : Fin 4) : Fin 32 → Fin 128 → EReal :=
  hid (W0 m c) (W1 m c) (W2 m c) (W3 m c) (W4 m c) (W5 m c) (fun i j => W6 m c (ix3 r i j)) b
/-- One entry of the first scratch buffer once its row is there. -/
def ROW (b : Fin 4) (q : Fin 544) (k : Fin 384) : EReal :=
  ∑ j : Fin 32, W7 m c (ix3 q ⟨k.val / 128, by omega⟩ j) * HID m c q b j ⟨k.val % 128, by omega⟩
/-- The sums after `n` points. -/
def PS (n : ℕ) (h : Fin 128) : EReal :=
  ∑ t ∈ Finset.range n, ∑ b : Fin 4, ∑ p : Fin 136, ∑ j : Fin 32, HID m c ⟨(136 * t + p.val) % 544, Nat.mod_lt _ (by decide)⟩ b j h
/-- The sums of squares after `n` points. -/
def PSS (n : ℕ) (h : Fin 128) : EReal :=
  ∑ t ∈ Finset.range n, ∑ b : Fin 4, ∑ p : Fin 136, ∑ j : Fin 32,
    HID m c ⟨(136 * t + p.val) % 544, Nat.mod_lt _ (by decide)⟩ b j h * HID m c ⟨(136 * t + p.val) % 544, Nat.mod_lt _ (by decide)⟩ b j h
/-- What the scratch buffers hold before point `n`. -/
def INV (c : Dev nD) (n : ℕ) (g : Vec Ideal S4x544x384 .f32) (s : Vec Ideal S8x128 .f32) : Prop :=
  (∀ (b : Fin 4) (q : Fin 544) (k : Fin 384), q.val < 136 * n → g (ix3 b q k) = ROW m c b q k)
    ∧ ∀ h : Fin 128, s (ix2 0 h) = PS m c n h ∧ s (ix2 1 h) = PSS m c n h

theorem hid_blk (t : Fin cfg0.N) (p : Fin 136) (b : Fin 4) :
    hid (iblk m c 0 t) (iblk m c 1 t) (iblk m c 2 t) (iblk m c 3 t) (iblk m c 4 t) (iblk m c 5 t) (fun i j => (iblk m c 6 t : Vec Ideal S136x32x32 .bf16) (ix3 p i j)) b
      = HID m c ⟨(136 * t.val + p.val) % 544, Nat.mod_lt _ (by decide)⟩ b := by
  unfold HID
  rw [blk0_eq m c t, blk1_eq m c t, blk2_eq m c t, blk3_eq m c t, blk4_eq m c t, blk5_eq m c t]
  simp only [blk6_apply m c t]

theorem rows_blk (t : Fin cfg0.N) (b : Fin 4) (q : Fin 544) (k : Fin 384) (p : Fin 136) (hp : (136 * t.val + p.val) % 544 = q.val) :
    rows (iblk m c 0 t) (iblk m c 1 t) (iblk m c 2 t) (iblk m c 3 t) (iblk m c 4 t) (iblk m c 5 t) (iblk m c 6 t) (iblk m c 7 t) b (ix3 0 p k) = ROW m c b q k := by
  have hq' : (⟨(136 * t.val + p.val) % 544, Nat.mod_lt _ (by decide)⟩ : Fin 544) = q := Fin.ext hp
  refine (rows_apply _ _ _ _ _ _ _ _ b p k).trans ?_
  unfold ROW
  refine Finset.sum_congr rfl fun j _ => ?_
  refine congrArg₂ (fun x y : EReal => x * y) ?_ ?_
  · refine (blk7_apply m c t p _ j).trans ?_
    rw [hq']
  · refine (congrFun (congrFun (hid_blk m c t p b) j) _).trans ?_
    rw [hq']

/-- One point's rows, added to what is there. -/
theorem left_rows (t : Fin cfg0.N) (f) (h : ∀ (b : Fin 4) (q : Fin 544) (k : Fin 384), q.val < 136 * t.val → scM0_0.view.read (Elt Ideal) f (ix3 b q k) = ROW m c b q k)
    (b : Fin 4) (q : Fin 544) (k : Fin 384) (hq : q.val < 136 * (t.val + 1)) :
    scM0_0.view.read (Elt Ideal) (scM0_0.view.writes (Elt Ideal) f (pieces0 (iblk m c 0 t) (iblk m c 1 t) (iblk m c 2 t) (iblk m c 3 t) (iblk m c 4 t) (iblk m c 5 t) (iblk m c 6 t) (iblk m c 7 t) (grid0.coords t))) (ix3 b q k)
      = ROW m c b q k := by
  refine (pieces0_read _ _ _ _ _ _ _ _ (grid0.coords t) f b q k).trans ?_
  have e := coords0 t
  have ht : t.val < 4 := t.isLt
  by_cases hh : 136 * (grid0.coords t 0).val ≤ q.val ∧ q.val < 136 * (grid0.coords t 0).val + 136
  · have hh' := hh
    rw [e] at hh'
    refine (dif_pos hh).trans (rows_blk m c t b q k _ ?_)
    show (136 * t.val + (q.val - 136 * (grid0.coords t 0).val)) % 544 = q.val
    rw [e]; omega
  · rw [dif_neg hh]
    rw [e] at hh
    exact h b q k (by omega)

theorem sum_blk (t : Fin cfg0.N) (old : FVec Ideal S1x128 .f32) (h : Fin 128) (ho : old (ix2 0 h) = PS m c t.val h) :
    row0 (iblk m c 0 t) (iblk m c 1 t) (iblk m c 2 t) (iblk m c 3 t) (iblk m c 4 t) (iblk m c 5 t) (iblk m c 6 t) old (ix2 0 h) = PS m c (t.val + 1) h := by
  refine (row0_apply _ _ _ _ _ _ _ old h).trans ?_
  unfold PS
  rw [Finset.sum_range_succ, ho]
  simp only [hid_blk m c t]
  rfl
theorem sq_blk (t : Fin cfg0.N) (old : FVec Ideal S1x128 .f32) (h : Fin 128) (ho : old (ix2 0 h) = PSS m c t.val h) :
    row1 (iblk m c 0 t) (iblk m c 1 t) (iblk m c 2 t) (iblk m c 3 t) (iblk m c 4 t) (iblk m c 5 t) (iblk m c 6 t) old (ix2 0 h) = PSS m c (t.val + 1) h := by
  refine (row1_apply _ _ _ _ _ _ _ old h).trans ?_
  unfold PSS
  rw [Finset.sum_range_succ, ho]
  simp only [hid_blk m c t]
  rfl

theorem load_row (r : ℕ) (hr : r < 8) (inb : ∀ a, (![r, 0] : Fin 2 → ℕ) a + S1x128.size a ≤ S8x128.size a) (f) (h : Fin 128) :
    View.readAt (Elt Ideal) scM0_1.view (Rect.unit (s := S8x128) ![r, 0] S1x128.size inb).toLoadRect f (ix2 0 h) = scM0_1.view.read (Elt Ideal) f (ix2 ⟨r, hr⟩ h) := by
  rw [View.readAt_eq_ld]
  show scM0_1.view.read (Elt Ideal) f _ = _
  refine congrArg (scM0_1.view.read (Elt Ideal) f) (funext fun a => Fin.ext ?_)
  match a with
  | ⟨0, _⟩ => rfl
  | ⟨1, _⟩ => show 0 + 1 * h.val = h.val; omega

theorem zero_row (r : ℕ) (hr : r < 8) (inb : ∀ a, (![r, 0] : Fin 2 → ℕ) a + S1x128.size a ≤ S8x128.size a) (L) (h : Fin 128)
    (hL : ∀ f, scM0_1.view.read (Elt Ideal) (scM0_1.view.writes (Elt Ideal) f L) (ix2 ⟨r, hr⟩ h) = 0) :
    scM0_1.view.readCov (Val := Elt Ideal) L (Rect.unit (s := S8x128) ![r, 0] S1x128.size inb).toLoadRect (ix2 0 h) = 0 := by
  refine (load_row r hr inb _ h).trans ?_
  exact hL _

theorem read_zeros (f) (r : Fin 8) (h : Fin 128) :
    scM0_1.view.read (Elt Ideal) (scM0_1.view.writes (Elt Ideal) f [⟨Rect.unit (s := S8x128) ![0, 0] S8x128.size inb_S8x128_S8x128_0_0, k0_pay211 (F := Ideal)⟩]) (ix2 r h) = 0 := by
  refine (View.read_writes_cons_unit_of_mem _ f _ _ _ _ (ix2 r h) rfl (fun a => ?_)).trans (pay211_apply r h)
  match a with
  | ⟨0, _⟩ => exact (Nat.zero_add _).symm
  | ⟨1, _⟩ => exact (Nat.zero_add _).symm

theorem PS_zero (h : Fin 128) : PS m c 0 h = 0 := by unfold PS; rw [Finset.range_zero, Finset.sum_empty]
theorem PSS_zero (h : Fin 128) : PSS m c 0 h = 0 := by unfold PSS; rw [Finset.range_zero, Finset.sum_empty]

theorem inv_first (t : Fin cfg0.N) (h0 : t.val % 4 = 0) (h1 : ¬t.val % 4 = 3) (x20 x21 xs0 f) :
    INV m c (t.val + 1) (left0 xs0 (atA m c t h0 h1 x20 x21 xs0).1)
      (scM0_1.view.read (Elt Ideal) (scM0_1.view.writes (Elt Ideal) f (atA m c t h0 h1 x20 x21 xs0).2.1)) := by
  have ht : t.val < 4 := t.isLt
  have h00 : t.val = 0 := by omega
  refine ⟨fun b q k hq => ?_, fun h => ?_⟩
  · have e := runA_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) x20 x21 xs0
    unfold left0
    refine (congrArg (fun L => scM0_0.view.read (Elt Ideal) (scM0_0.view.writes (Elt Ideal) ((Memref.isWhole_whole cc0_scratch0).unread xs0) L) (ix3 b q k)) e).trans ?_
    exact left_rows m c t _ (fun b q k hq => absurd hq (by omega)) b q k hq
  · have e := runA_sums c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) x20 x21 xs0
    have z0 : ∀ r : Fin 8, ∀ f, scM0_1.view.read (Elt Ideal) (scM0_1.view.writes (Elt Ideal) f [⟨Rect.unit (s := S8x128) ![0, 0] S8x128.size inb_S8x128_S8x128_0_0, k0_pay211 (F := Ideal)⟩]) (ix2 r h) = 0 := fun r f => read_zeros f r h
    constructor
    · refine (congrArg (fun L => scM0_1.view.read (Elt Ideal) (scM0_1.view.writes (Elt Ideal) f L) (ix2 0 h)) e).trans ?_
      refine (sums_read0 _ _ _ _ h).trans ?_
      refine sum_blk m c t _ h ?_
      rw [h00, PS_zero]
      exact zero_row 0 (by decide) _ _ h (z0 0)
    · refine (congrArg (fun L => scM0_1.view.read (Elt Ideal) (scM0_1.view.writes (Elt Ideal) f L) (ix2 1 h)) e).trans ?_
      refine (sums_read1 _ _ _ h).trans ?_
      refine sq_blk m c t _ h ?_
      rw [h00, PSS_zero]
      refine zero_row 1 (by decide) _ _ h fun f => ?_
      refine (View.read_writes_cons_unit_of_not_mem _ f _ _ _ _ rfl 0 (Or.inr (Nat.le_refl 1))).trans (z0 1 f)

theorem inv_next (t : Fin cfg0.N) (h0 : ¬t.val % 4 = 0) (h1 : ¬t.val % 4 = 3) (x20 x21 xs0 xs1) (hI : INV m c t.val xs0 xs1) :
    INV m c (t.val + 1) (left0 xs0 (atB m c t h0 h1 x20 x21 xs0 xs1).1) (left1 xs1 (atB m c t h0 h1 x20 x21 xs0 xs1).2.1) := by
  refine ⟨fun b q k hq => ?_, fun h => ?_⟩
  · have e := runB_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) x20 x21 xs0 xs1
    unfold left0
    refine (congrArg (fun L => scM0_0.view.read (Elt Ideal) (scM0_0.view.writes (Elt Ideal) ((Memref.isWhole_whole cc0_scratch0).unread xs0) L) (ix3 b q k)) e).trans ?_
    refine left_rows m c t _ (fun b q k hq => ?_) b q k hq
    exact (congrFun ((Memref.isWhole_whole cc0_scratch0).read_unread xs0) _).trans (hI.1 b q k hq)
  · have e := runB_sums c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) x20 x21 xs0 xs1
    unfold left1
    constructor
    · refine (congrArg (fun L => scM0_1.view.read (Elt Ideal) (scM0_1.view.writes (Elt Ideal) ((Memref.isWhole_whole cc0_scratch1).unread xs1) L) (ix2 0 h)) e).trans ?_
      refine (sums_read0 _ _ _ _ h).trans ?_
      refine sum_blk m c t _ h ?_
      refine (load_row 0 (by decide) _ _ h).trans ?_
      exact (congrFun ((Memref.isWhole_whole cc0_scratch1).read_unread xs1) _).trans (hI.2 h).1
    · refine (congrArg (fun L => scM0_1.view.read (Elt Ideal) (scM0_1.view.writes (Elt Ideal) ((Memref.isWhole_whole cc0_scratch1).unread xs1) L) (ix2 1 h)) e).trans ?_
      refine (sums_read1 _ _ _ h).trans ?_
      refine sq_blk m c t _ h ?_
      refine (load_row 1 (by decide) _ _ h).trans ?_
      exact (congrFun ((Memref.isWhole_whole cc0_scratch1).read_unread xs1) _).trans (hI.2 h).2

theorem inv_last (t : Fin cfg0.N) (h0 : ¬t.val % 4 = 0) (h1 : t.val % 4 = 3) (xs0 xs1) (hI : INV m c t.val xs0 xs1) :
    INV m c (t.val + 1) (left0 xs0 (atC m c t h0 h1 xs0 xs1).2.2.1) (left1 xs1 (atC m c t h0 h1 xs0 xs1).2.2.2.1) := by
  refine ⟨fun b q k hq => ?_, fun h => ?_⟩
  · have e := runC_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) xs0 xs1
    unfold left0
    refine (congrArg (fun L => scM0_0.view.read (Elt Ideal) (scM0_0.view.writes (Elt Ideal) ((Memref.isWhole_whole cc0_scratch0).unread xs0) L) (ix3 b q k)) e).trans ?_
    refine left_rows m c t _ (fun b q k hq => ?_) b q k hq
    exact (congrFun ((Memref.isWhole_whole cc0_scratch0).read_unread xs0) _).trans (hI.1 b q k hq)
  · have e := runC_sums c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) xs0 xs1
    unfold left1
    constructor
    · refine (congrArg (fun L => scM0_1.view.read (Elt Ideal) (scM0_1.view.writes (Elt Ideal) ((Memref.isWhole_whole cc0_scratch1).unread xs1) L) (ix2 0 h)) e).trans ?_
      refine (sums_read0 _ _ _ _ h).trans ?_
      refine sum_blk m c t _ h ?_
      refine (load_row 0 (by decide) _ _ h).trans ?_
      exact (congrFun ((Memref.isWhole_whole cc0_scratch1).read_unread xs1) _).trans (hI.2 h).1
    · refine (congrArg (fun L => scM0_1.view.read (Elt Ideal) (scM0_1.view.writes (Elt Ideal) ((Memref.isWhole_whole cc0_scratch1).unread xs1) L) (ix2 1 h)) e).trans ?_
      refine (sums_read1 _ _ _ h).trans ?_
      refine sq_blk m c t _ h ?_
      refine (load_row 1 (by decide) _ _ h).trans ?_
      exact (congrFun ((Memref.isWhole_whole cc0_scratch1).read_unread xs1) _).trans (hI.2 h).2
end Cert.KernelIdeal.Flow
-- ==== Proof.KOut.lean ====
/-
  What the last point stores, and the whole kernel's run.
-/
module

public import proofs.«01_k».proof.Proof.KInv

@[expose] public section

set_option maxRecDepth 16384
noncomputable section

namespace Cert.KernelIdeal.Flow
open Idealize.ShloMosaic Idealize.ShloMosaic.TcCoe
open Cert.KernelIdeal Cert.KernelIdeal.Gen Cert.Spec

variable (m : (ℓ : Loc nD τ sig) → Buf (Elt Ideal) ℓ) (c : Dev nD)

/-- The scale and the shift the whole batch's sums give a feature. -/
def SC (d : Fin 128) : EReal := scaleOf (PS m c 4 d) (PSS m c 4 d) (W8 m c (ix2 0 d))
def SH (d : Fin 128) : EReal := shiftOf (PS m c 4 d) (PSS m c 4 d) (W8 m c (ix2 0 d)) (W9 m c (ix2 0 d))

/-- One entry of the first result. -/
def XDf (j : Fin 128) (k : Fin 9) : EReal :=
  flow (fun i x d => W12 m c (ix2 ⟨128 * i.val + x.val, by omega⟩ d)) (fun i x => W13 m c (ix2 ⟨128 * i.val + x.val, by omega⟩ 0))
    (fun i k x => W14 m c (ix3 i k x)) (fun i k => W15 m c (ix2 ⟨i.val * 9 + k.val, by omega⟩ 0))
    (fun d : Fin 128 => ROW m c ⟨j.val / 32, by omega⟩ ⟨496 + j.val % 32, by omega⟩ ⟨256 + d.val, by omega⟩ * SC m c d
      + Ideal.ofBits .f32 1107296256#32 * SH m c d)
    (fun k => W10 m c (ix2 j k)) k
/-- The first result. -/
def XD : Vec Ideal S128x9 .f32 := fun x => XDf m c (x 0) (x 1)

/-- One entry of the second result. -/
def ADf (b : Fin 4) (j : Fin 496) (k : Fin 4) : EReal :=
  flow (fun i x d => W16 m c (ix2 ⟨128 * i.val + x.val, by omega⟩ d)) (fun i x => W17 m c (ix2 ⟨128 * i.val + x.val, by omega⟩ 0))
    (fun i k x => W18 m c (ix3 i k x)) (fun i k => W19 m c (ix2 ⟨i.val * 4 + k.val, by omega⟩ 0))
    (fun d : Fin 384 => ROW m c b ⟨j.val, by omega⟩ d * SC m c ⟨d.val % 128, by omega⟩
      + if d.val < 256 then SH m c ⟨d.val % 128, by omega⟩ else Ideal.ofBits .f32 1107296256#32 * SH m c ⟨d.val % 128, by omega⟩)
    (fun k => W11 m c (ix3 b j k)) k
/-- The second result. -/
def AD : Vec Ideal S4x496x4 .f32 := fun x => ADf m c (x 0) (x 1) (x 2)

theorem flow_congr {L D : ℕ} {w1 w1' : Fin 12 → Fin 128 → Fin D → EReal} {b1 b1' : Fin 12 → Fin 128 → EReal} {w2 w2' : Fin 12 → Fin L → Fin 128 → EReal}
    {b2 b2' : Fin 12 → Fin L → EReal} {g g' : Fin D → EReal} {a a' : Fin L → EReal}
    (h1 : w1 = w1') (h2 : b1 = b1') (h3 : w2 = w2') (h4 : b2 = b2') (h5 : g = g') (h6 : a = a') (k : Fin L) :
    flow w1 b1 w2 b2 g a k = flow w1' b1' w2' b2' g' a' k := by
  subst h1 h2 h3 h4 h5 h6; rfl

theorem idx2_eq {n0 n1 : ℕ} (x : (⟨2, ![n0, n1]⟩ : Shape).Idx) : ∃ j k, x = ix2 j k :=
  ⟨x 0, x 1, funext fun a => match a with | ⟨0, _⟩ => rfl | ⟨1, _⟩ => rfl⟩
theorem idx3_eq {n0 n1 n2 : ℕ} (x : (⟨3, ![n0, n1, n2]⟩ : Shape).Idx) : ∃ b j k, x = ix3 b j k :=
  ⟨x 0, x 1, x 2, funext fun a => match a with | ⟨0, _⟩ => rfl | ⟨1, _⟩ => rfl | ⟨2, _⟩ => rfl⟩

theorem read_one (M : Memref sig .tc .vmem S128x9 .f32) (f) (p : FVec Ideal S128x9 .f32) (j : Fin 128) (k : Fin 9) :
    M.view.read (Elt Ideal) (M.view.writes (Elt Ideal) f [⟨Rect.unit (s := S128x9) ![0, 0] S128x9.size inb_S128x9_S128x9_0_0, p⟩]) (ix2 j k) = p (ix2 j k) := by
  refine View.read_writes_cons_unit_of_mem _ f _ _ _ _ (ix2 j k) rfl (fun a => ?_)
  match a with
  | ⟨0, _⟩ => exact (Nat.zero_add _).symm
  | ⟨1, _⟩ => exact (Nat.zero_add _).symm
theorem read_four (M : Memref sig .tc .vmem S4x496x4 .f32) (f) (p0 p1 p2 p3 : FVec Ideal S1x496x4 .f32) (b : Fin 4) (j : Fin 496) (k : Fin 4) :
    M.view.read (Elt Ideal) (M.view.writes (Elt Ideal) f [⟨Rect.unit (s := S4x496x4) ![3, 0, 0] S1x496x4.size inb_S4x496x4_S1x496x4_3_0_0, p3⟩, ⟨Rect.unit (s := S4x496x4) ![2, 0, 0] S1x496x4.size inb_S4x496x4_S1x496x4_2_0_0, p2⟩, ⟨Rect.unit (s := S4x496x4) ![1, 0, 0] S1x496x4.size inb_S4x496x4_S1x496x4_1_0_0, p1⟩, ⟨Rect.unit (s := S4x496x4) ![0, 0, 0] S1x496x4.size inb_S4x496x4_S1x496x4_0_0_0, p0⟩]) (ix3 b j k)
      = (![p0, p1, p2, p3] : Fin 4 → FVec Ideal S1x496x4 .f32) b (ix3 0 j k) := by
  match b with
  | ⟨0, hb⟩ =>
    refine (View.read_writes_cons_unit_of_not_mem _ f _ _ _ _ rfl 0 (Or.inl (show 0 < 3 by decide))).trans ?_
    refine (View.read_writes_cons_unit_of_not_mem _ f _ _ _ _ rfl 0 (Or.inl (show 0 < 2 by decide))).trans ?_
    refine (View.read_writes_cons_unit_of_not_mem _ f _ _ _ _ rfl 0 (Or.inl (show 0 < 1 by decide))).trans ?_
    refine View.read_writes_cons_unit_of_mem _ f _ _ _ _ (ix3 0 j k) rfl (fun a => ?_)
    match a with
    | ⟨0, _⟩ => rfl
    | ⟨1, _⟩ => exact (Nat.zero_add _).symm
    | ⟨2, _⟩ => exact (Nat.zero_add _).symm
  | ⟨1, hb⟩ =>
    refine (View.read_writes_cons_unit_of_not_mem _ f _ _ _ _ rfl 0 (Or.inl (show 1 < 3 by decide))).trans ?_
    refine (View.read_writes_cons_unit_of_not_mem _ f _ _ _ _ rfl 0 (Or.inl (show 1 < 2 by decide))).trans ?_
    refine View.read_writes_cons_unit_of_mem _ f _ _ _ _ (ix3 0 j k) rfl (fun a => ?_)
    match a with
    | ⟨0, _⟩ => rfl
    | ⟨1, _⟩ => exact (Nat.zero_add _).symm
    | ⟨2, _⟩ => exact (Nat.zero_add _).symm
  | ⟨2, hb⟩ =>
    refine (View.read_writes_cons_unit_of_not_mem _ f _ _ _ _ rfl 0 (Or.inl (show 2 < 3 by decide))).trans ?_
    refine View.read_writes_cons_unit_of_mem _ f _ _ _ _ (ix3 0 j k) rfl (fun a => ?_)
    match a with
    | ⟨0, _⟩ => rfl
    | ⟨1, _⟩ => exact (Nat.zero_add _).symm
    | ⟨2, _⟩ => exact (Nat.zero_add _).symm
  | ⟨3, hb⟩ =>
    refine View.read_writes_cons_unit_of_mem _ f _ _ _ _ (ix3 0 j k) rfl (fun a => ?_)
    match a with
    | ⟨0, _⟩ => rfl
    | ⟨1, _⟩ => exact (Nat.zero_add _).symm
    | ⟨2, _⟩ => exact (Nat.zero_add _).symm

section last
variable (t : Fin cfg0.N) (h0 : ¬t.val % 4 = 0) (h1 : t.val % 4 = 3) (xs0 : Vec Ideal S4x544x384 .f32) (xs1 : Vec Ideal S8x128 .f32)

/-- The first row of sums as the last point loads it back. -/
def L0 : Vec Ideal S1x128 .f32 := scM0_1.view.readCov (Val := Elt Ideal) (atC m c t h0 h1 xs0 xs1).2.2.2.1 (Rect.unit (s := S8x128) ![0, 0] S1x128.size inb_S8x128_S1x128_0_0).toLoadRect
/-- The second. -/
def L1 : Vec Ideal S1x128 .f32 := scM0_1.view.readCov (Val := Elt Ideal) (atC m c t h0 h1 xs0 xs1).2.2.2.1 (Rect.unit (s := S8x128) ![1, 0] S1x128.size inb_S8x128_S1x128_1_0).toLoadRect
/-- The first scratch buffer's contents then. -/
def left := scM0_0.view.writes (Elt Ideal) ((Memref.isWhole_whole cc0_scratch0).unread xs0) (atC m c t h0 h1 xs0 xs1).2.2.1

/-- One of the second result's pieces. -/
def EP (b : ℕ) (hb : b < 4) (inb : ∀ a, (![b, 0, 0] : Fin 3 → ℕ) a + S1x496x384.size a ≤ S4x544x384.size a) : FVec Ideal S1x496x4 .f32 :=
    edgesOf (L0 m c t h0 h1 xs0 xs1) (L1 m c t h0 h1 xs0 xs1) (iblk m c 8 t) (iblk m c 9 t)
      (View.readAt (Elt Ideal) scM0_0.view (Rect.unit (s := S4x544x384) ![b, 0, 0] S1x496x384.size inb).toLoadRect (left m c t h0 h1 xs0 xs1))
      (slF12 (iblk m c 11 t) ⟨b, hb⟩) (iblk m c 16 t) (iblk m c 17 t) (slF19 (iblk m c 18 t) 0) (slF19 (iblk m c 18 t) 1) (slF19 (iblk m c 18 t) 2) (slF19 (iblk m c 18 t) 3) (slF19 (iblk m c 18 t) 4) (slF19 (iblk m c 18 t) 5) (slF19 (iblk m c 18 t) 6) (slF19 (iblk m c 18 t) 7) (slF19 (iblk m c 18 t) 8) (slF19 (iblk m c 18 t) 9) (slF19 (iblk m c 18 t) 10) (slF19 (iblk m c 18 t) 11) (iblk m c 19 t)

theorem edges_list : (atC m c t h0 h1 xs0 xs1).2.1 = [⟨Rect.unit (s := S4x496x4) ![3, 0, 0] S1x496x4.size inb_S4x496x4_S1x496x4_3_0_0, EP m c t h0 h1 xs0 xs1 3 (by decide) inb_S4x544x384_S1x496x384_3_0_0⟩, ⟨Rect.unit (s := S4x496x4) ![2, 0, 0] S1x496x4.size inb_S4x496x4_S1x496x4_2_0_0, EP m c t h0 h1 xs0 xs1 2 (by decide) inb_S4x544x384_S1x496x384_2_0_0⟩, ⟨Rect.unit (s := S4x496x4) ![1, 0, 0] S1x496x4.size inb_S4x496x4_S1x496x4_1_0_0, EP m c t h0 h1 xs0 xs1 1 (by decide) inb_S4x544x384_S1x496x384_1_0_0⟩, ⟨Rect.unit (s := S4x496x4) ![0, 0, 0] S1x496x4.size inb_S4x496x4_S1x496x4_0_0_0, EP m c t h0 h1 xs0 xs1 0 (by decide) inb_S4x544x384_S1x496x384_0_0_0⟩] :=
  runC_edges c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) xs0 xs1

variable (hI : INV m c t.val xs0 xs1)
include hI

theorem L0_apply (h : Fin 128) : L0 m c t h0 h1 xs0 xs1 (ix2 0 h) = PS m c 4 h := by
  have ht : t.val + 1 = 4 := by have : t.val < 4 := t.isLt; omega
  have e := runC_sums c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) xs0 xs1
  unfold L0
  refine (load_row 0 (by decide) _ _ h).trans ?_
  refine (congrArg (fun L => scM0_1.view.read (Elt Ideal) (scM0_1.view.writes (Elt Ideal) scM0_1.view.junk L) (ix2 0 h)) e).trans ?_
  refine (sums_read0 _ _ _ _ h).trans ?_
  refine (sum_blk m c t _ h ?_).trans (by rw [ht])
  refine (load_row 0 (by decide) _ _ h).trans ?_
  exact (congrFun ((Memref.isWhole_whole cc0_scratch1).read_unread xs1) _).trans (hI.2 h).1
theorem L1_apply (h : Fin 128) : L1 m c t h0 h1 xs0 xs1 (ix2 0 h) = PSS m c 4 h := by
  have ht : t.val + 1 = 4 := by have : t.val < 4 := t.isLt; omega
  have e := runC_sums c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) xs0 xs1
  unfold L1
  refine (load_row 1 (by decide) _ _ h).trans ?_
  refine (congrArg (fun L => scM0_1.view.read (Elt Ideal) (scM0_1.view.writes (Elt Ideal) scM0_1.view.junk L) (ix2 1 h)) e).trans ?_
  refine (sums_read1 _ _ _ h).trans ?_
  refine (sq_blk m c t _ h ?_).trans (by rw [ht])
  refine (load_row 1 (by decide) _ _ h).trans ?_
  exact (congrFun ((Memref.isWhole_whole cc0_scratch1).read_unread xs1) _).trans (hI.2 h).2

theorem left_apply (b : Fin 4) (q : Fin 544) (k : Fin 384) : scM0_0.view.read (Elt Ideal) (left m c t h0 h1 xs0 xs1) (ix3 b q k) = ROW m c b q k := by
  have ht : t.val + 1 = 4 := by have : t.val < 4 := t.isLt; omega
  exact (inv_last m c t h0 h1 xs0 xs1 hI).1 b q k (by rw [ht]; exact q.isLt)

theorem gen_apply (b : Fin 4) (j : Fin 32) (d : Fin 128) :
    View.readAt (Elt Ideal) scM0_0.view (Rect.unit (s := S4x544x384) ![0, 496, 256] S4x32x128.size inb_S4x544x384_S4x32x128_0_496_256).toLoadRect (left m c t h0 h1 xs0 xs1) (ix3 b j d)
      = ROW m c b ⟨496 + j.val, by omega⟩ ⟨256 + d.val, by omega⟩ := by
  refine Eq.trans ?_ (left_apply m c t h0 h1 xs0 xs1 hI b ⟨496 + j.val, by omega⟩ ⟨256 + d.val, by omega⟩)
  rw [View.readAt_eq_ld]
  refine congrArg (scM0_0.view.read (Elt Ideal) (left m c t h0 h1 xs0 xs1)) (funext fun a => Fin.ext ?_)
  match a with
  | ⟨0, _⟩ => show 0 + 1 * b.val = b.val; omega
  | ⟨1, _⟩ => show 496 + 1 * j.val = 496 + j.val; omega
  | ⟨2, _⟩ => show 256 + 1 * d.val = 256 + d.val; omega

theorem geb_apply (b : ℕ) (hb : b < 4) (inb : ∀ a, (![b, 0, 0] : Fin 3 → ℕ) a + S1x496x384.size a ≤ S4x544x384.size a) (j : Fin 496) (d : Fin 384) :
    View.readAt (Elt Ideal) scM0_0.view (Rect.unit (s := S4x544x384) ![b, 0, 0] S1x496x384.size inb).toLoadRect (left m c t h0 h1 xs0 xs1) (ix3 0 j d)
      = ROW m c ⟨b, hb⟩ ⟨j.val, by omega⟩ d := by
  refine Eq.trans ?_ (left_apply m c t h0 h1 xs0 xs1 hI ⟨b, hb⟩ ⟨j.val, by omega⟩ d)
  rw [View.readAt_eq_ld]
  refine congrArg (scM0_0.view.read (Elt Ideal) (left m c t h0 h1 xs0 xs1)) (funext fun a => Fin.ext ?_)
  match a with
  | ⟨0, _⟩ => show b + 1 * 0 = b; omega
  | ⟨1, _⟩ => show 0 + 1 * j.val = j.val; omega
  | ⟨2, _⟩ => show 0 + 1 * d.val = d.val; omega

/-- The first result's piece, element by element. -/
theorem nodes_piece (j : Fin 128) (k : Fin 9) :
    nodesOf (L0 m c t h0 h1 xs0 xs1) (L1 m c t h0 h1 xs0 xs1) (iblk m c 8 t) (iblk m c 9 t)
      (View.readAt (Elt Ideal) scM0_0.view (Rect.unit (s := S4x544x384) ![0, 496, 256] S4x32x128.size inb_S4x544x384_S4x32x128_0_496_256).toLoadRect (left m c t h0 h1 xs0 xs1))
      (iblk m c 10 t) (iblk m c 12 t) (iblk m c 13 t) (slF15 (iblk m c 14 t) 0) (slF15 (iblk m c 14 t) 1) (slF15 (iblk m c 14 t) 2) (slF15 (iblk m c 14 t) 3) (slF15 (iblk m c 14 t) 4) (slF15 (iblk m c 14 t) 5) (slF15 (iblk m c 14 t) 6) (slF15 (iblk m c 14 t) 7) (slF15 (iblk m c 14 t) 8) (slF15 (iblk m c 14 t) 9) (slF15 (iblk m c 14 t) 10) (slF15 (iblk m c 14 t) 11) (iblk m c 15 t) (ix2 j k) = XDf m c j k := by
  refine (nodesOf_apply _ _ _ _ _ _ _ _ (fun i => slF15 (iblk m c 14 t) i) _ j k).trans ?_
  rw [blk8_eq m c t, blk9_eq m c t, blk10_eq m c t, blk12_eq m c t, blk13_eq m c t, blk14_eq m c t, blk15_eq m c t]
  unfold XDf SC SH
  refine flow_congr rfl rfl rfl rfl (funext fun d => ?_) rfl k
  rw [gen_apply m c t h0 h1 xs0 xs1 hI, L0_apply m c t h0 h1 xs0 xs1 hI, L1_apply m c t h0 h1 xs0 xs1 hI]

/-- The second result's pieces. -/
theorem edges_piece (b : ℕ) (hb : b < 4) (inb : ∀ a, (![b, 0, 0] : Fin 3 → ℕ) a + S1x496x384.size a ≤ S4x544x384.size a) (j : Fin 496) (k : Fin 4) :
    EP m c t h0 h1 xs0 xs1 b hb inb (ix3 0 j k) = ADf m c ⟨b, hb⟩ j k := by
  unfold EP
  refine (edgesOf_apply _ _ _ _ _ _ _ _ (fun i => slF19 (iblk m c 18 t) i) _ j k).trans ?_
  rw [blk8_eq m c t, blk9_eq m c t, blk11_eq m c t, blk16_eq m c t, blk17_eq m c t, blk18_eq m c t, blk19_eq m c t]
  unfold ADf SC SH
  refine flow_congr rfl rfl rfl rfl (funext fun d => ?_) rfl k
  simp only [geb_apply m c t h0 h1 xs0 xs1 hI b hb inb, L0_apply m c t h0 h1 xs0 xs1 hI, L1_apply m c t h0 h1 xs0 xs1 hI]

theorem nodes_eq (f) : (ms0_20 t).view.read (Elt Ideal) ((ms0_20 t).view.writes (Elt Ideal) f (atC m c t h0 h1 xs0 xs1).1) = XD m c := by
  have e := runC_nodes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) xs0 xs1
  refine (congrArg (fun L => (ms0_20 t).view.read (Elt Ideal) ((ms0_20 t).view.writes (Elt Ideal) f L)) e).trans ?_
  funext x
  obtain ⟨j, k, rfl⟩ := idx2_eq x
  exact (read_one (ms0_20 t) f _ j k).trans (nodes_piece m c t h0 h1 xs0 xs1 hI j k)

theorem edges_eq (f) : (ms0_21 t).view.read (Elt Ideal) ((ms0_21 t).view.writes (Elt Ideal) f (atC m c t h0 h1 xs0 xs1).2.1) = AD m c := by
  refine (congrArg (fun L => (ms0_21 t).view.read (Elt Ideal) ((ms0_21 t).view.writes (Elt Ideal) f L)) (edges_list m c t h0 h1 xs0 xs1)).trans ?_
  funext x
  obtain ⟨b, j, k, rfl⟩ := idx3_eq x
  refine (read_four (ms0_21 t) f _ _ _ _ b j k).trans ?_
  match b with
  | ⟨0, hb⟩ => exact edges_piece m c t h0 h1 xs0 xs1 hI 0 hb inb_S4x544x384_S1x496x384_0_0_0 j k
  | ⟨1, hb⟩ => exact edges_piece m c t h0 h1 xs0 xs1 hI 1 hb inb_S4x544x384_S1x496x384_1_0_0 j k
  | ⟨2, hb⟩ => exact edges_piece m c t h0 h1 xs0 xs1 hI 2 hb inb_S4x544x384_S1x496x384_2_0_0 j k
  | ⟨3, hb⟩ => exact edges_piece m c t h0 h1 xs0 xs1 hI 3 hb inb_S4x544x384_S1x496x384_3_0_0 j k
end last

theorem sound : Sound m (INV m) (XD m) (AD m) where
  first c t h0 h1 x20 x21 xs0 f := inv_first m c t h0 h1 x20 x21 xs0 f
  next c t h0 h1 x20 x21 xs0 xs1 hI := inv_next m c t h0 h1 x20 x21 xs0 xs1 hI
  last c t h0 h1 xs0 xs1 hI := inv_last m c t h0 h1 xs0 xs1 hI
  nodes c t h0 h1 xs0 xs1 hI f := nodes_eq m c t h0 h1 xs0 xs1 hI f
  edges c t h0 h1 xs0 xs1 hI f := edges_eq m c t h0 h1 xs0 xs1 hI f
end Cert.KernelIdeal.Flow
-- ==== Proof.KHost.lean ====
/-
  The arrays the host hands the kernel, read off its arguments.
-/
module

public import proofs.«01_k».proof.Proof.KBlk
public import Idealize.ShloMosaic.Lib.Pointwise
public import Idealize.ShloMosaic.Lib.Claim

@[expose] public section

set_option maxRecDepth 16384
noncomputable section

namespace Cert.KernelIdeal.Flow
open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)
abbrev Ar0 : Vec Ideal S4x32x9 .f32 := m ((c : Thread nD τ).loc main_arg0)
abbrev Ar1 : Vec Ideal S4x4x32x32 .f32 := m ((c : Thread nD τ).loc main_arg1)
abbrev Ar2 : Vec Ideal S4x32x9 .f32 := m ((c : Thread nD τ).loc main_arg2)
abbrev Ar3 : Vec Ideal S4x496x4 .f32 := m ((c : Thread nD τ).loc main_arg3)
abbrev Ar4 : Vec Ideal S528x32 .i1 := m ((c : Thread nD τ).loc main_arg4)
abbrev Ar5 : Vec Ideal S528x32x32 .i1 := m ((c : Thread nD τ).loc main_arg5)
abbrev Ar6 : Vec Ideal S496x2 .i32 := m ((c : Thread nD τ).loc main_arg6)
abbrev Ar7 : Vec Ideal S9x9 .f32 := m ((c : Thread nD τ).loc main_arg7)
abbrev Ar8 : Vec Ideal S3x9x128 .f32 := m ((c : Thread nD τ).loc main_arg8)
abbrev Ar9 : Vec Ideal S3x128x128 .f32 := m ((c : Thread nD τ).loc main_arg9)
abbrev Ar10 : Vec Ideal S3x128x128 .f32 := m ((c : Thread nD τ).loc main_arg10)
abbrev Ar11 : Vec Ideal S128 .f32 := m ((c : Thread nD τ).loc main_arg11)
abbrev Ar12 : Vec Ideal S128 .f32 := m ((c : Thread nD τ).loc main_arg12)
abbrev Ar13 : Vec Ideal S12x128x128 .f32 := m ((c : Thread nD τ).loc main_arg13)
abbrev Ar14 : Vec Ideal S12x128 .f32 := m ((c : Thread nD τ).loc main_arg14)
abbrev Ar15 : Vec Ideal S12x128x9 .f32 := m ((c : Thread nD τ).loc main_arg15)
abbrev Ar16 : Vec Ideal S12x9 .f32 := m ((c : Thread nD τ).loc main_arg16)
abbrev Ar17 : Vec Ideal S12x384x128 .f32 := m ((c : Thread nD τ).loc main_arg17)
abbrev Ar18 : Vec Ideal S12x128 .f32 := m ((c : Thread nD τ).loc main_arg18)
abbrev Ar19 : Vec Ideal S12x128x4 .f32 := m ((c : Thread nD τ).loc main_arg19)
abbrev Ar20 : Vec Ideal S12x4 .f32 := m ((c : Thread nD τ).loc main_arg20)

theorem W2_eq : W2 m c = truncf (F := Ideal) .bf16 (Ar8 m c) bitsLt_bf16_f32 := by
  show StableHlo.after (List.flatten [hostOps0, hostOps0_1, hostOps0_2]) _ (Proc.devRef .tc main_v12) = _
  simp only [List.flatten_cons, List.flatten_nil, List.append_nil, List.cons_append, List.nil_append]
  after_results
  try rfl
theorem W2_apply (e : Fin 3) (d : Fin 9) (h : Fin 128) : W2 m c (ix3 e d h) = Ar8 m c (ix3 e d h) := by
  rw [W2_eq]
  pointwise []

theorem W3_eq : W3 m c = truncf (F := Ideal) .bf16 (Ar9 m c) bitsLt_bf16_f32 := by
  show StableHlo.after (List.flatten [hostOps0, hostOps0_1, hostOps0_2]) _ (Proc.devRef .tc main_v13) = _
  simp only [List.flatten_cons, List.flatten_nil, List.append_nil, List.cons_append, List.nil_append]
  after_results
  try rfl
theorem W3_apply (e : Fin 3) (d : Fin 128) (h : Fin 128) : W3 m c (ix3 e d h) = Ar9 m c (ix3 e d h) := by
  rw [W3_eq]
  pointwise []

theorem W4_eq : W4 m c = truncf (F := Ideal) .bf16 (Ar10 m c) bitsLt_bf16_f32 := by
  show StableHlo.after (List.flatten [hostOps0, hostOps0_1, hostOps0_2]) _ (Proc.devRef .tc main_v14) = _
  simp only [List.flatten_cons, List.flatten_nil, List.append_nil, List.cons_append, List.nil_append]
  after_results
  try rfl
theorem W4_apply (e : Fin 3) (d : Fin 128) (h : Fin 128) : W4 m c (ix3 e d h) = Ar10 m c (ix3 e d h) := by
  rw [W4_eq]
  pointwise []

theorem W5_eq : W5 m c = truncf (F := Ideal) .bf16 (extractStridedSlice S4x3x32x32 ![0, 0, 0, 0] (Ar1 m c) slices_S4x4x32x32_S4x3x32x32_0_0_0_0) bitsLt_bf16_f32 := by
  show StableHlo.after (List.flatten [hostOps0, hostOps0_1, hostOps0_2]) _ (Proc.devRef .tc main_v1) = _
  simp only [List.flatten_cons, List.flatten_nil, List.append_nil, List.cons_append, List.nil_append]
  after_results
  try rfl
theorem W5_apply (b : Fin 4) (e : Fin 3) (i j : Fin 32) : W5 m c (ix4 b e i j) = Ar1 m c (ix4 b ⟨e.val, by omega⟩ i j) := by
  rw [W5_eq]
  pointwise []

theorem W6_eq : W6 m c = uitofp (F := Ideal) .bf16 (concatenate S544x32x32 0 [⟨S496x32x32, extractStridedSlice S496x32x32 ![32, 0, 0] (Ar5 m c) slices_S528x32x32_S496x32x32_32_0_0⟩, ⟨S32x32x32, extractStridedSlice S32x32x32 ![0, 0, 0] (Ar5 m c) slices_S528x32x32_S32x32x32_0_0_0⟩, ⟨S16x32x32, broadcastInDim S16x32x32 ![] bcast_S_S16x32x32 (constantI S_ 1 0#1)⟩] concatenates_S496x32x32_S32x32x32_S16x32x32_S544x32x32_d0) := by
  show StableHlo.after (List.flatten [hostOps0, hostOps0_1, hostOps0_2]) _ (Proc.devRef .tc main_v6) = _
  simp only [List.flatten_cons, List.flatten_nil, List.append_nil, List.cons_append, List.nil_append]
  after_results
  try rfl

theorem W7_eq : W7 m c = concatenate S544x3x32 1 [⟨S544x2x32, concatenate S544x2x32 0 [⟨S496x2x32, uitofp (F := Ideal) .f32 (cmpi .eq (broadcastInDim S496x2x32 ![0, 1, 2] bcast_S496x2x1_S496x2x32_0_1_2 (broadcastInDim S496x2x1 ![0, 1] bcast_S496x2_S496x2x1_0_1 (Ar6 m c))) (broadcastInDim S496x2x32 ![0, 1, 2] bcast_S1x1x32_S496x2x32_0_1_2 (iotaInDim S1x1x32 32 2)))⟩, ⟨S48x2x32, broadcastInDim S48x2x32 ![] bcast_S_S48x2x32 (constant (F := Ideal) S_ .f32 0x00000000#32)⟩] concatenates_S496x2x32_S48x2x32_S544x2x32_d0⟩, ⟨S544x1x32, broadcastInDim S544x1x32 ![] bcast_S_S544x1x32 (constant (F := Ideal) S_ .f32 0x3F800000#32)⟩] concatenates_S544x2x32_S544x1x32_S544x3x32_d1 := by
  show StableHlo.after (List.flatten [hostOps0, hostOps0_1, hostOps0_2]) _ (Proc.devRef .tc main_v11) = _
  simp only [List.flatten_cons, List.flatten_nil, List.append_nil, List.cons_append, List.nil_append]
  after_results
  try rfl

theorem W8_eq : W8 m c = shapeCast S1x128 (Ar11 m c) shapeCasts_S128_S1x128 := by
  show StableHlo.after (List.flatten [hostOps0, hostOps0_1, hostOps0_2]) _ (Proc.devRef .tc main_v15) = _
  simp only [List.flatten_cons, List.flatten_nil, List.append_nil, List.cons_append, List.nil_append]
  after_results
  try rfl
theorem W8_apply (h : Fin 128) : W8 m c (ix2 0 h) = Ar11 m c (ix1 h) := by
  rw [W8_eq]
  pointwise []

theorem W9_eq : W9 m c = shapeCast S1x128 (Ar12 m c) shapeCasts_S128_S1x128 := by
  show StableHlo.after (List.flatten [hostOps0, hostOps0_1, hostOps0_2]) _ (Proc.devRef .tc main_v16) = _
  simp only [List.flatten_cons, List.flatten_nil, List.append_nil, List.cons_append, List.nil_append]
  after_results
  try rfl
theorem W9_apply (h : Fin 128) : W9 m c (ix2 0 h) = Ar12 m c (ix1 h) := by
  rw [W9_eq]
  pointwise []

theorem W10_eq : W10 m c = shapeCast S128x9 (Ar2 m c) shapeCasts_S4x32x9_S128x9 := by
  show StableHlo.after (List.flatten [hostOps0, hostOps0_1, hostOps0_2]) _ (Proc.devRef .tc main_v17) = _
  simp only [List.flatten_cons, List.flatten_nil, List.append_nil, List.cons_append, List.nil_append]
  after_results
  try rfl
theorem W10_apply (j : Fin 128) (k : Fin 9) : W10 m c (ix2 j k) = Ar2 m c (ix3 ⟨j.val / 32, by omega⟩ ⟨j.val % 32, by omega⟩ k) := by
  rw [W10_eq]
  pointwise []

theorem W12_eq : W12 m c = truncf (F := Ideal) .bf16 (shapeCast S1536x128 (transpose S12x128x128 [0, 2, 1] (Ar13 m c) transposes_S12x128x128_S12x128x128_0_2_1) shapeCasts_S12x128x128_S1536x128) bitsLt_bf16_f32 := by
  show StableHlo.after (List.flatten [hostOps0, hostOps0_1, hostOps0_2]) _ (Proc.devRef .tc main_v20) = _
  simp only [List.flatten_cons, List.flatten_nil, List.append_nil, List.cons_append, List.nil_append]
  after_results
  try rfl
theorem W12_apply (i : Fin 12) (x d : Fin 128) : W12 m c (ix2 ⟨128 * i.val + x.val, by omega⟩ d) = Ar13 m c (ix3 i d x) := by
  rw [W12_eq]
  pointwise []

theorem W13_eq : W13 m c = shapeCast S1536x1 (Ar14 m c) shapeCasts_S12x128_S1536x1 := by
  show StableHlo.after (List.flatten [hostOps0, hostOps0_1, hostOps0_2]) _ (Proc.devRef .tc main_v21) = _
  simp only [List.flatten_cons, List.flatten_nil, List.append_nil, List.cons_append, List.nil_append]
  after_results
  try rfl
theorem W13_apply (i : Fin 12) (x : Fin 128) : W13 m c (ix2 ⟨128 * i.val + x.val, by omega⟩ 0) = Ar14 m c (ix2 i x) := by
  rw [W13_eq]
  pointwise []

theorem W14_eq : W14 m c = truncf (F := Ideal) .bf16 (transpose S12x9x128 [0, 2, 1] (Ar15 m c) transposes_S12x128x9_S12x9x128_0_2_1) bitsLt_bf16_f32 := by
  show StableHlo.after (List.flatten [hostOps0, hostOps0_1, hostOps0_2]) _ (Proc.devRef .tc main_v23) = _
  simp only [List.flatten_cons, List.flatten_nil, List.append_nil, List.cons_append, List.nil_append]
  after_results
  try rfl
theorem W14_apply (i : Fin 12) (k : Fin 9) (x : Fin 128) : W14 m c (ix3 i k x) = Ar15 m c (ix3 i x k) := by
  rw [W14_eq]
  pointwise []

theorem W15_eq : W15 m c = shapeCast S108x1 (Ar16 m c) shapeCasts_S12x9_S108x1 := by
  show StableHlo.after (List.flatten [hostOps0, hostOps0_1, hostOps0_2]) _ (Proc.devRef .tc main_v24) = _
  simp only [List.flatten_cons, List.flatten_nil, List.append_nil, List.cons_append, List.nil_append]
  after_results
  try rfl
theorem W15_apply (i : Fin 12) (k : Fin 9) : W15 m c (ix2 ⟨i.val * 9 + k.val, by omega⟩ 0) = Ar16 m c (ix2 i k) := by
  rw [W15_eq]
  pointwise []

theorem W16_eq : W16 m c = truncf (F := Ideal) .bf16 (shapeCast S1536x384 (transpose S12x128x384 [0, 2, 1] (Ar17 m c) transposes_S12x384x128_S12x128x384_0_2_1) shapeCasts_S12x128x384_S1536x384) bitsLt_bf16_f32 := by
  show StableHlo.after (List.flatten [hostOps0, hostOps0_1, hostOps0_2]) _ (Proc.devRef .tc main_v27) = _
  simp only [List.flatten_cons, List.flatten_nil, List.append_nil, List.cons_append, List.nil_append]
  after_results
  try rfl
theorem W16_apply (i : Fin 12) (x : Fin 128) (d : Fin 384) : W16 m c (ix2 ⟨128 * i.val + x.val, by omega⟩ d) = Ar17 m c (ix3 i d x) := by
  rw [W16_eq]
  pointwise []

theorem W17_eq : W17 m c = shapeCast S1536x1 (Ar18 m c) shapeCasts_S12x128_S1536x1 := by
  show StableHlo.after (List.flatten [hostOps0, hostOps0_1, hostOps0_2]) _ (Proc.devRef .tc main_v28) = _
  simp only [List.flatten_cons, List.flatten_nil, List.append_nil, List.cons_append, List.nil_append]
  after_results
  try rfl
theorem W17_apply (i : Fin 12) (x : Fin 128) : W17 m c (ix2 ⟨128 * i.val + x.val, by omega⟩ 0) = Ar18 m c (ix2 i x) := by
  rw [W17_eq]
  pointwise []

theorem W18_eq : W18 m c = truncf (F := Ideal) .bf16 (transpose S12x4x128 [0, 2, 1] (Ar19 m c) transposes_S12x128x4_S12x4x128_0_2_1) bitsLt_bf16_f32 := by
  show StableHlo.after (List.flatten [hostOps0, hostOps0_1, hostOps0_2]) _ (Proc.devRef .tc main_v30) = _
  simp only [List.flatten_cons, List.flatten_nil, List.append_nil, List.cons_append, List.nil_append]
  after_results
  try rfl
theorem W18_apply (i : Fin 12) (k : Fin 4) (x : Fin 128) : W18 m c (ix3 i k x) = Ar19 m c (ix3 i x k) := by
  rw [W18_eq]
  pointwise []

theorem W19_eq : W19 m c = shapeCast S48x1 (Ar20 m c) shapeCasts_S12x4_S48x1 := by
  show StableHlo.after (List.flatten [hostOps0, hostOps0_1, hostOps0_2]) _ (Proc.devRef .tc main_v31) = _
  simp only [List.flatten_cons, List.flatten_nil, List.append_nil, List.cons_append, List.nil_append]
  after_results
  try rfl
theorem W19_apply (i : Fin 12) (k : Fin 4) : W19 m c (ix2 ⟨i.val * 4 + k.val, by omega⟩ 0) = Ar20 m c (ix2 i k) := by
  rw [W19_eq]
  pointwise []

theorem W0_apply (b : Fin 4) (j : Fin 32) (k : Fin 9) : W0 m c (ix3 b j k) = Ar0 m c (ix3 b j k) := congrFun (V_main_arg0 m c) _
theorem W1_apply (k d : Fin 9) : W1 m c (ix2 k d) = Ar7 m c (ix2 k d) := congrFun (V_main_arg7 m c) _
theorem W11_apply (b : Fin 4) (j : Fin 496) (k : Fin 4) : W11 m c (ix3 b j k) = Ar3 m c (ix3 b j k) := congrFun (V_main_arg3 m c) _
/-- A bit as a number. -/
def bit (x : BitVec 1) : EReal := FloatOps.uitofp (F := Ideal) .bf16 x
theorem bit_zero : bit 0#1 = 0 := by
  show (((0#1 : BitVec 1).toNat : ℝ) : EReal) = 0
  simp
theorem bit_one : bit 1#1 = 1 := by
  show (((1#1 : BitVec 1).toNat : ℝ) : EReal) = 1
  simp
/-- A row of the padded mask. -/
def maskOf (r : Fin 544) (i j : Fin 32) : EReal :=
  if h : r.val < 496 then bit (Ar5 m c (ix3 ⟨32 + r.val, by omega⟩ i j)) else if h : r.val - 496 < 32 then bit (Ar5 m c (ix3 ⟨r.val - 496, by omega⟩ i j)) else 0
theorem W6_apply (r : Fin 544) (i j : Fin 32) : W6 m c (ix3 r i j) = maskOf m c r i j := by
  rw [W6_eq]
  unfold maskOf
  rw [← bit_zero]
  pointwise []
  unfold bit
  split_ifs <;> rfl
/-- The weights of one row's first two sums: which node an edge's end is. -/
theorem W7_apply (r : Fin 544) (e : Fin 3) (j : Fin 32) : W7 m c (ix3 r e j)
    = if h : e.val < 2 then (if h' : r.val < 496 then bit (IntOp.cmpi CmpIPredicate.eq (Ar6 m c (ix2 ⟨r.val, h'⟩ ⟨e.val, h⟩)) (BitVec.ofNat 32 j.val)) else 0) else 1 := by
  rw [W7_eq]
  pointwise []
  rfl
end Cert.KernelIdeal.Flow
-- ==== Proof.RefA.lean ====
/-
  The reference's graph convolutions and batch statistics, element by element.
-/
module

public import proofs.«01_k».proof.Proof.Gen.ReferenceIdeal.Read
public import proofs.«01_k».proof.Proof.Spec
public import Idealize.ShloMosaic.Lib.Pointwise

@[expose] public section

set_option maxRecDepth 16384
noncomputable section

namespace Cert.ReferenceIdeal.Ref
open Idealize.ShloMosaic Idealize.ShloMosaic.TcCoe
open Cert.ReferenceIdeal Cert.ReferenceIdeal.Read Cert.Spec

variable (x0 : Vec Ideal S4x32x9 .f32) (x1 : Vec Ideal S4x4x32x32 .f32) (x4 : Vec Ideal S528x32 .i1) (x5 : Vec Ideal S528x32x32 .i1)
  (x7 : Vec Ideal S9x9 .f32) (x8 : Vec Ideal S3x9x128 .f32) (x9 x10 : Vec Ideal S3x128x128 .f32)

/-- One masked graph's features and adjacency. -/
def feat (b : Fin 4) (r : Fin 528) (j : Fin 32) (k : Fin 9) : EReal := if x4 (ix2 r j) = 1#1 then x0 (ix3 b j k) else 0
def adjm (b : Fin 4) (r : Fin 528) (e : Fin 3) (i j : Fin 32) : EReal := if x5 (ix3 r i j) = 1#1 then x1 (ix4 b ⟨e.val, by omega⟩ i j) else 0
/-- The graph convolutions' output for one masked graph. -/
def rout (b : Fin 4) (r : Fin 528) : Fin 32 → Fin 128 → EReal :=
  out3 (adjm x1 x5 b r) (feat x0 x4 b r) (fun k d => x7 (ix2 k d)) (fun e d h => x8 (ix3 e d h)) (fun e d h => x9 (ix3 e d h)) (fun e d h => x10 (ix3 e d h))

theorem v3_apply (b : Fin 4) (r : Fin 528) (j : Fin 32) (k : Fin 9) : val_main_v3 (F := Ideal) x0 x4 (ix4 b r j k) = feat x0 x4 b r j k := by
  unfold feat
  pointwise [val_main_v3, val_main_v0, val_main_v1, val_main_v2, val_main_call0_v0, val_main_call0_v1, val_main_call0_v2, val_main_call0_v3, val_main_cst]
  exact (congrArg (Scalar.select _ _) Ideal.ofBits_zero_f32)
theorem v6_apply (b : Fin 4) (r : Fin 528) (e : Fin 3) (i j : Fin 32) : val_main_v6 (F := Ideal) x1 x5 (ix5 b r e i j) = adjm x1 x5 b r e i j := by
  unfold adjm
  pointwise [val_main_v6, val_main_v4, val_main_v5, val_main_v0, val_main_call1_v0, val_main_call1_v1, val_main_call1_v2, val_main_call1_v3, val_main_cst_0]
  exact (congrArg (Scalar.select _ _) Ideal.ofBits_zero_f32)
theorem v7_apply (b : Fin 4) (r : Fin 528) (j : Fin 32) (d : Fin 9) : val_main_v7 (F := Ideal) x0 x4 x7 (ix4 b r j d)
    = sup (feat x0 x4 b r) (fun k d => x7 (ix2 k d)) j d := by
  unfold sup
  simp only [← v3_apply x0 x4]
  pointwise [val_main_v7]
theorem v8_apply (b : Fin 4) (r : Fin 528) (j : Fin 32) (e : Fin 3) (h : Fin 128) : val_main_v8 (F := Ideal) x0 x4 x7 x8 (ix5 b r j e h)
    = sup (sup (feat x0 x4 b r) (fun k d => x7 (ix2 k d))) (fun d h => x8 (ix3 e d h)) j h := by
  rw [show sup (feat x0 x4 b r) (fun k d => x7 (ix2 k d)) = fun j d => val_main_v7 (F := Ideal) x0 x4 x7 (ix4 b r j d) from funext fun j => funext fun d => (v7_apply x0 x4 x7 b r j d).symm]
  unfold sup
  pointwise [val_main_v8]
theorem v10_apply (b : Fin 4) (r : Fin 528) (i : Fin 32) (h : Fin 128) : val_main_v10 (F := Ideal) x0 x1 x4 x5 x7 x8 (ix4 b r i h)
    = mix (adjm x1 x5 b r) (fun e => sup (sup (feat x0 x4 b r) (fun k d => x7 (ix2 k d))) (fun d h => x8 (ix3 e d h))) i h := by
  skip
  unfold mix
  simp only [← v6_apply x1 x5, ← v8_apply x0 x4 x7 x8]
  pointwise [val_main_v10, val_main_v9, val_main_cst_1]
theorem v12_apply (b : Fin 4) (r : Fin 528) (i : Fin 32) (h : Fin 128) : val_main_v12 (F := Ideal) x0 x1 x4 x5 x7 x8 (ix4 b r i h)
    = layer1 (adjm x1 x5 b r) (feat x0 x4 b r) (fun k d => x7 (ix2 k d)) (fun e d h => x8 (ix3 e d h)) i h := by
  unfold layer1
  rw [← v10_apply]
  pointwise [val_main_v12, val_main_v11, val_main_cst_2]
theorem v13_apply (b : Fin 4) (r : Fin 528) (j : Fin 32) (e : Fin 3) (h : Fin 128) : val_main_v13 (F := Ideal) x0 x1 x4 x5 x7 x8 x9 (ix5 b r j e h)
    = sup (layer1 (adjm x1 x5 b r) (feat x0 x4 b r) (fun k d => x7 (ix2 k d)) (fun e d h => x8 (ix3 e d h))) (fun d h => x9 (ix3 e d h)) j h := by
  rw [show layer1 (adjm x1 x5 b r) (feat x0 x4 b r) (fun k d => x7 (ix2 k d)) (fun e d h => x8 (ix3 e d h)) = fun i h => val_main_v12 (F := Ideal) x0 x1 x4 x5 x7 x8 (ix4 b r i h) from funext fun j => funext fun d => (v12_apply x0 x1 x4 x5 x7 x8 b r j d).symm]
  unfold sup
  pointwise [val_main_v13]
theorem v15_apply (b : Fin 4) (r : Fin 528) (i : Fin 32) (h : Fin 128) : val_main_v15 (F := Ideal) x0 x1 x4 x5 x7 x8 x9 (ix4 b r i h)
    = mix (adjm x1 x5 b r) (fun e => sup (layer1 (adjm x1 x5 b r) (feat x0 x4 b r) (fun k d => x7 (ix2 k d)) (fun e d h => x8 (ix3 e d h))) (fun d h => x9 (ix3 e d h))) i h := by
  skip
  unfold mix
  simp only [← v6_apply x1 x5, ← v13_apply x0 x1 x4 x5 x7 x8 x9]
  pointwise [val_main_v15, val_main_v14, val_main_cst_3]
theorem v17_apply (b : Fin 4) (r : Fin 528) (i : Fin 32) (h : Fin 128) : val_main_v17 (F := Ideal) x0 x1 x4 x5 x7 x8 x9 (ix4 b r i h)
    = max (pre2 (adjm x1 x5 b r) (feat x0 x4 b r) (fun k d => x7 (ix2 k d)) (fun e d h => x8 (ix3 e d h)) (fun e d h => x9 (ix3 e d h)) i h) 0 := by
  unfold pre2
  rw [← v15_apply]
  pointwise [val_main_v17, val_main_v16, val_main_cst_4]
theorem v18_apply (b : Fin 4) (r : Fin 528) (j : Fin 32) (e : Fin 3) (h : Fin 128) : val_main_v18 (F := Ideal) x0 x1 x4 x5 x7 x8 x9 x10 (ix5 b r j e h)
    = sup (fun i h => max (pre2 (adjm x1 x5 b r) (feat x0 x4 b r) (fun k d => x7 (ix2 k d)) (fun e d h => x8 (ix3 e d h)) (fun e d h => x9 (ix3 e d h)) i h) 0) (fun d h => x10 (ix3 e d h)) j h := by
  rw [show (fun i h => max (pre2 (adjm x1 x5 b r) (feat x0 x4 b r) (fun k d => x7 (ix2 k d)) (fun e d h => x8 (ix3 e d h)) (fun e d h => x9 (ix3 e d h)) i h) 0) = fun i h => val_main_v17 (F := Ideal) x0 x1 x4 x5 x7 x8 x9 (ix4 b r i h) from funext fun j => funext fun d => (v17_apply x0 x1 x4 x5 x7 x8 x9 b r j d).symm]
  unfold sup
  pointwise [val_main_v18]
theorem v20_apply (b : Fin 4) (r : Fin 528) (i : Fin 32) (h : Fin 128) : val_main_v20 (F := Ideal) x0 x1 x4 x5 x7 x8 x9 x10 (ix4 b r i h)
    = rout x0 x1 x4 x5 x7 x8 x9 x10 b r i h := by
  unfold rout out3
  unfold mix
  simp only [← v6_apply x1 x5, ← v18_apply x0 x1 x4 x5 x7 x8 x9 x10]
  pointwise [val_main_v20, val_main_v19, val_main_cst_5]
end Cert.ReferenceIdeal.Ref
-- ==== Proof.RefB.lean ====
/-
  The reference's batch statistics, normalised features and node sums, element by element.
-/
module

public import proofs.«01_k».proof.Proof.RefA

@[expose] public section

set_option maxRecDepth 16384
noncomputable section

namespace Cert.ReferenceIdeal.Ref
open Idealize.ShloMosaic Idealize.ShloMosaic.TcCoe
open Cert.ReferenceIdeal Cert.ReferenceIdeal.Read Cert.Spec

variable (x0 : Vec Ideal S4x32x9 .f32) (x1 : Vec Ideal S4x4x32x32 .f32) (x2 : Vec Ideal S4x32x9 .f32) (x3 : Vec Ideal S4x496x4 .f32)
  (x4 : Vec Ideal S528x32 .i1) (x5 : Vec Ideal S528x32x32 .i1) (x6 : Vec Ideal S496x2 .i32)
  (x7 : Vec Ideal S9x9 .f32) (x8 : Vec Ideal S3x9x128 .f32) (x9 x10 : Vec Ideal S3x128x128 .f32) (x11 x12 : Vec Ideal S128 .f32)

/-- The batch normalisation of one batch of graphs, its statistics over graphs, masks and nodes. -/
def total (f : Fin 4 → Fin 528 → Fin 32 → EReal) : EReal := ∑ b, ∑ r, ∑ i, f b r i
def avg (f : Fin 4 → Fin 528 → Fin 32 → EReal) : EReal := Ideal.div (total f) (Ideal.ofBits .f32 1199833088#32)
def vari (f : Fin 4 → Fin 528 → Fin 32 → EReal) : EReal :=
  Ideal.div (total fun b r i => (f b r i - avg f) * (f b r i - avg f)) (Ideal.ofBits .f32 1199833088#32)
def normed (f : Fin 4 → Fin 528 → Fin 32 → EReal) (g β : EReal) (b : Fin 4) (r : Fin 528) (i : Fin 32) : EReal :=
  Ideal.div (f b r i - avg f) (Ideal.sqrt (vari f + Ideal.ofBits .f32 925353388#32)) * g + β

def col (h : Fin 128) (b : Fin 4) (r : Fin 528) (i : Fin 32) : EReal := rout x0 x1 x4 x5 x7 x8 x9 x10 b r i h
def bn (b : Fin 4) (r : Fin 528) (i : Fin 32) (h : Fin 128) : EReal := normed (col x0 x1 x4 x5 x7 x8 x9 x10 h) (x11 (ix1 h)) (x12 (ix1 h)) b r i

theorem v23_apply (h : Fin 128) : val_main_v23 (F := Ideal) x0 x1 x4 x5 x7 x8 x9 x10 (ix1 h) = total (col x0 x1 x4 x5 x7 x8 x9 x10 h) := by
  unfold total col
  simp only [← v20_apply]
  pointwise [val_main_v23, val_main_cst_8, val_main_v22, val_main_cst_7, val_main_v21, val_main_cst_6]
theorem v25_apply (h : Fin 128) : val_main_v25 (F := Ideal) x0 x1 x4 x5 x7 x8 x9 x10 (ix1 h) = avg (col x0 x1 x4 x5 x7 x8 x9 x10 h) := by
  unfold avg
  rw [← v23_apply]
  pointwise [val_main_v25, val_main_v24, val_main_cst_9]
theorem v29_apply (b : Fin 4) (r : Fin 528) (i : Fin 32) (h : Fin 128) : val_main_v29 (F := Ideal) x0 x1 x4 x5 x7 x8 x9 x10 (ix4 b r i h)
    = (col x0 x1 x4 x5 x7 x8 x9 x10 h b r i - avg (col x0 x1 x4 x5 x7 x8 x9 x10 h)) * (col x0 x1 x4 x5 x7 x8 x9 x10 h b r i - avg (col x0 x1 x4 x5 x7 x8 x9 x10 h)) := by
  rw [← v25_apply, col, ← v20_apply]
  pointwise [val_main_v29, val_main_v28, val_main_v27, val_main_v26]
theorem v34_apply (h : Fin 128) : val_main_v34 (F := Ideal) x0 x1 x4 x5 x7 x8 x9 x10 (ix1 h) = vari (col x0 x1 x4 x5 x7 x8 x9 x10 h) := by
  unfold vari total
  simp only [← v29_apply]
  pointwise [val_main_v34, val_main_v33, val_main_cst_13, val_main_v32, val_main_cst_12, val_main_v31, val_main_cst_11, val_main_v30, val_main_cst_10]
theorem v49_apply (b : Fin 4) (r : Fin 528) (i : Fin 32) (h : Fin 128) : val_main_v49 (F := Ideal) x0 x1 x4 x5 x7 x8 x9 x10 x11 x12 (ix4 b r i h)
    = bn x0 x1 x4 x5 x7 x8 x9 x10 x11 x12 b r i h := by
  unfold bn normed
  rw [← v34_apply, ← v25_apply, col, ← v20_apply]
  pointwise [val_main_v49, val_main_v48, val_main_v47, val_main_v46, val_main_v45, val_main_v44, val_main_v43, val_main_v42, val_main_v41, val_main_v40, val_main_v39, val_main_v38, val_main_cst_14, val_main_v37, val_main_v36, val_main_v35]
theorem v50_apply (b : Fin 4) (r : Fin 528) (h : Fin 128) : val_main_v50 (F := Ideal) x0 x1 x4 x5 x7 x8 x9 x10 x11 x12 (ix3 b r h)
    = ∑ i, bn x0 x1 x4 x5 x7 x8 x9 x10 x11 x12 b r i h := by
  simp only [← v49_apply]
  pointwise [val_main_v50, val_main_cst_15]
theorem v52_apply (q d : Fin 128) : val_main_v52 (F := Ideal) x0 x1 x4 x5 x7 x8 x9 x10 x11 x12 (ix2 q d)
    = ∑ i, bn x0 x1 x4 x5 x7 x8 x9 x10 x11 x12 ⟨q.val / 32, by omega⟩ ⟨q.val % 32, by omega⟩ i d := by
  rw [← v50_apply]
  pointwise [val_main_v52, val_main_v51]
theorem v54_apply (b : Fin 4) (p : Fin 496) (z : Fin 1) (d : Fin 128) : val_main_v54 (F := Ideal) x0 x1 x4 x5 x7 x8 x9 x10 x11 x12 (ix4 b p z d)
    = ∑ i, bn x0 x1 x4 x5 x7 x8 x9 x10 x11 x12 b ⟨32 + p.val, by omega⟩ i d := by
  rw [← v50_apply]
  pointwise [val_main_v54, val_main_v53]
theorem v55_apply (b : Fin 4) (p : Fin 496) (i : Fin 32) (d : Fin 128) : val_main_v55 (F := Ideal) x0 x1 x4 x5 x7 x8 x9 x10 x11 x12 (ix4 b p i d)
    = bn x0 x1 x4 x5 x7 x8 x9 x10 x11 x12 b ⟨32 + p.val, by omega⟩ i d := by
  rw [← v49_apply]
  pointwise [val_main_v55]
end Cert.ReferenceIdeal.Ref
-- ==== Proof.RefC.lean ====
/-
  The reference's node flow steps, element by element.
-/
module

public import proofs.«01_k».proof.Proof.RefB
public import proofs.«01_k».proof.Proof.FlowSpec

@[expose] public section

set_option maxRecDepth 16384
noncomputable section

namespace Cert.ReferenceIdeal.Ref
open Idealize.ShloMosaic Idealize.ShloMosaic.TcCoe
open Cert.ReferenceIdeal Cert.ReferenceIdeal.Read Cert.Spec

variable (x0 : Vec Ideal S4x32x9 .f32) (x1 : Vec Ideal S4x4x32x32 .f32) (x2 : Vec Ideal S4x32x9 .f32) (x3 : Vec Ideal S4x496x4 .f32)
  (x4 : Vec Ideal S528x32 .i1) (x5 : Vec Ideal S528x32x32 .i1) (x6 : Vec Ideal S496x2 .i32)
  (x7 : Vec Ideal S9x9 .f32) (x8 : Vec Ideal S3x9x128 .f32) (x9 x10 : Vec Ideal S3x128x128 .f32) (x11 x12 : Vec Ideal S128 .f32)
  (x13 : Vec Ideal S12x128x128 .f32) (x14 : Vec Ideal S12x128 .f32) (x15 : Vec Ideal S12x128x9 .f32) (x16 : Vec Ideal S12x9 .f32)
  (x17 : Vec Ideal S12x384x128 .f32) (x18 : Vec Ideal S12x128 .f32) (x19 : Vec Ideal S12x128x4 .f32) (x20 : Vec Ideal S12x4 .f32)

theorem one_word : FloatOps.uitofp (F := Ideal) .f32 (1#1) = (1 : EReal) := by
  show (((1#1 : BitVec 1).toNat : ℝ) : EReal) = _
  simp
theorem zero_word : FloatOps.uitofp (F := Ideal) .f32 (0#1) = (0 : EReal) := by
  show (((0#1 : BitVec 1).toNat : ℝ) : EReal) = _
  simp
/-- The node rows' graph features. -/
def gnode (q : Fin 128) (d : Fin 128) : EReal := ∑ i, bn x0 x1 x4 x5 x7 x8 x9 x10 x11 x12 ⟨q.val / 32, by omega⟩ ⟨q.val % 32, by omega⟩ i d
theorem gnode_eq (q d : Fin 128) : val_main_v52 (F := Ideal) x0 x1 x4 x5 x7 x8 x9 x10 x11 x12 (ix2 q d) = gnode x0 x1 x4 x5 x7 x8 x9 x10 x11 x12 q d :=
  v52_apply x0 x1 x4 x5 x7 x8 x9 x10 x11 x12 q d
theorem v68_apply (i : Fin 12) (q : Fin 128) (x : Fin 128) : val_main_v68 (F := Ideal) x0 x1 x4 x5 x7 x8 x9 x10 x11 x12 x13 x14 (ix3 i q x)
    = Ideal.tanh ((∑ d : Fin 128, x13 (ix3 i d x) * gnode x0 x1 x4 x5 x7 x8 x9 x10 x11 x12 q d) + x14 (ix2 i x)) := by
  simp only [← gnode_eq]
  pointwise [val_main_v68, val_main_v67, val_main_v66, val_main_v65, val_main_v64, val_main_v63]
theorem v72_apply (i : Fin 12) (q : Fin 128) (k : Fin 9) : val_main_v72 (F := Ideal) x0 x1 x4 x5 x7 x8 x9 x10 x11 x12 x13 x14 x15 x16 (ix3 i q k)
    = logit (fun x d => x13 (ix3 i d x)) (fun x => x14 (ix2 i x)) (fun k x => x15 (ix3 i x k)) (fun k => x16 (ix2 i k)) (fun d => gnode x0 x1 x4 x5 x7 x8 x9 x10 x11 x12 q d) k := by
  unfold logit
  simp only [mul_comm (x15 _)]
  pointwise [val_main_v72, val_main_v71, val_main_v70, val_main_v69]
  simp only [v68_apply]
theorem v73_apply (i : Fin 12) (q : Fin 128) : val_main_v73 (F := Ideal) x0 x1 x4 x5 x7 x8 x9 x10 x11 x12 x13 x14 x15 x16 (ix2 i q)
    = top (fun k => val_main_v72 (F := Ideal) x0 x1 x4 x5 x7 x8 x9 x10 x11 x12 x13 x14 x15 x16 (ix3 i q k)) := by
  unfold top
  pointwise [val_main_v73, val_main_cst_16]
theorem v77_apply (i : Fin 12) (q : Fin 128) (k : Fin 9) : val_main_v77 (F := Ideal) x0 x1 x4 x5 x7 x8 x9 x10 x11 x12 x13 x14 x15 x16 (ix3 i q k)
    = Ideal.exp (val_main_v72 (F := Ideal) x0 x1 x4 x5 x7 x8 x9 x10 x11 x12 x13 x14 x15 x16 (ix3 i q k) - top (fun k => val_main_v72 (F := Ideal) x0 x1 x4 x5 x7 x8 x9 x10 x11 x12 x13 x14 x15 x16 (ix3 i q k))) := by
  rw [← v73_apply]
  pointwise [val_main_v77, val_main_v76, val_main_v75, val_main_v74]
theorem v81_apply (i : Fin 12) (q : Fin 128) (k : Fin 9) : val_main_v81 (F := Ideal) x0 x1 x4 x5 x7 x8 x9 x10 x11 x12 x13 x14 x15 x16 (ix3 i q k)
    = soft (logit (fun x d => x13 (ix3 i d x)) (fun x => x14 (ix2 i x)) (fun k x => x15 (ix3 i x k)) (fun k => x16 (ix2 i k)) (fun d => gnode x0 x1 x4 x5 x7 x8 x9 x10 x11 x12 q d)) k := by
  rw [show (logit (fun x d => x13 (ix3 i d x)) (fun x => x14 (ix2 i x)) (fun k x => x15 (ix3 i x k)) (fun k => x16 (ix2 i k)) (fun d => gnode x0 x1 x4 x5 x7 x8 x9 x10 x11 x12 q d)) = fun k => val_main_v72 (F := Ideal) x0 x1 x4 x5 x7 x8 x9 x10 x11 x12 x13 x14 x15 x16 (ix3 i q k) from funext fun k => (v72_apply x0 x1 x4 x5 x7 x8 x9 x10 x11 x12 x13 x14 x15 x16 i q k).symm]
  unfold soft
  pointwise [val_main_v81, val_main_v80, val_main_v79, val_main_v78, val_main_cst_17]
  simp only [v77_apply]
theorem move9_word : ∀ j m k : Fin 9, IntOp.ori (IntOp.cmpi .eq (IntOp.addi (BitVec.ofNat 32 m.val) (BitVec.ofNat 32 j.val)) (BitVec.ofNat 32 k.val))
      (IntOp.cmpi .eq (IntOp.addi (BitVec.ofNat 32 m.val) (BitVec.ofNat 32 j.val)) (IntOp.addi (BitVec.ofNat 32 k.val) 9#32))
    = if j.val = (k.val + (9 - m.val)) % 9 then 1#1 else 0#1 := by decide +kernel
theorem v111_apply (j m k : Fin 9) : val_main_v111 (F := Ideal) (ix3 j m k) = if j.val = (k.val + (9 - m.val)) % 9 then 1 else 0 := by
  have e : val_main_v111 (F := Ideal) (ix3 j m k) = FloatOps.uitofp (F := Ideal) .f32 (IntOp.ori (IntOp.cmpi .eq (IntOp.addi (BitVec.ofNat 32 m.val) (BitVec.ofNat 32 j.val)) (BitVec.ofNat 32 k.val))
      (IntOp.cmpi .eq (IntOp.addi (BitVec.ofNat 32 m.val) (BitVec.ofNat 32 j.val)) (IntOp.addi (BitVec.ofNat 32 k.val) 9#32))) := by
    pointwise [val_main_v111, val_main_v110, val_main_v109, val_main_v108, val_main_v107, val_main_v106, val_main_v105, val_main_v104, val_main_v103, val_main_v102, val_main_v101, val_main_c]
  refine e.trans ((congrArg _ (move9_word j m k)).trans ?_)
  by_cases h : j.val = (k.val + (9 - m.val)) % 9
  · rw [if_pos h, if_pos h]; exact one_word
  · rw [if_neg h, if_neg h]; exact zero_word
theorem moved9 (a t : Fin 9 → EReal) (k : Fin 9) : (∑ m : Fin 9, a m * ∑ j : Fin 9, t j * val_main_v111 (F := Ideal) (ix3 j m k)) = conv a t k := by
  unfold conv
  refine Finset.sum_congr rfl fun m _ => congrArg (a m * ·) ?_
  rw [Finset.sum_eq_single (⟨(k.val + (9 - m.val)) % 9, Nat.mod_lt _ (by omega)⟩ : Fin 9)]
  · rw [v111_apply, if_pos rfl, mul_one]
  · intro j _ hj
    rw [v111_apply, if_neg (fun e => hj (Fin.ext e)), mul_zero]
  · intro h; exact absurd (Finset.mem_univ _) h
theorem v129_apply (q : Fin 128) (k : Fin 9) : val_main_v129 (F := Ideal) x0 x1 x2 x4 x5 x7 x8 x9 x10 x11 x12 x13 x14 x15 x16 (ix2 q k)
    = conv (fun m => val_main_v61 (F := Ideal) x2 (ix2 q m)) (fun j => val_main_v81 (F := Ideal) x0 x1 x4 x5 x7 x8 x9 x10 x11 x12 x13 x14 x15 x16 (ix3 0 q j)) k := by
  rw [← moved9]
  pointwise [val_main_v129, val_main_v128, val_main_v127, val_main_v126, val_main_v125, val_main_v124, val_main_v123, val_main_cst_21]
theorem v143_apply (q : Fin 128) (k : Fin 9) : val_main_v143 (F := Ideal) x0 x1 x2 x4 x5 x7 x8 x9 x10 x11 x12 x13 x14 x15 x16 (ix2 q k)
    = conv (fun m => val_main_v129 (F := Ideal) x0 x1 x2 x4 x5 x7 x8 x9 x10 x11 x12 x13 x14 x15 x16 (ix2 q m)) (fun j => val_main_v81 (F := Ideal) x0 x1 x4 x5 x7 x8 x9 x10 x11 x12 x13 x14 x15 x16 (ix3 1 q j)) k := by
  rw [← moved9]
  pointwise [val_main_v143, val_main_v142, val_main_v141, val_main_v140, val_main_v139, val_main_v138, val_main_v137, val_main_cst_23]
theorem v157_apply (q : Fin 128) (k : Fin 9) : val_main_v157 (F := Ideal) x0 x1 x2 x4 x5 x7 x8 x9 x10 x11 x12 x13 x14 x15 x16 (ix2 q k)
    = conv (fun m => val_main_v143 (F := Ideal) x0 x1 x2 x4 x5 x7 x8 x9 x10 x11 x12 x13 x14 x15 x16 (ix2 q m)) (fun j => val_main_v81 (F := Ideal) x0 x1 x4 x5 x7 x8 x9 x10 x11 x12 x13 x14 x15 x16 (ix3 2 q j)) k := by
  rw [← moved9]
  pointwise [val_main_v157, val_main_v156, val_main_v155, val_main_v154, val_main_v153, val_main_v152, val_main_v151, val_main_cst_25]
theorem v171_apply (q : Fin 128) (k : Fin 9) : val_main_v171 (F := Ideal) x0 x1 x2 x4 x5 x7 x8 x9 x10 x11 x12 x13 x14 x15 x16 (ix2 q k)
    = conv (fun m => val_main_v157 (F := Ideal) x0 x1 x2 x4 x5 x7 x8 x9 x10 x11 x12 x13 x14 x15 x16 (ix2 q m)) (fun j => val_main_v81 (F := Ideal) x0 x1 x4 x5 x7 x8 x9 x10 x11 x12 x13 x14 x15 x16 (ix3 3 q j)) k := by
  rw [← moved9]
  pointwise [val_main_v171, val_main_v170, val_main_v169, val_main_v168, val_main_v167, val_main_v166, val_main_v165, val_main_cst_27]
theorem v185_apply (q : Fin 128) (k : Fin 9) : val_main_v185 (F := Ideal) x0 x1 x2 x4 x5 x7 x8 x9 x10 x11 x12 x13 x14 x15 x16 (ix2 q k)
    = conv (fun m => val_main_v171 (F := Ideal) x0 x1 x2 x4 x5 x7 x8 x9 x10 x11 x12 x13 x14 x15 x16 (ix2 q m)) (fun j => val_main_v81 (F := Ideal) x0 x1 x4 x5 x7 x8 x9 x10 x11 x12 x13 x14 x15 x16 (ix3 4 q j)) k := by
  rw [← moved9]
  pointwise [val_main_v185, val_main_v184, val_main_v183, val_main_v182, val_main_v181, val_main_v180, val_main_v179, val_main_cst_29]
theorem v199_apply (q : Fin 128) (k : Fin 9) : val_main_v199 (F := Ideal) x0 x1 x2 x4 x5 x7 x8 x9 x10 x11 x12 x13 x14 x15 x16 (ix2 q k)
    = conv (fun m => val_main_v185 (F := Ideal) x0 x1 x2 x4 x5 x7 x8 x9 x10 x11 x12 x13 x14 x15 x16 (ix2 q m)) (fun j => val_main_v81 (F := Ideal) x0 x1 x4 x5 x7 x8 x9 x10 x11 x12 x13 x14 x15 x16 (ix3 5 q j)) k := by
  rw [← moved9]
  pointwise [val_main_v199, val_main_v198, val_main_v197, val_main_v196, val_main_v195, val_main_v194, val_main_v193, val_main_cst_31]
theorem v213_apply (q : Fin 128) (k : Fin 9) : val_main_v213 (F := Ideal) x0 x1 x2 x4 x5 x7 x8 x9 x10 x11 x12 x13 x14 x15 x16 (ix2 q k)
    = conv (fun m => val_main_v199 (F := Ideal) x0 x1 x2 x4 x5 x7 x8 x9 x10 x11 x12 x13 x14 x15 x16 (ix2 q m)) (fun j => val_main_v81 (F := Ideal) x0 x1 x4 x5 x7 x8 x9 x10 x11 x12 x13 x14 x15 x16 (ix3 6 q j)) k := by
  rw [← moved9]
  pointwise [val_main_v213, val_main_v212, val_main_v211, val_main_v210, val_main_v209, val_main_v208, val_main_v207, val_main_cst_33]
theorem v227_apply (q : Fin 128) (k : Fin 9) : val_main_v227 (F := Ideal) x0 x1 x2 x4 x5 x7 x8 x9 x10 x11 x12 x13 x14 x15 x16 (ix2 q k)
    = conv (fun m => val_main_v213 (F := Ideal) x0 x1 x2 x4 x5 x7 x8 x9 x10 x11 x12 x13 x14 x15 x16 (ix2 q m)) (fun j => val_main_v81 (F := Ideal) x0 x1 x4 x5 x7 x8 x9 x10 x11 x12 x13 x14 x15 x16 (ix3 7 q j)) k := by
  rw [← moved9]
  pointwise [val_main_v227, val_main_v226, val_main_v225, val_main_v224, val_main_v223, val_main_v222, val_main_v221, val_main_cst_35]
theorem v241_apply (q : Fin 128) (k : Fin 9) : val_main_v241 (F := Ideal) x0 x1 x2 x4 x5 x7 x8 x9 x10 x11 x12 x13 x14 x15 x16 (ix2 q k)
    = conv (fun m => val_main_v227 (F := Ideal) x0 x1 x2 x4 x5 x7 x8 x9 x10 x11 x12 x13 x14 x15 x16 (ix2 q m)) (fun j => val_main_v81 (F := Ideal) x0 x1 x4 x5 x7 x8 x9 x10 x11 x12 x13 x14 x15 x16 (ix3 8 q j)) k := by
  rw [← moved9]
  pointwise [val_main_v241, val_main_v240, val_main_v239, val_main_v238, val_main_v237, val_main_v236, val_main_v235, val_main_cst_37]
theorem v255_apply (q : Fin 128) (k : Fin 9) : val_main_v255 (F := Ideal) x0 x1 x2 x4 x5 x7 x8 x9 x10 x11 x12 x13 x14 x15 x16 (ix2 q k)
    = conv (fun m => val_main_v241 (F := Ideal) x0 x1 x2 x4 x5 x7 x8 x9 x10 x11 x12 x13 x14 x15 x16 (ix2 q m)) (fun j => val_main_v81 (F := Ideal) x0 x1 x4 x5 x7 x8 x9 x10 x11 x12 x13 x14 x15 x16 (ix3 9 q j)) k := by
  rw [← moved9]
  pointwise [val_main_v255, val_main_v254, val_main_v253, val_main_v252, val_main_v251, val_main_v250, val_main_v249, val_main_cst_39]
theorem v269_apply (q : Fin 128) (k : Fin 9) : val_main_v269 (F := Ideal) x0 x1 x2 x4 x5 x7 x8 x9 x10 x11 x12 x13 x14 x15 x16 (ix2 q k)
    = conv (fun m => val_main_v255 (F := Ideal) x0 x1 x2 x4 x5 x7 x8 x9 x10 x11 x12 x13 x14 x15 x16 (ix2 q m)) (fun j => val_main_v81 (F := Ideal) x0 x1 x4 x5 x7 x8 x9 x10 x11 x12 x13 x14 x15 x16 (ix3 10 q j)) k := by
  rw [← moved9]
  pointwise [val_main_v269, val_main_v268, val_main_v267, val_main_v266, val_main_v265, val_main_v264, val_main_v263, val_main_cst_41]
theorem v283_apply (q : Fin 128) (k : Fin 9) : val_main_v283 (F := Ideal) x0 x1 x2 x4 x5 x7 x8 x9 x10 x11 x12 x13 x14 x15 x16 (ix2 q k)
    = conv (fun m => val_main_v269 (F := Ideal) x0 x1 x2 x4 x5 x7 x8 x9 x10 x11 x12 x13 x14 x15 x16 (ix2 q m)) (fun j => val_main_v81 (F := Ideal) x0 x1 x4 x5 x7 x8 x9 x10 x11 x12 x13 x14 x15 x16 (ix3 11 q j)) k := by
  rw [← moved9]
  pointwise [val_main_v283, val_main_v282, val_main_v281, val_main_v280, val_main_v279, val_main_v278, val_main_v277, val_main_cst_43]
/-- All 128 rows' results. -/
theorem v283_flow (q : Fin 128) (k : Fin 9) : val_main_v283 (F := Ideal) x0 x1 x2 x4 x5 x7 x8 x9 x10 x11 x12 x13 x14 x15 x16 (ix2 q k)
    = flow (fun i x d => x13 (ix3 i d x)) (fun i x => x14 (ix2 i x)) (fun i k x => x15 (ix3 i x k)) (fun i k => x16 (ix2 i k))
      (fun d => gnode x0 x1 x4 x5 x7 x8 x9 x10 x11 x12 q d) (fun m => val_main_v61 (F := Ideal) x2 (ix2 q m)) k := by
  unfold flow steps
  rw [v283_apply]
  simp only [v269_apply, v255_apply, v241_apply, v227_apply, v213_apply, v199_apply, v185_apply, v171_apply, v157_apply, v143_apply, v129_apply, v81_apply]
theorem xd_apply (q : Fin 128) (k : Fin 9) : val_main_v283 (F := Ideal) x0 x1 x2 x4 x5 x7 x8 x9 x10 x11 x12 x13 x14 x15 x16 (ix2 q k)
    = flow (fun i x d => x13 (ix3 i d x)) (fun i x => x14 (ix2 i x)) (fun i k x => x15 (ix3 i x k)) (fun i k => x16 (ix2 i k))
      (fun d => gnode x0 x1 x4 x5 x7 x8 x9 x10 x11 x12 q d) (fun m => x2 (ix3 ⟨q.val / 32, by omega⟩ ⟨q.val % 32, by omega⟩ m)) k := by
  rw [v283_flow]
  refine congrArg (fun a => flow _ _ _ _ _ a k) (funext fun m => ?_)
  pointwise [val_main_v61]
end Cert.ReferenceIdeal.Ref
-- ==== Proof.RefD.lean ====
/-
  The reference's edge flow steps, element by element.
-/
module

public import proofs.«01_k».proof.Proof.RefC
public import proofs.«01_k».proof.Proof.FlowSpec

@[expose] public section

set_option maxRecDepth 16384
noncomputable section

namespace Cert.ReferenceIdeal.Ref
open Idealize.ShloMosaic Idealize.ShloMosaic.TcCoe
open Cert.ReferenceIdeal Cert.ReferenceIdeal.Read Cert.Spec

variable (x0 : Vec Ideal S4x32x9 .f32) (x1 : Vec Ideal S4x4x32x32 .f32) (x2 : Vec Ideal S4x32x9 .f32) (x3 : Vec Ideal S4x496x4 .f32)
  (x4 : Vec Ideal S528x32 .i1) (x5 : Vec Ideal S528x32x32 .i1) (x6 : Vec Ideal S496x2 .i32)
  (x7 : Vec Ideal S9x9 .f32) (x8 : Vec Ideal S3x9x128 .f32) (x9 x10 : Vec Ideal S3x128x128 .f32) (x11 x12 : Vec Ideal S128 .f32)
  (x13 : Vec Ideal S12x128x128 .f32) (x14 : Vec Ideal S12x128 .f32) (x15 : Vec Ideal S12x128x9 .f32) (x16 : Vec Ideal S12x9 .f32)
  (x17 : Vec Ideal S12x384x128 .f32) (x18 : Vec Ideal S12x128 .f32) (x19 : Vec Ideal S12x128x4 .f32) (x20 : Vec Ideal S12x4 .f32)

theorem gather_at (x : Vec Ideal S4x496x32x128 .f32) (k : Vec Ideal S4x496x2x128x1 .i32) (b : Fin 4) (p : Fin 496) (e : Fin 2) (d : Fin 128)
    (n : Fin 32) (hk : (k (ix5 b p e d 0)).toInt.toNat = n.val) :
    Host.gather gather_S4x496x32x128_S4x496x2x128x1_S4x496x2x128_n_2_013_013_2_4_1111 x k (ix4 b p e d) = x (ix4 b p n d) := by
  unfold Host.gather
  refine congrArg x (funext fun a => Fin.ext ?_)
  let D := gather_S4x496x32x128_S4x496x2x128x1_S4x496x2x128_n_2_013_013_2_4_1111
  show D.start (ix4 b p e d) k a + D.batchCoord (ix4 b p e d) a + D.offCoord (ix4 b p e d) a = (ix4 b p n d a).val
  have ho : D.offCoord (ix4 b p e d) a = 0 := GatherDims.offCoord_eq_zero _ _ _ (by revert a; decide)
  rw [ho, Nat.add_zero]
  rcases (show a = 0 ∨ a = 1 ∨ a = 2 ∨ a = 3 from by clear ho; revert a; decide) with rfl | rfl | rfl | rfl
  · rw [GatherDims.start_batching _ _ _ _ (by decide)]; unfold GatherDims.batchCoord; rw [dif_pos (by decide), Nat.zero_add]; rfl
  · rw [GatherDims.start_batching _ _ _ _ (by decide)]; unfold GatherDims.batchCoord; rw [dif_pos (by decide), Nat.zero_add]; rfl
  · rw [GatherDims.batchCoord_eq_zero _ _ _ (by decide), Nat.add_zero]
    unfold GatherDims.start
    rw [dif_pos (by decide)]
    have hsi : ∀ h, D.siIdx (ix4 b p e d) ⟨List.idxOf (2 : Fin 4) D.startIndexMap, h⟩ = ix5 b p e d 0 := by
      intro h; funext c; refine Fin.ext ?_
      match c with
      | ⟨0, _⟩ => rfl
      | ⟨1, _⟩ => rfl
      | ⟨2, _⟩ => rfl
      | ⟨3, _⟩ => rfl
      | ⟨4, _⟩ => rfl
    refine (congrArg (fun z => min (k z).toInt.toNat 31) (hsi _)).trans ?_
    show min (k (ix5 b p e d 0)).toInt.toNat 31 = n.val
    rw [hk]; have := n.isLt; omega
  · rw [GatherDims.start_batching _ _ _ _ (by decide)]; unfold GatherDims.batchCoord; rw [dif_pos (by decide), Nat.zero_add]; rfl

theorem index_word : ∀ n : Fin 32, Scalar.select (IntOp.cmpi CmpIPredicate.slt (BitVec.ofNat 32 n.val) 0#32) (IntOp.addi (BitVec.ofNat 32 n.val) 32#32) (BitVec.ofNat 32 n.val)
    = BitVec.ofNat 32 n.val := by decide +kernel
theorem range_word : ∀ n : Fin 32, IntOp.andi (IntOp.andi (IntOp.cmpi CmpIPredicate.sge (BitVec.ofNat 32 n.val) 0#32) (IntOp.cmpi CmpIPredicate.sle (BitVec.ofNat 32 n.val) 31#32)) 1#1 = 1#1 := by
  decide +kernel
theorem value_word : ∀ n : Fin 32, (BitVec.ofNat 32 n.val : BitVec 32).toInt.toNat = n.val := by decide +kernel

theorem index_apply (b : Fin 4) (p : Fin 496) (e : Fin 2) (d : Fin 128) (z : Fin 1) (n : Fin 32) (hn : x6 (ix2 p e) = BitVec.ofNat 32 n.val) :
    val_main_call2_v5 (F := Ideal) x6 (ix5 b p e d z) = BitVec.ofNat 32 n.val := by
  refine Eq.trans ?_ (index_word n)
  rw [← hn]
  pointwise [val_main_call2_v5, val_main_call2_v4, val_main_call2_v3, val_main_call2_v2, val_main_call2_c_0, val_main_call2_v1, val_main_call2_v0, val_main_call2_c, val_main_v57, val_main_v56]
theorem range_apply (b : Fin 4) (p : Fin 496) (e : Fin 2) (d : Fin 128) (n : Fin 32) (hn : x6 (ix2 p e) = BitVec.ofNat 32 n.val) :
    val_main_call2_v12 (F := Ideal) x6 (ix4 b p e d) = 1#1 := by
  pointwise [val_main_call2_v12, val_main_call2_v11, val_main_call2_v10, val_main_call2_v9, val_main_call2_v8, val_main_call2_v7, val_main_call2_v6, val_main_call2_c_1, val_main_call2_c_2, val_main_call2_c_3]
  simp only [index_apply x6 b p e d _ n hn]
  rw [Finset.univ_unique, Finset.fold_singleton]
  exact range_word n
theorem v58_apply (b : Fin 4) (p : Fin 496) (e : Fin 2) (d : Fin 128) (n : Fin 32) (hn : x6 (ix2 p e) = BitVec.ofNat 32 n.val) :
    val_main_v58 (F := Ideal) x0 x1 x4 x5 x6 x7 x8 x9 x10 x11 x12 (ix4 b p e d) = bn x0 x1 x4 x5 x7 x8 x9 x10 x11 x12 b ⟨32 + p.val, by omega⟩ n d := by
  pointwise [val_main_v58]
  rw [range_apply x6 b p e d n hn]
  refine (show ∀ (u v : EReal), Scalar.select 1#1 u v = u from fun u v => rfl) _ _ |>.trans ?_
  refine (gather_at _ _ b p e d n ?_).trans (v55_apply x0 x1 x4 x5 x7 x8 x9 x10 x11 x12 b p n d)
  rw [index_apply x6 b p e d 0 n hn, value_word]

/-- The edge rows' graph features: the two end points' and the sum over the nodes. -/
def gedge (N : Fin 496 → Fin 2 → Fin 32) (q : Fin 1984) (d : Fin 384) : EReal :=
  if h : d.val < 256 then
    bn x0 x1 x4 x5 x7 x8 x9 x10 x11 x12 ⟨q.val / 496, by omega⟩ ⟨32 + q.val % 496, by omega⟩ (N ⟨q.val % 496, by omega⟩ ⟨d.val / 128, by omega⟩) ⟨d.val % 128, by omega⟩
  else ∑ i, bn x0 x1 x4 x5 x7 x8 x9 x10 x11 x12 ⟨q.val / 496, by omega⟩ ⟨32 + q.val % 496, by omega⟩ i ⟨d.val % 128, by omega⟩

theorem v59_apply (N : Fin 496 → Fin 2 → Fin 32) (hN : ∀ p e, x6 (ix2 p e) = BitVec.ofNat 32 (N p e).val) (b : Fin 4) (p : Fin 496) (e : Fin 3) (d : Fin 128) :
    val_main_v59 (F := Ideal) x0 x1 x4 x5 x6 x7 x8 x9 x10 x11 x12 (ix4 b p e d)
    = if h : e.val < 2 then bn x0 x1 x4 x5 x7 x8 x9 x10 x11 x12 b ⟨32 + p.val, by omega⟩ (N p ⟨e.val, h⟩) d
      else ∑ i, bn x0 x1 x4 x5 x7 x8 x9 x10 x11 x12 b ⟨32 + p.val, by omega⟩ i d := by
  simp only [← v58_apply x0 x1 x4 x5 x6 x7 x8 x9 x10 x11 x12 b p _ d _ (hN p _), ← v54_apply x0 x1 x4 x5 x7 x8 x9 x10 x11 x12 b p 0 d]
  pointwise [val_main_v59]
  exact dite_congr rfl (fun _ => rfl) (fun _ => congrArg (fun z => val_main_v54 (F := Ideal) x0 x1 x4 x5 x7 x8 x9 x10 x11 x12 (ix4 b p z d)) (Subsingleton.elim _ _))
theorem gedge_eq (N : Fin 496 → Fin 2 → Fin 32) (hN : ∀ p e, x6 (ix2 p e) = BitVec.ofNat 32 (N p e).val) (q : Fin 1984) (d : Fin 384) :
    val_main_v60 (F := Ideal) x0 x1 x4 x5 x6 x7 x8 x9 x10 x11 x12 (ix2 q d) = gedge x0 x1 x4 x5 x7 x8 x9 x10 x11 x12 N q d := by
  have e : val_main_v60 (F := Ideal) x0 x1 x4 x5 x6 x7 x8 x9 x10 x11 x12 (ix2 q d)
      = val_main_v59 (F := Ideal) x0 x1 x4 x5 x6 x7 x8 x9 x10 x11 x12 (ix4 ⟨q.val / 496, by omega⟩ ⟨q.val % 496, by omega⟩ ⟨d.val / 128, by omega⟩ ⟨d.val % 128, by omega⟩) := by
    pointwise [val_main_v60]
  refine e.trans ((v59_apply _ _ _ _ _ _ _ _ _ _ _ N hN _ _ _ _).trans ?_)
  unfold gedge
  by_cases h : d.val < 256
  · rw [dif_pos h, dif_pos (show d.val / 128 < 2 by omega)]
  · rw [dif_neg h, dif_neg (show ¬ d.val / 128 < 2 by omega)]
def row60 (q : Fin 1984) (d : Fin 384) : EReal := val_main_v60 (F := Ideal) x0 x1 x4 x5 x6 x7 x8 x9 x10 x11 x12 (ix2 q d)
theorem row60_eq (q : Fin 1984) (d : Fin 384) : val_main_v60 (F := Ideal) x0 x1 x4 x5 x6 x7 x8 x9 x10 x11 x12 (ix2 q d) = row60 x0 x1 x4 x5 x6 x7 x8 x9 x10 x11 x12 q d := rfl
theorem v87_apply (i : Fin 12) (q : Fin 1984) (x : Fin 128) : val_main_v87 (F := Ideal) x0 x1 x4 x5 x6 x7 x8 x9 x10 x11 x12 x17 x18 (ix3 i q x)
    = Ideal.tanh ((∑ d : Fin 384, x17 (ix3 i d x) * row60 x0 x1 x4 x5 x6 x7 x8 x9 x10 x11 x12 q d) + x18 (ix2 i x)) := by
  simp only [← row60_eq]
  pointwise [val_main_v87, val_main_v86, val_main_v85, val_main_v84, val_main_v83, val_main_v82]
theorem v91_apply (i : Fin 12) (q : Fin 1984) (k : Fin 4) : val_main_v91 (F := Ideal) x0 x1 x4 x5 x6 x7 x8 x9 x10 x11 x12 x17 x18 x19 x20 (ix3 i q k)
    = logit (fun x d => x17 (ix3 i d x)) (fun x => x18 (ix2 i x)) (fun k x => x19 (ix3 i x k)) (fun k => x20 (ix2 i k)) (fun d => row60 x0 x1 x4 x5 x6 x7 x8 x9 x10 x11 x12 q d) k := by
  unfold logit
  simp only [mul_comm (x19 _)]
  pointwise [val_main_v91, val_main_v90, val_main_v89, val_main_v88]
  simp only [v87_apply]
theorem v92_apply (i : Fin 12) (q : Fin 1984) : val_main_v92 (F := Ideal) x0 x1 x4 x5 x6 x7 x8 x9 x10 x11 x12 x17 x18 x19 x20 (ix2 i q)
    = top (fun k => val_main_v91 (F := Ideal) x0 x1 x4 x5 x6 x7 x8 x9 x10 x11 x12 x17 x18 x19 x20 (ix3 i q k)) := by
  unfold top
  pointwise [val_main_v92, val_main_cst_18]
theorem v96_apply (i : Fin 12) (q : Fin 1984) (k : Fin 4) : val_main_v96 (F := Ideal) x0 x1 x4 x5 x6 x7 x8 x9 x10 x11 x12 x17 x18 x19 x20 (ix3 i q k)
    = Ideal.exp (val_main_v91 (F := Ideal) x0 x1 x4 x5 x6 x7 x8 x9 x10 x11 x12 x17 x18 x19 x20 (ix3 i q k) - top (fun k => val_main_v91 (F := Ideal) x0 x1 x4 x5 x6 x7 x8 x9 x10 x11 x12 x17 x18 x19 x20 (ix3 i q k))) := by
  rw [← v92_apply]
  pointwise [val_main_v96, val_main_v95, val_main_v94, val_main_v93]
theorem v100_apply (i : Fin 12) (q : Fin 1984) (k : Fin 4) : val_main_v100 (F := Ideal) x0 x1 x4 x5 x6 x7 x8 x9 x10 x11 x12 x17 x18 x19 x20 (ix3 i q k)
    = soft (logit (fun x d => x17 (ix3 i d x)) (fun x => x18 (ix2 i x)) (fun k x => x19 (ix3 i x k)) (fun k => x20 (ix2 i k)) (fun d => row60 x0 x1 x4 x5 x6 x7 x8 x9 x10 x11 x12 q d)) k := by
  rw [show (logit (fun x d => x17 (ix3 i d x)) (fun x => x18 (ix2 i x)) (fun k x => x19 (ix3 i x k)) (fun k => x20 (ix2 i k)) (fun d => row60 x0 x1 x4 x5 x6 x7 x8 x9 x10 x11 x12 q d)) = fun k => val_main_v91 (F := Ideal) x0 x1 x4 x5 x6 x7 x8 x9 x10 x11 x12 x17 x18 x19 x20 (ix3 i q k) from funext fun k => (v91_apply x0 x1 x4 x5 x6 x7 x8 x9 x10 x11 x12 x17 x18 x19 x20 i q k).symm]
  unfold soft
  pointwise [val_main_v100, val_main_v99, val_main_v98, val_main_v97, val_main_cst_19]
  simp only [v96_apply]
theorem move4_word : ∀ j m k : Fin 4, IntOp.ori (IntOp.cmpi .eq (IntOp.addi (BitVec.ofNat 32 m.val) (BitVec.ofNat 32 j.val)) (BitVec.ofNat 32 k.val))
      (IntOp.cmpi .eq (IntOp.addi (BitVec.ofNat 32 m.val) (BitVec.ofNat 32 j.val)) (IntOp.addi (BitVec.ofNat 32 k.val) 4#32))
    = if j.val = (k.val + (4 - m.val)) % 4 then 1#1 else 0#1 := by decide +kernel
theorem v122_apply (j m k : Fin 4) : val_main_v122 (F := Ideal) (ix3 j m k) = if j.val = (k.val + (4 - m.val)) % 4 then 1 else 0 := by
  have e : val_main_v122 (F := Ideal) (ix3 j m k) = FloatOps.uitofp (F := Ideal) .f32 (IntOp.ori (IntOp.cmpi .eq (IntOp.addi (BitVec.ofNat 32 m.val) (BitVec.ofNat 32 j.val)) (BitVec.ofNat 32 k.val))
      (IntOp.cmpi .eq (IntOp.addi (BitVec.ofNat 32 m.val) (BitVec.ofNat 32 j.val)) (IntOp.addi (BitVec.ofNat 32 k.val) 4#32))) := by
    pointwise [val_main_v122, val_main_v121, val_main_v120, val_main_v119, val_main_v118, val_main_v117, val_main_v116, val_main_v115, val_main_v114, val_main_v113, val_main_v112, val_main_c_20]
  refine e.trans ((congrArg _ (move4_word j m k)).trans ?_)
  by_cases h : j.val = (k.val + (4 - m.val)) % 4
  · rw [if_pos h, if_pos h]; exact one_word
  · rw [if_neg h, if_neg h]; exact zero_word
theorem moved4 (a t : Fin 4 → EReal) (k : Fin 4) : (∑ m : Fin 4, a m * ∑ j : Fin 4, t j * val_main_v122 (F := Ideal) (ix3 j m k)) = conv a t k := by
  unfold conv
  refine Finset.sum_congr rfl fun m _ => congrArg (a m * ·) ?_
  rw [Finset.sum_eq_single (⟨(k.val + (4 - m.val)) % 4, Nat.mod_lt _ (by omega)⟩ : Fin 4)]
  · rw [v122_apply, if_pos rfl, mul_one]
  · intro j _ hj
    rw [v122_apply, if_neg (fun e => hj (Fin.ext e)), mul_zero]
  · intro h; exact absurd (Finset.mem_univ _) h
theorem v136_apply (q : Fin 1984) (k : Fin 4) : val_main_v136 (F := Ideal) x0 x1 x3 x4 x5 x6 x7 x8 x9 x10 x11 x12 x17 x18 x19 x20 (ix2 q k)
    = conv (fun m => val_main_v62 (F := Ideal) x3 (ix2 q m)) (fun j => val_main_v100 (F := Ideal) x0 x1 x4 x5 x6 x7 x8 x9 x10 x11 x12 x17 x18 x19 x20 (ix3 0 q j)) k := by
  rw [← moved4]
  pointwise [val_main_v136, val_main_v135, val_main_v134, val_main_v133, val_main_v132, val_main_v131, val_main_v130, val_main_cst_22]
theorem v150_apply (q : Fin 1984) (k : Fin 4) : val_main_v150 (F := Ideal) x0 x1 x3 x4 x5 x6 x7 x8 x9 x10 x11 x12 x17 x18 x19 x20 (ix2 q k)
    = conv (fun m => val_main_v136 (F := Ideal) x0 x1 x3 x4 x5 x6 x7 x8 x9 x10 x11 x12 x17 x18 x19 x20 (ix2 q m)) (fun j => val_main_v100 (F := Ideal) x0 x1 x4 x5 x6 x7 x8 x9 x10 x11 x12 x17 x18 x19 x20 (ix3 1 q j)) k := by
  rw [← moved4]
  pointwise [val_main_v150, val_main_v149, val_main_v148, val_main_v147, val_main_v146, val_main_v145, val_main_v144, val_main_cst_24]
theorem v164_apply (q : Fin 1984) (k : Fin 4) : val_main_v164 (F := Ideal) x0 x1 x3 x4 x5 x6 x7 x8 x9 x10 x11 x12 x17 x18 x19 x20 (ix2 q k)
    = conv (fun m => val_main_v150 (F := Ideal) x0 x1 x3 x4 x5 x6 x7 x8 x9 x10 x11 x12 x17 x18 x19 x20 (ix2 q m)) (fun j => val_main_v100 (F := Ideal) x0 x1 x4 x5 x6 x7 x8 x9 x10 x11 x12 x17 x18 x19 x20 (ix3 2 q j)) k := by
  rw [← moved4]
  pointwise [val_main_v164, val_main_v163, val_main_v162, val_main_v161, val_main_v160, val_main_v159, val_main_v158, val_main_cst_26]
theorem v178_apply (q : Fin 1984) (k : Fin 4) : val_main_v178 (F := Ideal) x0 x1 x3 x4 x5 x6 x7 x8 x9 x10 x11 x12 x17 x18 x19 x20 (ix2 q k)
    = conv (fun m => val_main_v164 (F := Ideal) x0 x1 x3 x4 x5 x6 x7 x8 x9 x10 x11 x12 x17 x18 x19 x20 (ix2 q m)) (fun j => val_main_v100 (F := Ideal) x0 x1 x4 x5 x6 x7 x8 x9 x10 x11 x12 x17 x18 x19 x20 (ix3 3 q j)) k := by
  rw [← moved4]
  pointwise [val_main_v178, val_main_v177, val_main_v176, val_main_v175, val_main_v174, val_main_v173, val_main_v172, val_main_cst_28]
theorem v192_apply (q : Fin 1984) (k : Fin 4) : val_main_v192 (F := Ideal) x0 x1 x3 x4 x5 x6 x7 x8 x9 x10 x11 x12 x17 x18 x19 x20 (ix2 q k)
    = conv (fun m => val_main_v178 (F := Ideal) x0 x1 x3 x4 x5 x6 x7 x8 x9 x10 x11 x12 x17 x18 x19 x20 (ix2 q m)) (fun j => val_main_v100 (F := Ideal) x0 x1 x4 x5 x6 x7 x8 x9 x10 x11 x12 x17 x18 x19 x20 (ix3 4 q j)) k := by
  rw [← moved4]
  pointwise [val_main_v192, val_main_v191, val_main_v190, val_main_v189, val_main_v188, val_main_v187, val_main_v186, val_main_cst_30]
theorem v206_apply (q : Fin 1984) (k : Fin 4) : val_main_v206 (F := Ideal) x0 x1 x3 x4 x5 x6 x7 x8 x9 x10 x11 x12 x17 x18 x19 x20 (ix2 q k)
    = conv (fun m => val_main_v192 (F := Ideal) x0 x1 x3 x4 x5 x6 x7 x8 x9 x10 x11 x12 x17 x18 x19 x20 (ix2 q m)) (fun j => val_main_v100 (F := Ideal) x0 x1 x4 x5 x6 x7 x8 x9 x10 x11 x12 x17 x18 x19 x20 (ix3 5 q j)) k := by
  rw [← moved4]
  pointwise [val_main_v206, val_main_v205, val_main_v204, val_main_v203, val_main_v202, val_main_v201, val_main_v200, val_main_cst_32]
theorem v220_apply (q : Fin 1984) (k : Fin 4) : val_main_v220 (F := Ideal) x0 x1 x3 x4 x5 x6 x7 x8 x9 x10 x11 x12 x17 x18 x19 x20 (ix2 q k)
    = conv (fun m => val_main_v206 (F := Ideal) x0 x1 x3 x4 x5 x6 x7 x8 x9 x10 x11 x12 x17 x18 x19 x20 (ix2 q m)) (fun j => val_main_v100 (F := Ideal) x0 x1 x4 x5 x6 x7 x8 x9 x10 x11 x12 x17 x18 x19 x20 (ix3 6 q j)) k := by
  rw [← moved4]
  pointwise [val_main_v220, val_main_v219, val_main_v218, val_main_v217, val_main_v216, val_main_v215, val_main_v214, val_main_cst_34]
theorem v234_apply (q : Fin 1984) (k : Fin 4) : val_main_v234 (F := Ideal) x0 x1 x3 x4 x5 x6 x7 x8 x9 x10 x11 x12 x17 x18 x19 x20 (ix2 q k)
    = conv (fun m => val_main_v220 (F := Ideal) x0 x1 x3 x4 x5 x6 x7 x8 x9 x10 x11 x12 x17 x18 x19 x20 (ix2 q m)) (fun j => val_main_v100 (F := Ideal) x0 x1 x4 x5 x6 x7 x8 x9 x10 x11 x12 x17 x18 x19 x20 (ix3 7 q j)) k := by
  rw [← moved4]
  pointwise [val_main_v234, val_main_v233, val_main_v232, val_main_v231, val_main_v230, val_main_v229, val_main_v228, val_main_cst_36]
theorem v248_apply (q : Fin 1984) (k : Fin 4) : val_main_v248 (F := Ideal) x0 x1 x3 x4 x5 x6 x7 x8 x9 x10 x11 x12 x17 x18 x19 x20 (ix2 q k)
    = conv (fun m => val_main_v234 (F := Ideal) x0 x1 x3 x4 x5 x6 x7 x8 x9 x10 x11 x12 x17 x18 x19 x20 (ix2 q m)) (fun j => val_main_v100 (F := Ideal) x0 x1 x4 x5 x6 x7 x8 x9 x10 x11 x12 x17 x18 x19 x20 (ix3 8 q j)) k := by
  rw [← moved4]
  pointwise [val_main_v248, val_main_v247, val_main_v246, val_main_v245, val_main_v244, val_main_v243, val_main_v242, val_main_cst_38]
theorem v262_apply (q : Fin 1984) (k : Fin 4) : val_main_v262 (F := Ideal) x0 x1 x3 x4 x5 x6 x7 x8 x9 x10 x11 x12 x17 x18 x19 x20 (ix2 q k)
    = conv (fun m => val_main_v248 (F := Ideal) x0 x1 x3 x4 x5 x6 x7 x8 x9 x10 x11 x12 x17 x18 x19 x20 (ix2 q m)) (fun j => val_main_v100 (F := Ideal) x0 x1 x4 x5 x6 x7 x8 x9 x10 x11 x12 x17 x18 x19 x20 (ix3 9 q j)) k := by
  rw [← moved4]
  pointwise [val_main_v262, val_main_v261, val_main_v260, val_main_v259, val_main_v258, val_main_v257, val_main_v256, val_main_cst_40]
theorem v276_apply (q : Fin 1984) (k : Fin 4) : val_main_v276 (F := Ideal) x0 x1 x3 x4 x5 x6 x7 x8 x9 x10 x11 x12 x17 x18 x19 x20 (ix2 q k)
    = conv (fun m => val_main_v262 (F := Ideal) x0 x1 x3 x4 x5 x6 x7 x8 x9 x10 x11 x12 x17 x18 x19 x20 (ix2 q m)) (fun j => val_main_v100 (F := Ideal) x0 x1 x4 x5 x6 x7 x8 x9 x10 x11 x12 x17 x18 x19 x20 (ix3 10 q j)) k := by
  rw [← moved4]
  pointwise [val_main_v276, val_main_v275, val_main_v274, val_main_v273, val_main_v272, val_main_v271, val_main_v270, val_main_cst_42]
theorem v290_apply (q : Fin 1984) (k : Fin 4) : val_main_v290 (F := Ideal) x0 x1 x3 x4 x5 x6 x7 x8 x9 x10 x11 x12 x17 x18 x19 x20 (ix2 q k)
    = conv (fun m => val_main_v276 (F := Ideal) x0 x1 x3 x4 x5 x6 x7 x8 x9 x10 x11 x12 x17 x18 x19 x20 (ix2 q m)) (fun j => val_main_v100 (F := Ideal) x0 x1 x4 x5 x6 x7 x8 x9 x10 x11 x12 x17 x18 x19 x20 (ix3 11 q j)) k := by
  rw [← moved4]
  pointwise [val_main_v290, val_main_v289, val_main_v288, val_main_v287, val_main_v286, val_main_v285, val_main_v284, val_main_cst_44]
/-- All 1984 rows' results. -/
theorem v290_flow (q : Fin 1984) (k : Fin 4) : val_main_v290 (F := Ideal) x0 x1 x3 x4 x5 x6 x7 x8 x9 x10 x11 x12 x17 x18 x19 x20 (ix2 q k)
    = flow (fun i x d => x17 (ix3 i d x)) (fun i x => x18 (ix2 i x)) (fun i k x => x19 (ix3 i x k)) (fun i k => x20 (ix2 i k))
      (fun d => row60 x0 x1 x4 x5 x6 x7 x8 x9 x10 x11 x12 q d) (fun m => val_main_v62 (F := Ideal) x3 (ix2 q m)) k := by
  unfold flow steps
  rw [v290_apply]
  simp only [v276_apply, v262_apply, v248_apply, v234_apply, v220_apply, v206_apply, v192_apply, v178_apply, v164_apply, v150_apply, v136_apply, v100_apply]
theorem ad_apply (N : Fin 496 → Fin 2 → Fin 32) (hN : ∀ p e, x6 (ix2 p e) = BitVec.ofNat 32 (N p e).val) (b : Fin 4) (p : Fin 496) (k : Fin 4) :
    val_main_v291 (F := Ideal) x0 x1 x3 x4 x5 x6 x7 x8 x9 x10 x11 x12 x17 x18 x19 x20 (ix3 b p k)
    = flow (fun i x d => x17 (ix3 i d x)) (fun i x => x18 (ix2 i x)) (fun i k x => x19 (ix3 i x k)) (fun i k => x20 (ix2 i k))
      (fun d => gedge x0 x1 x4 x5 x7 x8 x9 x10 x11 x12 N ⟨b.val * 496 + p.val, by omega⟩ d) (fun m => x3 (ix3 b p m)) k := by
  have e : val_main_v291 (F := Ideal) x0 x1 x3 x4 x5 x6 x7 x8 x9 x10 x11 x12 x17 x18 x19 x20 (ix3 b p k)
      = val_main_v290 (F := Ideal) x0 x1 x3 x4 x5 x6 x7 x8 x9 x10 x11 x12 x17 x18 x19 x20 (ix2 ⟨b.val * 496 + p.val, by omega⟩ k) := by
    pointwise [val_main_v291]
  refine e.trans ((v290_flow _ _ _ _ _ _ _ _ _ _ _ _ _ _ _ _ _ _).trans ?_)
  refine congrArg₂ (fun g a => flow _ _ _ _ g a k) (funext fun d => ?_) (funext fun m => ?_)
  · exact gedge_eq _ _ _ _ _ _ _ _ _ _ _ N hN _ _
  · pointwise [val_main_v62]
end Cert.ReferenceIdeal.Ref
-- ==== Proof.Stats.lean ====
/-
  Batch normalisation from a batch's sums and sums of squares, over the extended reals.
-/
module

public import proofs.«01_k».proof.Proof.RefB
public import proofs.«01_k».proof.Proof.FlowSpec
public import Mathlib.Tactic.Ring
public import Mathlib.Tactic.Linarith
public import Mathlib.Tactic.Positivity

@[expose] public section

noncomputable section

namespace Cert.Spec
open Idealize.ShloMosaic Idealize.ShloMosaic.TcCoe Cert.ReferenceIdeal.Ref

/-- A number that is not infinite. -/
def Finit (x : EReal) : Prop := ∃ r : ℝ, x = (r : EReal)

theorem Finit.zero : Finit 0 := ⟨0, rfl⟩
theorem Finit.add {x y : EReal} (hx : Finit x) (hy : Finit y) : Finit (x + y) := by
  obtain ⟨a, rfl⟩ := hx; obtain ⟨b, rfl⟩ := hy; exact ⟨a + b, (EReal.coe_add a b).symm⟩
theorem Finit.mul {x y : EReal} (hx : Finit x) (hy : Finit y) : Finit (x * y) := by
  obtain ⟨a, rfl⟩ := hx; obtain ⟨b, rfl⟩ := hy; exact ⟨a * b, (EReal.coe_mul a b).symm⟩
theorem Finit.max {x y : EReal} (hx : Finit x) (hy : Finit y) : Finit (max x y) := by
  rcases max_choice x y with h | h <;> rw [h] <;> assumption
theorem Finit.sum {ι : Type} (s : Finset ι) (f : ι → EReal) (h : ∀ i, Finit (f i)) : Finit (∑ i ∈ s, f i) := by
  classical
  induction s using Finset.induction_on with
  | empty => rw [Finset.sum_empty]; exact Finit.zero
  | insert a s ha ih => rw [Finset.sum_insert ha]; exact (h a).add ih

theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

theorem count_eq : Ideal.ofBits .f32 1199833088#32 = ((67584 : ℝ) : EReal) := by
  simp [Ideal.ofBits, Ideal.ieee, -EReal.coe_mul]; norm_num
theorem half_eq : Ideal.ofBits .f32 1107296256#32 = ((32 : ℝ) : EReal) := by
  simp [Ideal.ofBits, Ideal.ieee, -EReal.coe_mul]; norm_num
theorem eps_eq : ∃ e : ℝ, 0 < e ∧ Ideal.ofBits .f32 925353388#32 = (e : EReal) := by
  refine ⟨(1 * (2 ^ 23 + 2606508 : ℕ) * (2 : ℝ) ^ ((110 : ℤ) - 127 - 23) : ℝ), by positivity, ?_⟩
  simp [Ideal.ofBits, Ideal.ieee, -EReal.coe_mul]

theorem total_coe (φ : Fin 4 → Fin 528 → Fin 32 → ℝ) : total (fun b r i => (φ b r i : EReal)) = ((∑ b, ∑ r, ∑ i, φ b r i : ℝ) : EReal) := by
  unfold total
  rw [coe_sum]
  refine Finset.sum_congr rfl fun b _ => ?_
  rw [coe_sum]
  refine Finset.sum_congr rfl fun r _ => ?_
  rw [coe_sum]

/-- The mean of the squared deviations is the mean square less the squared mean. -/
theorem deviation (φ : Fin 4 → Fin 528 → Fin 32 → ℝ) (μ : ℝ) (hμ : μ = (∑ b, ∑ r, ∑ i, φ b r i) * (1 / 67584)) :
    (∑ b, ∑ r, ∑ i, (φ b r i - μ) * (φ b r i - μ)) * (1 / 67584) = (∑ b, ∑ r, ∑ i, φ b r i * φ b r i) * (1 / 67584) - μ * μ := by
  have h : ∀ b r i, (φ b r i - μ) * (φ b r i - μ) = φ b r i * φ b r i - 2 * μ * φ b r i + μ * μ := fun b r i => by ring
  simp only [h, Finset.sum_add_distrib, Finset.sum_sub_distrib, ← Finset.mul_sum, Finset.sum_const, Finset.card_univ, Fintype.card_fin, nsmul_eq_mul]
  have h2 : (∑ b, ∑ r, ∑ i, φ b r i) = μ * 67584 := by rw [hμ]; ring
  rw [h2]
  push_cast
  ring

/-- What the statistics of finite numbers come to. -/
theorem stats (φ : Fin 4 → Fin 528 → Fin 32 → ℝ) (γ : ℝ) : ∃ μ s : ℝ,
    (∀ β b r i, normed (fun b r i => (φ b r i : EReal)) (γ : EReal) β b r i = (((φ b r i - μ) * s * γ : ℝ) : EReal) + β)
    ∧ scaleOf (total fun b r i => (φ b r i : EReal)) (total fun b r i => (φ b r i : EReal) * (φ b r i : EReal)) (γ : EReal) = ((s * γ : ℝ) : EReal)
    ∧ ∀ β, shiftOf (total fun b r i => (φ b r i : EReal)) (total fun b r i => (φ b r i : EReal) * (φ b r i : EReal)) (γ : EReal) β = β - ((μ * (s * γ) : ℝ) : EReal) := by
  obtain ⟨e, he, heps⟩ := eps_eq
  have hN : (67584 : ℝ) ≠ 0 := by norm_num
  obtain ⟨T, hT⟩ : ∃ T : ℝ, T = ∑ b, ∑ r, ∑ i, φ b r i := ⟨_, rfl⟩
  obtain ⟨Q, hQ⟩ : ∃ Q : ℝ, Q = ∑ b, ∑ r, ∑ i, φ b r i * φ b r i := ⟨_, rfl⟩
  obtain ⟨μ, hμ⟩ : ∃ μ : ℝ, μ = T * (1 / 67584) := ⟨_, rfl⟩
  obtain ⟨V, hV⟩ : ∃ V : ℝ, V = (∑ b, ∑ r, ∑ i, (φ b r i - μ) * (φ b r i - μ)) * (1 / 67584) := ⟨_, rfl⟩
  have hV2 : V = Q * (1 / 67584) - μ * μ := by rw [hV, deviation φ μ (by rw [hμ, hT]), hQ]
  have hV0 : 0 ≤ V := by
    rw [hV]
    exact mul_nonneg (Finset.sum_nonneg fun b _ => Finset.sum_nonneg fun r _ => Finset.sum_nonneg fun i _ => mul_self_nonneg _) (by norm_num)
  have htot : total (fun b r i => (φ b r i : EReal)) = (T : EReal) := by rw [total_coe, hT]
  have hsq : total (fun b r i => (φ b r i : EReal) * (φ b r i : EReal)) = (Q : EReal) := by
    rw [hQ, ← total_coe]; simp only [EReal.coe_mul]
  have havg : avg (fun b r i => (φ b r i : EReal)) = (μ : EReal) := by
    unfold avg; rw [htot, count_eq, Ideal.div_coe hN, hμ, EReal.coe_mul]
  have hvar : vari (fun b r i => (φ b r i : EReal)) = (V : EReal) := by
    unfold vari
    rw [havg, count_eq, Ideal.div_coe hN, hV, EReal.coe_mul, ← total_coe]
    simp only [EReal.coe_mul, EReal.coe_sub]
  have hpos : 0 < V + e := by linarith
  have hs : Real.sqrt (V + e) ≠ 0 := (Real.sqrt_pos.mpr hpos).ne'
  have hscale : scaleOf (total fun b r i => (φ b r i : EReal)) (total fun b r i => (φ b r i : EReal) * (φ b r i : EReal)) (γ : EReal)
      = (((Real.sqrt (V + e))⁻¹ * γ : ℝ) : EReal) := by
    unfold scaleOf
    rw [htot, hsq, count_eq, Ideal.div_coe hN, Ideal.div_coe hN, ← EReal.coe_mul, ← EReal.coe_mul, ← hμ, ← EReal.coe_mul, ← EReal.coe_sub, ← hV2, heps,
      ← EReal.coe_add, Ideal.rsqrt_coe, if_neg (not_lt.mpr hpos.le), if_neg hpos.ne', ← EReal.coe_mul]
  refine ⟨μ, (Real.sqrt (V + e))⁻¹, fun β b r i => ?_, hscale, fun β => ?_⟩
  · unfold normed
    rw [havg, hvar, heps, ← EReal.coe_add, Ideal.sqrt_coe, if_neg (not_lt.mpr hpos.le), Ideal.div_coe hs, ← EReal.coe_sub, ← EReal.coe_mul,
      ← EReal.coe_mul, one_div]
  · unfold shiftOf
    rw [hscale, htot, count_eq, Ideal.div_coe hN, ← EReal.coe_mul, ← hμ, ← EReal.coe_mul]

variable (f : Fin 4 → Fin 528 → Fin 32 → EReal) (hf : ∀ b r i, Finit (f b r i)) (g β : EReal) (hg : Finit g)
include hf hg

/-- One normalised feature from the scale and the shift. -/
theorem normed_row (b : Fin 4) (r : Fin 528) (i : Fin 32) :
    normed f g β b r i = f b r i * scaleOf (total f) (total fun b r i => f b r i * f b r i) g + shiftOf (total f) (total fun b r i => f b r i * f b r i) g β := by
  choose φ hφ using hf
  obtain ⟨γ, rfl⟩ := hg
  obtain rfl : f = fun b r i => (φ b r i : EReal) := funext fun b => funext fun r => funext fun i => hφ b r i
  obtain ⟨μ, s, h1, h2, h3⟩ := stats φ γ
  show normed _ _ β b r i = (φ b r i : EReal) * _ + _
  rw [h1, h2, h3, sub_eq_add_neg β, ← EReal.coe_neg, add_comm β, ← add_assoc, ← EReal.coe_mul, ← EReal.coe_add]
  refine congrArg (fun x : ℝ => (x : EReal) + β) ?_
  ring

/-- The sum of a row's normalised features. -/
theorem normed_sum (b : Fin 4) (r : Fin 528) :
    ∑ i, normed f g β b r i = (∑ i, f b r i) * scaleOf (total f) (total fun b r i => f b r i * f b r i) g
      + Ideal.ofBits .f32 1107296256#32 * shiftOf (total f) (total fun b r i => f b r i * f b r i) g β := by
  choose φ hφ using hf
  obtain ⟨γ, rfl⟩ := hg
  obtain rfl : f = fun b r i => (φ b r i : EReal) := funext fun b => funext fun r => funext fun i => hφ b r i
  obtain ⟨μ, s, h1, h2, h3⟩ := stats φ γ
  simp only [h1]
  rw [h2, h3, half_eq, Finset.sum_add_distrib, ← coe_sum, ← coe_sum, Finset.sum_const, Finset.card_univ, Fintype.card_fin,
    show ((32 : ℝ) : EReal) = ((32 : ℕ) : EReal) from rfl, ← EReal.nsmul_eq_mul, sub_eq_add_neg β, ← EReal.coe_neg, nsmul_add, ← EReal.coe_nsmul, ← add_assoc,
    add_right_comm, ← EReal.coe_mul, ← EReal.coe_add]
  refine congrArg (fun x : ℝ => (x : EReal) + 32 • β) ?_
  rw [Finset.sum_mul]
  have h : ∀ i, (φ b r i - μ) * s * γ = φ b r i * (s * γ) - μ * (s * γ) := fun i => by ring
  simp only [h, Finset.sum_sub_distrib, Finset.sum_const, Finset.card_univ, Fintype.card_fin, nsmul_eq_mul]
  push_cast
  ring
end Cert.Spec
-- ==== Proof.Bridge.lean ====
/-
  The kernel's features are the reference's: rows, sums, scale and shift.
-/
module

public import proofs.«01_k».proof.Proof.KOut
public import proofs.«01_k».proof.Proof.KHost
public import proofs.«01_k».proof.Proof.RefD
public import proofs.«01_k».proof.Proof.Stats

@[expose] public section

set_option maxRecDepth 16384
noncomputable section

namespace Cert.Bridge
open Idealize.ShloMosaic Idealize.ShloMosaic.TcCoe
open Cert.KernelIdeal Cert.KernelIdeal.Gen Cert.KernelIdeal.Flow Cert.Spec Cert.ReferenceIdeal.Ref

/-- The features of a node that no edge enters do not matter. -/
theorem out3_congr (a : Fin 3 → Fin 32 → Fin 32 → EReal) (x x' : Fin 32 → Fin 9 → EReal) (emb : Fin 9 → Fin 9 → EReal)
    (W1 : Fin 3 → Fin 9 → Fin 128 → EReal) (W2 W3 : Fin 3 → Fin 128 → Fin 128 → EReal)
    (h : ∀ j, (∀ e i, a e i j = 0) ∨ x j = x' j) : out3 a x emb W1 W2 W3 = out3 a x' emb W1 W2 W3 := by
  have h1 : layer1 a x emb W1 = layer1 a x' emb W1 := by
    funext i k
    unfold layer1 mix
    refine congrArg (max · 0) (Finset.sum_congr rfl fun e _ => Finset.sum_congr rfl fun j _ => ?_)
    rcases h j with h0 | h0
    · rw [h0, zero_mul, zero_mul]
    · refine congrArg (a e i j * ·) ?_
      show (∑ k', (∑ k_1, x j k_1 * emb k_1 k') * W1 e k' k) = ∑ k', (∑ k_1, x' j k_1 * emb k_1 k') * W1 e k' k
      rw [h0]
  unfold Spec.out3 pre2
  rw [h1]
theorem out3_args {a a' : Fin 3 → Fin 32 → Fin 32 → EReal} {x x' : Fin 32 → Fin 9 → EReal} {emb emb' : Fin 9 → Fin 9 → EReal}
    {W1 W1' : Fin 3 → Fin 9 → Fin 128 → EReal} {W2 W2' W3 W3' : Fin 3 → Fin 128 → Fin 128 → EReal}
    (ha : a = a') (hx : x = x') (he : emb = emb') (h1 : W1 = W1') (h2 : W2 = W2') (h3 : W3 = W3') : out3 a x emb W1 W2 W3 = out3 a' x' emb' W1' W2' W3' := by
  subst ha hx he h1 h2 h3; rfl
theorem out3_zero (a : Fin 3 → Fin 32 → Fin 32 → EReal) (x : Fin 32 → Fin 9 → EReal) (emb : Fin 9 → Fin 9 → EReal)
    (W1 : Fin 3 → Fin 9 → Fin 128 → EReal) (W2 W3 : Fin 3 → Fin 128 → Fin 128 → EReal) (h : ∀ e i j, a e i j = 0) (i : Fin 32) (k : Fin 128) :
    out3 a x emb W1 W2 W3 i k = 0 := by
  unfold Spec.out3 mix
  exact Finset.sum_eq_zero fun e _ => Finset.sum_eq_zero fun j _ => by rw [h, zero_mul]
theorem out3_finit (a : Fin 3 → Fin 32 → Fin 32 → EReal) (x : Fin 32 → Fin 9 → EReal) (emb : Fin 9 → Fin 9 → EReal)
    (W1 : Fin 3 → Fin 9 → Fin 128 → EReal) (W2 W3 : Fin 3 → Fin 128 → Fin 128 → EReal)
    (ha : ∀ e i j, Finit (a e i j)) (hx : ∀ j k, Finit (x j k)) (he : ∀ k d, Finit (emb k d)) (h1 : ∀ e k d, Finit (W1 e k d))
    (h2 : ∀ e k d, Finit (W2 e k d)) (h3 : ∀ e k d, Finit (W3 e k d)) (i : Fin 32) (k : Fin 128) : Finit (out3 a x emb W1 W2 W3 i k) := by
  have hsup : ∀ {n p : ℕ} (l : Fin 32 → Fin n → EReal) (w : Fin n → Fin p → EReal), (∀ j k, Finit (l j k)) → (∀ k d, Finit (w k d)) → ∀ j d, Finit (sup l w j d) :=
    fun l w hl hw j d => Finit.sum _ _ fun k => (hl j k).mul (hw k d)
  have hmix : ∀ s : Fin 3 → Fin 32 → Fin 128 → EReal, (∀ e j k, Finit (s e j k)) → ∀ i k, Finit (mix a s i k) :=
    fun s hs i k => Finit.sum _ _ fun e => Finit.sum _ _ fun j => (ha e i j).mul (hs e j k)
  refine hmix _ (fun e => hsup _ _ (fun i k => Finit.max (hmix _ (fun e => hsup _ _ (fun i k => ?_) (h2 e)) i k) Finit.zero) (h3 e)) i k
  exact Finit.max (hmix _ (fun e => hsup _ _ (hsup _ _ hx he) (h1 e)) i k) Finit.zero

theorem bit_cases (x : BitVec 1) : x = 0#1 ∨ x = 1#1 := by revert x; decide

variable (m : (ℓ : Loc nD τ sig) → Buf (Elt Ideal) ℓ) (c : Dev nD)

/-- What the precondition says of the arguments; `N` names each edge's end points. -/
structure Tame (N : Fin 496 → Fin 2 → Fin 32) : Prop where
  x : ∀ b j k, Finit (Ar0 m c (ix3 b j k))
  adj : ∀ (b : Fin 4) (e : Fin 3) (i j : Fin 32), Finit (Ar1 m c (ix4 b ⟨e.val, by omega⟩ i j))
  emb : ∀ k d, Finit (Ar7 m c (ix2 k d))
  w1 : ∀ e k d, Finit (Ar8 m c (ix3 e k d))
  w2 : ∀ e k d, Finit (Ar9 m c (ix3 e k d))
  w3 : ∀ e k d, Finit (Ar10 m c (ix3 e k d))
  gamma : ∀ h, Finit (Ar11 m c (ix1 h))
  mask : ∀ (r : Fin 528) (i j : Fin 32), Ar5 m c (ix3 r i j) = 1#1 → Ar4 m c (ix2 r j) = 1#1
  node : ∀ p e, Ar6 m c (ix2 p e) = BitVec.ofNat 32 (N p e).val

/-- The reference's features from the kernel's arguments. -/
def h3 (b : Fin 4) (r : Fin 528) : Fin 32 → Fin 128 → EReal := rout (Ar0 m c) (Ar1 m c) (Ar4 m c) (Ar5 m c) (Ar7 m c) (Ar8 m c) (Ar9 m c) (Ar10 m c) b r

variable {m c} {N : Fin 496 → Fin 2 → Fin 32} (T : Tame m c N)
include T

theorem h3_finit (b : Fin 4) (r : Fin 528) (i : Fin 32) (k : Fin 128) : Finit (h3 m c b r i k) := by
  refine out3_finit _ _ _ _ _ _ (fun e i j => ?_) (fun j k => ?_) (fun k d => T.emb k d) (fun e k d => T.w1 e k d) (fun e k d => T.w2 e k d) (fun e k d => T.w3 e k d) i k
  · unfold adjm
    split_ifs
    · exact T.adj b e i j
    · exact Finit.zero
  · unfold feat
    split_ifs
    · exact T.x b j k
    · exact Finit.zero

theorem HID_row (q : Fin 544) (r : Fin 528) (hq : ∀ i j, maskOf m c q i j = bit (Ar5 m c (ix3 r i j))) (b : Fin 4) : HID m c q b = h3 m c b r := by
  have ha : masked (fun i j => W6 m c (ix3 q i j)) (fun e i j => W5 m c (ix4 b e i j)) = adjm (Ar1 m c) (Ar5 m c) b r := by
    funext e i j
    unfold masked adjm
    show W6 m c (ix3 q i j) * W5 m c (ix4 b e i j) = _
    rw [W6_apply, hq, W5_apply]
    rcases bit_cases (Ar5 m c (ix3 r i j)) with h | h
    · rw [h, bit_zero, zero_mul, if_neg (by decide)]
    · rw [h, bit_one, one_mul, if_pos rfl]
  unfold HID hid h3 rout
  refine (out3_args ha (funext fun j => funext fun k => W0_apply m c b j k) (funext fun k => funext fun d => W1_apply m c k d)
    (funext fun e => funext fun d => funext fun h => W2_apply m c e d h) (funext fun e => funext fun d => funext fun h => W3_apply m c e d h)
    (funext fun e => funext fun d => funext fun h => W4_apply m c e d h)).trans (out3_congr _ _ _ _ _ _ _ fun j => ?_)
  by_cases h : Ar4 m c (ix2 r j) = 1#1
  · exact Or.inr (funext fun k => (if_pos h).symm)
  · exact Or.inl fun e i => if_neg fun h' => h (T.mask r i j h')

omit T in
theorem HID_pad (q : Fin 544) (hq : ∀ i j, maskOf m c q i j = 0) (b : Fin 4) (j : Fin 32) (h : Fin 128) : HID m c q b j h = 0 := by
  unfold HID hid
  refine out3_zero _ _ _ _ _ _ (fun e i j => ?_) j h
  exact (congrArg (fun z : EReal => z * W5 m c (ix4 b e i j)) ((W6_apply m c q i j).trans (hq i j))).trans (zero_mul _)
theorem HID_edge (p : Fin 496) (b : Fin 4) : HID m c ⟨p.val, by omega⟩ b = h3 m c b ⟨32 + p.val, by omega⟩ :=
  HID_row T ⟨p.val, by omega⟩ ⟨32 + p.val, by omega⟩ (fun i j => by unfold maskOf; exact dif_pos p.isLt) b
theorem HID_node (p : Fin 32) (b : Fin 4) : HID m c ⟨496 + p.val, by omega⟩ b = h3 m c b ⟨p.val, by omega⟩ :=
  HID_row T ⟨496 + p.val, by omega⟩ ⟨p.val, by omega⟩ (fun i j => by
    unfold maskOf
    rw [dif_neg (by show ¬ 496 + p.val < 496; omega), dif_pos (by show 496 + p.val - 496 < 32; omega)]
    exact congrArg (fun z => bit (Ar5 m c (ix3 z i j))) (Fin.ext (by show 496 + p.val - 496 = p.val; omega))) b
omit T in
theorem HID_rest (p : Fin 16) (b : Fin 4) (j : Fin 32) (h : Fin 128) : HID m c ⟨528 + p.val, by omega⟩ b j h = 0 :=
  HID_pad ⟨528 + p.val, by omega⟩ (fun i j => by
    unfold maskOf
    rw [dif_neg (by show ¬ 528 + p.val < 496; omega), dif_neg (by show ¬ 528 + p.val - 496 < 32; omega)]) b j h

omit T in
/-- Four tiles of 136 rows are 544 rows. -/
theorem tiles (G : Fin 544 → EReal) : (∑ t ∈ Finset.range 4, ∑ p : Fin 136, G ⟨(136 * t + p.val) % 544, Nat.mod_lt _ (by decide)⟩) = ∑ q : Fin 544, G q := by
  rw [Fin.sum_univ_add (a := 136) (b := 408) (f := G), Fin.sum_univ_add (a := 136) (b := 272) (f := fun q : Fin 408 => G (Fin.natAdd 136 q)),
    Fin.sum_univ_add (a := 136) (b := 136) (f := fun q : Fin 272 => G (Fin.natAdd 136 (Fin.natAdd 136 q)))]
  simp only [Finset.sum_range_succ, Finset.sum_range_zero, zero_add]
  rw [add_assoc, add_assoc]
  refine congrArg₂ (· + ·) ?_ (congrArg₂ (· + ·) ?_ (congrArg₂ (· + ·) ?_ ?_)) <;>
  · refine Finset.sum_congr rfl fun p _ => congrArg G (Fin.ext ?_)
    have := p.isLt
    simp only [Fin.val_natAdd, Fin.val_castAdd]
    omega
omit T in
/-- The padded rows' order against the masks' order. -/
theorem rows (G : Fin 544 → EReal) (H : Fin 528 → EReal) (h1 : ∀ p : Fin 496, G ⟨p.val, by omega⟩ = H ⟨32 + p.val, by omega⟩)
    (h2 : ∀ p : Fin 32, G ⟨496 + p.val, by omega⟩ = H ⟨p.val, by omega⟩) (h3 : ∀ p : Fin 16, G ⟨528 + p.val, by omega⟩ = 0) : ∑ q, G q = ∑ r, H r := by
  rw [Fin.sum_univ_add (a := 496) (b := 48) (f := G), Fin.sum_univ_add (a := 32) (b := 16) (f := fun q : Fin 48 => G (Fin.natAdd 496 q)),
    Fin.sum_univ_add (a := 32) (b := 496) (f := H)]
  have e3 : ∑ i : Fin 16, G (Fin.natAdd 496 (Fin.natAdd 32 i)) = 0 :=
    Finset.sum_eq_zero fun p _ => (congrArg G (Fin.ext (by simp only [Fin.val_natAdd]; omega))).trans (h3 p)
  rw [e3, add_zero, add_comm]
  exact congrArg₂ (· + ·) (Finset.sum_congr rfl fun p _ => h2 p) (Finset.sum_congr rfl fun p _ => h1 p)
omit T in
theorem rows_total (G : Fin 544 → Fin 4 → Fin 32 → EReal) (H : Fin 4 → Fin 528 → Fin 32 → EReal)
    (h1 : ∀ (p : Fin 496) b j, G ⟨p.val, by omega⟩ b j = H b ⟨32 + p.val, by omega⟩ j)
    (h2 : ∀ (p : Fin 32) b j, G ⟨496 + p.val, by omega⟩ b j = H b ⟨p.val, by omega⟩ j) (h3 : ∀ (p : Fin 16) b j, G ⟨528 + p.val, by omega⟩ b j = 0) :
    (∑ t ∈ Finset.range 4, ∑ b : Fin 4, ∑ p : Fin 136, ∑ j : Fin 32, G ⟨(136 * t + p.val) % 544, Nat.mod_lt _ (by decide)⟩ b j) = total H := by
  have e : ∀ t, (∑ b : Fin 4, ∑ p : Fin 136, ∑ j : Fin 32, G ⟨(136 * t + p.val) % 544, Nat.mod_lt _ (by decide)⟩ b j)
      = ∑ p : Fin 136, ∑ b : Fin 4, ∑ j : Fin 32, G ⟨(136 * t + p.val) % 544, Nat.mod_lt _ (by decide)⟩ b j := fun t => Finset.sum_comm
  simp only [e]
  refine (tiles fun q => ∑ b : Fin 4, ∑ j : Fin 32, G q b j).trans ?_
  unfold total
  rw [Finset.sum_comm (f := fun b r => ∑ i, H b r i)]
  refine rows _ _ (fun p => ?_) (fun p => ?_) (fun p => ?_)
  · simp only [h1]
  · simp only [h2]
  · simp only [h3, Finset.sum_const_zero]

theorem PS_eq (h : Fin 128) : PS m c 4 h = total (col (Ar0 m c) (Ar1 m c) (Ar4 m c) (Ar5 m c) (Ar7 m c) (Ar8 m c) (Ar9 m c) (Ar10 m c) h) :=
  rows_total (fun q b j => HID m c q b j h) _ (fun p b j => congrFun (congrFun (HID_edge T p b) j) h) (fun p b j => congrFun (congrFun (HID_node T p b) j) h)
    (fun p b j => HID_rest p b j h)
theorem PSS_eq (h : Fin 128) : PSS m c 4 h = total (fun b r i => col (Ar0 m c) (Ar1 m c) (Ar4 m c) (Ar5 m c) (Ar7 m c) (Ar8 m c) (Ar9 m c) (Ar10 m c) h b r i * col (Ar0 m c) (Ar1 m c) (Ar4 m c) (Ar5 m c) (Ar7 m c) (Ar8 m c) (Ar9 m c) (Ar10 m c) h b r i) :=
  rows_total (fun q b j => HID m c q b j h * HID m c q b j h) _ (fun p b j => by show HID _ _ _ _ _ _ * HID _ _ _ _ _ _ = _; rw [HID_edge T p b]; rfl)
    (fun p b j => by show HID _ _ _ _ _ _ * HID _ _ _ _ _ _ = _; rw [HID_node T p b]; rfl) (fun p b j => by show HID _ _ _ _ _ _ * HID _ _ _ _ _ _ = _; rw [HID_rest, zero_mul])

/-- One normalised feature, and a row's sum of them, from the kernel's scale and shift. -/
theorem bn_row (b : Fin 4) (r : Fin 528) (i : Fin 32) (h : Fin 128) :
    bn (Ar0 m c) (Ar1 m c) (Ar4 m c) (Ar5 m c) (Ar7 m c) (Ar8 m c) (Ar9 m c) (Ar10 m c) (Ar11 m c) (Ar12 m c) b r i h = h3 m c b r i h * SC m c h + SH m c h := by
  unfold SC SH
  rw [PS_eq T, PSS_eq T, W8_apply, W9_apply]
  exact normed_row _ (fun b r i => h3_finit T b r i h) _ _ (T.gamma h) b r i
theorem bn_sum (b : Fin 4) (r : Fin 528) (h : Fin 128) :
    ∑ i, bn (Ar0 m c) (Ar1 m c) (Ar4 m c) (Ar5 m c) (Ar7 m c) (Ar8 m c) (Ar9 m c) (Ar10 m c) (Ar11 m c) (Ar12 m c) b r i h = (∑ i, h3 m c b r i h) * SC m c h + Ideal.ofBits .f32 1107296256#32 * SH m c h := by
  unfold SC SH
  rw [PS_eq T, PSS_eq T, W8_apply, W9_apply]
  exact normed_sum _ (fun b r i => h3_finit T b r i h) _ _ (T.gamma h) b r

theorem ROW_sum (b : Fin 4) (q : Fin 544) (k : Fin 384) (hk : 256 ≤ k.val) : ROW m c b q k = ∑ j, HID m c q b j ⟨k.val % 128, by omega⟩ := by
  unfold ROW
  refine Finset.sum_congr rfl fun j _ => ?_
  rw [W7_apply, dif_neg (by show ¬ k.val / 128 < 2; omega), one_mul]
theorem ROW_node (b : Fin 4) (p : Fin 496) (k : Fin 384) (hk : k.val < 256) :
    ROW m c b ⟨p.val, by omega⟩ k = HID m c ⟨p.val, by omega⟩ b (N p ⟨k.val / 128, by omega⟩) ⟨k.val % 128, by omega⟩ := by
  unfold ROW
  have hw : ∀ n j : Fin 32, IntOp.cmpi CmpIPredicate.eq (BitVec.ofNat 32 n.val) (BitVec.ofNat 32 j.val) = if j = n then 1#1 else 0#1 := by decide +kernel
  rw [Finset.sum_eq_single (N p ⟨k.val / 128, by omega⟩)]
  · rw [W7_apply, dif_pos (by show k.val / 128 < 2; omega), dif_pos p.isLt, T.node, hw, if_pos rfl, bit_one, one_mul]
  · intro j _ hj
    rw [W7_apply, dif_pos (by show k.val / 128 < 2; omega), dif_pos p.isLt, T.node, hw, if_neg hj, bit_zero, zero_mul]
  · intro h; exact absurd (Finset.mem_univ _) h

/-- The first result, from the reference's reading. -/
theorem xd_eq (q : Fin 128) (k : Fin 9) : XDf m c q k
    = flow (fun i x d => Ar13 m c (ix3 i d x)) (fun i x => Ar14 m c (ix2 i x)) (fun i k x => Ar15 m c (ix3 i x k)) (fun i k => Ar16 m c (ix2 i k))
      (fun d => gnode (Ar0 m c) (Ar1 m c) (Ar4 m c) (Ar5 m c) (Ar7 m c) (Ar8 m c) (Ar9 m c) (Ar10 m c) (Ar11 m c) (Ar12 m c) q d) (fun k => Ar2 m c (ix3 ⟨q.val / 32, by omega⟩ ⟨q.val % 32, by omega⟩ k)) k := by
  unfold XDf
  refine flow_congr (funext fun i => funext fun x => funext fun d => W12_apply m c i x d) (funext fun i => funext fun x => W13_apply m c i x)
    (funext fun i => funext fun k => funext fun x => W14_apply m c i k x) (funext fun i => funext fun k => W15_apply m c i k) (funext fun d => ?_)
    (funext fun k => W10_apply m c q k) k
  unfold gnode
  rw [bn_sum T, ROW_sum T _ _ _ (Nat.le_add_right _ _)]
  refine congrArg (fun z : EReal => z * SC m c d + Ideal.ofBits .f32 1107296256#32 * SH m c d) (Finset.sum_congr rfl fun j _ => ?_)
  have hd : (⟨(256 + d.val) % 128, by omega⟩ : Fin 128) = d := Fin.ext (by show (256 + d.val) % 128 = d.val; omega)
  exact (congrFun (congrFun (HID_node T ⟨q.val % 32, by omega⟩ _) j) _).trans (congrArg (h3 m c _ _ j) hd)

/-- The second result, from the reference's reading. -/
theorem ad_eq (b : Fin 4) (p : Fin 496) (k : Fin 4) : ADf m c b p k
    = flow (fun i x d => Ar17 m c (ix3 i d x)) (fun i x => Ar18 m c (ix2 i x)) (fun i k x => Ar19 m c (ix3 i x k)) (fun i k => Ar20 m c (ix2 i k))
      (fun d => gedge (Ar0 m c) (Ar1 m c) (Ar4 m c) (Ar5 m c) (Ar7 m c) (Ar8 m c) (Ar9 m c) (Ar10 m c) (Ar11 m c) (Ar12 m c) N ⟨b.val * 496 + p.val, by omega⟩ d) (fun k => Ar3 m c (ix3 b p k)) k := by
  unfold ADf
  refine flow_congr (funext fun i => funext fun x => funext fun d => W16_apply m c i x d) (funext fun i => funext fun x => W17_apply m c i x)
    (funext fun i => funext fun k => funext fun x => W18_apply m c i k x) (funext fun i => funext fun k => W19_apply m c i k) (funext fun d => ?_)
    (funext fun k => W11_apply m c b p k) k
  unfold gedge
  have hb : (⟨(b.val * 496 + p.val) / 496, by omega⟩ : Fin 4) = b := Fin.ext (by show (b.val * 496 + p.val) / 496 = b.val; omega)
  have hp : (⟨(b.val * 496 + p.val) % 496, by omega⟩ : Fin 496) = p := Fin.ext (by show (b.val * 496 + p.val) % 496 = p.val; omega)
  have hr : (⟨32 + (b.val * 496 + p.val) % 496, by omega⟩ : Fin 528) = ⟨32 + p.val, by omega⟩ := Fin.ext (by show 32 + (b.val * 496 + p.val) % 496 = 32 + p.val; omega)
  by_cases h : d.val < 256
  · rw [dif_pos h, if_pos h, bn_row T, ROW_node T b p d h, HID_edge T p b]
    rw [hb, hr, hp]
  · rw [dif_neg h, if_neg h, bn_sum T, ROW_sum T _ _ _ (not_lt.mp h), HID_edge T p b]
    rw [hb, hr]
end Cert.Bridge
-- ==== Proof.Tamed.lean ====
/-
  What the precondition says of the arguments.
-/
module

public import proofs.«01_k».proof.Defs
public import proofs.«01_k».proof.Proof.Bridge
public import Idealize.ShloMosaic.Lib.WordCmp

@[expose] public section

set_option maxRecDepth 16384
noncomputable section

namespace Cert.Bridge
open Idealize.ShloMosaic Idealize.ShloMosaic.TcCoe
open Cert.KernelIdeal Cert.KernelIdeal.Gen Cert.KernelIdeal.Flow Cert.Spec

/-- A value whose size is below infinity is finite. -/
theorem finit_of {x : EReal} (h : FloatOps.cmpf (F := Ideal) (φ := .f32) .olt (FloatOps.absf (F := Ideal) (φ := .f32) x) (FloatOps.ofBits (F := Ideal) .f32 0x7F800000#32) = 1#1) : Finit x := by
  have h' : max x (-x) < (⊤ : EReal) := by
    have hi : (FloatOps.ofBits (F := Ideal) .f32 0x7F800000#32 : EReal) = ⊤ := by
      show Ideal.ofBits .f32 0x7F800000#32 = ⊤
      simp [Ideal.ofBits, Ideal.ieee]
    by_contra hn
    rw [← hi] at hn
    have : FloatOps.cmpf (F := Ideal) (φ := .f32) .olt (FloatOps.absf (F := Ideal) (φ := .f32) x) (FloatOps.ofBits (F := Ideal) .f32 0x7F800000#32) = BitVec.ofBool (decide (max x (-x) < (FloatOps.ofBits (F := Ideal) .f32 0x7F800000#32 : EReal))) := rfl
    rw [this, decide_eq_false hn] at h
    exact absurd h (by decide)
  induction x using EReal.rec with
  | bot => exact absurd h' (by simp)
  | top => exact absurd h' (by simp)
  | coe r => exact ⟨r, rfl⟩

/-- A word between 0 and 32 is the word of one of the 32 nodes. -/
theorem node_of {x : BitVec 32} (h : IntOp.andi (IntOp.cmpi .sge x 0#32) (IntOp.cmpi .slt x 32#32) = 1#1) : x.toNat < 32 := by
  revert h
  unfold IntOp.andi
  rw [WordCmp.cmpi_sge_zero, WordCmp.cmpi_slt_eq]
  intro h
  by_cases h1 : x.toNat < 2 ^ (32 - 1)
  · by_cases h2 : x.toInt < (32#32).toInt
    · rw [BitVec.toInt_eq_toNat_of_lt (by omega)] at h2
      have h3 : (32#32 : BitVec 32).toInt = 32 := by decide
      omega
    · rw [decide_eq_false h2] at h
      exact absurd h (by cases decide (x.toNat < 2 ^ (32 - 1)) <;> decide)
  · rw [decide_eq_false h1] at h
    exact absurd h (by cases decide (x.toInt < (32#32).toInt) <;> decide)

variable [Cert.Pre_tame.Facts] (m : (ℓ : Loc nD τ sig) → Buf (Elt Ideal) ℓ)

theorem tame_of (h : Cert.Pre_KernelIdeal_tame m) (c : Dev nD) : ∃ N, Tame m c N := by
  obtain ⟨h0, h1, h7, h8, h9, h10, h11, hm, hn⟩ := h c
  have hN : ∀ p e, (Ar6 m c (ix2 p e)).toNat < 32 := fun p e => node_of (congrFun hn (ix2 p e))
  refine ⟨fun p e => ⟨(Ar6 m c (ix2 p e)).toNat, hN p e⟩, ?_⟩
  refine ⟨fun b j k => finit_of (congrFun h0 (ix3 b j k)), fun b e i j => ?_, fun k d => finit_of (congrFun h7 (ix2 k d)),
    fun e k d => finit_of (congrFun h8 (ix3 e k d)), fun e k d => finit_of (congrFun h9 (ix3 e k d)),
    fun e k d => finit_of (congrFun h10 (ix3 e k d)), fun k => finit_of (congrFun h11 (ix1 k)), fun r i j => ?_, fun p e => ?_⟩
  · have := congrFun h1 (ix4 b e i j)
    have := finit_of (x := Ar1 m c (ix4 b ⟨e.val, by omega⟩ i j)) (by
      refine Eq.trans (congrArg (fun z => FloatOps.cmpf (F := Ideal) (φ := .f32) .olt (FloatOps.absf (F := Ideal) (φ := .f32) z) (FloatOps.ofBits (F := Ideal) .f32 0x7F800000#32)) (congrArg (Ar1 m c) ?_)) this
      funext a
      match a with
      | ⟨0, _⟩ => exact Fin.ext (Nat.zero_add _).symm
      | ⟨1, _⟩ => exact Fin.ext (Nat.zero_add _).symm
      | ⟨2, _⟩ => exact Fin.ext (Nat.zero_add _).symm
      | ⟨3, _⟩ => exact Fin.ext (Nat.zero_add _).symm)
    exact this
  · have := congrFun hm (ix3 r i j)
    intro hb
    have h2 : IntOp.ori (~~~ (Ar5 m c (ix3 r i j))) (Ar4 m c (ix2 r j)) = 1#1 := by
      refine Eq.trans (congrArg (fun z => IntOp.ori (~~~ (Ar5 m c (ix3 r i j))) z) (congrArg (Ar4 m c) ?_)) this
      funext a
      match a with
      | ⟨0, _⟩ => rfl
      | ⟨1, _⟩ => rfl
    rw [hb] at h2
    revert h2
    generalize Ar4 m c (ix2 r j) = z
    revert z
    decide
  · simp
end Cert.Bridge
-- ==== Proof.KRes.lean ====
/-
  The kernel's run: its two results, its arguments unchanged, every counter zero.
-/
module

public import proofs.«01_k».proof.Proof.KOut
public import Idealize.ShloMosaic.Lib.Pipeline.ValueKit.Geometry

@[expose] public section

set_option maxRecDepth 16384
noncomputable section

namespace Cert.KernelIdeal.Flow
open Idealize.ShloMosaic Idealize.ShloMosaic.TcCoe Idealize.SL.Sem
open Cert.KernelIdeal Cert.KernelIdeal.Gen Cert.Spec

variable (m : (ℓ : Loc nD τ sig) → Buf (Elt Ideal) ℓ) (ρ : Dev nD → PrngReg)

theorem arr_nodes (c : Dev nD) : (dats m (INV m) (XD m) (AD m) 0 c).arrAt 20 cfg0.N = XD m c :=
  Pipeline.Dat.arrAt_eq_of_after_last _ 20 ⟨3, by decide⟩ (by decide +kernel) _ (fun j => by
    obtain ⟨a, b, rfl⟩ := idx2_eq j
    rfl)
theorem arr_edges (c : Dev nD) : (dats m (INV m) (XD m) (AD m) 0 c).arrAt 21 cfg0.N = AD m c :=
  Pipeline.Dat.arrAt_eq_of_after_last _ 21 ⟨3, by decide⟩ (by decide +kernel) _ (fun j => by
    obtain ⟨a, b, d, rfl⟩ := idx3_eq j
    rfl)
/-- The arguments unchanged and every counter zero. -/
theorem frame :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run _ _ _).mono (fun _ h => ⟨h.1, h.2.2⟩)
    (θ_run_and (frame_of m ρ (dats m (INV m) (XD m) (AD m)) (A_eq m (INV m) (XD m) (AD m)) (run_main m ρ (sound m)))
      (run_main_quiescent m ρ (sound m)))

/-- The two results, and the arguments unchanged. -/
theorem run :
    θ_run defs (onTc (τ := τ) (main (F := Ideal))) ⟨m, fun _ => 0, ρ⟩ (fun r => ∀ c : Dev nD,
      r.2.mem ((c.tc : Thread nD τ).loc main_v32_0) = XD m c
      ∧ r.2.mem ((c.tc : Thread nD τ).loc main_v32_1) = AD m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run _ _ _).mono (fun _ h c => ⟨(h.2.out_eq c 20).trans (arr_nodes m c), (h.2.out_eq c 21).trans (arr_edges m c), h.1 c⟩)
    (θ_run_and (frame_of m ρ (dats m (INV m) (XD m) (AD m)) (A_eq m (INV m) (XD m) (AD m)) (run_main m ρ (sound m)))
      (run_main m ρ (sound m)))
end Cert.KernelIdeal.Flow
-- ==== Proof.Agree.lean ====
/-
  The kernel's two results are the reference's.
-/
module

public import proofs.«01_k».proof.Proof.Tamed
public import proofs.«01_k».proof.Proof.KRes
public import proofs.«01_k».proof.Proof.Gen.ReferenceIdeal.Run
public import proofs.«01_k».proof.Proof.Gen.Pre_tame

@[expose] public section

set_option maxRecDepth 16384
noncomputable section

namespace Cert.Bridge
open Idealize.ShloMosaic Idealize.ShloMosaic.TcCoe Idealize.SL.Sem Idealize.ShloMosaic.StableHlo
open Cert.KernelIdeal Cert.KernelIdeal.Gen Cert.KernelIdeal.Flow Cert.Spec Cert.ReferenceIdeal.Ref
open Cert.ReferenceIdeal.Read (val_main_v283 val_main_v291 val_main_v283_eq val_main_v291_eq)

variable (m : (ℓ : Loc nD τ sig) → Buf (Elt Ideal) ℓ) (c : Dev nD)

theorem nodes_eq {N : Fin 496 → Fin 2 → Fin 32} (T : Tame m c N) :
    val_main_v283 (F := Ideal) (Ar0 m c) (Ar1 m c) (Ar2 m c) (Ar4 m c) (Ar5 m c) (Ar7 m c) (Ar8 m c) (Ar9 m c) (Ar10 m c) (Ar11 m c) (Ar12 m c) (Ar13 m c) (Ar14 m c) (Ar15 m c) (Ar16 m c) = XD m c := by
  funext j
  obtain ⟨q, k, rfl⟩ := idx2_eq j
  exact (xd_apply _ _ _ _ _ _ _ _ _ _ _ _ _ _ _ q k).trans (xd_eq T q k).symm

theorem edges_eq {N : Fin 496 → Fin 2 → Fin 32} (T : Tame m c N) :
    val_main_v291 (F := Ideal) (Ar0 m c) (Ar1 m c) (Ar3 m c) (Ar4 m c) (Ar5 m c) (Ar6 m c) (Ar7 m c) (Ar8 m c) (Ar9 m c) (Ar10 m c) (Ar11 m c) (Ar12 m c) (Ar17 m c) (Ar18 m c) (Ar19 m c) (Ar20 m c) = AD m c := by
  funext j
  obtain ⟨b, p, k, rfl⟩ := idx3_eq j
  exact (ad_apply _ _ _ _ _ _ _ _ _ _ _ _ _ _ _ _ N T.node b p k).trans (ad_eq T b p k).symm

theorem nodes_of (m' : (ℓ : Loc Cert.ReferenceIdeal.nD Cert.ReferenceIdeal.τ Cert.ReferenceIdeal.sig) → Buf (Elt Ideal) ℓ)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)
      ∧ m' ((c.tc : Thread Cert.ReferenceIdeal.nD Cert.ReferenceIdeal.τ).loc Cert.ReferenceIdeal.main_arg18) = m ((c.tc : Thread nD τ).loc main_arg18)
      ∧ m' ((c.tc : Thread Cert.ReferenceIdeal.nD Cert.ReferenceIdeal.τ).loc Cert.ReferenceIdeal.main_arg19) = m ((c.tc : Thread nD τ).loc main_arg19)
      ∧ m' ((c.tc : Thread Cert.ReferenceIdeal.nD Cert.ReferenceIdeal.τ).loc Cert.ReferenceIdeal.main_arg20) = m ((c.tc : Thread nD τ).loc main_arg20))
    {N : Fin 496 → Fin 2 → Fin 32} (T : Tame m c N) :
    val_main_v283 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = XD m c := by
  obtain ⟨h0, h1, h2, h3, h4, h5, h6, h7, h8, h9, h10, h11, h12, h13, h14, h15, h16, h17, h18, h19, h20⟩ := h
  rw [h0, h1, h2, h4, h5, h7, h8, h9, h10, h11, h12, h13, h14, h15, h16]
  exact nodes_eq m c T

theorem edges_of (m' : (ℓ : Loc Cert.ReferenceIdeal.nD Cert.ReferenceIdeal.τ Cert.ReferenceIdeal.sig) → Buf (Elt Ideal) ℓ)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)
      ∧ m' ((c.tc : Thread Cert.ReferenceIdeal.nD Cert.ReferenceIdeal.τ).loc Cert.ReferenceIdeal.main_arg18) = m ((c.tc : Thread nD τ).loc main_arg18)
      ∧ m' ((c.tc : Thread Cert.ReferenceIdeal.nD Cert.ReferenceIdeal.τ).loc Cert.ReferenceIdeal.main_arg19) = m ((c.tc : Thread nD τ).loc main_arg19)
      ∧ m' ((c.tc : Thread Cert.ReferenceIdeal.nD Cert.ReferenceIdeal.τ).loc Cert.ReferenceIdeal.main_arg20) = m ((c.tc : Thread nD τ).loc main_arg20))
    {N : Fin 496 → Fin 2 → Fin 32} (T : Tame m c N) :
    val_main_v291 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) = AD m c := by
  obtain ⟨h0, h1, h2, h3, h4, h5, h6, h7, h8, h9, h10, h11, h12, h13, h14, h15, h16, h17, h18, h19, h20⟩ := h
  rw [h0, h1, h3, h4, h5, h6, h7, h8, h9, h10, h11, h12, h17, h18, h19, h20]
  exact edges_eq m c T

/-- The kernel and the reference, run on the same tame arguments, end with the same two results. -/
theorem agree : Cert.algebraic_KernelIdeal_ReferenceIdeal_pre_tame (hKernelIdeal := Cert.KernelIdeal.Gen.facts)
    (hReferenceIdeal := Cert.ReferenceIdeal.Gen.facts) (hPre_tame := Cert.Pre_tame.Gen.facts) := by
  intro m g m' g' hpre hagree
  refine ⟨XD m, AD m, run m g, ?_⟩
  refine (θ_run _ _ _).mono (fun r h c => ?_) (Cert.ReferenceIdeal.Value.run (F := Ideal) m' g')
  obtain ⟨N, T⟩ := tame_of m hpre c
  exact ⟨((h c).1.trans (val_main_v283_eq (launchContents m' c))).trans (nodes_of m c m' (hagree c) T),
    ((h c).2.1.trans (val_main_v291_eq (launchContents m' c))).trans (edges_of m c m' (hagree c) T), (h c).2.2⟩
end Cert.Bridge
-- ==== Proof.lean ====
module

public import proofs.«01_k».proof.Defs
public import proofs.«01_k».proof.Proof.HeldFrame
public import proofs.«01_k».proof.Proof.Agree
public import proofs.«01_k».proof.Proof.Gen.ReferenceIdeal.Run
public import proofs.«01_k».proof.Proof.Gen.Pre_tame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_tame.Gen.facts, by
  exact ⟨fun m ρ _ => Cert.Kernel.Held.frame m ρ, fun m ρ _ => Cert.KernelIdeal.Flow.frame m ρ, fun m ρ _ => Cert.KernelIdeal.Flow.frame m ρ,
    fun m ρ _ => (θ_run Cert.ReferenceIdeal.defs _ _).mono (fun r h => ⟨fun c => (h c).2.2, sem_eq_zero_of_no_sems (by decide) r.2⟩) (Cert.ReferenceIdeal.Value.run (F := Ideal) m ρ),
    fun m ρ _ => (θ_run Cert.ReferenceIdeal.defs _ _).mono (fun r h => ⟨fun c => (h c).2.2, sem_eq_zero_of_no_sems (by decide) r.2⟩) (Cert.ReferenceIdeal.Value.run (F := Ideal) m ρ),
    trivial, Cert.Bridge.agree⟩⟩

end Cert.Proof

end
